-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_UpDgradRefIdeal (m : (ℓ : Loc Cert.UpDgradRefIdeal.nD Cert.UpDgradRefIdeal.τ Cert.UpDgradRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_DownDgradRefIdeal (m : (ℓ : Loc Cert.DownDgradRefIdeal.nD Cert.DownDgradRefIdeal.τ Cert.DownDgradRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_ResidBwd (m : (ℓ : Loc Cert.ResidBwd.nD Cert.ResidBwd.τ Cert.ResidBwd.sig) → Buf (Elt Bits) ℓ) : Prop :=
  True

def Pre_ResidBwdIdeal (m : (ℓ : Loc Cert.ResidBwdIdeal.nD Cert.ResidBwdIdeal.τ Cert.ResidBwdIdeal.sig) → Buf (Elt Ideal) ℓ) : Prop :=
  True

def Pre_ResidBwdRefIdeal (m : (ℓ : Loc Cert.ResidBwdRefIdeal.nD Cert.ResidBwdRefIdeal.τ Cert.ResidBwdRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFg2 (m : (ℓ : Loc Cert.AdamFg2.nD Cert.AdamFg2.τ Cert.AdamFg2.sig) → Buf (Elt Bits) ℓ) : Prop :=
  True

def Pre_AdamFg2Ideal (m : (ℓ : Loc Cert.AdamFg2Ideal.nD Cert.AdamFg2Ideal.τ Cert.AdamFg2Ideal.sig) → Buf (Elt Ideal) ℓ) : Prop :=
  True

def Pre_AdamFg2RefIdeal (m : (ℓ : Loc Cert.AdamFg2RefIdeal.nD Cert.AdamFg2RefIdeal.τ Cert.AdamFg2RefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_ResidNormRefIdeal (m : (ℓ : Loc Cert.ResidNormRefIdeal.nD Cert.ResidNormRefIdeal.τ Cert.ResidNormRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1)
      ∧ r.2.mem ((c.tc : Thread Cert.UpDgrad.nD Cert.UpDgrad.τ).loc Cert.UpDgrad.main_arg2) = m ((c.tc : Thread Cert.UpDgrad.nD Cert.UpDgrad.τ).loc Cert.UpDgrad.main_arg2))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
      ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ r.2.sem = fun _ => 0)

def quiescent_UpDgradRefIdeal [hUpDgradRefIdeal : Cert.UpDgradRefIdeal.Facts] : Prop :=
  ∀ (m : (ℓ : Loc Cert.UpDgradRefIdeal.nD Cert.UpDgradRefIdeal.τ Cert.UpDgradRefIdeal.sig) → Buf (Elt Ideal) ℓ) (g : Dev Cert.UpDgradRefIdeal.nD → PrngReg), Pre_UpDgradRefIdeal m →
    θ_run (Cert.UpDgradRefIdeal.defs (F := Ideal)) (onTc (τ := Cert.UpDgradRefIdeal.τ) (Cert.UpDgradRefIdeal.main (F := Ideal))) ⟨m, fun _ => 0, g⟩ (fun r => (∀ c : Dev Cert.UpDgradRefIdeal.nD,
      r.2.mem ((c.tc : Thread Cert.UpDgradRefIdeal.nD Cert.UpDgradRefIdeal.τ).loc Cert.UpDgradRefIdeal.main_arg0) = m ((c.tc : Thread Cert.UpDgradRefIdeal.nD Cert.UpDgradRefIdeal.τ).loc Cert.UpDgradRefIdeal.main_arg0)
      ∧ r.2.mem ((c.tc : Thread Cert.UpDgradRefIdeal.nD Cert.UpDgradRefIdeal.τ).loc Cert.UpDgradRefIdeal.main_arg1) = m ((c.tc : Thread Cert.UpDgradRefIdeal.nD Cert.UpDgradRefIdeal.τ).loc Cert.UpDgradRefIdeal.main_arg1)
      ∧ r.2.mem ((c.tc : Thread Cert.UpDgradRefIdeal.nD Cert.UpDgradRefIdeal.τ).loc Cert.UpDgradRefIdeal.main_arg2) = m ((c.tc : Thread Cert.UpDgradRefIdeal.nD Cert.UpDgradRefIdeal.τ).loc Cert.UpDgradRefIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ r.2.sem = fun _ => 0)

def quiescent_DownDgradRefIdeal [hDownDgradRefIdeal : Cert.DownDgradRefIdeal.Facts] : Prop :=
  ∀ (m : (ℓ : Loc Cert.DownDgradRefIdeal.nD Cert.DownDgradRefIdeal.τ Cert.DownDgradRefIdeal.sig) → Buf (Elt Ideal) ℓ) (g : Dev Cert.DownDgradRefIdeal.nD → PrngReg), Pre_DownDgradRefIdeal m →
    θ_run (Cert.DownDgradRefIdeal.defs (F := Ideal)) (onTc (τ := Cert.DownDgradRefIdeal.τ) (Cert.DownDgradRefIdeal.main (F := Ideal))) ⟨m, fun _ => 0, g⟩ (fun r => (∀ c : Dev Cert.DownDgradRefIdeal.nD,
      r.2.mem ((c.tc : Thread Cert.DownDgradRefIdeal.nD Cert.DownDgradRefIdeal.τ).loc Cert.DownDgradRefIdeal.main_arg0) = m ((c.tc : Thread Cert.DownDgradRefIdeal.nD Cert.DownDgradRefIdeal.τ).loc Cert.DownDgradRefIdeal.main_arg0)
      ∧ r.2.mem ((c.tc : Thread Cert.DownDgradRefIdeal.nD Cert.DownDgradRefIdeal.τ).loc Cert.DownDgradRefIdeal.main_arg1) = m ((c.tc : Thread Cert.DownDgradRefIdeal.nD Cert.DownDgradRefIdeal.τ).loc Cert.DownDgradRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1)
      ∧ r.2.mem ((c.tc : Thread Cert.OutWgradRefIdeal.nD Cert.OutWgradRefIdeal.τ).loc Cert.OutWgradRefIdeal.main_arg2) = m ((c.tc : Thread Cert.OutWgradRefIdeal.nD Cert.OutWgradRefIdeal.τ).loc Cert.OutWgradRefIdeal.main_arg2))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2)
      ∧ r.2.mem ((c.tc : Thread Cert.InWgrad.nD Cert.InWgrad.τ).loc Cert.InWgrad.main_arg3) = m ((c.tc : Thread Cert.InWgrad.nD Cert.InWgrad.τ).loc Cert.InWgrad.main_arg3)
      ∧ r.2.mem ((c.tc : Thread Cert.InWgrad.nD Cert.InWgrad.τ).loc Cert.InWgrad.main_arg4) = m ((c.tc : Thread Cert.InWgrad.nD Cert.InWgrad.τ).loc Cert.InWgrad.main_arg4)
      ∧ r.2.mem ((c.tc : Thread Cert.InWgrad.nD Cert.InWgrad.τ).loc Cert.InWgrad.main_arg5) = m ((c.tc : Thread Cert.InWgrad.nD Cert.InWgrad.τ).loc Cert.InWgrad.main_arg5)
      ∧ r.2.mem ((c.tc : Thread Cert.InWgrad.nD Cert.InWgrad.τ).loc Cert.InWgrad.main_arg6) = m ((c.tc : Thread Cert.InWgrad.nD Cert.InWgrad.τ).loc Cert.InWgrad.main_arg6)
      ∧ r.2.mem ((c.tc : Thread Cert.InWgrad.nD Cert.InWgrad.τ).loc Cert.InWgrad.main_arg7) = m ((c.tc : Thread Cert.InWgrad.nD Cert.InWgrad.τ).loc Cert.InWgrad.main_arg7)
      ∧ r.2.mem ((c.tc : Thread Cert.InWgrad.nD Cert.InWgrad.τ).loc Cert.InWgrad.main_arg8) = m ((c.tc : Thread Cert.InWgrad.nD Cert.InWgrad.τ).loc Cert.InWgrad.main_arg8))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2)
      ∧ r.2.mem ((c.tc : Thread Cert.InWgradIdeal.nD Cert.InWgradIdeal.τ).loc Cert.InWgradIdeal.main_arg3) = m ((c.tc : Thread Cert.InWgradIdeal.nD Cert.InWgradIdeal.τ).loc Cert.InWgradIdeal.main_arg3)
      ∧ r.2.mem ((c.tc : Thread Cert.InWgradIdeal.nD Cert.InWgradIdeal.τ).loc Cert.InWgradIdeal.main_arg4) = m ((c.tc : Thread Cert.InWgradIdeal.nD Cert.InWgradIdeal.τ).loc Cert.InWgradIdeal.main_arg4)
      ∧ r.2.mem ((c.tc : Thread Cert.InWgradIdeal.nD Cert.InWgradIdeal.τ).loc Cert.InWgradIdeal.main_arg5) = m ((c.tc : Thread Cert.InWgradIdeal.nD Cert.InWgradIdeal.τ).loc Cert.InWgradIdeal.main_arg5)
      ∧ r.2.mem ((c.tc : Thread Cert.InWgradIdeal.nD Cert.InWgradIdeal.τ).loc Cert.InWgradIdeal.main_arg6) = m ((c.tc : Thread Cert.InWgradIdeal.nD Cert.InWgradIdeal.τ).loc Cert.InWgradIdeal.main_arg6)
      ∧ r.2.mem ((c.tc : Thread Cert.InWgradIdeal.nD Cert.InWgradIdeal.τ).loc Cert.InWgradIdeal.main_arg7) = m ((c.tc : Thread Cert.InWgradIdeal.nD Cert.InWgradIdeal.τ).loc Cert.InWgradIdeal.main_arg7)
      ∧ r.2.mem ((c.tc : Thread Cert.InWgradIdeal.nD Cert.InWgradIdeal.τ).loc Cert.InWgradIdeal.main_arg8) = m ((c.tc : Thread Cert.InWgradIdeal.nD Cert.InWgradIdeal.τ).loc Cert.InWgradIdeal.main_arg8))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1)
      ∧ r.2.mem ((c.tc : Thread Cert.InWgradRefIdeal.nD Cert.InWgradRefIdeal.τ).loc Cert.InWgradRefIdeal.main_arg2) = m ((c.tc : Thread Cert.InWgradRefIdeal.nD Cert.InWgradRefIdeal.τ).loc Cert.InWgradRefIdeal.main_arg2)
      ∧ r.2.mem ((c.tc : Thread Cert.InWgradRefIdeal.nD Cert.InWgradRefIdeal.τ).loc Cert.InWgradRefIdeal.main_arg3) = m ((c.tc : Thread Cert.InWgradRefIdeal.nD Cert.InWgradRefIdeal.τ).loc Cert.InWgradRefIdeal.main_arg3)
      ∧ r.2.mem ((c.tc : Thread Cert.InWgradRefIdeal.nD Cert.InWgradRefIdeal.τ).loc Cert.InWgradRefIdeal.main_arg4) = m ((c.tc : Thread Cert.InWgradRefIdeal.nD Cert.InWgradRefIdeal.τ).loc Cert.InWgradRefIdeal.main_arg4)
      ∧ r.2.mem ((c.tc : Thread Cert.InWgradRefIdeal.nD Cert.InWgradRefIdeal.τ).loc Cert.InWgradRefIdeal.main_arg5) = m ((c.tc : Thread Cert.InWgradRefIdeal.nD Cert.InWgradRefIdeal.τ).loc Cert.InWgradRefIdeal.main_arg5)
      ∧ r.2.mem ((c.tc : Thread Cert.InWgradRefIdeal.nD Cert.InWgradRefIdeal.τ).loc Cert.InWgradRefIdeal.main_arg6) = m ((c.tc : Thread Cert.InWgradRefIdeal.nD Cert.InWgradRefIdeal.τ).loc Cert.InWgradRefIdeal.main_arg6)
      ∧ r.2.mem ((c.tc : Thread Cert.InWgradRefIdeal.nD Cert.InWgradRefIdeal.τ).loc Cert.InWgradRefIdeal.main_arg7) = m ((c.tc : Thread Cert.InWgradRefIdeal.nD Cert.InWgradRefIdeal.τ).loc Cert.InWgradRefIdeal.main_arg7)
      ∧ r.2.mem ((c.tc : Thread Cert.InWgradRefIdeal.nD Cert.InWgradRefIdeal.τ).loc Cert.InWgradRefIdeal.main_arg8) = m ((c.tc : Thread Cert.InWgradRefIdeal.nD Cert.InWgradRefIdeal.τ).loc Cert.InWgradRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_ResidBwd [hResidBwd : Cert.ResidBwd.Facts] : Prop :=
  ∀ (m : (ℓ : Loc Cert.ResidBwd.nD Cert.ResidBwd.τ Cert.ResidBwd.sig) → Buf (Elt Bits) ℓ) (g : Dev Cert.ResidBwd.nD → PrngReg), Pre_ResidBwd m →
    θ_run (Cert.ResidBwd.defs (F := Bits)) (onTc (τ := Cert.ResidBwd.τ) (Cert.ResidBwd.main (F := Bits))) ⟨m, fun _ => 0, g⟩ (fun r => (∀ c : Dev Cert.ResidBwd.nD,
      r.2.mem ((c.tc : Thread Cert.ResidBwd.nD Cert.ResidBwd.τ).loc Cert.ResidBwd.main_arg0) = m ((c.tc : Thread Cert.ResidBwd.nD Cert.ResidBwd.τ).loc Cert.ResidBwd.main_arg0)
      ∧ r.2.mem ((c.tc : Thread Cert.ResidBwd.nD Cert.ResidBwd.τ).loc Cert.ResidBwd.main_arg1) = m ((c.tc : Thread Cert.ResidBwd.nD Cert.ResidBwd.τ).loc Cert.ResidBwd.main_arg1)
      ∧ r.2.mem ((c.tc : Thread Cert.ResidBwd.nD Cert.ResidBwd.τ).loc Cert.ResidBwd.main_arg2) = m ((c.tc : Thread Cert.ResidBwd.nD Cert.ResidBwd.τ).loc Cert.ResidBwd.main_arg2)
      ∧ r.2.mem ((c.tc : Thread Cert.ResidBwd.nD Cert.ResidBwd.τ).loc Cert.ResidBwd.main_arg3) = m ((c.tc : Thread Cert.ResidBwd.nD Cert.ResidBwd.τ).loc Cert.ResidBwd.main_arg3)
      ∧ r.2.mem ((c.tc : Thread Cert.ResidBwd.nD Cert.ResidBwd.τ).loc Cert.ResidBwd.main_arg4) = m ((c.tc : Thread Cert.ResidBwd.nD Cert.ResidBwd.τ).loc Cert.ResidBwd.main_arg4)
      ∧ r.2.mem ((c.tc : Thread Cert.ResidBwd.nD Cert.ResidBwd.τ).loc Cert.ResidBwd.main_arg5) = m ((c.tc : Thread Cert.ResidBwd.nD Cert.ResidBwd.τ).loc Cert.ResidBwd.main_arg5)
      ∧ r.2.mem ((c.tc : Thread Cert.ResidBwd.nD Cert.ResidBwd.τ).loc Cert.ResidBwd.main_arg6) = m ((c.tc : Thread Cert.ResidBwd.nD Cert.ResidBwd.τ).loc Cert.ResidBwd.main_arg6)
      ∧ r.2.mem ((c.tc : Thread Cert.ResidBwd.nD Cert.ResidBwd.τ).loc Cert.ResidBwd.main_arg7) = m ((c.tc : Thread Cert.ResidBwd.nD Cert.ResidBwd.τ).loc Cert.ResidBwd.main_arg7))
      ∧ r.2.sem = fun _ => 0)

def quiescent_ResidBwdIdeal [hResidBwdIdeal : Cert.ResidBwdIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg), Pre_ResidBwdIdeal m →
    θ_run (Cert.ResidBwdIdeal.defs (F := Ideal)) (onTc (τ := Cert.ResidBwdIdeal.τ) (Cert.ResidBwdIdeal.main (F := Ideal))) ⟨m, fun _ => 0, g⟩ (fun r => (∀ c : Dev Cert.ResidBwdIdeal.nD,
      r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
      ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
      ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2)
      ∧ r.2.mem ((c.tc : Thread Cert.ResidBwdIdeal.nD Cert.ResidBwdIdeal.τ).loc Cert.ResidBwdIdeal.main_arg3) = m ((c.tc : Thread Cert.ResidBwdIdeal.nD Cert.ResidBwdIdeal.τ).loc Cert.ResidBwdIdeal.main_arg3)
      ∧ r.2.mem ((c.tc : Thread Cert.ResidBwdIdeal.nD Cert.ResidBwdIdeal.τ).loc Cert.ResidBwdIdeal.main_arg4) = m ((c.tc : Thread Cert.ResidBwdIdeal.nD Cert.ResidBwdIdeal.τ).loc Cert.ResidBwdIdeal.main_arg4)
      ∧ r.2.mem ((c.tc : Thread Cert.ResidBwdIdeal.nD Cert.ResidBwdIdeal.τ).loc Cert.ResidBwdIdeal.main_arg5) = m ((c.tc : Thread Cert.ResidBwdIdeal.nD Cert.ResidBwdIdeal.τ).loc Cert.ResidBwdIdeal.main_arg5)
      ∧ r.2.mem ((c.tc : Thread Cert.ResidBwdIdeal.nD Cert.ResidBwdIdeal.τ).loc Cert.ResidBwdIdeal.main_arg6) = m ((c.tc : Thread Cert.ResidBwdIdeal.nD Cert.ResidBwdIdeal.τ).loc Cert.ResidBwdIdeal.main_arg6)
      ∧ r.2.mem ((c.tc : Thread Cert.ResidBwdIdeal.nD Cert.ResidBwdIdeal.τ).loc Cert.ResidBwdIdeal.main_arg7) = m ((c.tc : Thread Cert.ResidBwdIdeal.nD Cert.ResidBwdIdeal.τ).loc Cert.ResidBwdIdeal.main_arg7))
      ∧ r.2.sem = fun _ => 0)

def quiescent_ResidBwdRefIdeal [hResidBwdRefIdeal : Cert.ResidBwdRefIdeal.Facts] : Prop :=
  ∀ (m : (ℓ : Loc Cert.ResidBwdRefIdeal.nD Cert.ResidBwdRefIdeal.τ Cert.ResidBwdRefIdeal.sig) → Buf (Elt Ideal) ℓ) (g : Dev Cert.ResidBwdRefIdeal.nD → PrngReg), Pre_ResidBwdRefIdeal m →
    θ_run (Cert.ResidBwdRefIdeal.defs (F := Ideal)) (onTc (τ := Cert.ResidBwdRefIdeal.τ) (Cert.ResidBwdRefIdeal.main (F := Ideal))) ⟨m, fun _ => 0, g⟩ (fun r => (∀ c : Dev Cert.ResidBwdRefIdeal.nD,
      r.2.mem ((c.tc : Thread Cert.ResidBwdRefIdeal.nD Cert.ResidBwdRefIdeal.τ).loc Cert.ResidBwdRefIdeal.main_arg0) = m ((c.tc : Thread Cert.ResidBwdRefIdeal.nD Cert.ResidBwdRefIdeal.τ).loc Cert.ResidBwdRefIdeal.main_arg0)
      ∧ r.2.mem ((c.tc : Thread Cert.ResidBwdRefIdeal.nD Cert.ResidBwdRefIdeal.τ).loc Cert.ResidBwdRefIdeal.main_arg1) = m ((c.tc : Thread Cert.ResidBwdRefIdeal.nD Cert.ResidBwdRefIdeal.τ).loc Cert.ResidBwdRefIdeal.main_arg1)
      ∧ r.2.mem ((c.tc : Thread Cert.ResidBwdRefIdeal.nD Cert.ResidBwdRefIdeal.τ).loc Cert.ResidBwdRefIdeal.main_arg2) = m ((c.tc : Thread Cert.ResidBwdRefIdeal.nD Cert.ResidBwdRefIdeal.τ).loc Cert.ResidBwdRefIdeal.main_arg2)
      ∧ r.2.mem ((c.tc : Thread Cert.ResidBwdRefIdeal.nD Cert.ResidBwdRefIdeal.τ).loc Cert.ResidBwdRefIdeal.main_arg3) = m ((c.tc : Thread Cert.ResidBwdRefIdeal.nD Cert.ResidBwdRefIdeal.τ).loc Cert.ResidBwdRefIdeal.main_arg3)
      ∧ r.2.mem ((c.tc : Thread Cert.ResidBwdRefIdeal.nD Cert.ResidBwdRefIdeal.τ).loc Cert.ResidBwdRefIdeal.main_arg4) = m ((c.tc : Thread Cert.ResidBwdRefIdeal.nD Cert.ResidBwdRefIdeal.τ).loc Cert.ResidBwdRefIdeal.main_arg4)
      ∧ r.2.mem ((c.tc : Thread Cert.ResidBwdRefIdeal.nD Cert.ResidBwdRefIdeal.τ).loc Cert.ResidBwdRefIdeal.main_arg5) = m ((c.tc : Thread Cert.ResidBwdRefIdeal.nD Cert.ResidBwdRefIdeal.τ).loc Cert.ResidBwdRefIdeal.main_arg5)
      ∧ r.2.mem ((c.tc : Thread Cert.ResidBwdRefIdeal.nD Cert.ResidBwdRefIdeal.τ).loc Cert.ResidBwdRefIdeal.main_arg6) = m ((c.tc : Thread Cert.ResidBwdRefIdeal.nD Cert.ResidBwdRefIdeal.τ).loc Cert.ResidBwdRefIdeal.main_arg6)
      ∧ r.2.mem ((c.tc : Thread Cert.ResidBwdRefIdeal.nD Cert.ResidBwdRefIdeal.τ).loc Cert.ResidBwdRefIdeal.main_arg7) = m ((c.tc : Thread Cert.ResidBwdRefIdeal.nD Cert.ResidBwdRefIdeal.τ).loc Cert.ResidBwdRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamFg2 [hAdamFg2 : Cert.AdamFg2.Facts] : Prop :=
  ∀ (m : (ℓ : Loc Cert.AdamFg2.nD Cert.AdamFg2.τ Cert.AdamFg2.sig) → Buf (Elt Bits) ℓ) (g : Dev Cert.AdamFg2.nD → PrngReg), Pre_AdamFg2 m →
    θ_run (Cert.AdamFg2.defs (F := Bits)) (onTc (τ := Cert.AdamFg2.τ) (Cert.AdamFg2.main (F := Bits))) ⟨m, fun _ => 0, g⟩ (fun r => (∀ c : Dev Cert.AdamFg2.nD,
      r.2.mem ((c.tc : Thread Cert.AdamFg2.nD Cert.AdamFg2.τ).loc Cert.AdamFg2.main_arg0) = m ((c.tc : Thread Cert.AdamFg2.nD Cert.AdamFg2.τ).loc Cert.AdamFg2.main_arg0)
      ∧ r.2.mem ((c.tc : Thread Cert.AdamFg2.nD Cert.AdamFg2.τ).loc Cert.AdamFg2.main_arg1) = m ((c.tc : Thread Cert.AdamFg2.nD Cert.AdamFg2.τ).loc Cert.AdamFg2.main_arg1)
      ∧ r.2.mem ((c.tc : Thread Cert.AdamFg2.nD Cert.AdamFg2.τ).loc Cert.AdamFg2.main_arg2) = m ((c.tc : Thread Cert.AdamFg2.nD Cert.AdamFg2.τ).loc Cert.AdamFg2.main_arg2)
      ∧ r.2.mem ((c.tc : Thread Cert.AdamFg2.nD Cert.AdamFg2.τ).loc Cert.AdamFg2.main_arg3) = m ((c.tc : Thread Cert.AdamFg2.nD Cert.AdamFg2.τ).loc Cert.AdamFg2.main_arg3))
      ∧ r.2.sem = fun _ => 0)

def quiescent_AdamFg2Ideal [hAdamFg2Ideal : Cert.AdamFg2Ideal.Facts] : Prop :=
  ∀ (m : (ℓ : Loc Cert.AdamFg2Ideal.nD Cert.AdamFg2Ideal.τ Cert.AdamFg2Ideal.sig) → Buf (Elt Ideal) ℓ) (g : Dev Cert.AdamFg2Ideal.nD → PrngReg), Pre_AdamFg2Ideal m →
    θ_run (Cert.AdamFg2Ideal.defs (F := Ideal)) (onTc (τ := Cert.AdamFg2Ideal.τ) (Cert.AdamFg2Ideal.main (F := Ideal))) ⟨m, fun _ => 0, g⟩ (fun r => (∀ c : Dev Cert.AdamFg2Ideal.nD,
      r.2.mem ((c.tc : Thread Cert.AdamFg2Ideal.nD Cert.AdamFg2Ideal.τ).loc Cert.AdamFg2Ideal.main_arg0) = m ((c.tc : Thread Cert.AdamFg2Ideal.nD Cert.AdamFg2Ideal.τ).loc Cert.AdamFg2Ideal.main_arg0)
      ∧ r.2.mem ((c.tc : Thread Cert.AdamFg2Ideal.nD Cert.AdamFg2Ideal.τ).loc Cert.AdamFg2Ideal.main_arg1) = m ((c.tc : Thread Cert.AdamFg2Ideal.nD Cert.AdamFg2Ideal.τ).loc Cert.AdamFg2Ideal.main_arg1)
      ∧ r.2.mem ((c.tc : Thread Cert.AdamFg2Ideal.nD Cert.AdamFg2Ideal.τ).loc Cert.AdamFg2Ideal.main_arg2) = m ((c.tc : Thread Cert.AdamFg2Ideal.nD Cert.AdamFg2Ideal.τ).loc Cert.AdamFg2Ideal.main_arg2)
      ∧ r.2.mem ((c.tc : Thread Cert.AdamFg2Ideal.nD Cert.AdamFg2Ideal.τ).loc Cert.AdamFg2Ideal.main_arg3) = m ((c.tc : Thread Cert.AdamFg2Ideal.nD Cert.AdamFg2Ideal.τ).loc Cert.AdamFg2Ideal.main_arg3))
      ∧ r.2.sem = fun _ => 0)

def quiescent_AdamFg2RefIdeal [hAdamFg2RefIdeal : Cert.AdamFg2RefIdeal.Facts] : Prop :=
  ∀ (m : (ℓ : Loc Cert.AdamFg2RefIdeal.nD Cert.AdamFg2RefIdeal.τ Cert.AdamFg2RefIdeal.sig) → Buf (Elt Ideal) ℓ) (g : Dev Cert.AdamFg2RefIdeal.nD → PrngReg), Pre_AdamFg2RefIdeal m →
    θ_run (Cert.AdamFg2RefIdeal.defs (F := Ideal)) (onTc (τ := Cert.AdamFg2RefIdeal.τ) (Cert.AdamFg2RefIdeal.main (F := Ideal))) ⟨m, fun _ => 0, g⟩ (fun r => (∀ c : Dev Cert.AdamFg2RefIdeal.nD,
      r.2.mem ((c.tc : Thread Cert.AdamFg2RefIdeal.nD Cert.AdamFg2RefIdeal.τ).loc Cert.AdamFg2RefIdeal.main_arg0) = m ((c.tc : Thread Cert.AdamFg2RefIdeal.nD Cert.AdamFg2RefIdeal.τ).loc Cert.AdamFg2RefIdeal.main_arg0)
      ∧ r.2.mem ((c.tc : Thread Cert.AdamFg2RefIdeal.nD Cert.AdamFg2RefIdeal.τ).loc Cert.AdamFg2RefIdeal.main_arg1) = m ((c.tc : Thread Cert.AdamFg2RefIdeal.nD Cert.AdamFg2RefIdeal.τ).loc Cert.AdamFg2RefIdeal.main_arg1)
      ∧ r.2.mem ((c.tc : Thread Cert.AdamFg2RefIdeal.nD Cert.AdamFg2RefIdeal.τ).loc Cert.AdamFg2RefIdeal.main_arg2) = m ((c.tc : Thread Cert.AdamFg2RefIdeal.nD Cert.AdamFg2RefIdeal.τ).loc Cert.AdamFg2RefIdeal.main_arg2)
      ∧ r.2.mem ((c.tc : Thread Cert.AdamFg2RefIdeal.nD Cert.AdamFg2RefIdeal.τ).loc Cert.AdamFg2RefIdeal.main_arg3) = m ((c.tc : Thread Cert.AdamFg2RefIdeal.nD Cert.AdamFg2RefIdeal.τ).loc Cert.AdamFg2RefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3)
      ∧ r.2.mem ((c.tc : Thread Cert.ResidNorm.nD Cert.ResidNorm.τ).loc Cert.ResidNorm.main_arg4) = m ((c.tc : Thread Cert.ResidNorm.nD Cert.ResidNorm.τ).loc Cert.ResidNorm.main_arg4)
      ∧ r.2.mem ((c.tc : Thread Cert.ResidNorm.nD Cert.ResidNorm.τ).loc Cert.ResidNorm.main_arg5) = m ((c.tc : Thread Cert.ResidNorm.nD Cert.ResidNorm.τ).loc Cert.ResidNorm.main_arg5))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3)
      ∧ r.2.mem ((c.tc : Thread Cert.ResidNormIdeal.nD Cert.ResidNormIdeal.τ).loc Cert.ResidNormIdeal.main_arg4) = m ((c.tc : Thread Cert.ResidNormIdeal.nD Cert.ResidNormIdeal.τ).loc Cert.ResidNormIdeal.main_arg4)
      ∧ r.2.mem ((c.tc : Thread Cert.ResidNormIdeal.nD Cert.ResidNormIdeal.τ).loc Cert.ResidNormIdeal.main_arg5) = m ((c.tc : Thread Cert.ResidNormIdeal.nD Cert.ResidNormIdeal.τ).loc Cert.ResidNormIdeal.main_arg5))
      ∧ r.2.sem = fun _ => 0)

def quiescent_ResidNormRefIdeal [hResidNormRefIdeal : Cert.ResidNormRefIdeal.Facts] : Prop :=
  ∀ (m : (ℓ : Loc Cert.ResidNormRefIdeal.nD Cert.ResidNormRefIdeal.τ Cert.ResidNormRefIdeal.sig) → Buf (Elt Ideal) ℓ) (g : Dev Cert.ResidNormRefIdeal.nD → PrngReg), Pre_ResidNormRefIdeal m →
    θ_run (Cert.ResidNormRefIdeal.defs (F := Ideal)) (onTc (τ := Cert.ResidNormRefIdeal.τ) (Cert.ResidNormRefIdeal.main (F := Ideal))) ⟨m, fun _ => 0, g⟩ (fun r => (∀ c : Dev Cert.ResidNormRefIdeal.nD,
      r.2.mem ((c.tc : Thread Cert.ResidNormRefIdeal.nD Cert.ResidNormRefIdeal.τ).loc Cert.ResidNormRefIdeal.main_arg0) = m ((c.tc : Thread Cert.ResidNormRefIdeal.nD Cert.ResidNormRefIdeal.τ).loc Cert.ResidNormRefIdeal.main_arg0)
      ∧ r.2.mem ((c.tc : Thread Cert.ResidNormRefIdeal.nD Cert.ResidNormRefIdeal.τ).loc Cert.ResidNormRefIdeal.main_arg1) = m ((c.tc : Thread Cert.ResidNormRefIdeal.nD Cert.ResidNormRefIdeal.τ).loc Cert.ResidNormRefIdeal.main_arg1)
      ∧ r.2.mem ((c.tc : Thread Cert.ResidNormRefIdeal.nD Cert.ResidNormRefIdeal.τ).loc Cert.ResidNormRefIdeal.main_arg2) = m ((c.tc : Thread Cert.ResidNormRefIdeal.nD Cert.ResidNormRefIdeal.τ).loc Cert.ResidNormRefIdeal.main_arg2)
      ∧ r.2.mem ((c.tc : Thread Cert.ResidNormRefIdeal.nD Cert.ResidNormRefIdeal.τ).loc Cert.ResidNormRefIdeal.main_arg3) = m ((c.tc : Thread Cert.ResidNormRefIdeal.nD Cert.ResidNormRefIdeal.τ).loc Cert.ResidNormRefIdeal.main_arg3)
      ∧ r.2.mem ((c.tc : Thread Cert.ResidNormRefIdeal.nD Cert.ResidNormRefIdeal.τ).loc Cert.ResidNormRefIdeal.main_arg4) = m ((c.tc : Thread Cert.ResidNormRefIdeal.nD Cert.ResidNormRefIdeal.τ).loc Cert.ResidNormRefIdeal.main_arg4)
      ∧ r.2.mem ((c.tc : Thread Cert.ResidNormRefIdeal.nD Cert.ResidNormRefIdeal.τ).loc Cert.ResidNormRefIdeal.main_arg5) = m ((c.tc : Thread Cert.ResidNormRefIdeal.nD Cert.ResidNormRefIdeal.τ).loc Cert.ResidNormRefIdeal.main_arg5))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)) (v5 : (c : Dev Cert.KernelIdeal.nD) → Buf (Elt Ideal) ((c.tc : Thread Cert.KernelIdeal.nD Cert.KernelIdeal.τ).loc Cert.KernelIdeal.main_v54_5)) (v6 : (c : Dev Cert.KernelIdeal.nD) → Buf (Elt Ideal) ((c.tc : Thread Cert.KernelIdeal.nD Cert.KernelIdeal.τ).loc Cert.KernelIdeal.main_v54_6)) (v7 : (c : Dev Cert.KernelIdeal.nD) → Buf (Elt Ideal) ((c.tc : Thread Cert.KernelIdeal.nD Cert.KernelIdeal.τ).loc Cert.KernelIdeal.main_v54_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_v54_5) = v5 c
          ∧ r.2.mem ((c.tc : Thread Cert.KernelIdeal.nD Cert.KernelIdeal.τ).loc Cert.KernelIdeal.main_v54_6) = v6 c
          ∧ r.2.mem ((c.tc : Thread Cert.KernelIdeal.nD Cert.KernelIdeal.τ).loc Cert.KernelIdeal.main_v54_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_v145) = v5 c
          ∧ r.2.mem ((c.tc : Thread Cert.ReferenceIdeal.nD Cert.ReferenceIdeal.τ).loc Cert.ReferenceIdeal.main_v143) = v6 c
          ∧ r.2.mem ((c.tc : Thread Cert.ReferenceIdeal.nD Cert.ReferenceIdeal.τ).loc Cert.ReferenceIdeal.main_v74) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDgrad_UpDgradIdeal : Prop :=
  True

def algebraic_UpDgradIdeal_UpDgradRefIdeal [hUpDgradIdeal : Cert.UpDgradIdeal.Facts] [hUpDgradRefIdeal : Cert.UpDgradRefIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.UpDgradRefIdeal.nD Cert.UpDgradRefIdeal.τ Cert.UpDgradRefIdeal.sig) → Buf (Elt Ideal) ℓ) (g' : Dev Cert.UpDgradRefIdeal.nD → PrngReg), Pre_UpDgradIdeal m →
    (∀ c : Dev Cert.UpDgradIdeal.nD,
      m' ((c.tc : Thread Cert.UpDgradRefIdeal.nD Cert.UpDgradRefIdeal.τ).loc Cert.UpDgradRefIdeal.main_arg0) = m ((c.tc : Thread Cert.UpDgradIdeal.nD Cert.UpDgradIdeal.τ).loc Cert.UpDgradIdeal.main_arg0)
      ∧ m' ((c.tc : Thread Cert.UpDgradRefIdeal.nD Cert.UpDgradRefIdeal.τ).loc Cert.UpDgradRefIdeal.main_arg1) = m ((c.tc : Thread Cert.UpDgradIdeal.nD Cert.UpDgradIdeal.τ).loc Cert.UpDgradIdeal.main_arg1)
      ∧ m' ((c.tc : Thread Cert.UpDgradRefIdeal.nD Cert.UpDgradRefIdeal.τ).loc Cert.UpDgradRefIdeal.main_arg2) = m ((c.tc : Thread Cert.UpDgradIdeal.nD Cert.UpDgradIdeal.τ).loc Cert.UpDgradIdeal.main_arg2)) →
    ∃ (v0 : (c : Dev Cert.UpDgradIdeal.nD) → Buf (Elt Ideal) ((c.tc : Thread Cert.UpDgradIdeal.nD Cert.UpDgradIdeal.τ).loc Cert.UpDgradIdeal.main_v0)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v0) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
          ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ θ_run (Cert.UpDgradRefIdeal.defs (F := Ideal)) (onTc (τ := Cert.UpDgradRefIdeal.τ) (Cert.UpDgradRefIdeal.main (F := Ideal))) ⟨m', fun _ => 0, g'⟩ (fun r => ∀ c : Dev Cert.UpDgradRefIdeal.nD,
          r.2.mem ((c.tc : Thread Cert.UpDgradRefIdeal.nD Cert.UpDgradRefIdeal.τ).loc Cert.UpDgradRefIdeal.main_v7) = v0 c
          ∧ r.2.mem ((c.tc : Thread Cert.UpDgradRefIdeal.nD Cert.UpDgradRefIdeal.τ).loc Cert.UpDgradRefIdeal.main_arg0) = m' ((c.tc : Thread Cert.UpDgradRefIdeal.nD Cert.UpDgradRefIdeal.τ).loc Cert.UpDgradRefIdeal.main_arg0)
          ∧ r.2.mem ((c.tc : Thread Cert.UpDgradRefIdeal.nD Cert.UpDgradRefIdeal.τ).loc Cert.UpDgradRefIdeal.main_arg1) = m' ((c.tc : Thread Cert.UpDgradRefIdeal.nD Cert.UpDgradRefIdeal.τ).loc Cert.UpDgradRefIdeal.main_arg1)
          ∧ r.2.mem ((c.tc : Thread Cert.UpDgradRefIdeal.nD Cert.UpDgradRefIdeal.τ).loc Cert.UpDgradRefIdeal.main_arg2) = m' ((c.tc : Thread Cert.UpDgradRefIdeal.nD Cert.UpDgradRefIdeal.τ).loc Cert.UpDgradRefIdeal.main_arg2))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v5) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_DownDgrad_DownDgradIdeal : Prop :=
  True

def algebraic_DownDgradIdeal_DownDgradRefIdeal [hDownDgradIdeal : Cert.DownDgradIdeal.Facts] [hDownDgradRefIdeal : Cert.DownDgradRefIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.DownDgradRefIdeal.nD Cert.DownDgradRefIdeal.τ Cert.DownDgradRefIdeal.sig) → Buf (Elt Ideal) ℓ) (g' : Dev Cert.DownDgradRefIdeal.nD → PrngReg), Pre_DownDgradIdeal m →
    (∀ c : Dev Cert.DownDgradIdeal.nD,
      m' ((c.tc : Thread Cert.DownDgradRefIdeal.nD Cert.DownDgradRefIdeal.τ).loc Cert.DownDgradRefIdeal.main_arg0) = m ((c.tc : Thread Cert.DownDgradIdeal.nD Cert.DownDgradIdeal.τ).loc Cert.DownDgradIdeal.main_arg0)
      ∧ m' ((c.tc : Thread Cert.DownDgradRefIdeal.nD Cert.DownDgradRefIdeal.τ).loc Cert.DownDgradRefIdeal.main_arg1) = m ((c.tc : Thread Cert.DownDgradIdeal.nD Cert.DownDgradIdeal.τ).loc Cert.DownDgradIdeal.main_arg1)) →
    ∃ (v0 : (c : Dev Cert.DownDgradIdeal.nD) → Buf (Elt Ideal) ((c.tc : Thread Cert.DownDgradIdeal.nD Cert.DownDgradIdeal.τ).loc Cert.DownDgradIdeal.main_v0)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v0) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ θ_run (Cert.DownDgradRefIdeal.defs (F := Ideal)) (onTc (τ := Cert.DownDgradRefIdeal.τ) (Cert.DownDgradRefIdeal.main (F := Ideal))) ⟨m', fun _ => 0, g'⟩ (fun r => ∀ c : Dev Cert.DownDgradRefIdeal.nD,
          r.2.mem ((c.tc : Thread Cert.DownDgradRefIdeal.nD Cert.DownDgradRefIdeal.τ).loc Cert.DownDgradRefIdeal.main_v4) = v0 c
          ∧ r.2.mem ((c.tc : Thread Cert.DownDgradRefIdeal.nD Cert.DownDgradRefIdeal.τ).loc Cert.DownDgradRefIdeal.main_arg0) = m' ((c.tc : Thread Cert.DownDgradRefIdeal.nD Cert.DownDgradRefIdeal.τ).loc Cert.DownDgradRefIdeal.main_arg0)
          ∧ r.2.mem ((c.tc : Thread Cert.DownDgradRefIdeal.nD Cert.DownDgradRefIdeal.τ).loc Cert.DownDgradRefIdeal.main_arg1) = m' ((c.tc : Thread Cert.DownDgradRefIdeal.nD Cert.DownDgradRefIdeal.τ).loc Cert.DownDgradRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v6) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)
      ∧ m' ((c.tc : Thread Cert.OutWgradRefIdeal.nD Cert.OutWgradRefIdeal.τ).loc Cert.OutWgradRefIdeal.main_arg2) = m ((c.tc : Thread Cert.OutWgradIdeal.nD Cert.OutWgradIdeal.τ).loc Cert.OutWgradIdeal.main_arg2)) →
    ∃ (v0 : (c : Dev Cert.OutWgradIdeal.nD) → Buf (Elt Ideal) ((c.tc : Thread Cert.OutWgradIdeal.nD Cert.OutWgradIdeal.τ).loc Cert.OutWgradIdeal.main_v0_0)) (v1 : (c : Dev Cert.OutWgradIdeal.nD) → Buf (Elt Ideal) ((c.tc : Thread Cert.OutWgradIdeal.nD Cert.OutWgradIdeal.τ).loc Cert.OutWgradIdeal.main_v0_1)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0_0) = v0 c
          ∧ r.2.mem ((c.tc : Thread Cert.OutWgradIdeal.nD Cert.OutWgradIdeal.τ).loc Cert.OutWgradIdeal.main_v0_1) = v1 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v8) = v0 c
          ∧ r.2.mem ((c.tc : Thread Cert.OutWgradRefIdeal.nD Cert.OutWgradRefIdeal.τ).loc Cert.OutWgradRefIdeal.main_v9) = v1 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1)
          ∧ r.2.mem ((c.tc : Thread Cert.OutWgradRefIdeal.nD Cert.OutWgradRefIdeal.τ).loc Cert.OutWgradRefIdeal.main_arg2) = m' ((c.tc : Thread Cert.OutWgradRefIdeal.nD Cert.OutWgradRefIdeal.τ).loc Cert.OutWgradRefIdeal.main_arg2))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v4) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)
      ∧ m' ((c.tc : Thread Cert.InWgradRefIdeal.nD Cert.InWgradRefIdeal.τ).loc Cert.InWgradRefIdeal.main_arg2) = m ((c.tc : Thread Cert.InWgradIdeal.nD Cert.InWgradIdeal.τ).loc Cert.InWgradIdeal.main_arg2)
      ∧ m' ((c.tc : Thread Cert.InWgradRefIdeal.nD Cert.InWgradRefIdeal.τ).loc Cert.InWgradRefIdeal.main_arg3) = m ((c.tc : Thread Cert.InWgradIdeal.nD Cert.InWgradIdeal.τ).loc Cert.InWgradIdeal.main_arg3)
      ∧ m' ((c.tc : Thread Cert.InWgradRefIdeal.nD Cert.InWgradRefIdeal.τ).loc Cert.InWgradRefIdeal.main_arg4) = m ((c.tc : Thread Cert.InWgradIdeal.nD Cert.InWgradIdeal.τ).loc Cert.InWgradIdeal.main_arg4)
      ∧ m' ((c.tc : Thread Cert.InWgradRefIdeal.nD Cert.InWgradRefIdeal.τ).loc Cert.InWgradRefIdeal.main_arg5) = m ((c.tc : Thread Cert.InWgradIdeal.nD Cert.InWgradIdeal.τ).loc Cert.InWgradIdeal.main_arg5)
      ∧ m' ((c.tc : Thread Cert.InWgradRefIdeal.nD Cert.InWgradRefIdeal.τ).loc Cert.InWgradRefIdeal.main_arg6) = m ((c.tc : Thread Cert.InWgradIdeal.nD Cert.InWgradIdeal.τ).loc Cert.InWgradIdeal.main_arg6)
      ∧ m' ((c.tc : Thread Cert.InWgradRefIdeal.nD Cert.InWgradRefIdeal.τ).loc Cert.InWgradRefIdeal.main_arg7) = m ((c.tc : Thread Cert.InWgradIdeal.nD Cert.InWgradIdeal.τ).loc Cert.InWgradIdeal.main_arg7)
      ∧ m' ((c.tc : Thread Cert.InWgradRefIdeal.nD Cert.InWgradRefIdeal.τ).loc Cert.InWgradRefIdeal.main_arg8) = m ((c.tc : Thread Cert.InWgradIdeal.nD Cert.InWgradIdeal.τ).loc Cert.InWgradIdeal.main_arg8)) →
    ∃ (v0 : (c : Dev Cert.InWgradIdeal.nD) → Buf (Elt Ideal) ((c.tc : Thread Cert.InWgradIdeal.nD Cert.InWgradIdeal.τ).loc Cert.InWgradIdeal.main_v0_0)) (v1 : (c : Dev Cert.InWgradIdeal.nD) → Buf (Elt Ideal) ((c.tc : Thread Cert.InWgradIdeal.nD Cert.InWgradIdeal.τ).loc Cert.InWgradIdeal.main_v0_1)) (v2 : (c : Dev Cert.InWgradIdeal.nD) → Buf (Elt Ideal) ((c.tc : Thread Cert.InWgradIdeal.nD Cert.InWgradIdeal.τ).loc Cert.InWgradIdeal.main_v0_2)) (v3 : (c : Dev Cert.InWgradIdeal.nD) → Buf (Elt Ideal) ((c.tc : Thread Cert.InWgradIdeal.nD Cert.InWgradIdeal.τ).loc Cert.InWgradIdeal.main_v0_3)) (v4 : (c : Dev Cert.InWgradIdeal.nD) → Buf (Elt Ideal) ((c.tc : Thread Cert.InWgradIdeal.nD Cert.InWgradIdeal.τ).loc Cert.InWgradIdeal.main_v0_4)) (v5 : (c : Dev Cert.InWgradIdeal.nD) → Buf (Elt Ideal) ((c.tc : Thread Cert.InWgradIdeal.nD Cert.InWgradIdeal.τ).loc Cert.InWgradIdeal.main_v0_5)) (v6 : (c : Dev Cert.InWgradIdeal.nD) → Buf (Elt Ideal) ((c.tc : Thread Cert.InWgradIdeal.nD Cert.InWgradIdeal.τ).loc Cert.InWgradIdeal.main_v0_6)) (v7 : (c : Dev Cert.InWgradIdeal.nD) → Buf (Elt Ideal) ((c.tc : Thread Cert.InWgradIdeal.nD Cert.InWgradIdeal.τ).loc Cert.InWgradIdeal.main_v0_7)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0_0) = v0 c
          ∧ r.2.mem ((c.tc : Thread Cert.InWgradIdeal.nD Cert.InWgradIdeal.τ).loc Cert.InWgradIdeal.main_v0_1) = v1 c
          ∧ r.2.mem ((c.tc : Thread Cert.InWgradIdeal.nD Cert.InWgradIdeal.τ).loc Cert.InWgradIdeal.main_v0_2) = v2 c
          ∧ r.2.mem ((c.tc : Thread Cert.InWgradIdeal.nD Cert.InWgradIdeal.τ).loc Cert.InWgradIdeal.main_v0_3) = v3 c
          ∧ r.2.mem ((c.tc : Thread Cert.InWgradIdeal.nD Cert.InWgradIdeal.τ).loc Cert.InWgradIdeal.main_v0_4) = v4 c
          ∧ r.2.mem ((c.tc : Thread Cert.InWgradIdeal.nD Cert.InWgradIdeal.τ).loc Cert.InWgradIdeal.main_v0_5) = v5 c
          ∧ r.2.mem ((c.tc : Thread Cert.InWgradIdeal.nD Cert.InWgradIdeal.τ).loc Cert.InWgradIdeal.main_v0_6) = v6 c
          ∧ r.2.mem ((c.tc : Thread Cert.InWgradIdeal.nD Cert.InWgradIdeal.τ).loc Cert.InWgradIdeal.main_v0_7) = v7 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2)
          ∧ r.2.mem ((c.tc : Thread Cert.InWgradIdeal.nD Cert.InWgradIdeal.τ).loc Cert.InWgradIdeal.main_arg3) = m ((c.tc : Thread Cert.InWgradIdeal.nD Cert.InWgradIdeal.τ).loc Cert.InWgradIdeal.main_arg3)
          ∧ r.2.mem ((c.tc : Thread Cert.InWgradIdeal.nD Cert.InWgradIdeal.τ).loc Cert.InWgradIdeal.main_arg4) = m ((c.tc : Thread Cert.InWgradIdeal.nD Cert.InWgradIdeal.τ).loc Cert.InWgradIdeal.main_arg4)
          ∧ r.2.mem ((c.tc : Thread Cert.InWgradIdeal.nD Cert.InWgradIdeal.τ).loc Cert.InWgradIdeal.main_arg5) = m ((c.tc : Thread Cert.InWgradIdeal.nD Cert.InWgradIdeal.τ).loc Cert.InWgradIdeal.main_arg5)
          ∧ r.2.mem ((c.tc : Thread Cert.InWgradIdeal.nD Cert.InWgradIdeal.τ).loc Cert.InWgradIdeal.main_arg6) = m ((c.tc : Thread Cert.InWgradIdeal.nD Cert.InWgradIdeal.τ).loc Cert.InWgradIdeal.main_arg6)
          ∧ r.2.mem ((c.tc : Thread Cert.InWgradIdeal.nD Cert.InWgradIdeal.τ).loc Cert.InWgradIdeal.main_arg7) = m ((c.tc : Thread Cert.InWgradIdeal.nD Cert.InWgradIdeal.τ).loc Cert.InWgradIdeal.main_arg7)
          ∧ r.2.mem ((c.tc : Thread Cert.InWgradIdeal.nD Cert.InWgradIdeal.τ).loc Cert.InWgradIdeal.main_arg8) = m ((c.tc : Thread Cert.InWgradIdeal.nD Cert.InWgradIdeal.τ).loc Cert.InWgradIdeal.main_arg8))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v15) = v0 c
          ∧ r.2.mem ((c.tc : Thread Cert.InWgradRefIdeal.nD Cert.InWgradRefIdeal.τ).loc Cert.InWgradRefIdeal.main_v16) = v1 c
          ∧ r.2.mem ((c.tc : Thread Cert.InWgradRefIdeal.nD Cert.InWgradRefIdeal.τ).loc Cert.InWgradRefIdeal.main_v17) = v2 c
          ∧ r.2.mem ((c.tc : Thread Cert.InWgradRefIdeal.nD Cert.InWgradRefIdeal.τ).loc Cert.InWgradRefIdeal.main_v18) = v3 c
          ∧ r.2.mem ((c.tc : Thread Cert.InWgradRefIdeal.nD Cert.InWgradRefIdeal.τ).loc Cert.InWgradRefIdeal.main_v19) = v4 c
          ∧ r.2.mem ((c.tc : Thread Cert.InWgradRefIdeal.nD Cert.InWgradRefIdeal.τ).loc Cert.InWgradRefIdeal.main_v20) = v5 c
          ∧ r.2.mem ((c.tc : Thread Cert.InWgradRefIdeal.nD Cert.InWgradRefIdeal.τ).loc Cert.InWgradRefIdeal.main_v21) = v6 c
          ∧ r.2.mem ((c.tc : Thread Cert.InWgradRefIdeal.nD Cert.InWgradRefIdeal.τ).loc Cert.InWgradRefIdeal.main_v22) = v7 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1)
          ∧ r.2.mem ((c.tc : Thread Cert.InWgradRefIdeal.nD Cert.InWgradRefIdeal.τ).loc Cert.InWgradRefIdeal.main_arg2) = m' ((c.tc : Thread Cert.InWgradRefIdeal.nD Cert.InWgradRefIdeal.τ).loc Cert.InWgradRefIdeal.main_arg2)
          ∧ r.2.mem ((c.tc : Thread Cert.InWgradRefIdeal.nD Cert.InWgradRefIdeal.τ).loc Cert.InWgradRefIdeal.main_arg3) = m' ((c.tc : Thread Cert.InWgradRefIdeal.nD Cert.InWgradRefIdeal.τ).loc Cert.InWgradRefIdeal.main_arg3)
          ∧ r.2.mem ((c.tc : Thread Cert.InWgradRefIdeal.nD Cert.InWgradRefIdeal.τ).loc Cert.InWgradRefIdeal.main_arg4) = m' ((c.tc : Thread Cert.InWgradRefIdeal.nD Cert.InWgradRefIdeal.τ).loc Cert.InWgradRefIdeal.main_arg4)
          ∧ r.2.mem ((c.tc : Thread Cert.InWgradRefIdeal.nD Cert.InWgradRefIdeal.τ).loc Cert.InWgradRefIdeal.main_arg5) = m' ((c.tc : Thread Cert.InWgradRefIdeal.nD Cert.InWgradRefIdeal.τ).loc Cert.InWgradRefIdeal.main_arg5)
          ∧ r.2.mem ((c.tc : Thread Cert.InWgradRefIdeal.nD Cert.InWgradRefIdeal.τ).loc Cert.InWgradRefIdeal.main_arg6) = m' ((c.tc : Thread Cert.InWgradRefIdeal.nD Cert.InWgradRefIdeal.τ).loc Cert.InWgradRefIdeal.main_arg6)
          ∧ r.2.mem ((c.tc : Thread Cert.InWgradRefIdeal.nD Cert.InWgradRefIdeal.τ).loc Cert.InWgradRefIdeal.main_arg7) = m' ((c.tc : Thread Cert.InWgradRefIdeal.nD Cert.InWgradRefIdeal.τ).loc Cert.InWgradRefIdeal.main_arg7)
          ∧ r.2.mem ((c.tc : Thread Cert.InWgradRefIdeal.nD Cert.InWgradRefIdeal.τ).loc Cert.InWgradRefIdeal.main_arg8) = m' ((c.tc : Thread Cert.InWgradRefIdeal.nD Cert.InWgradRefIdeal.τ).loc Cert.InWgradRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v4) = v0 c
          ∧ r.2.mem ((c.tc : Thread Cert.UpProjRefIdeal.nD Cert.UpProjRefIdeal.τ).loc Cert.UpProjRefIdeal.main_v5) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v2) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v48) = v0 c
          ∧ r.2.mem ((c.tc : Thread Cert.NormBwdRefIdeal.nD Cert.NormBwdRefIdeal.τ).loc Cert.NormBwdRefIdeal.main_v31) = v1 c
          ∧ r.2.mem ((c.tc : Thread Cert.NormBwdRefIdeal.nD Cert.NormBwdRefIdeal.τ).loc Cert.NormBwdRefIdeal.main_v26) = v2 c
          ∧ r.2.mem ((c.tc : Thread Cert.NormBwdRefIdeal.nD Cert.NormBwdRefIdeal.τ).loc Cert.NormBwdRefIdeal.main_v23) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_ResidBwd_ResidBwdIdeal : Prop :=
  True

def algebraic_ResidBwdIdeal_ResidBwdRefIdeal [hResidBwdIdeal : Cert.ResidBwdIdeal.Facts] [hResidBwdRefIdeal : Cert.ResidBwdRefIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg)
    (m' : (ℓ : Loc Cert.ResidBwdRefIdeal.nD Cert.ResidBwdRefIdeal.τ Cert.ResidBwdRefIdeal.sig) → Buf (Elt Ideal) ℓ) (g' : Dev Cert.ResidBwdRefIdeal.nD → PrngReg), Pre_ResidBwdIdeal m →
    (∀ c : Dev Cert.ResidBwdIdeal.nD,
      m' ((c.tc : Thread Cert.ResidBwdRefIdeal.nD Cert.ResidBwdRefIdeal.τ).loc Cert.ResidBwdRefIdeal.main_arg0) = m ((c.tc : Thread Cert.ResidBwdIdeal.nD Cert.ResidBwdIdeal.τ).loc Cert.ResidBwdIdeal.main_arg0)
      ∧ m' ((c.tc : Thread Cert.ResidBwdRefIdeal.nD Cert.ResidBwdRefIdeal.τ).loc Cert.ResidBwdRefIdeal.main_arg1) = m ((c.tc : Thread Cert.ResidBwdIdeal.nD Cert.ResidBwdIdeal.τ).loc Cert.ResidBwdIdeal.main_arg1)
      ∧ m' ((c.tc : Thread Cert.ResidBwdRefIdeal.nD Cert.ResidBwdRefIdeal.τ).loc Cert.ResidBwdRefIdeal.main_arg2) = m ((c.tc : Thread Cert.ResidBwdIdeal.nD Cert.ResidBwdIdeal.τ).loc Cert.ResidBwdIdeal.main_arg2)
      ∧ m' ((c.tc : Thread Cert.ResidBwdRefIdeal.nD Cert.ResidBwdRefIdeal.τ).loc Cert.ResidBwdRefIdeal.main_arg3) = m ((c.tc : Thread Cert.ResidBwdIdeal.nD Cert.ResidBwdIdeal.τ).loc Cert.ResidBwdIdeal.main_arg3)
      ∧ m' ((c.tc : Thread Cert.ResidBwdRefIdeal.nD Cert.ResidBwdRefIdeal.τ).loc Cert.ResidBwdRefIdeal.main_arg4) = m ((c.tc : Thread Cert.ResidBwdIdeal.nD Cert.ResidBwdIdeal.τ).loc Cert.ResidBwdIdeal.main_arg4)
      ∧ m' ((c.tc : Thread Cert.ResidBwdRefIdeal.nD Cert.ResidBwdRefIdeal.τ).loc Cert.ResidBwdRefIdeal.main_arg5) = m ((c.tc : Thread Cert.ResidBwdIdeal.nD Cert.ResidBwdIdeal.τ).loc Cert.ResidBwdIdeal.main_arg5)
      ∧ m' ((c.tc : Thread Cert.ResidBwdRefIdeal.nD Cert.ResidBwdRefIdeal.τ).loc Cert.ResidBwdRefIdeal.main_arg6) = m ((c.tc : Thread Cert.ResidBwdIdeal.nD Cert.ResidBwdIdeal.τ).loc Cert.ResidBwdIdeal.main_arg6)
      ∧ m' ((c.tc : Thread Cert.ResidBwdRefIdeal.nD Cert.ResidBwdRefIdeal.τ).loc Cert.ResidBwdRefIdeal.main_arg7) = m ((c.tc : Thread Cert.ResidBwdIdeal.nD Cert.ResidBwdIdeal.τ).loc Cert.ResidBwdIdeal.main_arg7)) →
    ∃ (v0 : (c : Dev Cert.ResidBwdIdeal.nD) → Buf (Elt Ideal) ((c.tc : Thread Cert.ResidBwdIdeal.nD Cert.ResidBwdIdeal.τ).loc Cert.ResidBwdIdeal.main_v0_0)) (v1 : (c : Dev Cert.ResidBwdIdeal.nD) → Buf (Elt Ideal) ((c.tc : Thread Cert.ResidBwdIdeal.nD Cert.ResidBwdIdeal.τ).loc Cert.ResidBwdIdeal.main_v0_1)) (v2 : (c : Dev Cert.ResidBwdIdeal.nD) → Buf (Elt Ideal) ((c.tc : Thread Cert.ResidBwdIdeal.nD Cert.ResidBwdIdeal.τ).loc Cert.ResidBwdIdeal.main_v0_2)) (v3 : (c : Dev Cert.ResidBwdIdeal.nD) → Buf (Elt Ideal) ((c.tc : Thread Cert.ResidBwdIdeal.nD Cert.ResidBwdIdeal.τ).loc Cert.ResidBwdIdeal.main_v0_3)) (v4 : (c : Dev Cert.ResidBwdIdeal.nD) → Buf (Elt Ideal) ((c.tc : Thread Cert.ResidBwdIdeal.nD Cert.ResidBwdIdeal.τ).loc Cert.ResidBwdIdeal.main_v0_4)) (v5 : (c : Dev Cert.ResidBwdIdeal.nD) → Buf (Elt Ideal) ((c.tc : Thread Cert.ResidBwdIdeal.nD Cert.ResidBwdIdeal.τ).loc Cert.ResidBwdIdeal.main_v0_5)),
      θ_run (Cert.ResidBwdIdeal.defs (F := Ideal)) (onTc (τ := Cert.ResidBwdIdeal.τ) (Cert.ResidBwdIdeal.main (F := Ideal))) ⟨m, fun _ => 0, g⟩ (fun r => ∀ c : Dev Cert.ResidBwdIdeal.nD,
          r.2.mem ((c.tc : Thread Cert.ResidBwdIdeal.nD Cert.ResidBwdIdeal.τ).loc Cert.ResidBwdIdeal.main_v0_0) = v0 c
          ∧ r.2.mem ((c.tc : Thread Cert.ResidBwdIdeal.nD Cert.ResidBwdIdeal.τ).loc Cert.ResidBwdIdeal.main_v0_1) = v1 c
          ∧ r.2.mem ((c.tc : Thread Cert.ResidBwdIdeal.nD Cert.ResidBwdIdeal.τ).loc Cert.ResidBwdIdeal.main_v0_2) = v2 c
          ∧ r.2.mem ((c.tc : Thread Cert.ResidBwdIdeal.nD Cert.ResidBwdIdeal.τ).loc Cert.ResidBwdIdeal.main_v0_3) = v3 c
          ∧ r.2.mem ((c.tc : Thread Cert.ResidBwdIdeal.nD Cert.ResidBwdIdeal.τ).loc Cert.ResidBwdIdeal.main_v0_4) = v4 c
          ∧ r.2.mem ((c.tc : Thread Cert.ResidBwdIdeal.nD Cert.ResidBwdIdeal.τ).loc Cert.ResidBwdIdeal.main_v0_5) = v5 c
          ∧ r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
          ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
          ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2)
          ∧ r.2.mem ((c.tc : Thread Cert.ResidBwdIdeal.nD Cert.ResidBwdIdeal.τ).loc Cert.ResidBwdIdeal.main_arg3) = m ((c.tc : Thread Cert.ResidBwdIdeal.nD Cert.ResidBwdIdeal.τ).loc Cert.ResidBwdIdeal.main_arg3)
          ∧ r.2.mem ((c.tc : Thread Cert.ResidBwdIdeal.nD Cert.ResidBwdIdeal.τ).loc Cert.ResidBwdIdeal.main_arg4) = m ((c.tc : Thread Cert.ResidBwdIdeal.nD Cert.ResidBwdIdeal.τ).loc Cert.ResidBwdIdeal.main_arg4)
          ∧ r.2.mem ((c.tc : Thread Cert.ResidBwdIdeal.nD Cert.ResidBwdIdeal.τ).loc Cert.ResidBwdIdeal.main_arg5) = m ((c.tc : Thread Cert.ResidBwdIdeal.nD Cert.ResidBwdIdeal.τ).loc Cert.ResidBwdIdeal.main_arg5)
          ∧ r.2.mem ((c.tc : Thread Cert.ResidBwdIdeal.nD Cert.ResidBwdIdeal.τ).loc Cert.ResidBwdIdeal.main_arg6) = m ((c.tc : Thread Cert.ResidBwdIdeal.nD Cert.ResidBwdIdeal.τ).loc Cert.ResidBwdIdeal.main_arg6)
          ∧ r.2.mem ((c.tc : Thread Cert.ResidBwdIdeal.nD Cert.ResidBwdIdeal.τ).loc Cert.ResidBwdIdeal.main_arg7) = m ((c.tc : Thread Cert.ResidBwdIdeal.nD Cert.ResidBwdIdeal.τ).loc Cert.ResidBwdIdeal.main_arg7))
      ∧ θ_run (Cert.ResidBwdRefIdeal.defs (F := Ideal)) (onTc (τ := Cert.ResidBwdRefIdeal.τ) (Cert.ResidBwdRefIdeal.main (F := Ideal))) ⟨m', fun _ => 0, g'⟩ (fun r => ∀ c : Dev Cert.ResidBwdRefIdeal.nD,
          r.2.mem ((c.tc : Thread Cert.ResidBwdRefIdeal.nD Cert.ResidBwdRefIdeal.τ).loc Cert.ResidBwdRefIdeal.main_v53) = v0 c
          ∧ r.2.mem ((c.tc : Thread Cert.ResidBwdRefIdeal.nD Cert.ResidBwdRefIdeal.τ).loc Cert.ResidBwdRefIdeal.main_v60) = v1 c
          ∧ r.2.mem ((c.tc : Thread Cert.ResidBwdRefIdeal.nD Cert.ResidBwdRefIdeal.τ).loc Cert.ResidBwdRefIdeal.main_v59) = v2 c
          ∧ r.2.mem ((c.tc : Thread Cert.ResidBwdRefIdeal.nD Cert.ResidBwdRefIdeal.τ).loc Cert.ResidBwdRefIdeal.main_v36) = v3 c
          ∧ r.2.mem ((c.tc : Thread Cert.ResidBwdRefIdeal.nD Cert.ResidBwdRefIdeal.τ).loc Cert.ResidBwdRefIdeal.main_v31) = v4 c
          ∧ r.2.mem ((c.tc : Thread Cert.ResidBwdRefIdeal.nD Cert.ResidBwdRefIdeal.τ).loc Cert.ResidBwdRefIdeal.main_v28) = v5 c
          ∧ r.2.mem ((c.tc : Thread Cert.ResidBwdRefIdeal.nD Cert.ResidBwdRefIdeal.τ).loc Cert.ResidBwdRefIdeal.main_arg0) = m' ((c.tc : Thread Cert.ResidBwdRefIdeal.nD Cert.ResidBwdRefIdeal.τ).loc Cert.ResidBwdRefIdeal.main_arg0)
          ∧ r.2.mem ((c.tc : Thread Cert.ResidBwdRefIdeal.nD Cert.ResidBwdRefIdeal.τ).loc Cert.ResidBwdRefIdeal.main_arg1) = m' ((c.tc : Thread Cert.ResidBwdRefIdeal.nD Cert.ResidBwdRefIdeal.τ).loc Cert.ResidBwdRefIdeal.main_arg1)
          ∧ r.2.mem ((c.tc : Thread Cert.ResidBwdRefIdeal.nD Cert.ResidBwdRefIdeal.τ).loc Cert.ResidBwdRefIdeal.main_arg2) = m' ((c.tc : Thread Cert.ResidBwdRefIdeal.nD Cert.ResidBwdRefIdeal.τ).loc Cert.ResidBwdRefIdeal.main_arg2)
          ∧ r.2.mem ((c.tc : Thread Cert.ResidBwdRefIdeal.nD Cert.ResidBwdRefIdeal.τ).loc Cert.ResidBwdRefIdeal.main_arg3) = m' ((c.tc : Thread Cert.ResidBwdRefIdeal.nD Cert.ResidBwdRefIdeal.τ).loc Cert.ResidBwdRefIdeal.main_arg3)
          ∧ r.2.mem ((c.tc : Thread Cert.ResidBwdRefIdeal.nD Cert.ResidBwdRefIdeal.τ).loc Cert.ResidBwdRefIdeal.main_arg4) = m' ((c.tc : Thread Cert.ResidBwdRefIdeal.nD Cert.ResidBwdRefIdeal.τ).loc Cert.ResidBwdRefIdeal.main_arg4)
          ∧ r.2.mem ((c.tc : Thread Cert.ResidBwdRefIdeal.nD Cert.ResidBwdRefIdeal.τ).loc Cert.ResidBwdRefIdeal.main_arg5) = m' ((c.tc : Thread Cert.ResidBwdRefIdeal.nD Cert.ResidBwdRefIdeal.τ).loc Cert.ResidBwdRefIdeal.main_arg5)
          ∧ r.2.mem ((c.tc : Thread Cert.ResidBwdRefIdeal.nD Cert.ResidBwdRefIdeal.τ).loc Cert.ResidBwdRefIdeal.main_arg6) = m' ((c.tc : Thread Cert.ResidBwdRefIdeal.nD Cert.ResidBwdRefIdeal.τ).loc Cert.ResidBwdRefIdeal.main_arg6)
          ∧ r.2.mem ((c.tc : Thread Cert.ResidBwdRefIdeal.nD Cert.ResidBwdRefIdeal.τ).loc Cert.ResidBwdRefIdeal.main_arg7) = m' ((c.tc : Thread Cert.ResidBwdRefIdeal.nD Cert.ResidBwdRefIdeal.τ).loc Cert.ResidBwdRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)) (v4 : (c : Dev Cert.FinalIdeal.nD) → Buf (Elt Ideal) ((c.tc : Thread Cert.FinalIdeal.nD Cert.FinalIdeal.τ).loc Cert.FinalIdeal.main_v0_4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_v0_4) = v4 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v53) = v0 c
          ∧ r.2.mem ((c.tc : Thread Cert.FinalRefIdeal.nD Cert.FinalRefIdeal.τ).loc Cert.FinalRefIdeal.main_v59) = v1 c
          ∧ r.2.mem ((c.tc : Thread Cert.FinalRefIdeal.nD Cert.FinalRefIdeal.τ).loc Cert.FinalRefIdeal.main_v58) = v2 c
          ∧ r.2.mem ((c.tc : Thread Cert.FinalRefIdeal.nD Cert.FinalRefIdeal.τ).loc Cert.FinalRefIdeal.main_v37) = v3 c
          ∧ r.2.mem ((c.tc : Thread Cert.FinalRefIdeal.nD Cert.FinalRefIdeal.τ).loc Cert.FinalRefIdeal.main_v60) = v4 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamFg2_AdamFg2Ideal : Prop :=
  True

def algebraic_AdamFg2Ideal_AdamFg2RefIdeal [hAdamFg2Ideal : Cert.AdamFg2Ideal.Facts] [hAdamFg2RefIdeal : Cert.AdamFg2RefIdeal.Facts] : Prop :=
  ∀ (m : (ℓ : Loc Cert.AdamFg2Ideal.nD Cert.AdamFg2Ideal.τ Cert.AdamFg2Ideal.sig) → Buf (Elt Ideal) ℓ) (g : Dev Cert.AdamFg2Ideal.nD → PrngReg)
    (m' : (ℓ : Loc Cert.AdamFg2RefIdeal.nD Cert.AdamFg2RefIdeal.τ Cert.AdamFg2RefIdeal.sig) → Buf (Elt Ideal) ℓ) (g' : Dev Cert.AdamFg2RefIdeal.nD → PrngReg), Pre_AdamFg2Ideal m →
    (∀ c : Dev Cert.AdamFg2Ideal.nD,
      m' ((c.tc : Thread Cert.AdamFg2RefIdeal.nD Cert.AdamFg2RefIdeal.τ).loc Cert.AdamFg2RefIdeal.main_arg0) = m ((c.tc : Thread Cert.AdamFg2Ideal.nD Cert.AdamFg2Ideal.τ).loc Cert.AdamFg2Ideal.main_arg0)
      ∧ m' ((c.tc : Thread Cert.AdamFg2RefIdeal.nD Cert.AdamFg2RefIdeal.τ).loc Cert.AdamFg2RefIdeal.main_arg1) = m ((c.tc : Thread Cert.AdamFg2Ideal.nD Cert.AdamFg2Ideal.τ).loc Cert.AdamFg2Ideal.main_arg1)
      ∧ m' ((c.tc : Thread Cert.AdamFg2RefIdeal.nD Cert.AdamFg2RefIdeal.τ).loc Cert.AdamFg2RefIdeal.main_arg2) = m ((c.tc : Thread Cert.AdamFg2Ideal.nD Cert.AdamFg2Ideal.τ).loc Cert.AdamFg2Ideal.main_arg2)
      ∧ m' ((c.tc : Thread Cert.AdamFg2RefIdeal.nD Cert.AdamFg2RefIdeal.τ).loc Cert.AdamFg2RefIdeal.main_arg3) = m ((c.tc : Thread Cert.AdamFg2Ideal.nD Cert.AdamFg2Ideal.τ).loc Cert.AdamFg2Ideal.main_arg3)) →
    ∃ (v0 : (c : Dev Cert.AdamFg2Ideal.nD) → Buf (Elt Ideal) ((c.tc : Thread Cert.AdamFg2Ideal.nD Cert.AdamFg2Ideal.τ).loc Cert.AdamFg2Ideal.main_v0_0)) (v1 : (c : Dev Cert.AdamFg2Ideal.nD) → Buf (Elt Ideal) ((c.tc : Thread Cert.AdamFg2Ideal.nD Cert.AdamFg2Ideal.τ).loc Cert.AdamFg2Ideal.main_v0_1)) (v2 : (c : Dev Cert.AdamFg2Ideal.nD) → Buf (Elt Ideal) ((c.tc : Thread Cert.AdamFg2Ideal.nD Cert.AdamFg2Ideal.τ).loc Cert.AdamFg2Ideal.main_v0_2)) (v3 : (c : Dev Cert.AdamFg2Ideal.nD) → Buf (Elt Ideal) ((c.tc : Thread Cert.AdamFg2Ideal.nD Cert.AdamFg2Ideal.τ).loc Cert.AdamFg2Ideal.main_v0_3)),
      θ_run (Cert.AdamFg2Ideal.defs (F := Ideal)) (onTc (τ := Cert.AdamFg2Ideal.τ) (Cert.AdamFg2Ideal.main (F := Ideal))) ⟨m, fun _ => 0, g⟩ (fun r => ∀ c : Dev Cert.AdamFg2Ideal.nD,
          r.2.mem ((c.tc : Thread Cert.AdamFg2Ideal.nD Cert.AdamFg2Ideal.τ).loc Cert.AdamFg2Ideal.main_v0_0) = v0 c
          ∧ r.2.mem ((c.tc : Thread Cert.AdamFg2Ideal.nD Cert.AdamFg2Ideal.τ).loc Cert.AdamFg2Ideal.main_v0_1) = v1 c
          ∧ r.2.mem ((c.tc : Thread Cert.AdamFg2Ideal.nD Cert.AdamFg2Ideal.τ).loc Cert.AdamFg2Ideal.main_v0_2) = v2 c
          ∧ r.2.mem ((c.tc : Thread Cert.AdamFg2Ideal.nD Cert.AdamFg2Ideal.τ).loc Cert.AdamFg2Ideal.main_v0_3) = v3 c
          ∧ r.2.mem ((c.tc : Thread Cert.AdamFg2Ideal.nD Cert.AdamFg2Ideal.τ).loc Cert.AdamFg2Ideal.main_arg0) = m ((c.tc : Thread Cert.AdamFg2Ideal.nD Cert.AdamFg2Ideal.τ).loc Cert.AdamFg2Ideal.main_arg0)
          ∧ r.2.mem ((c.tc : Thread Cert.AdamFg2Ideal.nD Cert.AdamFg2Ideal.τ).loc Cert.AdamFg2Ideal.main_arg1) = m ((c.tc : Thread Cert.AdamFg2Ideal.nD Cert.AdamFg2Ideal.τ).loc Cert.AdamFg2Ideal.main_arg1)
          ∧ r.2.mem ((c.tc : Thread Cert.AdamFg2Ideal.nD Cert.AdamFg2Ideal.τ).loc Cert.AdamFg2Ideal.main_arg2) = m ((c.tc : Thread Cert.AdamFg2Ideal.nD Cert.AdamFg2Ideal.τ).loc Cert.AdamFg2Ideal.main_arg2)
          ∧ r.2.mem ((c.tc : Thread Cert.AdamFg2Ideal.nD Cert.AdamFg2Ideal.τ).loc Cert.AdamFg2Ideal.main_arg3) = m ((c.tc : Thread Cert.AdamFg2Ideal.nD Cert.AdamFg2Ideal.τ).loc Cert.AdamFg2Ideal.main_arg3))
      ∧ θ_run (Cert.AdamFg2RefIdeal.defs (F := Ideal)) (onTc (τ := Cert.AdamFg2RefIdeal.τ) (Cert.AdamFg2RefIdeal.main (F := Ideal))) ⟨m', fun _ => 0, g'⟩ (fun r => ∀ c : Dev Cert.AdamFg2RefIdeal.nD,
          r.2.mem ((c.tc : Thread Cert.AdamFg2RefIdeal.nD Cert.AdamFg2RefIdeal.τ).loc Cert.AdamFg2RefIdeal.main_v0) = v0 c
          ∧ r.2.mem ((c.tc : Thread Cert.AdamFg2RefIdeal.nD Cert.AdamFg2RefIdeal.τ).loc Cert.AdamFg2RefIdeal.main_v24) = v1 c
          ∧ r.2.mem ((c.tc : Thread Cert.AdamFg2RefIdeal.nD Cert.AdamFg2RefIdeal.τ).loc Cert.AdamFg2RefIdeal.main_v5) = v2 c
          ∧ r.2.mem ((c.tc : Thread Cert.AdamFg2RefIdeal.nD Cert.AdamFg2RefIdeal.τ).loc Cert.AdamFg2RefIdeal.main_v11) = v3 c
          ∧ r.2.mem ((c.tc : Thread Cert.AdamFg2RefIdeal.nD Cert.AdamFg2RefIdeal.τ).loc Cert.AdamFg2RefIdeal.main_arg0) = m' ((c.tc : Thread Cert.AdamFg2RefIdeal.nD Cert.AdamFg2RefIdeal.τ).loc Cert.AdamFg2RefIdeal.main_arg0)
          ∧ r.2.mem ((c.tc : Thread Cert.AdamFg2RefIdeal.nD Cert.AdamFg2RefIdeal.τ).loc Cert.AdamFg2RefIdeal.main_arg1) = m' ((c.tc : Thread Cert.AdamFg2RefIdeal.nD Cert.AdamFg2RefIdeal.τ).loc Cert.AdamFg2RefIdeal.main_arg1)
          ∧ r.2.mem ((c.tc : Thread Cert.AdamFg2RefIdeal.nD Cert.AdamFg2RefIdeal.τ).loc Cert.AdamFg2RefIdeal.main_arg2) = m' ((c.tc : Thread Cert.AdamFg2RefIdeal.nD Cert.AdamFg2RefIdeal.τ).loc Cert.AdamFg2RefIdeal.main_arg2)
          ∧ r.2.mem ((c.tc : Thread Cert.AdamFg2RefIdeal.nD Cert.AdamFg2RefIdeal.τ).loc Cert.AdamFg2RefIdeal.main_arg3) = m' ((c.tc : Thread Cert.AdamFg2RefIdeal.nD Cert.AdamFg2RefIdeal.τ).loc Cert.AdamFg2RefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_ResidNorm_ResidNormIdeal : Prop :=
  True

def algebraic_ResidNormIdeal_ResidNormRefIdeal [hResidNormIdeal : Cert.ResidNormIdeal.Facts] [hResidNormRefIdeal : Cert.ResidNormRefIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.ResidNormRefIdeal.nD Cert.ResidNormRefIdeal.τ Cert.ResidNormRefIdeal.sig) → Buf (Elt Ideal) ℓ) (g' : Dev Cert.ResidNormRefIdeal.nD → PrngReg), Pre_ResidNormIdeal m →
    (∀ c : Dev Cert.ResidNormIdeal.nD,
      m' ((c.tc : Thread Cert.ResidNormRefIdeal.nD Cert.ResidNormRefIdeal.τ).loc Cert.ResidNormRefIdeal.main_arg0) = m ((c.tc : Thread Cert.ResidNormIdeal.nD Cert.ResidNormIdeal.τ).loc Cert.ResidNormIdeal.main_arg0)
      ∧ m' ((c.tc : Thread Cert.ResidNormRefIdeal.nD Cert.ResidNormRefIdeal.τ).loc Cert.ResidNormRefIdeal.main_arg1) = m ((c.tc : Thread Cert.ResidNormIdeal.nD Cert.ResidNormIdeal.τ).loc Cert.ResidNormIdeal.main_arg1)
      ∧ m' ((c.tc : Thread Cert.ResidNormRefIdeal.nD Cert.ResidNormRefIdeal.τ).loc Cert.ResidNormRefIdeal.main_arg2) = m ((c.tc : Thread Cert.ResidNormIdeal.nD Cert.ResidNormIdeal.τ).loc Cert.ResidNormIdeal.main_arg2)
      ∧ m' ((c.tc : Thread Cert.ResidNormRefIdeal.nD Cert.ResidNormRefIdeal.τ).loc Cert.ResidNormRefIdeal.main_arg3) = m ((c.tc : Thread Cert.ResidNormIdeal.nD Cert.ResidNormIdeal.τ).loc Cert.ResidNormIdeal.main_arg3)
      ∧ m' ((c.tc : Thread Cert.ResidNormRefIdeal.nD Cert.ResidNormRefIdeal.τ).loc Cert.ResidNormRefIdeal.main_arg4) = m ((c.tc : Thread Cert.ResidNormIdeal.nD Cert.ResidNormIdeal.τ).loc Cert.ResidNormIdeal.main_arg4)
      ∧ m' ((c.tc : Thread Cert.ResidNormRefIdeal.nD Cert.ResidNormRefIdeal.τ).loc Cert.ResidNormRefIdeal.main_arg5) = m ((c.tc : Thread Cert.ResidNormIdeal.nD Cert.ResidNormIdeal.τ).loc Cert.ResidNormIdeal.main_arg5)) →
    ∃ (v0 : (c : Dev Cert.ResidNormIdeal.nD) → Buf (Elt Ideal) ((c.tc : Thread Cert.ResidNormIdeal.nD Cert.ResidNormIdeal.τ).loc Cert.ResidNormIdeal.main_v0_0)) (v1 : (c : Dev Cert.ResidNormIdeal.nD) → Buf (Elt Ideal) ((c.tc : Thread Cert.ResidNormIdeal.nD Cert.ResidNormIdeal.τ).loc Cert.ResidNormIdeal.main_v0_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v0_0) = v0 c
          ∧ r.2.mem ((c.tc : Thread Cert.ResidNormIdeal.nD Cert.ResidNormIdeal.τ).loc Cert.ResidNormIdeal.main_v0_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3)
          ∧ r.2.mem ((c.tc : Thread Cert.ResidNormIdeal.nD Cert.ResidNormIdeal.τ).loc Cert.ResidNormIdeal.main_arg4) = m ((c.tc : Thread Cert.ResidNormIdeal.nD Cert.ResidNormIdeal.τ).loc Cert.ResidNormIdeal.main_arg4)
          ∧ r.2.mem ((c.tc : Thread Cert.ResidNormIdeal.nD Cert.ResidNormIdeal.τ).loc Cert.ResidNormIdeal.main_arg5) = m ((c.tc : Thread Cert.ResidNormIdeal.nD Cert.ResidNormIdeal.τ).loc Cert.ResidNormIdeal.main_arg5))
      ∧ θ_run (Cert.ResidNormRefIdeal.defs (F := Ideal)) (onTc (τ := Cert.ResidNormRefIdeal.τ) (Cert.ResidNormRefIdeal.main (F := Ideal))) ⟨m', fun _ => 0, g'⟩ (fun r => ∀ c : Dev Cert.ResidNormRefIdeal.nD,
          r.2.mem ((c.tc : Thread Cert.ResidNormRefIdeal.nD Cert.ResidNormRefIdeal.τ).loc Cert.ResidNormRefIdeal.main_v4) = v0 c
          ∧ r.2.mem ((c.tc : Thread Cert.ResidNormRefIdeal.nD Cert.ResidNormRefIdeal.τ).loc Cert.ResidNormRefIdeal.main_v23) = v1 c
          ∧ r.2.mem ((c.tc : Thread Cert.ResidNormRefIdeal.nD Cert.ResidNormRefIdeal.τ).loc Cert.ResidNormRefIdeal.main_arg0) = m' ((c.tc : Thread Cert.ResidNormRefIdeal.nD Cert.ResidNormRefIdeal.τ).loc Cert.ResidNormRefIdeal.main_arg0)
          ∧ r.2.mem ((c.tc : Thread Cert.ResidNormRefIdeal.nD Cert.ResidNormRefIdeal.τ).loc Cert.ResidNormRefIdeal.main_arg1) = m' ((c.tc : Thread Cert.ResidNormRefIdeal.nD Cert.ResidNormRefIdeal.τ).loc Cert.ResidNormRefIdeal.main_arg1)
          ∧ r.2.mem ((c.tc : Thread Cert.ResidNormRefIdeal.nD Cert.ResidNormRefIdeal.τ).loc Cert.ResidNormRefIdeal.main_arg2) = m' ((c.tc : Thread Cert.ResidNormRefIdeal.nD Cert.ResidNormRefIdeal.τ).loc Cert.ResidNormRefIdeal.main_arg2)
          ∧ r.2.mem ((c.tc : Thread Cert.ResidNormRefIdeal.nD Cert.ResidNormRefIdeal.τ).loc Cert.ResidNormRefIdeal.main_arg3) = m' ((c.tc : Thread Cert.ResidNormRefIdeal.nD Cert.ResidNormRefIdeal.τ).loc Cert.ResidNormRefIdeal.main_arg3)
          ∧ r.2.mem ((c.tc : Thread Cert.ResidNormRefIdeal.nD Cert.ResidNormRefIdeal.τ).loc Cert.ResidNormRefIdeal.main_arg4) = m' ((c.tc : Thread Cert.ResidNormRefIdeal.nD Cert.ResidNormRefIdeal.τ).loc Cert.ResidNormRefIdeal.main_arg4)
          ∧ r.2.mem ((c.tc : Thread Cert.ResidNormRefIdeal.nD Cert.ResidNormRefIdeal.τ).loc Cert.ResidNormRefIdeal.main_arg5) = m' ((c.tc : Thread Cert.ResidNormRefIdeal.nD Cert.ResidNormRefIdeal.τ).loc Cert.ResidNormRefIdeal.main_arg5))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v4) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v1) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def Claim : Prop :=
  ∃ (hKernel : Cert.Kernel.Facts) (hKernelIdeal : Cert.KernelIdeal.Facts) (hReferenceIdeal : Cert.ReferenceIdeal.Facts) (hUpDgrad : Cert.UpDgrad.Facts) (hUpDgradIdeal : Cert.UpDgradIdeal.Facts) (hUpDgradRefIdeal : Cert.UpDgradRefIdeal.Facts) (hDownWgrad : Cert.DownWgrad.Facts) (hDownWgradIdeal : Cert.DownWgradIdeal.Facts) (hDownWgradRefIdeal : Cert.DownWgradRefIdeal.Facts) (hDownDgrad : Cert.DownDgrad.Facts) (hDownDgradIdeal : Cert.DownDgradIdeal.Facts) (hDownDgradRefIdeal : Cert.DownDgradRefIdeal.Facts) (hUpWgrad : Cert.UpWgrad.Facts) (hUpWgradIdeal : Cert.UpWgradIdeal.Facts) (hUpWgradRefIdeal : Cert.UpWgradRefIdeal.Facts) (hOutWgrad : Cert.OutWgrad.Facts) (hOutWgradIdeal : Cert.OutWgradIdeal.Facts) (hOutWgradRefIdeal : Cert.OutWgradRefIdeal.Facts) (hOutDgrad : Cert.OutDgrad.Facts) (hOutDgradIdeal : Cert.OutDgradIdeal.Facts) (hOutDgradRefIdeal : Cert.OutDgradRefIdeal.Facts) (hInWgrad : Cert.InWgrad.Facts) (hInWgradIdeal : Cert.InWgradIdeal.Facts) (hInWgradRefIdeal : Cert.InWgradRefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hDownProj : Cert.DownProj.Facts) (hDownProjIdeal : Cert.DownProjIdeal.Facts) (hDownProjRefIdeal : Cert.DownProjRefIdeal.Facts) (hOutProj : Cert.OutProj.Facts) (hOutProjIdeal : Cert.OutProjIdeal.Facts) (hOutProjRefIdeal : Cert.OutProjRefIdeal.Facts) (hNormBwd : Cert.NormBwd.Facts) (hNormBwdIdeal : Cert.NormBwdIdeal.Facts) (hNormBwdRefIdeal : Cert.NormBwdRefIdeal.Facts) (hResidBwd : Cert.ResidBwd.Facts) (hResidBwdIdeal : Cert.ResidBwdIdeal.Facts) (hResidBwdRefIdeal : Cert.ResidBwdRefIdeal.Facts) (hFinal : Cert.Final.Facts) (hFinalIdeal : Cert.FinalIdeal.Facts) (hFinalRefIdeal : Cert.FinalRefIdeal.Facts) (hAdamIn : Cert.AdamIn.Facts) (hAdamInIdeal : Cert.AdamInIdeal.Facts) (hAdamInRefIdeal : Cert.AdamInRefIdeal.Facts) (hAdamFg2 : Cert.AdamFg2.Facts) (hAdamFg2Ideal : Cert.AdamFg2Ideal.Facts) (hAdamFg2RefIdeal : Cert.AdamFg2RefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamConv : Cert.AdamConv.Facts) (hAdamConvIdeal : Cert.AdamConvIdeal.Facts) (hAdamConvRefIdeal : Cert.AdamConvRefIdeal.Facts) (hAdamDown : Cert.AdamDown.Facts) (hAdamDownIdeal : Cert.AdamDownIdeal.Facts) (hAdamDownRefIdeal : Cert.AdamDownRefIdeal.Facts) (hAdamAda : Cert.AdamAda.Facts) (hAdamAdaIdeal : Cert.AdamAdaIdeal.Facts) (hAdamAdaRefIdeal : Cert.AdamAdaRefIdeal.Facts) (hResidNorm : Cert.ResidNorm.Facts) (hResidNormIdeal : Cert.ResidNormIdeal.Facts) (hResidNormRefIdeal : Cert.ResidNormRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDgrad (hUpDgrad := hUpDgrad)
    ∧ quiescent_UpDgradIdeal (hUpDgradIdeal := hUpDgradIdeal)
    ∧ quiescent_UpDgradRefIdeal (hUpDgradRefIdeal := hUpDgradRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_DownDgrad (hDownDgrad := hDownDgrad)
    ∧ quiescent_DownDgradIdeal (hDownDgradIdeal := hDownDgradIdeal)
    ∧ quiescent_DownDgradRefIdeal (hDownDgradRefIdeal := hDownDgradRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_ResidBwd (hResidBwd := hResidBwd)
    ∧ quiescent_ResidBwdIdeal (hResidBwdIdeal := hResidBwdIdeal)
    ∧ quiescent_ResidBwdRefIdeal (hResidBwdRefIdeal := hResidBwdRefIdeal)
    ∧ quiescent_Final (hFinal := hFinal)
    ∧ quiescent_FinalIdeal (hFinalIdeal := hFinalIdeal)
    ∧ quiescent_FinalRefIdeal (hFinalRefIdeal := hFinalRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFg2 (hAdamFg2 := hAdamFg2)
    ∧ quiescent_AdamFg2Ideal (hAdamFg2Ideal := hAdamFg2Ideal)
    ∧ quiescent_AdamFg2RefIdeal (hAdamFg2RefIdeal := hAdamFg2RefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_ResidNorm (hResidNorm := hResidNorm)
    ∧ quiescent_ResidNormIdeal (hResidNormIdeal := hResidNormIdeal)
    ∧ quiescent_ResidNormRefIdeal (hResidNormRefIdeal := hResidNormRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDgrad_UpDgradIdeal
    ∧ algebraic_UpDgradIdeal_UpDgradRefIdeal (hUpDgradIdeal := hUpDgradIdeal) (hUpDgradRefIdeal := hUpDgradRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_DownDgrad_DownDgradIdeal
    ∧ algebraic_DownDgradIdeal_DownDgradRefIdeal (hDownDgradIdeal := hDownDgradIdeal) (hDownDgradRefIdeal := hDownDgradRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_InWgrad_InWgradIdeal
    ∧ algebraic_InWgradIdeal_InWgradRefIdeal (hInWgradIdeal := hInWgradIdeal) (hInWgradRefIdeal := hInWgradRefIdeal)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_DownProj_DownProjIdeal
    ∧ algebraic_DownProjIdeal_DownProjRefIdeal (hDownProjIdeal := hDownProjIdeal) (hDownProjRefIdeal := hDownProjRefIdeal)
    ∧ preserves_OutProj_OutProjIdeal
    ∧ algebraic_OutProjIdeal_OutProjRefIdeal (hOutProjIdeal := hOutProjIdeal) (hOutProjRefIdeal := hOutProjRefIdeal)
    ∧ preserves_NormBwd_NormBwdIdeal
    ∧ algebraic_NormBwdIdeal_NormBwdRefIdeal (hNormBwdIdeal := hNormBwdIdeal) (hNormBwdRefIdeal := hNormBwdRefIdeal)
    ∧ preserves_ResidBwd_ResidBwdIdeal
    ∧ algebraic_ResidBwdIdeal_ResidBwdRefIdeal (hResidBwdIdeal := hResidBwdIdeal) (hResidBwdRefIdeal := hResidBwdRefIdeal)
    ∧ preserves_Final_FinalIdeal
    ∧ algebraic_FinalIdeal_FinalRefIdeal (hFinalIdeal := hFinalIdeal) (hFinalRefIdeal := hFinalRefIdeal)
    ∧ preserves_AdamIn_AdamInIdeal
    ∧ algebraic_AdamInIdeal_AdamInRefIdeal (hAdamInIdeal := hAdamInIdeal) (hAdamInRefIdeal := hAdamInRefIdeal)
    ∧ preserves_AdamFg2_AdamFg2Ideal
    ∧ algebraic_AdamFg2Ideal_AdamFg2RefIdeal (hAdamFg2Ideal := hAdamFg2Ideal) (hAdamFg2RefIdeal := hAdamFg2RefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_ResidNorm_ResidNormIdeal
    ∧ algebraic_ResidNormIdeal_ResidNormRefIdeal (hResidNormIdeal := hResidNormIdeal) (hResidNormRefIdeal := hResidNormRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
-- ==== Pre_finite.lean ====
abbrev S8192x3200 : Shape := ⟨2, ![8192, 3200]⟩
abbrev S8192x1024 : Shape := ⟨2, ![8192, 1024]⟩
abbrev S128x256 : Shape := ⟨2, ![128, 256]⟩
abbrev S1x256 : Shape := ⟨2, ![1, 256]⟩
abbrev S1x512 : Shape := ⟨2, ![1, 512]⟩
abbrev S_ : Shape := ⟨0, ![]⟩

class Facts : Prop where
  bcast_S_S8192x3200 : S_.BroadcastsInDim S8192x3200 (![] : Fin 0 → Fin S8192x3200.rank)
  bcast_S_S8192x1024 : S_.BroadcastsInDim S8192x1024 (![] : Fin 0 → Fin S8192x1024.rank)
  bcast_S_S128x256 : S_.BroadcastsInDim S128x256 (![] : Fin 0 → Fin S128x256.rank)
  bcast_S_S1x256 : S_.BroadcastsInDim S1x256 (![] : Fin 0 → Fin S1x256.rank)
  bcast_S_S1x512 : S_.BroadcastsInDim S1x512 (![] : Fin 0 → Fin S1x512.rank)

variable [Facts]

def fn {F : FTy → Type} [FloatOps F] (main_arg0 : FVec F S8192x3200 .f32) (main_arg1 : FVec F S8192x1024 .f32) (main_arg2 : FVec F S128x256 .f32) (main_arg3 : FVec F S1x256 .f32) (main_arg4 : FVec F S1x512 .f32) : IVec S8192x3200 1 × IVec S8192x1024 1 × IVec S128x256 1 × IVec S1x256 1 × IVec S1x512 1 :=
  let main_v0 : FVec F S8192x3200 .f32 := Host.absf main_arg0
  let main_cst : FVec F S_ .f32 := constant S_ .f32 0x7F800000#32
  let main_v1 : FVec F S8192x3200 .f32 := broadcastInDim S8192x3200 ![] bcast_S_S8192x3200 main_cst
  let main_v2 : IVec S8192x3200 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S128x256 .f32 := Host.absf main_arg2
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Kernel.lean ====
abbrev S8192x3200 : Shape := ⟨2, ![8192, 3200]⟩
abbrev S8192x1024 : Shape := ⟨2, ![8192, 1024]⟩
abbrev S128x256 : Shape := ⟨2, ![128, 256]⟩
abbrev S1x256 : Shape := ⟨2, ![1, 256]⟩
abbrev S1x512 : Shape := ⟨2, ![1, 512]⟩
abbrev S64x64 : Shape := ⟨2, ![64, 64]⟩
abbrev S256x128 : Shape := ⟨2, ![256, 128]⟩
abbrev S8192x256 : Shape := ⟨2, ![8192, 256]⟩
abbrev S8192x512 : Shape := ⟨2, ![8192, 512]⟩
abbrev S8192x128 : Shape := ⟨2, ![8192, 128]⟩
abbrev S_ : Shape := ⟨0, ![]⟩
abbrev S128x64x4x64 : Shape := ⟨4, ![128, 64, 4, 64]⟩
abbrev S4x128x64x64 : Shape := ⟨4, ![4, 128, 64, 64]⟩
abbrev S4x128x1x64 : Shape := ⟨4, ![4, 128, 1, 64]⟩
abbrev S4x128x64 : Shape := ⟨3, ![4, 128, 64]⟩
abbrev S128x64x4x128 : Shape := ⟨4, ![128, 64, 4, 128]⟩
abbrev S4x128x64x128 : Shape := ⟨4, ![4, 128, 64, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1 : Shape := ⟨4, ![1, 128, 128, 1]⟩
abbrev S4x1x128x64 : Shape := ⟨4, ![4, 1, 128, 64]⟩
abbrev S4x128x128x64 : Shape := ⟨4, ![4, 128, 128, 64]⟩
abbrev S4x64x128x128 : Shape := ⟨4, ![4, 64, 128, 128]⟩
abbrev S128x4x128x64 : Shape := ⟨4, ![128, 4, 128, 64]⟩
abbrev S128x2x2x128x64 : Shape := ⟨5, ![128, 2, 2, 128, 64]⟩
abbrev S2 : Shape := ⟨1, ![2]⟩
abbrev S2x1x1x1 : Shape := ⟨4, ![2, 1, 1, 1]⟩
abbrev S1x1x2x1 : Shape := ⟨4, ![1, 1, 2, 1]⟩
abbrev S2x1x2x1 : Shape := ⟨4, ![2, 1, 2, 1]⟩
abbrev S128x2x2x128x1x64 : Shape := ⟨6, ![128, 2, 2, 128, 1, 64]⟩
abbrev S128x2x2x128x2x64 : Shape := ⟨6, ![128, 2, 2, 128, 2, 64]⟩
abbrev S2x128x2x128x2x64 : Shape := ⟨6, ![2, 128, 2, 128, 2, 64]⟩
abbrev S2x128x256x128 : Shape := ⟨4, ![2, 128, 256, 128]⟩
abbrev S512x256 : Shape := ⟨2, ![512, 256]⟩
abbrev S512x512 : Shape := ⟨2, ![512, 512]⟩
abbrev S512x128 : Shape := ⟨2, ![512, 128]⟩
abbrev S2x8x256x128 : Shape := ⟨4, ![2, 8, 256, 128]⟩
abbrev S2x1x256x128 : Shape := ⟨4, ![2, 1, 256, 128]⟩
abbrev S2x256x128 : Shape := ⟨3, ![2, 256, 128]⟩
abbrev S1x256x128 : Shape := ⟨3, ![1, 256, 128]⟩
abbrev S64x128 : Shape := ⟨2, ![64, 128]⟩
abbrev S1x1x256x128 : Shape := ⟨4, ![1, 1, 256, 128]⟩
abbrev S64x256 : Shape := ⟨2, ![64, 256]⟩
abbrev S64 : Shape := ⟨1, ![64]⟩
abbrev S64x1 : Shape := ⟨2, ![64, 1]⟩
abbrev S256 : Shape := ⟨1, ![256]⟩

abbrev nBuf : Space → Nat
  | .hbm => 99
  | .vmem => 37
  | .smem => 0
  | _ => 0

abbrev bufTy : (tb : Table) → Fin (tcTables nBuf tb) → BufTy
  | .hbm, ⟨0, _⟩ => ⟨S8192x3200, .f32⟩
  | .hbm, ⟨1, _⟩ => ⟨S8192x1024, .f32⟩
  | .hbm, ⟨2, _⟩ => ⟨S128x256, .f32⟩
  | .hbm, ⟨3, _⟩ => ⟨S1x256, .f32⟩
  | .hbm, ⟨4, _⟩ => ⟨S1x512, .f32⟩
  | .hbm, ⟨5, _⟩ => ⟨S64x64, .bf16⟩
  | .hbm, ⟨6, _⟩ => ⟨S64x64, .bf16⟩
  | .hbm, ⟨7, _⟩ => ⟨S256x128, .f32⟩
  | .hbm, ⟨8, _⟩ => ⟨S8192x256, .f32⟩
  | .hbm, ⟨9, _⟩ => ⟨S8192x512, .f32⟩
  | .hbm, ⟨10, _⟩ => ⟨S8192x128, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .i1⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S128x64x4x64, .f32⟩
  | .hbm, ⟨34, _⟩ => ⟨S4x128x64x64, .f32⟩
  | .hbm, ⟨35, _⟩ => ⟨S_, .f32⟩
  | .hbm, ⟨36, _⟩ => ⟨S_, .f32⟩
  | .hbm, ⟨37, _⟩ => ⟨S4x128x64x64, .f32⟩
  | .hbm, ⟨38, _⟩ => ⟨S4x128x1x64, .f32⟩
  | .hbm, ⟨39, _⟩ => ⟨S4x128x64, .f32⟩
  | .hbm, ⟨40, _⟩ => ⟨S128x64x4x64, .f32⟩
  | .hbm, ⟨41, _⟩ => ⟨S4x128x64x64, .f32⟩
  | .hbm, ⟨42, _⟩ => ⟨S4x128x1x64, .f32⟩
  | .hbm, ⟨43, _⟩ => ⟨S4x128x64x64, .f32⟩
  | .hbm, ⟨44, _⟩ => ⟨S4x128x64x64, .f32⟩
  | .hbm, ⟨45, _⟩ => ⟨S4x128x64x64, .f32⟩
  | .hbm, ⟨46, _⟩ => ⟨S4x128x64x64, .f32⟩
  | .hbm, ⟨47, _⟩ => ⟨S128x64x4x128, .f32⟩
  | .hbm, ⟨48, _⟩ => ⟨S4x128x64x128, .f32⟩
  | .hbm, ⟨49, _⟩ => ⟨S4x128x64x128, .f32⟩
  | .hbm, ⟨50, _⟩ => ⟨S_, .f32⟩
  | .hbm, ⟨51, _⟩ => ⟨S_, .f32⟩
  | .hbm, ⟨52, _⟩ => ⟨S4x128x64, .f32⟩
  | .hbm, ⟨53, _⟩ => ⟨S128, .i32⟩
  | .hbm, ⟨54, _⟩ => ⟨S128x1, .i32⟩
  | .hbm, ⟨55, _⟩ => ⟨S1x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S1x128x128x1, .i1⟩
  | .hbm, ⟨60, _⟩ => ⟨S4x128x1x64, .f32⟩
  | .hbm, ⟨61, _⟩ => ⟨S4x1x128x64, .f32⟩
  | .hbm, ⟨62, _⟩ => ⟨S4x128x128x64, .f32⟩
  | .hbm, ⟨63, _⟩ => ⟨S4x128x128x64, .f32⟩
  | .hbm, ⟨64, _⟩ => ⟨S4x128x128x64, .f32⟩
  | .hbm, ⟨65, _⟩ => ⟨S4x128x128x64, .f32⟩
  | .hbm, ⟨66, _⟩ => ⟨S_, .f32⟩
  | .hbm, ⟨67, _⟩ => ⟨S_, .f32⟩
  | .hbm, ⟨68, _⟩ => ⟨S4x128x128x64, .i1⟩
  | .hbm, ⟨69, _⟩ => ⟨S4x128x128x64, .f32⟩
  | .hbm, ⟨70, _⟩ => ⟨S4x128x128x64, .f32⟩
  | .hbm, ⟨71, _⟩ => ⟨S4x64x128x128, .f32⟩
  | .hbm, ⟨72, _⟩ => ⟨S4x128x64x128, .f32⟩
  | .hbm, ⟨73, _⟩ => ⟨S128x4x128x64, .f32⟩
  | .hbm, ⟨74, _⟩ => ⟨S128x2x2x128x64, .f32⟩
  | .hbm, ⟨75, _⟩ => ⟨S2, .i32⟩
  | .hbm, ⟨76, _⟩ => ⟨S2x1x1x1, .i32⟩
  | .hbm, ⟨77, _⟩ => ⟨S2, .i32⟩
  | .hbm, ⟨78, _⟩ => ⟨S1x1x2x1, .i32⟩
  | .hbm, ⟨79, _⟩ => ⟨S2x1x2x1, .i32⟩
  | .hbm, ⟨80, _⟩ => ⟨S2x1x2x1, .i32⟩
  | .hbm, ⟨81, _⟩ => ⟨S2x1x2x1, .i1⟩
  | .hbm, ⟨82, _⟩ => ⟨S128x2x2x128x1x64, .f32⟩
  | .hbm, ⟨83, _⟩ => ⟨S_, .f32⟩
  | .hbm, ⟨84, _⟩ => ⟨S_, .f32⟩
  | .hbm, ⟨85, _⟩ => ⟨S128x2x2x128x2x64, .i1⟩
  | .hbm, ⟨86, _⟩ => ⟨S128x2x2x128x2x64, .f32⟩
  | .hbm, ⟨87, _⟩ => ⟨S128x2x2x128x2x64, .f32⟩
  | .hbm, ⟨88, _⟩ => ⟨S128x2x2x128x2x64, .f32⟩
  | .hbm, ⟨89, _⟩ => ⟨S2x128x2x128x2x64, .f32⟩
  | .hbm, ⟨90, _⟩ => ⟨S2x128x256x128, .f32⟩
  | .hbm, ⟨91, _⟩ => ⟨S8192x256, .bf16⟩
  | .hbm, ⟨92, _⟩ => ⟨S8192x256, .bf16⟩
  | .hbm, ⟨93, _⟩ => ⟨S8192x512, .bf16⟩
  | .hbm, ⟨94, _⟩ => ⟨S8192x512, .bf16⟩
  | .hbm, ⟨95, _⟩ => ⟨S8192x128, .bf16⟩
  | .hbm, ⟨96, _⟩ => ⟨S128x256, .f32⟩
  | .hbm, ⟨97, _⟩ => ⟨S1x256, .f32⟩
  | .hbm, ⟨98, _⟩ => ⟨S1x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S2x8x256x128, .f32⟩
  | .local _ .vmem, ⟨13, _⟩ => ⟨S2x8x256x128, .f32⟩
  | .local _ .vmem, ⟨14, _⟩ => ⟨S2x1x256x128, .f32⟩
  | .local _ .vmem, ⟨15, _⟩ => ⟨S2x1x256x128, .f32⟩
  | .local _ .vmem, ⟨16, _⟩ => ⟨S128x256, .f32⟩
  | .local _ .vmem, ⟨17, _⟩ => ⟨S1x256, .f32⟩
  | .local _ .vmem, ⟨18, _⟩ => ⟨S1x512, .f32⟩
  | .local _ .vmem, ⟨19, _⟩ => ⟨S64x64, .bf16⟩
  | .local _ .vmem, ⟨20, _⟩ => ⟨S64x64, .bf16⟩
  | .local _ .vmem, ⟨21, _⟩ => ⟨S256x128, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x128, .bf16⟩
  | .local _ .vmem, ⟨31, _⟩ => ⟨S512x128, .bf16⟩
  | .local _ .vmem, ⟨32, _⟩ => ⟨S128x256, .f32⟩
  | .local _ .vmem, ⟨33, _⟩ => ⟨S1x256, .f32⟩
  | .local _ .vmem, ⟨34, _⟩ => ⟨S1x512, .f32⟩
  | .local _ .vmem, ⟨35, _⟩ => ⟨S2x256x128, .f32⟩
  | .local _ .vmem, ⟨36, _⟩ => ⟨S512x256, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_call0_cst : Ref sig .tc := ⟨.hbm, 35, rfl⟩
abbrev main_call1_call0_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call2_call0_cst : Ref sig .tc := ⟨.hbm, 50, rfl⟩
abbrev main_call2_call0_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_4 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_v54_3 : Ref sig .tc := ⟨.hbm, 94, rfl⟩
abbrev main_v54_4 : Ref sig .tc := ⟨.hbm, 95, rfl⟩
abbrev main_v54_5 : Ref sig .tc := ⟨.hbm, 96, rfl⟩
abbrev main_v54_6 : Ref sig .tc := ⟨.hbm, 97, rfl⟩
abbrev main_v54_7 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem21_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c24_i32 : BitVec 32 := 24#32
  let c0_i32 : BitVec 32 := 0#32
  ![v0.toNat, c24_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x3200 : Shape := ⟨2, ![8192, 3200]⟩
abbrev S8192x1024 : Shape := ⟨2, ![8192, 1024]⟩
abbrev S128x256 : Shape := ⟨2, ![128, 256]⟩
abbrev S1x256 : Shape := ⟨2, ![1, 256]⟩
abbrev S1x512 : Shape := ⟨2, ![1, 512]⟩
abbrev S8192x256 : Shape := ⟨2, ![8192, 256]⟩
abbrev S8192x512 : Shape := ⟨2, ![8192, 512]⟩
abbrev S8192x128 : Shape := ⟨2, ![8192, 128]⟩
abbrev S_ : Shape := ⟨0, ![]⟩
abbrev S128x64x4x64 : Shape := ⟨4, ![128, 64, 4, 64]⟩
abbrev S4x128x64x64 : Shape := ⟨4, ![4, 128, 64, 64]⟩
abbrev S4x128x1x64 : Shape := ⟨4, ![4, 128, 1, 64]⟩
abbrev S4x128x64 : Shape := ⟨3, ![4, 128, 64]⟩
abbrev S128x64x4x128 : Shape := ⟨4, ![128, 64, 4, 128]⟩
abbrev S4x128x64x128 : Shape := ⟨4, ![4, 128, 64, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1 : Shape := ⟨4, ![1, 128, 128, 1]⟩
abbrev S4x1x128x64 : Shape := ⟨4, ![4, 1, 128, 64]⟩
abbrev S4x128x128x64 : Shape := ⟨4, ![4, 128, 128, 64]⟩
abbrev S4x64x128x128 : Shape := ⟨4, ![4, 64, 128, 128]⟩
abbrev S8192x4x128 : Shape := ⟨3, ![8192, 4, 128]⟩
abbrev S8192x4 : Shape := ⟨2, ![8192, 4]⟩
abbrev S8192x4x1 : Shape := ⟨3, ![8192, 4, 1]⟩
abbrev S512 : Shape := ⟨1, ![512]⟩
abbrev S256 : Shape := ⟨1, ![256]⟩
abbrev S256x128 : Shape := ⟨2, ![256, 128]⟩

abbrev nBuf : Space → Nat
  | .hbm => 257
  | .vmem => 0
  | .smem => 0
  | _ => 0

abbrev hbmTy0_0 (i : Nat) : BufTy := match i % 128 with
  | 0 => ⟨S8192x3200, .f32⟩
  | 1 => ⟨S8192x1024, .f32⟩
  | 2 => ⟨S128x256, .f32⟩
  | 3 => ⟨S1x256, .f32⟩
  | 4 => ⟨S1x512, .f32⟩
  | 5 => ⟨S8192x256, .f32⟩
  | 6 => ⟨S8192x256, .f32⟩
  | 7 => ⟨S8192x512, .f32⟩
  | 8 => ⟨S8192x512, .f32⟩
  | 9 => ⟨S8192x128, .f32⟩
  | 10 => ⟨S8192x256, .f32⟩
  | 11 => ⟨S8192x256, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S8192x256, .f32⟩
  | 19 => ⟨S8192x256, .i1⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S_, .f32⟩
  | 29 => ⟨S8192x256, .f32⟩
  | 30 => ⟨S8192x256, .i1⟩
  | 31 => ⟨S_, .f32⟩
  | 32 => ⟨S8192x256, .f32⟩
  | 33 => ⟨S8192x256, .f32⟩
  | 34 => ⟨S_, .f32⟩
  | 35 => ⟨S8192x256, .f32⟩
  | 36 => ⟨S8192x256, .i1⟩
  | 37 => ⟨S_, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S8192x256, .f32⟩
  | 50 => ⟨S8192x256, .i1⟩
  | 51 => ⟨S_, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S_, .f32⟩
  | 58 => ⟨S8192x256, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S128x64x4x64, .f32⟩
  | 65 => ⟨S4x128x64x64, .f32⟩
  | 66 => ⟨S_, .f32⟩
  | 67 => ⟨S_, .f32⟩
  | 68 => ⟨S4x128x64x64, .f32⟩
  | 69 => ⟨S4x128x1x64, .f32⟩
  | 70 => ⟨S4x128x64, .f32⟩
  | 71 => ⟨S128x64x4x64, .f32⟩
  | 72 => ⟨S4x128x64x64, .f32⟩
  | 73 => ⟨S4x128x1x64, .f32⟩
  | 74 => ⟨S4x128x64x64, .f32⟩
  | 75 => ⟨S4x128x64x64, .f32⟩
  | 76 => ⟨S4x128x64x64, .f32⟩
  | 77 => ⟨S4x128x64x64, .f32⟩
  | 78 => ⟨S128x64x4x128, .f32⟩
  | 79 => ⟨S4x128x64x128, .f32⟩
  | 80 => ⟨S4x128x64x128, .f32⟩
  | 81 => ⟨S_, .f32⟩
  | 82 => ⟨S_, .f32⟩
  | 83 => ⟨S4x128x64, .f32⟩
  | 84 => ⟨S128, .i32⟩
  | 85 => ⟨S128x1, .i32⟩
  | 86 => ⟨S1x128, .i32⟩
  | 87 => ⟨S128x128, .i32⟩
  | 88 => ⟨S128x128, .i32⟩
  | 89 => ⟨S128x128, .i1⟩
  | 90 => ⟨S1x128x128x1, .i1⟩
  | 91 => ⟨S4x128x1x64, .f32⟩
  | 92 => ⟨S4x1x128x64, .f32⟩
  | 93 => ⟨S4x128x128x64, .f32⟩
  | 94 => ⟨S4x128x128x64, .f32⟩
  | 95 => ⟨S4x128x128x64, .f32⟩
  | 96 => ⟨S4x128x128x64, .f32⟩
  | 97 => ⟨S_, .f32⟩
  | 98 => ⟨S_, .f32⟩
  | 99 => ⟨S4x128x128x64, .i1⟩
  | 100 => ⟨S4x128x128x64, .f32⟩
  | 101 => ⟨S4x128x128x64, .f32⟩
  | 102 => ⟨S_, .f32⟩
  | 103 => ⟨S4x128x128x64, .f32⟩
  | 104 => ⟨S4x64x128x128, .f32⟩
  | 105 => ⟨S4x128x64x128, .f32⟩
  | 106 => ⟨S128x64x4x64, .f32⟩
  | 107 => ⟨S4x128x64x64, .f32⟩
  | 108 => ⟨S_, .f32⟩
  | 109 => ⟨S4x128x64x64, .f32⟩
  | 110 => ⟨S4x128x64x64, .f32⟩
  | 111 => ⟨S4x128x64x128, .f32⟩
  | 112 => ⟨S128x64x4x128, .f32⟩
  | 113 => ⟨S8192x4x128, .f32⟩
  | 114 => ⟨S8192x4x128, .f32⟩
  | 115 => ⟨S_, .f32⟩
  | 116 => ⟨S8192x4, .f32⟩
  | 117 => ⟨S8192x4x1, .f32⟩
  | 118 => ⟨S_, .f32⟩
  | 119 => ⟨S8192x4x1, .f32⟩
  | 120 => ⟨S8192x4x1, .f32⟩
  | 121 => ⟨S_, .f32⟩
  | 122 => ⟨S8192x4x1, .f32⟩
  | 123 => ⟨S8192x4x1, .f32⟩
  | 124 => ⟨S8192x4x1, .f32⟩
  | 125 => ⟨S8192x4x1, .f32⟩
  | 126 => ⟨S_, .f32⟩
  | 127 => ⟨S8192x4x1, .f32⟩
  | _ => ⟨S8192x3200, .f32⟩

abbrev hbmTy0_1 (i : Nat) : BufTy := match i % 128 with
  | 0 => ⟨S8192x4x1, .f32⟩
  | 1 => ⟨S8192x4x128, .f32⟩
  | 2 => ⟨S8192x4x128, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S512, .f32⟩
  | 30 => ⟨S1x512, .f32⟩
  | 31 => ⟨S8192x512, .f32⟩
  | 32 => ⟨S8192x512, .f32⟩
  | 33 => ⟨S8192x4x128, .f32⟩
  | 34 => ⟨S8192x4x128, .f32⟩
  | 35 => ⟨S_, .f32⟩
  | 36 => ⟨S8192x4, .f32⟩
  | 37 => ⟨S8192x4x1, .f32⟩
  | 38 => ⟨S8192x4x128, .f32⟩
  | 39 => ⟨S8192x4x128, .f32⟩
  | 40 => ⟨S8192x4x1, .f32⟩
  | 41 => ⟨S_, .f32⟩
  | 42 => ⟨S8192x4x1, .f32⟩
  | 43 => ⟨S8192x4x1, .f32⟩
  | 44 => ⟨S_, .f32⟩
  | 45 => ⟨S8192x4, .f32⟩
  | 46 => ⟨S8192x4x128, .f32⟩
  | 47 => ⟨S8192x4x128, .f32⟩
  | 48 => ⟨S8192x4x128, .f32⟩
  | 49 => ⟨S8192x4x128, .f32⟩
  | 50 => ⟨S8192x4x128, .f32⟩
  | 51 => ⟨S128x64x4x128, .f32⟩
  | 52 => ⟨S4x128x64x128, .f32⟩
  | 53 => ⟨S4x128x128x64, .f32⟩
  | 54 => ⟨S4x128x64x128, .f32⟩
  | 55 => ⟨S4x128x64x64, .f32⟩
  | 56 => ⟨S_, .f32⟩
  | 57 => ⟨S4x128x64x64, .f32⟩
  | 58 => ⟨S4x128x64x64, .f32⟩
  | 59 => ⟨S128x64x4x64, .f32⟩
  | 60 => ⟨S8192x256, .f32⟩
  | 61 => ⟨S4x64x128x128, .f32⟩
  | 62 => ⟨S4x64x128x128, .f32⟩
  | 63 => ⟨S4x128x128x64, .f32⟩
  | 64 => ⟨S4x64x128x128, .f32⟩
  | 65 => ⟨S4x128x64x128, .f32⟩
  | 66 => ⟨S_, .f32⟩
  | 67 => ⟨S4x128x128x64, .f32⟩
  | 68 => ⟨S4x128x128x64, .f32⟩
  | 69 => ⟨S4x128x128x64, .f32⟩
  | 70 => ⟨S_, .f32⟩
  | 71 => ⟨S4x128x64, .f32⟩
  | 72 => ⟨S4x128x1x64, .f32⟩
  | 73 => ⟨S4x128x128x64, .f32⟩
  | 74 => ⟨S_, .f32⟩
  | 75 => ⟨S4x128x64, .f32⟩
  | 76 => ⟨S4x1x128x64, .f32⟩
  | 77 => ⟨S_, .f32⟩
  | 78 => ⟨S4x128x64, .f32⟩
  | 79 => ⟨S_, .f32⟩
  | 80 => ⟨S4x128x64, .f32⟩
  | 81 => ⟨S4x128x64, .f32⟩
  | 82 => ⟨S_, .f32⟩
  | 83 => ⟨S_, .f32⟩
  | 84 => ⟨S4x128x64, .f32⟩
  | 85 => ⟨S4x128x128x64, .f32⟩
  | 86 => ⟨S4x128x64x128, .f32⟩
  | 87 => ⟨S4x128x64x64, .f32⟩
  | 88 => ⟨S4x128x64x64, .f32⟩
  | 89 => ⟨S128x64x4x128, .f32⟩
  | 90 => ⟨S8192x512, .f32⟩
  | 91 => ⟨S4x128x64x64, .f32⟩
  | 92 => ⟨S4x128x64x64, .f32⟩
  | 93 => ⟨S4x128x64x64, .f32⟩
  | 94 => ⟨S_, .f32⟩
  | 95 => ⟨S4x128x64, .f32⟩
  | 96 => ⟨S4x128x1x64, .f32⟩
  | 97 => ⟨S4x128x64x64, .f32⟩
  | 98 => ⟨S_, .f32⟩
  | 99 => ⟨S4x128x64, .f32⟩
  | 100 => ⟨S4x128x64, .f32⟩
  | 101 => ⟨S128x64x4x64, .f32⟩
  | 102 => ⟨S8192x256, .f32⟩
  | 103 => ⟨S4x128x1x64, .f32⟩
  | 104 => ⟨S_, .f32⟩
  | 105 => ⟨S4x128x64x64, .f32⟩
  | 106 => ⟨S4x128x64x64, .f32⟩
  | 107 => ⟨S_, .f32⟩
  | 108 => ⟨S_, .f32⟩
  | 109 => ⟨S4x128x64x64, .f32⟩
  | 110 => ⟨S128x64x4x64, .f32⟩
  | 111 => ⟨S8192x256, .f32⟩
  | 112 => ⟨S_, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S256, .f32⟩
  | 120 => ⟨S1x256, .f32⟩
  | 121 => ⟨S256x128, .f32⟩
  | 122 => ⟨S128x256, .f32⟩
  | 123 => ⟨S8192x128, .f32⟩
  | 124 => ⟨S8192x256, .bf16⟩
  | 125 => ⟨S8192x256, .bf16⟩
  | 126 => ⟨S8192x512, .bf16⟩
  | 127 => ⟨S8192x512, .bf16⟩
  | _ => ⟨S8192x3200, .f32⟩

abbrev hbmTy0_2 (i : Nat) : BufTy := match i % 128 with
  | 0 => ⟨S8192x128, .bf16⟩
  | _ => ⟨S8192x3200, .f32⟩

abbrev hbmTy (i : Nat) : BufTy := match i / 128 with
  | 0 => hbmTy0_0 i
  | 1 => hbmTy0_1 i
  | 2 => hbmTy0_2 i
  | _ => ⟨S8192x3200, .f32⟩

abbrev bufTy : (tb : Table) → Fin (tcTables nBuf tb) → BufTy
  | .hbm, ⟨i, _⟩ => hbmTy i
  | _, _ => ⟨S8192x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v8_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v8_2 : Ref sig .tc := ⟨.hbm, 59, rfl⟩
abbrev main_v8_0 : Ref sig .tc := ⟨.hbm, 60, rfl⟩
abbrev main_cst : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_call1_call0_cst : Ref sig .tc := ⟨.hbm, 66, rfl⟩
abbrev main_call1_call0_v0 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_call2_call0_cst : Ref sig .tc := ⟨.hbm, 81, rfl⟩
abbrev main_call2_call0_v0 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_0 : Ref sig .tc := ⟨.hbm, 97, rfl⟩
abbrev main_call3_v0 : Ref sig .tc := ⟨.hbm, 98, rfl⟩
abbrev main_v40_1 : Ref sig .tc := ⟨.hbm, 99, rfl⟩
abbrev main_call3_v2 : Ref sig .tc := ⟨.hbm, 100, rfl⟩
abbrev main_v40_0 : Ref sig .tc := ⟨.hbm, 101, rfl⟩
abbrev main_call3_cst : Ref sig .tc := ⟨.hbm, 102, rfl⟩
abbrev main_v40_2 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_1 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_2 : Ref sig .tc := ⟨.hbm, 115, rfl⟩
abbrev main_v51 : Ref sig .tc := ⟨.hbm, 116, rfl⟩
abbrev main_v52 : Ref sig .tc := ⟨.hbm, 117, rfl⟩
abbrev main_cst_3 : Ref sig .tc := ⟨.hbm, 118, rfl⟩
abbrev main_v53 : Ref sig .tc := ⟨.hbm, 119, rfl⟩
abbrev main_v54 : Ref sig .tc := ⟨.hbm, 120, rfl⟩
abbrev main_cst_4 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_5 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_v66_2 : Ref sig .tc := ⟨.hbm, 141, rfl⟩
abbrev main_call4_cst_1 : Ref sig .tc := ⟨.hbm, 142, rfl⟩
abbrev main_call4_v6 : Ref sig .tc := ⟨.hbm, 143, rfl⟩
abbrev main_call4_v7 : Ref sig .tc := ⟨.hbm, 144, rfl⟩
abbrev main_v66_1 : Ref sig .tc := ⟨.hbm, 145, rfl⟩
abbrev main_v66_0 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_v71 : Ref sig .tc := ⟨.hbm, 154, rfl⟩
abbrev main_v72 : Ref sig .tc := ⟨.hbm, 155, rfl⟩
abbrev main_cst_6 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_cst_7 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_8 : Ref sig .tc := ⟨.hbm, 169, rfl⟩
abbrev main_v84 : Ref sig .tc := ⟨.hbm, 170, rfl⟩
abbrev main_v85 : Ref sig .tc := ⟨.hbm, 171, rfl⟩
abbrev main_cst_9 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_cst_10 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_call6_cst : Ref sig .tc := ⟨.hbm, 194, rfl⟩
abbrev main_call6_v0 : Ref sig .tc := ⟨.hbm, 195, rfl⟩
abbrev main_v106 : Ref sig .tc := ⟨.hbm, 196, rfl⟩
abbrev main_v107 : Ref sig .tc := ⟨.hbm, 197, rfl⟩
abbrev main_cst_11 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_cst_12 : Ref sig .tc := ⟨.hbm, 202, rfl⟩
abbrev main_v111 : Ref sig .tc := ⟨.hbm, 203, rfl⟩
abbrev main_v112 : Ref sig .tc := ⟨.hbm, 204, rfl⟩
abbrev main_cst_13 : Ref sig .tc := ⟨.hbm, 205, rfl⟩
abbrev main_v113 : Ref sig .tc := ⟨.hbm, 206, rfl⟩
abbrev main_cst_14 : Ref sig .tc := ⟨.hbm, 207, rfl⟩
abbrev main_v114 : Ref sig .tc := ⟨.hbm, 208, rfl⟩
abbrev main_v115 : Ref sig .tc := ⟨.hbm, 209, rfl⟩
abbrev main_call7_call0_cst : Ref sig .tc := ⟨.hbm, 210, rfl⟩
abbrev main_call7_call0_v0 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_cst_15 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_cst_16 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_cst_17 : Ref sig .tc := ⟨.hbm, 232, rfl⟩
abbrev main_v134 : Ref sig .tc := ⟨.hbm, 233, rfl⟩
abbrev main_v135 : Ref sig .tc := ⟨.hbm, 234, rfl⟩
abbrev main_call8_call0_cst : Ref sig .tc := ⟨.hbm, 235, rfl⟩
abbrev main_call8_call0_v0 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_cst_18 : Ref sig .tc := ⟨.hbm, 240, rfl⟩
abbrev main_v139 : Ref sig .tc := ⟨.hbm, 241, rfl⟩
abbrev main_v140 : Ref sig .tc := ⟨.hbm, 242, rfl⟩
abbrev main_call9_v0 : Ref sig .tc := ⟨.hbm, 243, rfl⟩
abbrev main_call9_v1 : Ref sig .tc := ⟨.hbm, 244, rfl⟩
abbrev main_v141 : Ref sig .tc := ⟨.hbm, 245, rfl⟩
abbrev main_cst_19 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩

abbrev nD : Nat := 1
abbrev τ : Topo := Topo.v7x

variable {F : FTy → Type} [FloatOps F]
-- ==== UpDgrad.lean ====
abbrev S8192x2816 : Shape := ⟨2, ![8192, 2816]⟩
abbrev S5632x1024 : Shape := ⟨2, ![5632, 1024]⟩
abbrev S8192x1024 : Shape := ⟨2, ![8192, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .f32⟩
  | .local _ .vmem, ⟨9, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpDgradRefIdeal.lean ====
abbrev S8192x2816 : Shape := ⟨2, ![8192, 2816]⟩
abbrev S5632x1024 : Shape := ⟨2, ![5632, 1024]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S5632x1024, .f32⟩
  | .hbm, ⟨4, _⟩ => ⟨S1024x5632, .f32⟩
  | .hbm, ⟨5, _⟩ => ⟨S_, .f32⟩
  | .hbm, ⟨6, _⟩ => ⟨S8192x1024, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x5632, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownWgrad.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDgrad.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDgradRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpWgrad.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradRefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWgrad.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S512x1024, .f32⟩
  | .hbm, ⟨4, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutWgradRefIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩
abbrev S512x1024 : Shape := ⟨2, ![512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OutDgrad.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDgradRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWgrad.lean ====
abbrev S8192x512 : Shape := ⟨2, ![8192, 512]⟩
abbrev S8192x256 : Shape := ⟨2, ![8192, 256]⟩
abbrev S8192x128 : Shape := ⟨2, ![8192, 128]⟩
abbrev S8192x1024 : Shape := ⟨2, ![8192, 1024]⟩
abbrev S512x1024 : Shape := ⟨2, ![512, 1024]⟩
abbrev S256x1024 : Shape := ⟨2, ![256, 1024]⟩
abbrev S128x1024 : Shape := ⟨2, ![128, 1024]⟩
abbrev S1024x512 : Shape := ⟨2, ![1024, 512]⟩
abbrev S1024x256 : Shape := ⟨2, ![1024, 256]⟩
abbrev S1024x128 : Shape := ⟨2, ![1024, 128]⟩
abbrev S1024x1024 : Shape := ⟨2, ![1024, 1024]⟩

abbrev nBuf : Space → Nat
  | .hbm => 17
  | .vmem => 26
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .bf16⟩
  | .hbm, ⟨5, _⟩ => ⟨S8192x512, .bf16⟩
  | .hbm, ⟨6, _⟩ => ⟨S8192x512, .bf16⟩
  | .hbm, ⟨7, _⟩ => ⟨S8192x128, .bf16⟩
  | .hbm, ⟨8, _⟩ => ⟨S8192x1024, .bf16⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S256x1024, .f32⟩
  | .hbm, ⟨13, _⟩ => ⟨S256x1024, .f32⟩
  | .hbm, ⟨14, _⟩ => ⟨S512x1024, .f32⟩
  | .hbm, ⟨15, _⟩ => ⟨S512x1024, .f32⟩
  | .hbm, ⟨16, _⟩ => ⟨S128x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x128, .bf16⟩
  | .local _ .vmem, ⟨15, _⟩ => ⟨S1024x128, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S256x1024, .f32⟩
  | .local _ .vmem, ⟨22, _⟩ => ⟨S256x1024, .f32⟩
  | .local _ .vmem, ⟨23, _⟩ => ⟨S512x1024, .f32⟩
  | .local _ .vmem, ⟨24, _⟩ => ⟨S512x1024, .f32⟩
  | .local _ .vmem, ⟨25, _⟩ => ⟨S128x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InWgradRefIdeal.lean ====
abbrev S8192x512 : Shape := ⟨2, ![8192, 512]⟩
abbrev S8192x256 : Shape := ⟨2, ![8192, 256]⟩
abbrev S8192x128 : Shape := ⟨2, ![8192, 128]⟩
abbrev S8192x1024 : Shape := ⟨2, ![8192, 1024]⟩
abbrev S_ : Shape := ⟨0, ![]⟩
abbrev S1024x3200 : Shape := ⟨2, ![1024, 3200]⟩
abbrev S8192x3200 : Shape := ⟨2, ![8192, 3200]⟩
abbrev S3200x1024 : Shape := ⟨2, ![3200, 1024]⟩
abbrev S512x1024 : Shape := ⟨2, ![512, 1024]⟩
abbrev S256x1024 : Shape := ⟨2, ![256, 1024]⟩
abbrev S128x1024 : Shape := ⟨2, ![128, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x256, .bf16⟩
  | .hbm, ⟨5, _⟩ => ⟨S8192x512, .bf16⟩
  | .hbm, ⟨6, _⟩ => ⟨S8192x512, .bf16⟩
  | .hbm, ⟨7, _⟩ => ⟨S8192x128, .bf16⟩
  | .hbm, ⟨8, _⟩ => ⟨S8192x1024, .bf16⟩
  | .hbm, ⟨9, _⟩ => ⟨S_, .f32⟩
  | .hbm, ⟨10, _⟩ => ⟨S1024x3200, .f32⟩
  | .hbm, ⟨11, _⟩ => ⟨S8192x1024, .f32⟩
  | .hbm, ⟨12, _⟩ => ⟨S8192x3200, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x256, .f32⟩
  | .hbm, ⟨17, _⟩ => ⟨S8192x256, .f32⟩
  | .hbm, ⟨18, _⟩ => ⟨S8192x512, .f32⟩
  | .hbm, ⟨19, _⟩ => ⟨S8192x512, .f32⟩
  | .hbm, ⟨20, _⟩ => ⟨S8192x128, .f32⟩
  | .hbm, ⟨21, _⟩ => ⟨S8192x3200, .f32⟩
  | .hbm, ⟨22, _⟩ => ⟨S3200x1024, .f32⟩
  | .hbm, ⟨23, _⟩ => ⟨S1024x3200, .f32⟩
  | .hbm, ⟨24, _⟩ => ⟨S3200x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S256x1024, .f32⟩
  | .hbm, ⟨29, _⟩ => ⟨S256x1024, .f32⟩
  | .hbm, ⟨30, _⟩ => ⟨S512x1024, .f32⟩
  | .hbm, ⟨31, _⟩ => ⟨S512x1024, .f32⟩
  | .hbm, ⟨32, _⟩ => ⟨S128x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== InProj.lean ====
abbrev S8192x1024 : Shape := ⟨2, ![8192, 1024]⟩
abbrev S3200x1024 : Shape := ⟨2, ![3200, 1024]⟩
abbrev S8192x3200 : Shape := ⟨2, ![8192, 3200]⟩
abbrev S512x1024 : Shape := ⟨2, ![512, 1024]⟩
abbrev S512x3200 : Shape := ⟨2, ![512, 3200]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3200x1024, .bf16⟩
  | .hbm, ⟨2, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S3200x1024, .bf16⟩
  | .local _ .vmem, ⟨3, _⟩ => ⟨S512x3200, .f32⟩
  | .local _ .vmem, ⟨4, _⟩ => ⟨S512x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x1024 : Shape := ⟨2, ![8192, 1024]⟩
abbrev S3200x1024 : Shape := ⟨2, ![3200, 1024]⟩
abbrev S1024x3200 : Shape := ⟨2, ![1024, 3200]⟩
abbrev S8192x3200 : Shape := ⟨2, ![8192, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3200x1024, .bf16⟩
  | .hbm, ⟨2, _⟩ => ⟨S3200x1024, .f32⟩
  | .hbm, ⟨3, _⟩ => ⟨S1024x3200, .f32⟩
  | .hbm, ⟨4, _⟩ => ⟨S8192x1024, .f32⟩
  | .hbm, ⟨5, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpProj.lean ====
abbrev S8192x1024 : Shape := ⟨2, ![8192, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .f32⟩
  | .hbm, ⟨3, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpProjRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S5632x1024, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DownProj.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownProjRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x512 : Shape := ⟨2, ![8192, 512]⟩
abbrev S1024x1024 : Shape := ⟨2, ![1024, 1024]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .f32⟩
  | .local _ .vmem, ⟨9, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S1024x1024, .f32⟩
  | .hbm, ⟨7, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== ResidBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ResidBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Final.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .bf16⟩
  | .hbm, ⟨83, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== AdamIn.lean ====
abbrev S8x386x1024 : Shape := ⟨3, ![8, 386, 1024]⟩
abbrev S386x1024 : Shape := ⟨2, ![386, 1024]⟩
abbrev S1x386x1024 : Shape := ⟨3, ![1, 386, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x386x1024, .bf16⟩
  | .hbm, ⟨1, _⟩ => ⟨S386x1024, .f32⟩
  | .hbm, ⟨2, _⟩ => ⟨S386x1024, .f32⟩
  | .hbm, ⟨3, _⟩ => ⟨S386x1024, .f32⟩
  | .hbm, ⟨4, _⟩ => ⟨S386x1024, .f32⟩
  | .hbm, ⟨5, _⟩ => ⟨S386x1024, .f32⟩
  | .hbm, ⟨6, _⟩ => ⟨S386x1024, .f32⟩
  | .hbm, ⟨7, _⟩ => ⟨S386x1024, .f32⟩
  | .local _ .vmem, ⟨0, _⟩ => ⟨S8x386x1024, .bf16⟩
  | .local _ .vmem, ⟨1, _⟩ => ⟨S386x1024, .f32⟩
  | .local _ .vmem, ⟨2, _⟩ => ⟨S386x1024, .f32⟩
  | .local _ .vmem, ⟨3, _⟩ => ⟨S386x1024, .f32⟩
  | .local _ .vmem, ⟨4, _⟩ => ⟨S386x1024, .f32⟩
  | .local _ .vmem, ⟨5, _⟩ => ⟨S386x1024, .f32⟩
  | .local _ .vmem, ⟨6, _⟩ => ⟨S386x1024, .f32⟩
  | .local _ .vmem, ⟨7, _⟩ => ⟨S386x1024, .f32⟩
  | _, _ => ⟨S8x386x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x386x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S386x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S386x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S386x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S386x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S386x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S386x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S386x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamInRefIdeal.lean ====
abbrev S8x386x1024 : Shape := ⟨3, ![8, 386, 1024]⟩
abbrev S386x1024 : Shape := ⟨2, ![386, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x386x1024, .bf16⟩
  | .hbm, ⟨1, _⟩ => ⟨S386x1024, .f32⟩
  | .hbm, ⟨2, _⟩ => ⟨S386x1024, .f32⟩
  | .hbm, ⟨3, _⟩ => ⟨S386x1024, .f32⟩
  | .hbm, ⟨4, _⟩ => ⟨S8x386x1024, .f32⟩
  | .hbm, ⟨5, _⟩ => ⟨S_, .f32⟩
  | .hbm, ⟨6, _⟩ => ⟨S386x1024, .f32⟩
  | .hbm, ⟨7, _⟩ => ⟨S_, .f32⟩
  | .hbm, ⟨8, _⟩ => ⟨S386x1024, .f32⟩
  | .hbm, ⟨9, _⟩ => ⟨S386x1024, .f32⟩
  | .hbm, ⟨10, _⟩ => ⟨S_, .f32⟩
  | .hbm, ⟨11, _⟩ => ⟨S386x1024, .f32⟩
  | .hbm, ⟨12, _⟩ => ⟨S386x1024, .f32⟩
  | .hbm, ⟨13, _⟩ => ⟨S386x1024, .f32⟩
  | .hbm, ⟨14, _⟩ => ⟨S_, .f32⟩
  | .hbm, ⟨15, _⟩ => ⟨S386x1024, .f32⟩
  | .hbm, ⟨16, _⟩ => ⟨S386x1024, .f32⟩
  | .hbm, ⟨17, _⟩ => ⟨S386x1024, .f32⟩
  | .hbm, ⟨18, _⟩ => ⟨S_, .f32⟩
  | .hbm, ⟨19, _⟩ => ⟨S386x1024, .f32⟩
  | .hbm, ⟨20, _⟩ => ⟨S386x1024, .f32⟩
  | .hbm, ⟨21, _⟩ => ⟨S386x1024, .f32⟩
  | .hbm, ⟨22, _⟩ => ⟨S_, .f32⟩
  | .hbm, ⟨23, _⟩ => ⟨S386x1024, .f32⟩
  | .hbm, ⟨24, _⟩ => ⟨S386x1024, .f32⟩
  | .hbm, ⟨25, _⟩ => ⟨S_, .f32⟩
  | .hbm, ⟨26, _⟩ => ⟨S386x1024, .f32⟩
  | .hbm, ⟨27, _⟩ => ⟨S386x1024, .f32⟩
  | .hbm, ⟨28, _⟩ => ⟨S386x1024, .f32⟩
  | .hbm, ⟨29, _⟩ => ⟨S_, .f32⟩
  | .hbm, ⟨30, _⟩ => ⟨S386x1024, .f32⟩
  | .hbm, ⟨31, _⟩ => ⟨S386x1024, .f32⟩
  | .hbm, ⟨32, _⟩ => ⟨S386x1024, .f32⟩
  | .hbm, ⟨33, _⟩ => ⟨S_, .f32⟩
  | .hbm, ⟨34, _⟩ => ⟨S386x1024, .f32⟩
  | .hbm, ⟨35, _⟩ => ⟨S386x1024, .f32⟩
  | .hbm, ⟨36, _⟩ => ⟨S386x1024, .f32⟩
  | .hbm, ⟨37, _⟩ => ⟨S_, .f32⟩
  | .hbm, ⟨38, _⟩ => ⟨S386x1024, .f32⟩
  | .hbm, ⟨39, _⟩ => ⟨S386x1024, .f32⟩
  | _, _ => ⟨S8x386x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFg2.lean ====
abbrev S8x16x32 : Shape := ⟨3, ![8, 16, 32]⟩
abbrev S16x32 : Shape := ⟨2, ![16, 32]⟩
abbrev S1x16x32 : Shape := ⟨3, ![1, 16, 32]⟩

abbrev nBuf : Space → Nat
  | .hbm => 8
  | .vmem => 8
  | .smem => 0
  | _ => 0

abbrev bufTy : (tb : Table) → Fin (tcTables nBuf tb) → BufTy
  | .hbm, ⟨0, _⟩ => ⟨S8x16x32, .f32⟩
  | .hbm, ⟨1, _⟩ => ⟨S16x32, .f32⟩
  | .hbm, ⟨2, _⟩ => ⟨S16x32, .f32⟩
  | .hbm, ⟨3, _⟩ => ⟨S16x32, .f32⟩
  | .hbm, ⟨4, _⟩ => ⟨S16x32, .f32⟩
  | .hbm, ⟨5, _⟩ => ⟨S16x32, .f32⟩
  | .hbm, ⟨6, _⟩ => ⟨S16x32, .f32⟩
  | .hbm, ⟨7, _⟩ => ⟨S16x32, .f32⟩
  | .local _ .vmem, ⟨0, _⟩ => ⟨S8x16x32, .f32⟩
  | .local _ .vmem, ⟨1, _⟩ => ⟨S16x32, .f32⟩
  | .local _ .vmem, ⟨2, _⟩ => ⟨S16x32, .f32⟩
  | .local _ .vmem, ⟨3, _⟩ => ⟨S16x32, .f32⟩
  | .local _ .vmem, ⟨4, _⟩ => ⟨S16x32, .f32⟩
  | .local _ .vmem, ⟨5, _⟩ => ⟨S16x32, .f32⟩
  | .local _ .vmem, ⟨6, _⟩ => ⟨S16x32, .f32⟩
  | .local _ .vmem, ⟨7, _⟩ => ⟨S16x32, .f32⟩
  | _, _ => ⟨S8x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFg2RefIdeal.lean ====
abbrev S8x16x32 : Shape := ⟨3, ![8, 16, 32]⟩
abbrev S16x32 : Shape := ⟨2, ![16, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x32, .f32⟩
  | .hbm, ⟨1, _⟩ => ⟨S16x32, .f32⟩
  | .hbm, ⟨2, _⟩ => ⟨S16x32, .f32⟩
  | .hbm, ⟨3, _⟩ => ⟨S16x32, .f32⟩
  | .hbm, ⟨4, _⟩ => ⟨S_, .f32⟩
  | .hbm, ⟨5, _⟩ => ⟨S16x32, .f32⟩
  | .hbm, ⟨6, _⟩ => ⟨S_, .f32⟩
  | .hbm, ⟨7, _⟩ => ⟨S16x32, .f32⟩
  | .hbm, ⟨8, _⟩ => ⟨S16x32, .f32⟩
  | .hbm, ⟨9, _⟩ => ⟨S_, .f32⟩
  | .hbm, ⟨10, _⟩ => ⟨S16x32, .f32⟩
  | .hbm, ⟨11, _⟩ => ⟨S16x32, .f32⟩
  | .hbm, ⟨12, _⟩ => ⟨S16x32, .f32⟩
  | .hbm, ⟨13, _⟩ => ⟨S_, .f32⟩
  | .hbm, ⟨14, _⟩ => ⟨S16x32, .f32⟩
  | .hbm, ⟨15, _⟩ => ⟨S16x32, .f32⟩
  | .hbm, ⟨16, _⟩ => ⟨S16x32, .f32⟩
  | .hbm, ⟨17, _⟩ => ⟨S_, .f32⟩
  | .hbm, ⟨18, _⟩ => ⟨S16x32, .f32⟩
  | .hbm, ⟨19, _⟩ => ⟨S16x32, .f32⟩
  | .hbm, ⟨20, _⟩ => ⟨S16x32, .f32⟩
  | .hbm, ⟨21, _⟩ => ⟨S_, .f32⟩
  | .hbm, ⟨22, _⟩ => ⟨S16x32, .f32⟩
  | .hbm, ⟨23, _⟩ => ⟨S16x32, .f32⟩
  | .hbm, ⟨24, _⟩ => ⟨S_, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S_, .f32⟩
  | .hbm, ⟨29, _⟩ => ⟨S16x32, .f32⟩
  | .hbm, ⟨30, _⟩ => ⟨S16x32, .f32⟩
  | .hbm, ⟨31, _⟩ => ⟨S16x32, .f32⟩
  | .hbm, ⟨32, _⟩ => ⟨S_, .f32⟩
  | .hbm, ⟨33, _⟩ => ⟨S16x32, .f32⟩
  | .hbm, ⟨34, _⟩ => ⟨S16x32, .f32⟩
  | .hbm, ⟨35, _⟩ => ⟨S16x32, .f32⟩
  | .hbm, ⟨36, _⟩ => ⟨S_, .f32⟩
  | .hbm, ⟨37, _⟩ => ⟨S16x32, .f32⟩
  | .hbm, ⟨38, _⟩ => ⟨S16x32, .f32⟩
  | _, _ => ⟨S8x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ResidNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidNormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== AdaBwd.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x768, .f32⟩
  | .hbm, ⟨14, _⟩ => ⟨S768x1024, .f32⟩
  | .hbm, ⟨15, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaFwd.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaFwdRefIdeal.lean ====
abbrev S16x1024 : Shape := ⟨2, ![16, 1024]⟩
abbrev S1024x768 : Shape := ⟨2, ![1024, 768]⟩
abbrev S_ : Shape := ⟨0, ![]⟩
abbrev S16x768 : Shape := ⟨2, ![16, 768]⟩

abbrev nBuf : Space → Nat
  | .hbm => 12
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Proof.Voc.lean ====
module

public import proofs.«01_k».proof.Proof.Gen.KernelIdeal.Skeleton
public import Idealize.ShloMosaic.Lib.ValueIdx

@[expose] public section

set_option maxRecDepth 16384

/-! What one step of the kernel computes for one chunk and one pair of heads, as functions of the vectors it loads. -/

noncomputable section

namespace Cert.KernelIdeal.Voc

open Cert.KernelIdeal Cert.KernelIdeal.Gen Idealize.ShloMosaic Idealize.ShloMosaic.TcCoe Idealize.ShloMosaic.ValueIdx

variable {F : FTy → Type} [FloatOps F]

/-- rounding to half precision -/
def r16 {s : Shape} (x : FVec F s .f32) : FVec F s .bf16 := truncf .bf16 x bitsLt_bf16_f32
/-- a number at every place -/
def num (s : Shape) (w : BitVec 32) : FVec F s .f32 := broadcast s (Scalar.ofBits .f32 w)

/-- the decay before the logistic function -/
def fpre (f : Vec F S512x128 .f32) (w : Vec F S128x256 .f32) (b : Vec F S1x256 .f32) : FVec F S512x256 .f32 :=
  addf (matmul dot_S512x128_S128x256_S512x256_1_0_0_1_n_n none (r16 f) (r16 w) (constant S512x256 .f32 0x00000000#32))
    (broadcastTo S512x256 b broadcasts_S1x256_S512x256)
/-- the log decay -/
def logd (z : FVec F S512x256 .f32) : FVec F S512x256 .f32 :=
  mulf (subf (minimumf z (num S512x256 0x00000000#32))
    (log (addf (num S512x256 0x3F800000#32) (exp (subf (num S512x256 0x00000000#32) (absf z))))))
    (num S512x256 0x3D800000#32)
/-- its derivative -/
def dlogd (z : FVec F S512x256 .f32) : FVec F S512x256 .f32 :=
  mulf (divf (num S512x256 0x3F800000#32)
    (addf (num S512x256 0x3F800000#32) (exp (subf (num S512x256 0x00000000#32) (subf (num S512x256 0x00000000#32) z)))))
    (num S512x256 0x3D800000#32)

/-- sums along the chunk -/
def tsum (tri : Vec F S64x64 .bf16) (x : FVec F S64x128 .f32) : FVec F S64x128 .f32 :=
  addf (matmul dot_S64x64_S64x128_S64x128_1_0_0_1_n_n none tri (r16 x) (constant S64x128 .f32 0x00000000#32))
    (matmul dot_S64x64_S64x128_S64x128_1_0_0_1_n_n none tri (r16 (subf x (extf .f32 (r16 x) bitsLt_bf16_f32)))
      (constant S64x128 .f32 0x00000000#32))
/-- the last row of the sums -/
def totl (cs : FVec F S64x128 .f32) : FVec F S1x128 .f32 := extractStridedSlice S1x128 ![63, 0] cs slices_S64x128_o63_0_S1x128
/-- the decay to the chunk's end -/
def edec (cs : FVec F S64x128 .f32) : FVec F S64x128 .f32 := exp (subf (broadcastTo S64x128 (totl cs) broadcasts_S1x128_S64x128) cs)
/-- the decay of the chunk -/
def dec (cs : FVec F S64x128 .f32) : FVec F S1x128 .f32 := exp (totl cs)
/-- the decayed keys -/
def kdec (k cs : FVec F S64x128 .f32) : FVec F S64x128 .f32 := mulf k (edec cs)

/-- scaled queries -/
def qs16 (q : FVec F S64x128 .f32) : FVec F S64x128 .bf16 := r16 (mulf q (num S64x128 0x3E000000#32))
/-- the state -/
def sb16 (st : Vec F S1x1x256x128 .f32) : FVec F S256x128 .bf16 := r16 (shapeCast S256x128 st shapeCasts_S1x1x256x128_S256x128)
/-- what is read from the state -/
def oo (q : FVec F S64x128 .f32) (st : Vec F S1x1x256x128 .f32) : FVec F S64x256 .f32 :=
  matmul dot_S64x128_S256x128_S64x256_1_1_0_0_n_n none (qs16 q) (sb16 st) (constant S64x256 .f32 0x00000000#32)
/-- the first head's half -/
def lo (x : FVec F S64x256 .f32) : FVec F S64x128 .f32 := extractStridedSlice S64x128 ![0, 0] x slices_S64x256_o0_0_S64x128
/-- the second head's half -/
def hi (x : FVec F S64x256 .f32) : FVec F S64x128 .f32 := extractStridedSlice S64x128 ![0, 128] x slices_S64x256_o0_128_S64x128
/-- the sum of each row -/
def rsum (x : FVec F S64x128 .f32) : FVec F S64x1 .f32 :=
  shapeCast S64x1 (multiReduction .add [1] S64 x 0x00000000#32 reduces_S64x128_S64 (.inl rfl) rfl) shapeCasts_S64_S64x1
/-- the same number along each row -/
def along (x : FVec F S64x1 .f32) : FVec F S64x128 .f32 := broadcastTo S64x128 x broadcasts_S64x1_S64x128
/-- two halves side by side -/
def cat2 (x y : FVec F S64x128 .f32) : FVec F S64x256 .f32 :=
  concatenate S64x256 1 [⟨S64x128, x⟩, ⟨S64x128, y⟩] concatenates_S64x128_S64x128_S64x256_d1
/-- the mean square of each row and a little -/
def msq (x : FVec F S64x128 .f32) : FVec F S64x1 .f32 :=
  addf (divf (rsum (mulf x x)) (num S64x1 0x43000000#32)) (num S64x1 0x358637BD#32)
/-- the inverse of its root -/
def irt (x : FVec F S64x128 .f32) : FVec F S64x1 .f32 := rsqrt (msq x)
/-- the normed rows -/
def nhalf (x : FVec F S64x128 .f32) : FVec F S64x128 .f32 := mulf x (along (irt x))
/-- both heads normed -/
def normed (o : FVec F S64x256 .f32) : FVec F S64x256 .f32 := cat2 (nhalf (lo o)) (nhalf (hi o))
/-- a row at every position -/
def down (g : Vec F S1x256 .f32) : FVec F S64x256 .f32 := broadcastTo S64x256 g broadcasts_S1x256_S64x256
/-- the exponential of the negated gates -/
def egg (gg : FVec F S64x256 .f32) : FVec F S64x256 .f32 := exp (subf (num S64x256 0x00000000#32) gg)
/-- one more than that -/
def egg1 (gg : FVec F S64x256 .f32) : FVec F S64x256 .f32 := addf (num S64x256 0x3F800000#32) (egg gg)
/-- the logistic function of the gates -/
def sgg (gg : FVec F S64x256 .f32) : FVec F S64x256 .f32 := divf (num S64x256 0x3F800000#32) (egg1 gg)
/-- the gradient of the gate's function -/
def dsl (o : FVec F S64x256 .f32) (g : Vec F S1x256 .f32) (do_ : FVec F S64x256 .f32) : FVec F S64x256 .f32 :=
  mulf (mulf (normed o) (down g)) do_
/-- the gradient of the gates -/
def dgate (o : FVec F S64x256 .f32) (g : Vec F S1x256 .f32) (do_ gg : FVec F S64x256 .f32) : FVec F S64x256 .f32 :=
  addf (mulf (dsl o g do_) (sgg gg))
    (subf (num S64x256 0x00000000#32)
      (mulf (subf (num S64x256 0x00000000#32)
        (mulf (mulf (mulf gg (dsl o g do_)) (divf (num S64x256 0x3F800000#32) (mulf (egg1 gg) (egg1 gg)))) (num S64x256 0x3F800000#32)))
        (egg gg)))
/-- the gradient of the normed output times the gain -/
def dngv (do_ gg : FVec F S64x256 .f32) : FVec F S64x256 .f32 := mulf do_ (mulf gg (sgg gg))
/-- the gradient of the gain by this chunk -/
def dgain (o do_ gg : FVec F S64x256 .f32) : FVec F S1x256 .f32 :=
  shapeCast S1x256 (multiReduction .add [0] S256 (mulf (normed o) (dngv do_ gg)) 0x00000000#32 reduces_S64x256_S256 (.inl rfl) rfl)
    shapeCasts_S256_S1x256
/-- the gradient of the normed output -/
def dnv (g : Vec F S1x256 .f32) (do_ gg : FVec F S64x256 .f32) : FVec F S64x256 .f32 := mulf (dngv do_ gg) (down g)
/-- the gradient through the mean square, half of it -/
def q1v (x d : FVec F S64x128 .f32) : FVec F S64x128 .f32 :=
  along (shapeCast S64x1 (multiReduction .add [1] S64
    (divf (mulf (rsum (mulf x d)) (mulf (num S64x1 0xBF000000#32) (divf (irt x) (msq x)))) (num S64x1 0x43000000#32))
    0x00000000#32 reduces_S64x1_S64 (.inl rfl) rfl) shapeCasts_S64_S64x1)
/-- the gradient of one head's output -/
def dhalf (x d : FVec F S64x128 .f32) : FVec F S64x128 .f32 :=
  addf (addf (mulf d (along (irt x))) (mulf x (q1v x d))) (mulf (q1v x d) x)
/-- the gradient of what is read from the state -/
def dov16 (o : FVec F S64x256 .f32) (g : Vec F S1x256 .f32) (do_ gg : FVec F S64x256 .f32) : FVec F S64x256 .bf16 :=
  r16 (addf (cat2 (num S64x128 0x00000000#32) (dhalf (hi o) (hi (dnv g do_ gg))))
    (cat2 (dhalf (lo o) (lo (dnv g do_ gg))) (num S64x128 0x00000000#32)))
/-- the gradient of the queries -/
def dq16 (d : FVec F S64x256 .bf16) (st : Vec F S1x1x256x128 .f32) : FVec F S64x128 .bf16 :=
  r16 (mulf (matmul dot_S64x256_S256x128_S64x128_1_0_0_1_n_n none d (sb16 st) (constant S64x128 .f32 0x00000000#32)) (num S64x128 0x3E000000#32))
/-- the gradient of the state by its readers -/
def readers (bd : Vec F S256x128 .f32) (d : FVec F S64x256 .bf16) (q : FVec F S64x128 .f32) : FVec F S256x128 .f32 :=
  mulf bd (matmul dot_S64x256_S64x128_S256x128_0_0_1_1_n_n none d (qs16 q) (constant S256x128 .f32 0x00000000#32))

/-- the gradient of the values -/
def dv16 (kd : FVec F S64x128 .f32) (G : FVec F S256x128 .f32) : FVec F S64x256 .bf16 :=
  r16 (matmul dot_S64x128_S256x128_S64x256_1_1_0_0_n_n none (r16 kd) (r16 G) (constant S64x256 .f32 0x00000000#32))
/-- the gradient of the decayed keys -/
def dkdv (v : FVec F S64x256 .f32) (G : FVec F S256x128 .f32) : FVec F S64x128 .f32 :=
  matmul dot_S64x256_S256x128_S64x128_1_0_0_1_n_n none (r16 v) (r16 G) (constant S64x128 .f32 0x00000000#32)
/-- the gradient of the keys -/
def dk16 (dkd ed : FVec F S64x128 .f32) : FVec F S64x128 .bf16 := r16 (mulf dkd ed)
/-- the gradient of the chunk's log decay -/
def ddecv (G P : FVec F S256x128 .f32) (de : FVec F S1x128 .f32) : FVec F S1x128 .f32 :=
  mulf (shapeCast S1x128 (multiReduction .add [0] S128 (mulf G P) 0x00000000#32 reduces_S256x128_S128 (.inl rfl) rfl) shapeCasts_S128_S1x128) de
/-- the gradient before the logistic function -/
def dfzv (str : Vec F S64x64 .bf16) (dkd kd : FVec F S64x128 .f32) (dd : FVec F S1x128 .f32) (dl : FVec F S64x128 .f32) : FVec F S64x128 .f32 :=
  mulf (addf (tsum str (mulf dkd kd)) (broadcastTo S64x128 dd broadcasts_S1x128_S64x128)) dl
/-- the carry to the chunk before -/
def back (G : FVec F S256x128 .f32) (de : FVec F S1x128 .f32) : FVec F S256x128 .f32 :=
  mulf G (broadcastTo S256x128 de broadcasts_S1x128_S256x128)

end Cert.KernelIdeal.Voc

end
-- ==== Proof.Lift.lean ====
module

public import Idealize.ShloMosaic.PureOps.Ideal.Laws
public import Idealize.ShloMosaic.Lib.ValueIdx
public import Idealize.ShloMosaic.Lib.IdealHost

@[expose] public section

/-! Real numbers inside the extended ones: what each operation gives on them, the constants of both programs, and sums
over the index sets the programs use. -/

noncomputable section

open scoped BigOperators

namespace Cert.Gla

open Idealize.ShloMosaic Idealize.ShloMosaic.ValueIdx

/-! ## Operations on reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else (b : EReal) := by
  split <;> rfl

theorem sum_eq_coe {ι : Type*} [Fintype ι] {f : ι → EReal} {g : ι → ℝ} (h : ∀ i, f i = (g i : EReal)) :
    ∑ i, f i = ((∑ i, g i : ℝ) : EReal) := by
  rw [coe_sum]; exact Finset.sum_congr rfl fun i _ => h i

theorem div_eq (a : ℝ) {b : ℝ} (h : b ≠ 0) : Ideal.div (a : EReal) (b : EReal) = ((a / b : ℝ) : EReal) := by
  rw [Ideal.div_coe h, ← EReal.coe_mul]; congr 1; ring

theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm
theorem abs_coe (a : ℝ) : max (a : EReal) (-(a : EReal)) = ((|a| : ℝ) : EReal) := by
  rw [← EReal.coe_neg, max_coe]; rfl

theorem exp_eq (a : ℝ) : Ideal.exp (a : EReal) = ((Real.exp a : ℝ) : EReal) := rfl
theorem log_eq {a : ℝ} (h : 0 < a) : Ideal.log (a : EReal) = ((Real.log a : ℝ) : EReal) := by
  rw [Ideal.log_coe, if_neg (not_le.2 h)]
theorem log1p_eq {a : ℝ} (h : 0 < 1 + a) : Ideal.log1p (a : EReal) = ((Real.log (1 + a) : ℝ) : EReal) := by
  unfold Ideal.log1p
  rw [← EReal.coe_one, ← EReal.coe_add, log_eq h]
theorem rsqrt_eq {a : ℝ} (h : 0 < a) : Ideal.rsqrt (a : EReal) = (((Real.sqrt a)⁻¹ : ℝ) : EReal) := by
  rw [Ideal.rsqrt_coe, if_neg (not_lt.2 h.le), if_neg h.ne']

/-! ## The constants -/

theorem bits_sixteenth : Ideal.ofBits .f32 0x3D800000#32 = ((1 / 16 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_eps : Ideal.ofBits .f32 0x358637BD#32 = ((8796093 / 2 ^ 43 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee]
theorem bits_one16 : Ideal.ofBits .bf16 0x3F80#16 = ((1 : ℝ) : EReal) := by
  simp [Ideal.ofBits, Ideal.ieee, -EReal.coe_mul]; norm_num
theorem bits_zero16 : Ideal.ofBits .bf16 0x0000#16 = ((0 : ℝ) : EReal) := by
  simp [Ideal.ofBits, Ideal.ieee]
theorem bits_inf : Ideal.ofBits .f32 0x7F800000#32 = ⊤ := by
  simp [Ideal.ofBits, Ideal.ieee]

/-! ## Indices and sums -/

theorem ext1 {n0 : Nat} {i j : (⟨1, ![n0]⟩ : Shape).Idx} (h0 : (i 0).val = (j 0).val) : i = j := by
  funext a; match a with | ⟨0, _⟩ => exact Fin.ext h0
theorem ext2 {n0 n1 : Nat} {i j : (⟨2, ![n0, n1]⟩ : Shape).Idx} (h0 : (i 0).val = (j 0).val) (h1 : (i 1).val = (j 1).val) :
    i = j := by
  funext a; match a with | ⟨0, _⟩ => exact Fin.ext h0 | ⟨1, _⟩ => exact Fin.ext h1
theorem ext3 {n0 n1 n2 : Nat} {i j : (⟨3, ![n0, n1, n2]⟩ : Shape).Idx} (h0 : (i 0).val = (j 0).val)
    (h1 : (i 1).val = (j 1).val) (h2 : (i 2).val = (j 2).val) : i = j := by
  funext a; match a with | ⟨0, _⟩ => exact Fin.ext h0 | ⟨1, _⟩ => exact Fin.ext h1 | ⟨2, _⟩ => exact Fin.ext h2
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j := by
  funext a
  match a with | ⟨0, _⟩ => exact Fin.ext h0 | ⟨1, _⟩ => exact Fin.ext h1 | ⟨2, _⟩ => exact Fin.ext h2 | ⟨3, _⟩ => exact Fin.ext h3

/-- A window's sum from zero, over the window's positions. -/
theorem windowAdd_eq {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else 0 := by
  rw [← Equiv.sum_comp (⟨s.rank, window⟩ : Shape).rowMajor.symm, Fin.sum_univ_def, List.sum_eq_foldl, List.foldl_map]
  rfl

/-- The coordinates of a rank-4 index as a product. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- The coordinates of a rank-3 index as a product. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- Positions `63 − t …` of a window of 64 that ends at `t`. -/
theorem sum_upto (N : ℕ) (x : Fin (N + 1) → EReal) (t : Fin (N + 1)) :
    (∑ k : Fin (N + 1), if hin : N ≤ t.val + k.val ∧ t.val + k.val - N < N + 1 then x ⟨t.val + k.val - N, hin.2⟩ else 0)
      = ∑ t' : Fin (N + 1), if t'.val ≤ t.val then x t' else 0 := by
  symm
  rw [← Finset.sum_filter]
  have e : ∀ k : Fin (N + 1), (if hin : N ≤ t.val + k.val ∧ t.val + k.val - N < N + 1 then x ⟨t.val + k.val - N, hin.2⟩ else 0)
      = if N ≤ t.val + k.val then x ⟨t.val + k.val - N, by omega⟩ else 0 := fun k => by
    by_cases hk : N ≤ t.val + k.val
    · rw [dif_pos ⟨hk, by omega⟩, if_pos hk]
    · rw [dif_neg (fun hh => hk hh.1), if_neg hk]
  rw [Finset.sum_congr rfl fun k _ => e k, ← Finset.sum_filter]
  refine Finset.sum_bij' (fun t' ht' => ⟨t'.val + N - t.val, by have := (Finset.mem_filter.1 ht').2; omega⟩)
    (fun k _ => ⟨t.val + k.val - N, by omega⟩) ?_ ?_ ?_ ?_ ?_
  · intro a ha; have := (Finset.mem_filter.1 ha).2; simp only [Finset.mem_filter, Finset.mem_univ, true_and]; omega
  · intro a ha; simp only [Finset.mem_filter, Finset.mem_univ, true_and]; omega
  · intro a ha; have := (Finset.mem_filter.1 ha).2; apply Fin.ext; simp only; omega
  · intro a ha; have := (Finset.mem_filter.1 ha).2; apply Fin.ext; simp only; omega
  · intro a ha; have := (Finset.mem_filter.1 ha).2; congr 1; apply Fin.ext; simp only; omega

/-- Positions from `t` on. -/
theorem sum_from (N : ℕ) (x : Fin (N + 1) → EReal) (t : Fin (N + 1)) :
    (∑ k : Fin (N + 1), if hin : t.val + k.val < N + 1 then x ⟨t.val + k.val, hin⟩ else 0)
      = ∑ t' : Fin (N + 1), if t.val ≤ t'.val then x t' else 0 := by
  symm
  rw [← Finset.sum_filter]
  have e : ∀ k : Fin (N + 1), (if hin : t.val + k.val < N + 1 then x ⟨t.val + k.val, hin⟩ else 0)
      = if t.val + k.val < N + 1 then x ⟨min (t.val + k.val) N, by omega⟩ else 0 := fun k => by
    by_cases hk : t.val + k.val < N + 1
    · rw [dif_pos hk, if_pos hk]; congr 1; apply Fin.ext; simp only; omega
    · rw [dif_neg hk, if_neg hk]
  rw [Finset.sum_congr rfl fun k _ => e k, ← Finset.sum_filter]
  refine Finset.sum_bij' (fun t' _ => ⟨t'.val - t.val, by omega⟩)
    (fun k _ => ⟨min (t.val + k.val) N, by omega⟩) ?_ ?_ ?_ ?_ ?_
  · intro a ha; have := (Finset.mem_filter.1 ha).2; simp only [Finset.mem_filter, Finset.mem_univ, true_and]; omega
  · intro a ha; simp only [Finset.mem_filter, Finset.mem_univ, true_and]; omega
  · intro a ha; have := (Finset.mem_filter.1 ha).2; apply Fin.ext; simp only; omega
  · intro a ha; have := (Finset.mem_filter.1 ha).2; apply Fin.ext; simp only; omega
  · intro a ha; have := (Finset.mem_filter.1 ha).2; congr 1; apply Fin.ext; simp only; omega

/-! Running sums along one axis, from the start and from the end. -/

theorem window4_upto {n0 n1 n3 : Nat} (N : Nat) (hi : Fin 4 → Nat)
    (h : (⟨4, ![n0, n1, N + 1, n3]⟩ : Shape).ReduceWindows ![1, 1, N + 1, 1] ![1, 1, 1, 1] ![0, 0, N, 0] hi ⟨4, ![n0, n1, N + 1, n3]⟩)
    (x : (⟨4, ![n0, n1, N + 1, n3]⟩ : Shape).Idx → EReal) (i : (⟨4, ![n0, n1, N + 1, n3]⟩ : Shape).Idx) :
    Ideal.hostReduceWindowAdd ![1, 1, N + 1, 1] ![1, 1, 1, 1] ![0, 0, N, 0] hi h x 0 i
      = ∑ t' : Fin (N + 1), if t'.val ≤ (i 2).val then x (ix4 (i 0) (i 1) t' (i 3)) else 0 := by
  rw [windowAdd_eq, ← Equiv.sum_comp (idxEquiv4 (n0 := 1) (n1 := 1) (n2 := N + 1) (n3 := 1)).symm]
  simp only [Fintype.sum_prod_type, Finset.univ_unique, Finset.sum_singleton]
  refine Eq.trans (Finset.sum_congr rfl fun k _ => ?_) (sum_upto N (fun t' => x (ix4 (i 0) (i 1) t' (i 3))) (i 2))
  have b0 : (i 0).val < n0 := (i 0).isLt
  have b1 : (i 1).val < n1 := (i 1).isLt
  have b3 : (i 3).val < n3 := (i 3).isLt
  by_cases hk : N ≤ (i 2).val + k.val ∧ (i 2).val + k.val - N < N + 1
  · rw [dif_pos hk, dif_pos]
    · congr 1
      refine ext4 ?_ ?_ ?_ ?_
      · change (i 0).val * 1 + 0 - 0 = (i 0).val; omega
      · change (i 1).val * 1 + 0 - 0 = (i 1).val; omega
      · change (i 2).val * 1 + k.val - N = (i 2).val + k.val - N; omega
      · change (i 3).val * 1 + 0 - 0 = (i 3).val; omega
    · intro a
      match a with
      | ⟨0, _⟩ => change 0 ≤ (i 0).val * 1 + 0 ∧ (i 0).val * 1 + 0 - 0 < n0; omega
      | ⟨1, _⟩ => change 0 ≤ (i 1).val * 1 + 0 ∧ (i 1).val * 1 + 0 - 0 < n1; omega
      | ⟨2, _⟩ => change N ≤ (i 2).val * 1 + k.val ∧ (i 2).val * 1 + k.val - N < N + 1; omega
      | ⟨3, _⟩ => change 0 ≤ (i 3).val * 1 + 0 ∧ (i 3).val * 1 + 0 - 0 < n3; omega
  · rw [dif_neg hk, dif_neg]
    intro hh
    have := hh 2
    change N ≤ (i 2).val * 1 + k.val ∧ (i 2).val * 1 + k.val - N < N + 1 at this
    omega

theorem window4_from {n0 n1 n3 : Nat} (N : Nat) (hi : Fin 4 → Nat)
    (h : (⟨4, ![n0, n1, N + 1, n3]⟩ : Shape).ReduceWindows ![1, 1, N + 1, 1] ![1, 1, 1, 1] ![0, 0, 0, 0] hi ⟨4, ![n0, n1, N + 1, n3]⟩)
    (x : (⟨4, ![n0, n1, N + 1, n3]⟩ : Shape).Idx → EReal) (i : (⟨4, ![n0, n1, N + 1, n3]⟩ : Shape).Idx) :
    Ideal.hostReduceWindowAdd ![1, 1, N + 1, 1] ![1, 1, 1, 1] ![0, 0, 0, 0] hi h x 0 i
      = ∑ t' : Fin (N + 1), if (i 2).val ≤ t'.val then x (ix4 (i 0) (i 1) t' (i 3)) else 0 := by
  rw [windowAdd_eq, ← Equiv.sum_comp (idxEquiv4 (n0 := 1) (n1 := 1) (n2 := N + 1) (n3 := 1)).symm]
  simp only [Fintype.sum_prod_type, Finset.univ_unique, Finset.sum_singleton]
  refine Eq.trans (Finset.sum_congr rfl fun k _ => ?_) (sum_from N (fun t' => x (ix4 (i 0) (i 1) t' (i 3))) (i 2))
  have b0 : (i 0).val < n0 := (i 0).isLt
  have b1 : (i 1).val < n1 := (i 1).isLt
  have b3 : (i 3).val < n3 := (i 3).isLt
  by_cases hk : (i 2).val + k.val < N + 1
  · rw [dif_pos hk, dif_pos]
    · congr 1
      refine ext4 ?_ ?_ ?_ ?_
      · change (i 0).val * 1 + 0 - 0 = (i 0).val; omega
      · change (i 1).val * 1 + 0 - 0 = (i 1).val; omega
      · change (i 2).val * 1 + k.val - 0 = (i 2).val + k.val; omega
      · change (i 3).val * 1 + 0 - 0 = (i 3).val; omega
    · intro a
      match a with
      | ⟨0, _⟩ => change 0 ≤ (i 0).val * 1 + 0 ∧ (i 0).val * 1 + 0 - 0 < n0; omega
      | ⟨1, _⟩ => change 0 ≤ (i 1).val * 1 + 0 ∧ (i 1).val * 1 + 0 - 0 < n1; omega
      | ⟨2, _⟩ => change 0 ≤ (i 2).val * 1 + k.val ∧ (i 2).val * 1 + k.val - 0 < N + 1; omega
      | ⟨3, _⟩ => change 0 ≤ (i 3).val * 1 + 0 ∧ (i 3).val * 1 + 0 - 0 < n3; omega
  · rw [dif_neg hk, dif_neg]
    intro hh
    have := hh 2
    change 0 ≤ (i 2).val * 1 + k.val ∧ (i 2).val * 1 + k.val - 0 < N + 1 at this
    omega

theorem window3_upto {n0 n2 : Nat} (N : Nat) (hi : Fin 3 → Nat)
    (h : (⟨3, ![n0, N + 1, n2]⟩ : Shape).ReduceWindows ![1, N + 1, 1] ![1, 1, 1] ![0, N, 0] hi ⟨3, ![n0, N + 1, n2]⟩)
    (x : (⟨3, ![n0, N + 1, n2]⟩ : Shape).Idx → EReal) (i : (⟨3, ![n0, N + 1, n2]⟩ : Shape).Idx) :
    Ideal.hostReduceWindowAdd ![1, N + 1, 1] ![1, 1, 1] ![0, N, 0] hi h x 0 i
      = ∑ t' : Fin (N + 1), if t'.val ≤ (i 1).val then x (ix3 (i 0) t' (i 2)) else 0 := by
  rw [windowAdd_eq, ← Equiv.sum_comp (idxEquiv3 (n0 := 1) (n1 := N + 1) (n2 := 1)).symm]
  simp only [Fintype.sum_prod_type, Finset.univ_unique, Finset.sum_singleton]
  refine Eq.trans (Finset.sum_congr rfl fun k _ => ?_) (sum_upto N (fun t' => x (ix3 (i 0) t' (i 2))) (i 1))
  have b0 : (i 0).val < n0 := (i 0).isLt
  have b2 : (i 2).val < n2 := (i 2).isLt
  by_cases hk : N ≤ (i 1).val + k.val ∧ (i 1).val + k.val - N < N + 1
  · rw [dif_pos hk, dif_pos]
    · congr 1
      refine ext3 ?_ ?_ ?_
      · change (i 0).val * 1 + 0 - 0 = (i 0).val; omega
      · change (i 1).val * 1 + k.val - N = (i 1).val + k.val - N; omega
      · change (i 2).val * 1 + 0 - 0 = (i 2).val; omega
    · intro a
      match a with
      | ⟨0, _⟩ => change 0 ≤ (i 0).val * 1 + 0 ∧ (i 0).val * 1 + 0 - 0 < n0; omega
      | ⟨1, _⟩ => change N ≤ (i 1).val * 1 + k.val ∧ (i 1).val * 1 + k.val - N < N + 1; omega
      | ⟨2, _⟩ => change 0 ≤ (i 2).val * 1 + 0 ∧ (i 2).val * 1 + 0 - 0 < n2; omega
  · rw [dif_neg hk, dif_neg]
    intro hh
    have := hh 1
    change N ≤ (i 1).val * 1 + k.val ∧ (i 1).val * 1 + k.val - N < N + 1 at this
    omega

theorem window3_from {n0 n2 : Nat} (N : Nat) (hi : Fin 3 → Nat)
    (h : (⟨3, ![n0, N + 1, n2]⟩ : Shape).ReduceWindows ![1, N + 1, 1] ![1, 1, 1] ![0, 0, 0] hi ⟨3, ![n0, N + 1, n2]⟩)
    (x : (⟨3, ![n0, N + 1, n2]⟩ : Shape).Idx → EReal) (i : (⟨3, ![n0, N + 1, n2]⟩ : Shape).Idx) :
    Ideal.hostReduceWindowAdd ![1, N + 1, 1] ![1, 1, 1] ![0, 0, 0] hi h x 0 i
      = ∑ t' : Fin (N + 1), if (i 1).val ≤ t'.val then x (ix3 (i 0) t' (i 2)) else 0 := by
  rw [windowAdd_eq, ← Equiv.sum_comp (idxEquiv3 (n0 := 1) (n1 := N + 1) (n2 := 1)).symm]
  simp only [Fintype.sum_prod_type, Finset.univ_unique, Finset.sum_singleton]
  refine Eq.trans (Finset.sum_congr rfl fun k _ => ?_) (sum_from N (fun t' => x (ix3 (i 0) t' (i 2))) (i 1))
  have b0 : (i 0).val < n0 := (i 0).isLt
  have b2 : (i 2).val < n2 := (i 2).isLt
  by_cases hk : (i 1).val + k.val < N + 1
  · rw [dif_pos hk, dif_pos]
    · congr 1
      refine ext3 ?_ ?_ ?_
      · change (i 0).val * 1 + 0 - 0 = (i 0).val; omega
      · change (i 1).val * 1 + k.val - 0 = (i 1).val + k.val; omega
      · change (i 2).val * 1 + 0 - 0 = (i 2).val; omega
    · intro a
      match a with
      | ⟨0, _⟩ => change 0 ≤ (i 0).val * 1 + 0 ∧ (i 0).val * 1 + 0 - 0 < n0; omega
      | ⟨1, _⟩ => change 0 ≤ (i 1).val * 1 + k.val ∧ (i 1).val * 1 + k.val - 0 < N + 1; omega
      | ⟨2, _⟩ => change 0 ≤ (i 2).val * 1 + 0 ∧ (i 2).val * 1 + 0 - 0 < n2; omega
  · rw [dif_neg hk, dif_neg]
    intro hh
    have := hh 1
    change 0 ≤ (i 1).val * 1 + k.val ∧ (i 1).val * 1 + k.val - 0 < N + 1 at this
    omega

end Cert.Gla

end
-- ==== Proof.Blk.lean ====
module

public import proofs.«01_k».proof.Proof.Voc
public import proofs.«01_k».proof.Proof.Lift
public import Idealize.ShloMosaic.Lib.Pipeline.Value

@[expose] public section

set_option maxRecDepth 16384

/-! What one step of the kernel computes for its eight chunks, from the vectors it loads. -/

noncomputable section

namespace Cert.KernelIdeal.Voc

open Cert.KernelIdeal Cert.KernelIdeal.Gen Idealize.ShloMosaic Idealize.ShloMosaic.TcCoe Idealize.ShloMosaic.ValueIdx Cert.Gla

variable {F : FTy → Type} [FloatOps F]

/-- The vectors a step loads: by chunk of the block and pair of heads. -/
structure Ld (F : FTy → Type) where
  /-- queries -/
  q : Fin 8 → Fin 2 → FVec F S64x128 .f32
  /-- keys -/
  k : Fin 8 → Fin 2 → FVec F S64x128 .f32
  /-- log decays -/
  la : Fin 8 → Fin 2 → FVec F S64x128 .f32
  /-- their derivatives -/
  dl : Fin 8 → Fin 2 → FVec F S64x128 .f32
  /-- values -/
  v : Fin 8 → Fin 2 → FVec F S64x256 .f32
  /-- gates -/
  gg : Fin 8 → Fin 2 → FVec F S64x256 .f32
  /-- gradients of the outputs -/
  ct : Fin 8 → Fin 2 → FVec F S64x256 .f32
  /-- states -/
  st : Fin 8 → Fin 2 → FVec F S1x1x256x128 .f32
  /-- the state before the block -/
  pv : Fin 2 → FVec F S256x128 .f32
  /-- gains -/
  g : Fin 2 → FVec F S1x256 .f32
  /-- the triangle with its diagonal -/
  inc : FVec F S64x64 .bf16
  /-- the triangle without it -/
  str : FVec F S64x64 .bf16
  /-- the block diagonal -/
  bd : FVec F S256x128 .f32
  /-- the carry into the block -/
  C : Fin 2 → FVec F S256x128 .f32

variable (D : Ld F)

/-- the log decays summed -/
def Ld.cs (cc : Fin 8) (p : Fin 2) : FVec F S64x128 .f32 := tsum D.inc (D.la cc p)
/-- what is read from the state -/
def Ld.o (cc : Fin 8) (p : Fin 2) : FVec F S64x256 .f32 := oo (D.q cc p) (D.st cc p)
/-- the gradient of the gates -/
def Ld.dgg (cc : Fin 8) (p : Fin 2) : FVec F S64x256 .bf16 := r16 (dgate (D.o cc p) (D.g p) (D.ct cc p) (D.gg cc p))
/-- the gradient of what is read from the state -/
def Ld.dov (cc : Fin 8) (p : Fin 2) : FVec F S64x256 .bf16 := dov16 (D.o cc p) (D.g p) (D.ct cc p) (D.gg cc p)
/-- the gradient of the queries -/
def Ld.dq (cc : Fin 8) (p : Fin 2) : FVec F S64x128 .bf16 := dq16 (D.dov cc p) (D.st cc p)
/-- the gradient of the state by its readers -/
def Ld.rdr (cc : Fin 8) (p : Fin 2) : FVec F S256x128 .f32 := readers D.bd (D.dov cc p) (D.q cc p)
/-- the chunk visited after `n` others -/
def nth (n : ℕ) : Fin 8 := ⟨7 - n, by omega⟩
/-- the gradient of the gains after `n` chunks -/
def Ld.gs (p : Fin 2) : ℕ → FVec F S1x256 .f32
  | 0 => num S1x256 0x00000000#32
  | n + 1 => addf (Ld.gs p n) (dgain (D.o (nth n) p) (D.ct (nth n) p) (D.gg (nth n) p))
/-- the carry after `n` chunks -/
def Ld.cr (p : Fin 2) : ℕ → FVec F S256x128 .f32
  | 0 => D.C p
  | n + 1 => back (addf (D.rdr (nth n) p) (Ld.cr p n)) (dec (D.cs (nth n) p))
/-- the gradient of the state -/
def Ld.G (cc : Fin 8) (p : Fin 2) : FVec F S256x128 .f32 := addf (D.rdr cc p) (D.cr p (7 - cc.val))
/-- the state before the chunk -/
def Ld.P (p : Fin 2) : Fin 8 → FVec F S256x128 .f32
  | ⟨0, _⟩ => D.pv p
  | ⟨n + 1, h⟩ => shapeCast S256x128 (D.st ⟨n, by omega⟩ p) shapeCasts_S1x1x256x128_S256x128
/-- the decayed keys -/
def Ld.kd (cc : Fin 8) (p : Fin 2) : FVec F S64x128 .f32 := kdec (D.k cc p) (D.cs cc p)
/-- the gradient of the values -/
def Ld.dv (cc : Fin 8) (p : Fin 2) : FVec F S64x256 .bf16 := dv16 (D.kd cc p) (D.G cc p)
/-- the gradient of the decayed keys -/
def Ld.dkd (cc : Fin 8) (p : Fin 2) : FVec F S64x128 .f32 := dkdv (D.v cc p) (D.G cc p)
/-- the gradient of the keys -/
def Ld.dk (cc : Fin 8) (p : Fin 2) : FVec F S64x128 .bf16 := dk16 (D.dkd cc p) (edec (D.cs cc p))
/-- the gradient before the logistic function -/
def Ld.dfz (cc : Fin 8) (p : Fin 2) : FVec F S64x128 .f32 :=
  dfzv D.str (D.dkd cc p) (D.kd cc p) (ddecv (D.G cc p) (D.P p cc) (dec (D.cs cc p))) (D.dl cc p)

/-- chunk `cc`, pair `p` of a block of 512 rows and 256 columns -/
def sub (x : FVec F S512x256 .f32) (cc : Fin 8) (p : Fin 2) : FVec F S64x128 .f32 := fun i =>
  x (ix2 ⟨64 * cc.val + (i 0).val, by have : (i 0).val < 64 := (i 0).isLt; omega⟩ ⟨128 * p.val + (i 1).val, by have : (i 1).val < 128 := (i 1).isLt; omega⟩)
/-- chunk `cc`, pair `p` of a block of 512 rows and 512 columns -/
def sub2 (x : FVec F S512x512 .f32) (cc : Fin 8) (p : Fin 2) : FVec F S64x256 .f32 := fun i =>
  x (ix2 ⟨64 * cc.val + (i 0).val, by have : (i 0).val < 64 := (i 0).isLt; omega⟩ ⟨256 * p.val + (i 1).val, by have : (i 1).val < 256 := (i 1).isLt; omega⟩)
/-- the state of chunk `cc`, pair `p` -/
def stp (x : FVec F S2x8x256x128 .f32) (cc : Fin 8) (p : Fin 2) : FVec F S1x1x256x128 .f32 := fun i => x (ix4 p cc (i 2) (i 3))
/-- the state before, of pair `p` -/
def spp (x : FVec F S2x1x256x128 .f32) (p : Fin 2) : FVec F S1x1x256x128 .f32 := fun i => x (ix4 p (0 : Fin 1) (i 2) (i 3))
/-- the carry of pair `p` -/
def cpp (x : FVec F S2x256x128 .f32) (p : Fin 2) : FVec F S1x256x128 .f32 := fun i => x (ix3 p (i 1) (i 2))
/-- the gains of pair `p` -/
def gpp (x : FVec F S1x512 .f32) (p : Fin 2) : FVec F S1x256 .f32 := fun i =>
  x (ix2 (0 : Fin 1) ⟨256 * p.val + (i 1).val, by have : (i 1).val < 256 := (i 1).isLt; omega⟩)

theorem inbA (cc : Fin 8) (p : Fin 2) : ∀ a, (![64 * cc.val, 128 * p.val] : Fin 2 → Nat) a + S64x128.size a ≤ S512x256.size a :=
  Fin.forall_fin_two.2 ⟨by change 64 * cc.val + 64 ≤ 512; omega, by change 128 * p.val + 128 ≤ 256; omega⟩
theorem inbB (cc : Fin 8) (p : Fin 2) : ∀ a, (![64 * cc.val, 256 * p.val] : Fin 2 → Nat) a + S64x256.size a ≤ S512x512.size a :=
  Fin.forall_fin_two.2 ⟨by change 64 * cc.val + 64 ≤ 512; omega, by change 256 * p.val + 256 ≤ 512; omega⟩
theorem inbC (cc : Fin 8) (p : Fin 2) : ∀ a, (![p.val, cc.val, 0, 0] : Fin 4 → Nat) a + S1x1x256x128.size a ≤ S2x8x256x128.size a := by
  intro a
  match a with
  | 0 => change p.val + 1 ≤ 2; omega
  | 1 => change cc.val + 1 ≤ 8; omega
  | 2 => exact (by decide : 0 + 256 ≤ 256)
  | 3 => exact (by decide : 0 + 128 ≤ 128)
theorem inbP (p : Fin 2) : ∀ a, (![p.val, 0, 0, 0] : Fin 4 → Nat) a + S1x1x256x128.size a ≤ S2x1x256x128.size a := by
  intro a
  match a with
  | 0 => change p.val + 1 ≤ 2; omega
  | 1 => exact (by decide : 0 + 1 ≤ 1)
  | 2 => exact (by decide : 0 + 256 ≤ 256)
  | 3 => exact (by decide : 0 + 128 ≤ 128)
theorem inbK (p : Fin 2) : ∀ a, (![p.val, 0, 0] : Fin 3 → Nat) a + S1x256x128.size a ≤ S2x256x128.size a := by
  intro a
  match a with
  | 0 => change p.val + 1 ≤ 2; omega
  | 1 => exact (by decide : 0 + 256 ≤ 256)
  | 2 => exact (by decide : 0 + 128 ≤ 128)
theorem inbG (p : Fin 2) : ∀ a, (![0, 256 * p.val] : Fin 2 → Nat) a + S1x256.size a ≤ S1x512.size a :=
  Fin.forall_fin_two.2 ⟨(by decide : 0 + 1 ≤ 1), by change 256 * p.val + 256 ≤ 512; omega⟩
theorem slcA (cc : Fin 8) (p : Fin 2) : S512x256.Slices ![64 * cc.val, 128 * p.val] S64x128 := ⟨rfl, inbA cc p⟩

variable {sg : RefSig}

theorem rdA (M : Memref sg .tc .vmem S512x256 .f32) (h : M.IsWhole) (x : FVec F S512x256 .f32) (cc : Fin 8) (p : Fin 2) :
    View.readAt (Elt F) M.view (Rect.unit (s := S512x256) ![64 * cc.val, 128 * p.val] S64x128.size (inbA cc p)).toLoadRect (h.unread x) = sub x cc p := by
  rw [View.readAt_eq_ld, h.read_unread]
  funext i
  refine congrArg x (ext2 ?_ ?_) <;> simp [Rect.unit, LoadRect.idx]
theorem rdB (M : Memref sg .tc .vmem S512x512 .f32) (h : M.IsWhole) (x : FVec F S512x512 .f32) (cc : Fin 8) (p : Fin 2) :
    View.readAt (Elt F) M.view (Rect.unit (s := S512x512) ![64 * cc.val, 256 * p.val] S64x256.size (inbB cc p)).toLoadRect (h.unread x) = sub2 x cc p := by
  rw [View.readAt_eq_ld, h.read_unread]
  funext i
  refine congrArg x (ext2 ?_ ?_) <;> simp [Rect.unit, LoadRect.idx]

theorem rdC (M : Memref sg .tc .vmem S2x8x256x128 .f32) (h : M.IsWhole) (x : FVec F S2x8x256x128 .f32) (cc : Fin 8) (p : Fin 2) :
    View.readAt (Elt F) M.view (Rect.unit (s := S2x8x256x128) ![p.val, cc.val, 0, 0] S1x1x256x128.size (inbC cc p)).toLoadRect (h.unread x) = stp x cc p := by
  rw [View.readAt_eq_ld, h.read_unread]
  funext i
  have h0 : (i 0).val < 1 := (i 0).isLt
  have h1 : (i 1).val < 1 := (i 1).isLt
  refine congrArg x (ext4 ?_ ?_ ?_ ?_) <;> simp [Rect.unit, LoadRect.idx] <;> omega
theorem rdP (M : Memref sg .tc .vmem S2x1x256x128 .f32) (h : M.IsWhole) (x : FVec F S2x1x256x128 .f32) (p : Fin 2) :
    View.readAt (Elt F) M.view (Rect.unit (s := S2x1x256x128) ![p.val, 0, 0, 0] S1x1x256x128.size (inbP p)).toLoadRect (h.unread x) = spp x p := by
  rw [View.readAt_eq_ld, h.read_unread]
  funext i
  have h0 : (i 0).val < 1 := (i 0).isLt
  have h1 : (i 1).val < 1 := (i 1).isLt
  refine congrArg x (ext4 ?_ ?_ ?_ ?_) <;> simp [Rect.unit, LoadRect.idx] <;> omega
theorem rdK (M : Memref sg .tc .vmem S2x256x128 .f32) (h : M.IsWhole) (x : FVec F S2x256x128 .f32) (p : Fin 2) :
    View.readAt (Elt F) M.view (Rect.unit (s := S2x256x128) ![p.val, 0, 0] S1x256x128.size (inbK p)).toLoadRect (h.unread x) = cpp x p := by
  rw [View.readAt_eq_ld, h.read_unread]
  funext i
  have h0 : (i 0).val < 1 := (i 0).isLt
  refine congrArg x (ext3 ?_ ?_ ?_) <;> simp [Rect.unit, LoadRect.idx] <;> omega
theorem rdG (M : Memref sg .tc .vmem S1x512 .f32) (h : M.IsWhole) (x : FVec F S1x512 .f32) (p : Fin 2) :
    View.readAt (Elt F) M.view (Rect.unit (s := S1x512) ![0, 256 * p.val] S1x256.size (inbG p)).toLoadRect (h.unread x) = gpp x p := by
  rw [View.readAt_eq_ld, h.read_unread]
  funext i
  have h0 : (i 0).val < 1 := (i 0).isLt
  refine congrArg x (ext2 ?_ ?_) <;> simp [Rect.unit, LoadRect.idx] <;> omega
theorem inb0F : ∀ a, (![0, 0] : Fin 2 → Nat) a + S512x128.size a ≤ S512x128.size a := by decide
theorem rd0F (M : Memref sg .tc .vmem S512x128 .f32) (h : M.IsWhole) (x : FVec F S512x128 .f32) :
    View.readAt (Elt F) M.view (Rect.unit (s := S512x128) ![0, 0] S512x128.size inb0F).toLoadRect (h.unread x) = x := by
  rw [View.readAt_eq_ld, h.read_unread]
  funext i
  refine congrArg x (ext2 ?_ ?_) <;> simp [Rect.unit, LoadRect.idx]
theorem inb0W : ∀ a, (![0, 0] : Fin 2 → Nat) a + S128x256.size a ≤ S128x256.size a := by decide
theorem rd0W (M : Memref sg .tc .vmem S128x256 .f32) (h : M.IsWhole) (x : FVec F S128x256 .f32) :
    View.readAt (Elt F) M.view (Rect.unit (s := S128x256) ![0, 0] S128x256.size inb0W).toLoadRect (h.unread x) = x := by
  rw [View.readAt_eq_ld, h.read_unread]
  funext i
  refine congrArg x (ext2 ?_ ?_) <;> simp [Rect.unit, LoadRect.idx]
theorem inb0V : ∀ a, (![0, 0] : Fin 2 → Nat) a + S1x256.size a ≤ S1x256.size a := by decide
theorem rd0V (M : Memref sg .tc .vmem S1x256 .f32) (h : M.IsWhole) (x : FVec F S1x256 .f32) :
    View.readAt (Elt F) M.view (Rect.unit (s := S1x256) ![0, 0] S1x256.size inb0V).toLoadRect (h.unread x) = x := by
  rw [View.readAt_eq_ld, h.read_unread]
  funext i
  have h0 : (i 0).val < 1 := (i 0).isLt
  refine congrArg x (ext2 ?_ ?_) <;> simp [Rect.unit, LoadRect.idx] <;> omega
theorem inb0T : ∀ a, (![0, 0] : Fin 2 → Nat) a + S64x64.size a ≤ S64x64.size a := by decide
theorem rd0T (M : Memref sg .tc .vmem S64x64 .bf16) (h : M.IsWhole) (x : FVec F S64x64 .bf16) :
    View.readAt (Elt F) M.view (Rect.unit (s := S64x64) ![0, 0] S64x64.size inb0T).toLoadRect (h.unread x) = x := by
  rw [View.readAt_eq_ld, h.read_unread]
  funext i
  refine congrArg x (ext2 ?_ ?_) <;> simp [Rect.unit, LoadRect.idx]
theorem inb0D : ∀ a, (![0, 0] : Fin 2 → Nat) a + S256x128.size a ≤ S256x128.size a := by decide
theorem rd0D (M : Memref sg .tc .vmem S256x128 .f32) (h : M.IsWhole) (x : FVec F S256x128 .f32) :
    View.readAt (Elt F) M.view (Rect.unit (s := S256x128) ![0, 0] S256x128.size inb0D).toLoadRect (h.unread x) = x := by
  rw [View.readAt_eq_ld, h.read_unread]
  funext i
  refine congrArg x (ext2 ?_ ?_) <;> simp [Rect.unit, LoadRect.idx]

/-- What the step loads, from the windows' memory. -/
def LdM (arg1 : Memref sg .tc .vmem S512x256 .f32) (harg1 : arg1.IsWhole) (arg2 : Memref sg .tc .vmem S512x256 .f32) (harg2 : arg2.IsWhole) (arg3 : Memref sg .tc .vmem S512x512 .f32) (harg3 : arg3.IsWhole) (arg4 : Memref sg .tc .vmem S512x512 .f32) (harg4 : arg4.IsWhole) (arg5 : Memref sg .tc .vmem S512x128 .f32) (harg5 : arg5.IsWhole) (arg6 : Memref sg .tc .vmem S512x512 .f32) (harg6 : arg6.IsWhole) (arg7 : Memref sg .tc .vmem S2x8x256x128 .f32) (harg7 : arg7.IsWhole) (arg8 : Memref sg .tc .vmem S2x1x256x128 .f32) (harg8 : arg8.IsWhole) (arg9 : Memref sg .tc .vmem S128x256 .f32) (harg9 : arg9.IsWhole) (arg10 : Memref sg .tc .vmem S1x256 .f32) (harg10 : arg10.IsWhole) (arg11 : Memref sg .tc .vmem S1x512 .f32) (harg11 : arg11.IsWhole) (arg12 : Memref sg .tc .vmem S64x64 .bf16) (harg12 : arg12.IsWhole) (arg13 : Memref sg .tc .vmem S64x64 .bf16) (harg13 : arg13.IsWhole) (arg14 : Memref sg .tc .vmem S256x128 .f32) (harg14 : arg14.IsWhole)
    (x0 : FVec F S512x256 .f32) (x1 : FVec F S512x256 .f32) (x2 : FVec F S512x512 .f32) (x3 : FVec F S512x512 .f32) (x4 : FVec F S512x128 .f32) (x5 : FVec F S512x512 .f32) (x6 : FVec F S2x8x256x128 .f32) (x7 : FVec F S2x1x256x128 .f32) (x8 : FVec F S128x256 .f32) (x9 : FVec F S1x256 .f32) (x10 : FVec F S1x512 .f32) (x11 : FVec F S64x64 .bf16) (x12 : FVec F S64x64 .bf16) (x13 : FVec F S256x128 .f32)
    (e : F .f32) (C : Fin 2 → FVec F S1x256x128 .f32) : Ld F where
  q cc p := View.readAt (Elt F) arg1.view (Rect.unit (s := S512x256) ![64 * cc.val, 128 * p.val] S64x128.size (inbA cc p)).toLoadRect (harg1.unread x0)
  k cc p := View.readAt (Elt F) arg2.view (Rect.unit (s := S512x256) ![64 * cc.val, 128 * p.val] S64x128.size (inbA cc p)).toLoadRect (harg2.unread x1)
  la cc p := extractStridedSlice S64x128 ![64 * cc.val, 128 * p.val] (logd (fpre (View.readAt (Elt F) arg5.view (Rect.unit (s := S512x128) ![0, 0] S512x128.size inb0F).toLoadRect (harg5.unread x4)) (View.readAt (Elt F) arg9.view (Rect.unit (s := S128x256) ![0, 0] S128x256.size inb0W).toLoadRect (harg9.unread x8)) (View.readAt (Elt F) arg10.view (Rect.unit (s := S1x256) ![0, 0] S1x256.size inb0V).toLoadRect (harg10.unread x9)))) (slcA cc p)
  dl cc p := extractStridedSlice S64x128 ![64 * cc.val, 128 * p.val] (dlogd (fpre (View.readAt (Elt F) arg5.view (Rect.unit (s := S512x128) ![0, 0] S512x128.size inb0F).toLoadRect (harg5.unread x4)) (View.readAt (Elt F) arg9.view (Rect.unit (s := S128x256) ![0, 0] S128x256.size inb0W).toLoadRect (harg9.unread x8)) (View.readAt (Elt F) arg10.view (Rect.unit (s := S1x256) ![0, 0] S1x256.size inb0V).toLoadRect (harg10.unread x9)))) (slcA cc p)
  v cc p := View.readAt (Elt F) arg3.view (Rect.unit (s := S512x512) ![64 * cc.val, 256 * p.val] S64x256.size (inbB cc p)).toLoadRect (harg3.unread x2)
  gg cc p := View.readAt (Elt F) arg4.view (Rect.unit (s := S512x512) ![64 * cc.val, 256 * p.val] S64x256.size (inbB cc p)).toLoadRect (harg4.unread x3)
  ct cc p := View.readAt (Elt F) arg6.view (Rect.unit (s := S512x512) ![64 * cc.val, 256 * p.val] S64x256.size (inbB cc p)).toLoadRect (harg6.unread x5)
  st cc p := View.readAt (Elt F) arg7.view (Rect.unit (s := S2x8x256x128) ![p.val, cc.val, 0, 0] S1x1x256x128.size (inbC cc p)).toLoadRect (harg7.unread x6)
  pv p := mulf (shapeCast S256x128 (View.readAt (Elt F) arg8.view (Rect.unit (s := S2x1x256x128) ![p.val, 0, 0, 0] S1x1x256x128.size (inbP p)).toLoadRect (harg8.unread x7)) shapeCasts_S1x1x256x128_S256x128) (broadcast S256x128 e)
  g p := View.readAt (Elt F) arg11.view (Rect.unit (s := S1x512) ![0, 256 * p.val] S1x256.size (inbG p)).toLoadRect (harg11.unread x10)
  inc := View.readAt (Elt F) arg12.view (Rect.unit (s := S64x64) ![0, 0] S64x64.size inb0T).toLoadRect (harg12.unread x11)
  str := View.readAt (Elt F) arg13.view (Rect.unit (s := S64x64) ![0, 0] S64x64.size inb0T).toLoadRect (harg13.unread x12)
  bd := View.readAt (Elt F) arg14.view (Rect.unit (s := S256x128) ![0, 0] S256x128.size inb0D).toLoadRect (harg14.unread x13)
  C p := shapeCast S256x128 (C p) shapeCasts_S1x256x128_S256x128

/-- What the step loads, from the windows' blocks. -/
def LdX (x0 : FVec F S512x256 .f32) (x1 : FVec F S512x256 .f32) (x2 : FVec F S512x512 .f32) (x3 : FVec F S512x512 .f32) (x4 : FVec F S512x128 .f32) (x5 : FVec F S512x512 .f32) (x6 : FVec F S2x8x256x128 .f32) (x7 : FVec F S2x1x256x128 .f32) (x8 : FVec F S128x256 .f32) (x9 : FVec F S1x256 .f32) (x10 : FVec F S1x512 .f32) (x11 : FVec F S64x64 .bf16) (x12 : FVec F S64x64 .bf16) (x13 : FVec F S256x128 .f32)
    (e : F .f32) (C : Fin 2 → FVec F S1x256x128 .f32) : Ld F where
  q := sub x0
  k := sub x1
  la cc p := extractStridedSlice S64x128 ![64 * cc.val, 128 * p.val] (logd (fpre x4 x8 x9)) (slcA cc p)
  dl cc p := extractStridedSlice S64x128 ![64 * cc.val, 128 * p.val] (dlogd (fpre x4 x8 x9)) (slcA cc p)
  v := sub2 x2
  gg := sub2 x3
  ct := sub2 x5
  st := stp x6
  pv p := mulf (shapeCast S256x128 (spp x7 p) shapeCasts_S1x1x256x128_S256x128) (broadcast S256x128 e)
  g := gpp x10
  inc := x11
  str := x12
  bd := x13
  C p := shapeCast S256x128 (C p) shapeCasts_S1x256x128_S256x128

theorem LdM_eq (arg1 : Memref sg .tc .vmem S512x256 .f32) (harg1 : arg1.IsWhole) (arg2 : Memref sg .tc .vmem S512x256 .f32) (harg2 : arg2.IsWhole) (arg3 : Memref sg .tc .vmem S512x512 .f32) (harg3 : arg3.IsWhole) (arg4 : Memref sg .tc .vmem S512x512 .f32) (harg4 : arg4.IsWhole) (arg5 : Memref sg .tc .vmem S512x128 .f32) (harg5 : arg5.IsWhole) (arg6 : Memref sg .tc .vmem S512x512 .f32) (harg6 : arg6.IsWhole) (arg7 : Memref sg .tc .vmem S2x8x256x128 .f32) (harg7 : arg7.IsWhole) (arg8 : Memref sg .tc .vmem S2x1x256x128 .f32) (harg8 : arg8.IsWhole) (arg9 : Memref sg .tc .vmem S128x256 .f32) (harg9 : arg9.IsWhole) (arg10 : Memref sg .tc .vmem S1x256 .f32) (harg10 : arg10.IsWhole) (arg11 : Memref sg .tc .vmem S1x512 .f32) (harg11 : arg11.IsWhole) (arg12 : Memref sg .tc .vmem S64x64 .bf16) (harg12 : arg12.IsWhole) (arg13 : Memref sg .tc .vmem S64x64 .bf16) (harg13 : arg13.IsWhole) (arg14 : Memref sg .tc .vmem S256x128 .f32) (harg14 : arg14.IsWhole)
    (x0 : FVec F S512x256 .f32) (x1 : FVec F S512x256 .f32) (x2 : FVec F S512x512 .f32) (x3 : FVec F S512x512 .f32) (x4 : FVec F S512x128 .f32) (x5 : FVec F S512x512 .f32) (x6 : FVec F S2x8x256x128 .f32) (x7 : FVec F S2x1x256x128 .f32) (x8 : FVec F S128x256 .f32) (x9 : FVec F S1x256 .f32) (x10 : FVec F S1x512 .f32) (x11 : FVec F S64x64 .bf16) (x12 : FVec F S64x64 .bf16) (x13 : FVec F S256x128 .f32)
    (e : F .f32) (C : Fin 2 → FVec F S1x256x128 .f32) :
    LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 e C
      = LdX x0 x1 x2 x3 x4 x5 x6 x7 x8 x9 x10 x11 x12 x13 e C := by
  unfold LdM LdX
  rw [rd0F arg5 harg5 x4, rd0W arg9 harg9 x8, rd0V arg10 harg10 x9, rd0T arg12 harg12 x11, rd0T arg13 harg13 x12, rd0D arg14 harg14 x13,
    funext fun cc => funext fun p => rdA arg1 harg1 x0 cc p, funext fun cc => funext fun p => rdA arg2 harg2 x1 cc p,
    funext fun cc => funext fun p => rdB arg3 harg3 x2 cc p, funext fun cc => funext fun p => rdB arg4 harg4 x3 cc p,
    funext fun cc => funext fun p => rdB arg6 harg6 x5 cc p, funext fun cc => funext fun p => rdC arg7 harg7 x6 cc p,
    funext fun p => rdG arg11 harg11 x10 p,
    funext fun p => congrArg (fun y => mulf (shapeCast S256x128 y shapeCasts_S1x1x256x128_S256x128) (broadcast S256x128 e)) (rdP arg8 harg8 x7 p)]

end Cert.KernelIdeal.Voc

end
-- ==== Proof.Out.lean ====
module

public import proofs.«01_k».proof.Proof.Blk

@[expose] public section

set_option maxRecDepth 16384

/-! What one step leaves: the blocks it stores and the state it hands to the next step. -/

noncomputable section

namespace Cert.KernelIdeal.Voc

open Cert.KernelIdeal Cert.KernelIdeal.Gen Idealize.ShloMosaic Idealize.ShloMosaic.TcCoe Idealize.ShloMosaic.ValueIdx Cert.Gla

variable {F : FTy → Type} [FloatOps F]

theorem mem_eq {α : Type} {y z : α} {S : Finset α} (h : y = z) (hz : z ∈ S) : y ∈ S := (congrArg (· ∈ S) h).mpr hz
/-- one item for every chunk and pair, the last stored first -/
def lst {α : Type} (g : Fin 8 → Fin 2 → α) : List α :=
  [g 0 1, g 0 0, g 1 1, g 1 0, g 2 1, g 2 0, g 3 1, g 3 0, g 4 1, g 4 0, g 5 1, g 5 0, g 6 1, g 6 0, g 7 1, g 7 0]
theorem mem_lst {α : Type} (g : Fin 8 → Fin 2 → α) (cc : Fin 8) (p : Fin 2) : g cc p ∈ lst g := by
  fin_cases cc <;> fin_cases p <;> simp [lst]
theorem of_mem_lst {α : Type} (g : Fin 8 → Fin 2 → α) (x : α) (h : x ∈ lst g) : ∃ cc p, x = g cc p := by
  simp only [lst, List.mem_cons, List.not_mem_nil, or_false] at h
  rcases h with h | h | h | h | h | h | h | h | h | h | h | h | h | h | h | h <;> exact ⟨_, _, h⟩

/-- the store of chunk `cc`, pair `p` -/
def pA (g : Fin 8 → Fin 2 → FVec F S64x128 .bf16) (cc : Fin 8) (p : Fin 2) : View.Piece (Elt F) S512x256 .bf16 :=
  ⟨Rect.unit (s := S512x256) ![64 * cc.val, 128 * p.val] S64x128.size (inbA cc p), g cc p⟩
/-- the block of all chunks and pairs -/
def tA (g : Fin 8 → Fin 2 → FVec F S64x128 .bf16) : FVec F S512x256 .bf16 := fun y =>
  g ⟨(y 0).val / 64, by have : (y 0).val < 512 := (y 0).isLt; omega⟩ ⟨(y 1).val / 128, by have : (y 1).val < 256 := (y 1).isLt; omega⟩
    (ix2 ⟨(y 0).val % 64, by omega⟩ ⟨(y 1).val % 128, by omega⟩)
theorem embA (cc : Fin 8) (p : Fin 2) (x : S64x128.Idx) :
    (Rect.unit (s := S512x256) ![64 * cc.val, 128 * p.val] S64x128.size (inbA cc p)).emb x
      = ix2 ⟨64 * cc.val + (x 0).val, by have : (x 0).val < 64 := (x 0).isLt; omega⟩ ⟨128 * p.val + (x 1).val, by have : (x 1).val < 128 := (x 1).isLt; omega⟩ := by
  refine ext2 ?_ ?_ <;> simp [Rect.unit, Rect.emb]
theorem tA_at (g : Fin 8 → Fin 2 → FVec F S64x128 .bf16) (cc : Fin 8) (p : Fin 2) (a : Fin 64) (b : Fin 128) :
    tA g (ix2 ⟨64 * cc.val + a.val, by omega⟩ ⟨128 * p.val + b.val, by omega⟩) = g cc p (ix2 a b) := by
  have h1 : (64 * cc.val + a.val) / 64 = cc.val := by omega
  have h2 : (128 * p.val + b.val) / 128 = p.val := by omega
  have h3 : (64 * cc.val + a.val) % 64 = a.val := by omega
  have h4 : (128 * p.val + b.val) % 128 = b.val := by omega
  have e1 : (⟨(64 * cc.val + a.val) / 64, by omega⟩ : Fin 8) = cc := Fin.ext h1
  have e2 : (⟨(128 * p.val + b.val) / 128, by omega⟩ : Fin 2) = p := Fin.ext h2
  have e3 : (⟨(64 * cc.val + a.val) % 64, by omega⟩ : Fin 64) = a := Fin.ext h3
  have e4 : (⟨(128 * p.val + b.val) % 128, by omega⟩ : Fin 128) = b := Fin.ext h4
  change g ⟨(64 * cc.val + a.val) / 64, _⟩ ⟨(128 * p.val + b.val) / 128, _⟩ (ix2 ⟨(64 * cc.val + a.val) % 64, _⟩ ⟨(128 * p.val + b.val) % 128, _⟩) = _
  rw [e1, e2, e3, e4]
theorem covA (g : Fin 8 → Fin 2 → FVec F S64x128 .bf16) (y : S512x256.Idx) : ∃ q ∈ lst (pA g), y ∈ q.1.set := by
  have h0 : (y 0).val < 512 := (y 0).isLt
  have h1 : (y 1).val < 256 := (y 1).isLt
  refine ⟨_, mem_lst (pA g) ⟨(y 0).val / 64, by omega⟩ ⟨(y 1).val / 128, by omega⟩, ?_⟩
  have e : y = (Rect.unit (s := S512x256) ![64 * ((y 0).val / 64), 128 * ((y 1).val / 128)] S64x128.size (inbA ⟨(y 0).val / 64, by omega⟩ ⟨(y 1).val / 128, by omega⟩)).emb
      (ix2 ⟨(y 0).val % 64, by omega⟩ ⟨(y 1).val % 128, by omega⟩) := by
    rw [embA ⟨(y 0).val / 64, by omega⟩ ⟨(y 1).val / 128, by omega⟩]
    refine ext2 ?_ ?_
    · change (y 0).val = 64 * ((y 0).val / 64) + (y 0).val % 64; omega
    · change (y 1).val = 128 * ((y 1).val / 128) + (y 1).val % 128; omega
  exact mem_eq e (LoadRect.idx_mem _ _)
theorem canA (g : Fin 8 → Fin 2 → FVec F S64x128 .bf16) : View.canon (lst (pA g)) = tA g := by
  funext y
  refine View.canon_apply_of_pieces (tA g) _ (fun q hq x => ?_) y (covA g y)
  obtain ⟨cc, p, rfl⟩ := of_mem_lst _ _ hq
  rw [show (pA g cc p).1.emb x = _ from embA cc p x]
  exact ((congrArg (g cc p) (eq_ix2 x)).trans (tA_at g cc p (x 0) (x 1)).symm)

/-- the store of chunk `cc`, pair `p` -/
def pF (g : Fin 8 → Fin 2 → FVec F S64x128 .f32) (cc : Fin 8) (p : Fin 2) : View.Piece (Elt F) S512x256 .f32 :=
  ⟨Rect.unit (s := S512x256) ![64 * cc.val, 128 * p.val] S64x128.size (inbA cc p), shapeCast S64x128 (g cc p) shapeCasts_S64x128_S64x128⟩
/-- the block of all chunks and pairs -/
def tF (g : Fin 8 → Fin 2 → FVec F S64x128 .f32) : FVec F S512x256 .f32 := fun y =>
  g ⟨(y 0).val / 64, by have : (y 0).val < 512 := (y 0).isLt; omega⟩ ⟨(y 1).val / 128, by have : (y 1).val < 256 := (y 1).isLt; omega⟩
    (ix2 ⟨(y 0).val % 64, by omega⟩ ⟨(y 1).val % 128, by omega⟩)
theorem embF (cc : Fin 8) (p : Fin 2) (x : S64x128.Idx) :
    (Rect.unit (s := S512x256) ![64 * cc.val, 128 * p.val] S64x128.size (inbA cc p)).emb x
      = ix2 ⟨64 * cc.val + (x 0).val, by have : (x 0).val < 64 := (x 0).isLt; omega⟩ ⟨128 * p.val + (x 1).val, by have : (x 1).val < 128 := (x 1).isLt; omega⟩ := by
  refine ext2 ?_ ?_ <;> simp [Rect.unit, Rect.emb]
theorem tF_at (g : Fin 8 → Fin 2 → FVec F S64x128 .f32) (cc : Fin 8) (p : Fin 2) (a : Fin 64) (b : Fin 128) :
    tF g (ix2 ⟨64 * cc.val + a.val, by omega⟩ ⟨128 * p.val + b.val, by omega⟩) = g cc p (ix2 a b) := by
  have h1 : (64 * cc.val + a.val) / 64 = cc.val := by omega
  have h2 : (128 * p.val + b.val) / 128 = p.val := by omega
  have h3 : (64 * cc.val + a.val) % 64 = a.val := by omega
  have h4 : (128 * p.val + b.val) % 128 = b.val := by omega
  have e1 : (⟨(64 * cc.val + a.val) / 64, by omega⟩ : Fin 8) = cc := Fin.ext h1
  have e2 : (⟨(128 * p.val + b.val) / 128, by omega⟩ : Fin 2) = p := Fin.ext h2
  have e3 : (⟨(64 * cc.val + a.val) % 64, by omega⟩ : Fin 64) = a := Fin.ext h3
  have e4 : (⟨(128 * p.val + b.val) % 128, by omega⟩ : Fin 128) = b := Fin.ext h4
  change g ⟨(64 * cc.val + a.val) / 64, _⟩ ⟨(128 * p.val + b.val) / 128, _⟩ (ix2 ⟨(64 * cc.val + a.val) % 64, _⟩ ⟨(128 * p.val + b.val) % 128, _⟩) = _
  rw [e1, e2, e3, e4]
theorem covF (g : Fin 8 → Fin 2 → FVec F S64x128 .f32) (y : S512x256.Idx) : ∃ q ∈ lst (pF g), y ∈ q.1.set := by
  have h0 : (y 0).val < 512 := (y 0).isLt
  have h1 : (y 1).val < 256 := (y 1).isLt
  refine ⟨_, mem_lst (pF g) ⟨(y 0).val / 64, by omega⟩ ⟨(y 1).val / 128, by omega⟩, ?_⟩
  have e : y = (Rect.unit (s := S512x256) ![64 * ((y 0).val / 64), 128 * ((y 1).val / 128)] S64x128.size (inbA ⟨(y 0).val / 64, by omega⟩ ⟨(y 1).val / 128, by omega⟩)).emb
      (ix2 ⟨(y 0).val % 64, by omega⟩ ⟨(y 1).val % 128, by omega⟩) := by
    rw [embF ⟨(y 0).val / 64, by omega⟩ ⟨(y 1).val / 128, by omega⟩]
    refine ext2 ?_ ?_
    · change (y 0).val = 64 * ((y 0).val / 64) + (y 0).val % 64; omega
    · change (y 1).val = 128 * ((y 1).val / 128) + (y 1).val % 128; omega
  exact mem_eq e (LoadRect.idx_mem _ _)
theorem canF (g : Fin 8 → Fin 2 → FVec F S64x128 .f32) : View.canon (lst (pF g)) = tF g := by
  funext y
  refine View.canon_apply_of_pieces (tF g) _ (fun q hq x => ?_) y (covF g y)
  obtain ⟨cc, p, rfl⟩ := of_mem_lst _ _ hq
  rw [show (pF g cc p).1.emb x = _ from embF cc p x]
  exact (congrFun (shapeCast_self (g cc p) shapeCasts_S64x128_S64x128) x).trans ((congrArg (g cc p) (eq_ix2 x)).trans (tF_at g cc p (x 0) (x 1)).symm)

/-- the store of chunk `cc`, pair `p` -/
def pB (g : Fin 8 → Fin 2 → FVec F S64x256 .bf16) (cc : Fin 8) (p : Fin 2) : View.Piece (Elt F) S512x512 .bf16 :=
  ⟨Rect.unit (s := S512x512) ![64 * cc.val, 256 * p.val] S64x256.size (inbB cc p), g cc p⟩
/-- the block of all chunks and pairs -/
def tB (g : Fin 8 → Fin 2 → FVec F S64x256 .bf16) : FVec F S512x512 .bf16 := fun y =>
  g ⟨(y 0).val / 64, by have : (y 0).val < 512 := (y 0).isLt; omega⟩ ⟨(y 1).val / 256, by have : (y 1).val < 512 := (y 1).isLt; omega⟩
    (ix2 ⟨(y 0).val % 64, by omega⟩ ⟨(y 1).val % 256, by omega⟩)
theorem embB (cc : Fin 8) (p : Fin 2) (x : S64x256.Idx) :
    (Rect.unit (s := S512x512) ![64 * cc.val, 256 * p.val] S64x256.size (inbB cc p)).emb x
      = ix2 ⟨64 * cc.val + (x 0).val, by have : (x 0).val < 64 := (x 0).isLt; omega⟩ ⟨256 * p.val + (x 1).val, by have : (x 1).val < 256 := (x 1).isLt; omega⟩ := by
  refine ext2 ?_ ?_ <;> simp [Rect.unit, Rect.emb]
theorem tB_at (g : Fin 8 → Fin 2 → FVec F S64x256 .bf16) (cc : Fin 8) (p : Fin 2) (a : Fin 64) (b : Fin 256) :
    tB g (ix2 ⟨64 * cc.val + a.val, by omega⟩ ⟨256 * p.val + b.val, by omega⟩) = g cc p (ix2 a b) := by
  have h1 : (64 * cc.val + a.val) / 64 = cc.val := by omega
  have h2 : (256 * p.val + b.val) / 256 = p.val := by omega
  have h3 : (64 * cc.val + a.val) % 64 = a.val := by omega
  have h4 : (256 * p.val + b.val) % 256 = b.val := by omega
  have e1 : (⟨(64 * cc.val + a.val) / 64, by omega⟩ : Fin 8) = cc := Fin.ext h1
  have e2 : (⟨(256 * p.val + b.val) / 256, by omega⟩ : Fin 2) = p := Fin.ext h2
  have e3 : (⟨(64 * cc.val + a.val) % 64, by omega⟩ : Fin 64) = a := Fin.ext h3
  have e4 : (⟨(256 * p.val + b.val) % 256, by omega⟩ : Fin 256) = b := Fin.ext h4
  change g ⟨(64 * cc.val + a.val) / 64, _⟩ ⟨(256 * p.val + b.val) / 256, _⟩ (ix2 ⟨(64 * cc.val + a.val) % 64, _⟩ ⟨(256 * p.val + b.val) % 256, _⟩) = _
  rw [e1, e2, e3, e4]
theorem covB (g : Fin 8 → Fin 2 → FVec F S64x256 .bf16) (y : S512x512.Idx) : ∃ q ∈ lst (pB g), y ∈ q.1.set := by
  have h0 : (y 0).val < 512 := (y 0).isLt
  have h1 : (y 1).val < 512 := (y 1).isLt
  refine ⟨_, mem_lst (pB g) ⟨(y 0).val / 64, by omega⟩ ⟨(y 1).val / 256, by omega⟩, ?_⟩
  have e : y = (Rect.unit (s := S512x512) ![64 * ((y 0).val / 64), 256 * ((y 1).val / 256)] S64x256.size (inbB ⟨(y 0).val / 64, by omega⟩ ⟨(y 1).val / 256, by omega⟩)).emb
      (ix2 ⟨(y 0).val % 64, by omega⟩ ⟨(y 1).val % 256, by omega⟩) := by
    rw [embB ⟨(y 0).val / 64, by omega⟩ ⟨(y 1).val / 256, by omega⟩]
    refine ext2 ?_ ?_
    · change (y 0).val = 64 * ((y 0).val / 64) + (y 0).val % 64; omega
    · change (y 1).val = 256 * ((y 1).val / 256) + (y 1).val % 256; omega
  exact mem_eq e (LoadRect.idx_mem _ _)
theorem canB (g : Fin 8 → Fin 2 → FVec F S64x256 .bf16) : View.canon (lst (pB g)) = tB g := by
  funext y
  refine View.canon_apply_of_pieces (tB g) _ (fun q hq x => ?_) y (covB g y)
  obtain ⟨cc, p, rfl⟩ := of_mem_lst _ _ hq
  rw [show (pB g cc p).1.emb x = _ from embB cc p x]
  exact ((congrArg (g cc p) (eq_ix2 x)).trans (tB_at g cc p (x 0) (x 1)).symm)

/-- the store of pair `p` -/
def pK (g : Fin 2 → FVec F S256x128 .f32) (p : Fin 2) : View.Piece (Elt F) S2x256x128 .f32 :=
  ⟨Rect.unit (s := S2x256x128) ![p.val, 0, 0] S1x256x128.size (inbK p), shapeCast S1x256x128 (g p) shapeCasts_S256x128_S1x256x128⟩
/-- both pairs -/
def tK (g : Fin 2 → FVec F S256x128 .f32) : FVec F S2x256x128 .f32 := fun y => shapeCast S1x256x128 (g (y 0)) shapeCasts_S256x128_S1x256x128 (ix3 (0 : Fin 1) (y 1) (y 2))
theorem embK (p : Fin 2) (x : S1x256x128.Idx) : (Rect.unit (s := S2x256x128) ![p.val, 0, 0] S1x256x128.size (inbK p)).emb x = ix3 p (x 1) (x 2) := by
  have h0 : (x 0).val < 1 := (x 0).isLt
  refine ext3 ?_ ?_ ?_ <;> simp [Rect.unit, Rect.emb] <;> omega
theorem memK (g : Fin 2 → FVec F S256x128 .f32) (y : S2x256x128.Idx) (p : Fin 2) (h : (y 0).val = p.val) : y ∈ (pK g p).1.set := by
  have e : y = (pK g p).1.emb (ix3 (0 : Fin 1) (y 1) (y 2)) := by
    rw [show (pK g p).1.emb (ix3 (0 : Fin 1) (y 1) (y 2)) = _ from embK p _]
    exact ext3 h rfl rfl
  exact mem_eq e (LoadRect.idx_mem _ _)
theorem pK_at (g : Fin 2 → FVec F S256x128 .f32) (p : Fin 2) (x : S1x256x128.Idx) :
    shapeCast S1x256x128 (g p) shapeCasts_S256x128_S1x256x128 x = tK g ((Rect.unit (s := S2x256x128) ![p.val, 0, 0] S1x256x128.size (inbK p)).emb x) := by
  have h0 : (x 0).val = 0 := by have : (x 0).val < 1 := (x 0).isLt; omega
  rw [embK p x]
  exact congrArg (shapeCast S1x256x128 (g p) shapeCasts_S256x128_S1x256x128) (ext3 h0 rfl rfl)
theorem canK (g : Fin 2 → FVec F S256x128 .f32) : View.canon [pK g 1, pK g 0] = tK g := by
  funext y
  refine View.canon_apply_of_pieces (Val := Elt F) (e := .f32) (tK g) _ (fun q hq x => ?_) y ?_
  · simp only [List.mem_cons, List.not_mem_nil, or_false] at hq
    rcases hq with rfl | rfl
    · exact pK_at g 1 x
    · exact pK_at g 0 x
  · by_cases h : (y 0).val = 0
    · exact ⟨pK g 0, by simp, memK g y 0 h⟩
    · exact ⟨pK g 1, by simp, memK g y 1 (by have : (y 0).val < 2 := (y 0).isLt; change (y 0).val = 1; omega)⟩
theorem canK' (g : Fin 2 → FVec F S256x128 .f32) (L : List (View.Piece (Elt F) S2x256x128 .f32)) : View.canon (pK g 1 :: pK g 0 :: L) = tK g := by
  rw [← canK g]
  funext y
  by_cases h : y ∈ (pK g 1).1.set
  · obtain ⟨x, rfl⟩ := (pK g 1).1.exists_idx_of_mem h
    exact (View.canon_cons_emb _ _ _ x).trans (View.canon_cons_emb _ _ _ x).symm
  · rw [View.canon_cons_of_not_mem _ _ h, View.canon_cons_of_not_mem _ _ h]
    by_cases h' : y ∈ (pK g 0).1.set
    · obtain ⟨x, rfl⟩ := (pK g 0).1.exists_idx_of_mem h'
      exact (View.canon_cons_emb _ _ _ x).trans (View.canon_cons_emb _ _ _ x).symm
    · exfalso
      by_cases h0 : (y 0).val = 0
      · exact h' (memK g y 0 h0)
      · exact h (memK g y 1 (by have : (y 0).val < 2 := (y 0).isLt; change (y 0).val = 1; omega))

/-- What a step hands to the next: three running sums and the carry. -/
structure St (F : FTy → Type) where
  /-- the gradient of the weights so far -/
  W : FVec F S128x256 .f32
  /-- the gradient of the biases so far -/
  B : FVec F S1x256 .f32
  /-- the gradient of the gains so far -/
  G : FVec F S1x512 .f32
  /-- the gradient of the state -/
  C : FVec F S2x256x128 .f32

/-- before the first step -/
def st0 : St F := ⟨k0_pay6, k0_pay7, k0_pay8, k0_pay5⟩
/-- the gradient of the gate's input, from the one before the logistic function -/
def dgfv (w : FVec F S128x256 .f32) (z : FVec F S512x256 .f32) : FVec F S512x128 .bf16 :=
  k0_pay1 (k0_pay10 w) (k0_pay694 z) (constant S512x128 .f32 0x00000000#32)
/-- the weights' gradient after one more step -/
def nW (f : FVec F S512x128 .f32) (z : FVec F S512x256 .f32) (w : FVec F S128x256 .f32) : FVec F S128x256 .f32 := k0_pay2 (k0_pay9 f) (k0_pay694 z) w
/-- the biases' gradient after one more step -/
def nB (z : FVec F S512x256 .f32) (b : FVec F S1x256 .f32) : FVec F S1x256 .f32 := k0_pay3 z b
/-- the gains' gradient after one more step -/
def nG (D : Ld F) (g : FVec F S1x512 .f32) : FVec F S1x512 .f32 := k0_pay4 (D.gs 0 8) (D.gs 1 8) g
/-- the state after one more step -/
def nxt (f : FVec F S512x128 .f32) (D : Ld F) (s : St F) : St F := ⟨nW f (tF D.dfz) s.W, nB (tF D.dfz) s.B, nG D s.G, tK (fun p => D.cr p 8)⟩

end Cert.KernelIdeal.Voc

end
-- ==== Proof.Pieces.lean ====
module

public import proofs.«01_k».proof.Proof.Gen.KernelIdeal.Frame.RunB
public import proofs.«01_k».proof.Proof.Out

@[expose] public section

set_option maxRecDepth 16384

/-! What the stores of one step leave in each window, at the first point and at the others. -/

noncomputable section

namespace Cert.KernelIdeal.Voc

open Cert.KernelIdeal Cert.KernelIdeal.Gen Idealize.ShloMosaic Idealize.ShloMosaic.TcCoe Idealize.ShloMosaic.ValueIdx Cert.Gla

variable {F : FTy → Type} [FloatOps F]

theorem inb0Z : ∀ a, (![0, 0] : Fin 2 → Nat) a + S512x256.size a ≤ S512x256.size a := by decide
theorem inb0G : ∀ a, (![0, 0] : Fin 2 → Nat) a + S1x512.size a ≤ S1x512.size a := by decide
theorem z2 : (![0, 0] : Fin 2 → Nat) = fun _ => 0 := by funext a; fin_cases a <;> rfl

/-- a store of a whole window, alone or after others -/
theorem canW {S : Shape} {e : EltTy} {off : Fin S.rank → Nat} (h : off = fun _ => 0) (inb : ∀ a, off a + S.size a ≤ S.size a)
    (w : S.Idx → Elt F e) (L : List (View.Piece (Elt F) S e)) : View.canon (⟨Rect.unit off S.size inb, w⟩ :: L) = w :=
  View.canon_cons_unit_zero h inb w L
theorem covW {S : Shape} {e : EltTy} {off : Fin S.rank → Nat} (h : off = fun _ => 0) (inb : ∀ a, off a + S.size a ≤ S.size a)
    (w : S.Idx → Elt F e) (L : List (View.Piece (Elt F) S e)) (y : S.Idx) : ∃ q ∈ ((⟨Rect.unit off S.size inb, w⟩ : View.Piece (Elt F) S e) :: L), y ∈ q.1.set := by
  refine ⟨_, List.mem_cons_self, ?_⟩
  subst h
  change y ∈ (Rect.whole S).set
  rw [Rect.set_whole]; exact Finset.mem_univ y

/-- the carry's window cleared -/
def wK : List (View.Piece (Elt F) S2x256x128 .f32) :=
  [⟨Rect.unit (s := S2x256x128) ![0, 0, 0] S2x256x128.size inb_S2x256x128_S2x256x128_0_0_0, (k0_pay5 (F := F) : FVec F S2x256x128 .f32)⟩]
/-- the weights' sum cleared -/
def wW : List (View.Piece (Elt F) S128x256 .f32) :=
  [⟨Rect.unit (s := S128x256) ![0, 0] S128x256.size inb0W, (k0_pay6 (F := F) : FVec F S128x256 .f32)⟩]
/-- the biases' sum cleared -/
def wB : List (View.Piece (Elt F) S1x256 .f32) :=
  [⟨Rect.unit (s := S1x256) ![0, 0] S1x256.size inb0V, (k0_pay7 (F := F) : FVec F S1x256 .f32)⟩]
/-- the gains' sum cleared -/
def wG : List (View.Piece (Elt F) S1x512 .f32) :=
  [⟨Rect.unit (s := S1x512) ![0, 0] S1x512.size inb0G, (k0_pay8 (F := F) : FVec F S1x512 .f32)⟩]
/-- the cleared carry read back -/
def CA (M : Memref sig .tc .vmem S2x256x128 .f32) (p : Fin 2) : FVec F S1x256x128 .f32 :=
  M.view.readCov (Val := Elt F) wK (Rect.unit (s := S2x256x128) ![p.val, 0, 0] S1x256x128.size (inbK p)).toLoadRect
/-- the carry of the step before, read -/
def CB (M : Memref sig .tc .vmem S2x256x128 .f32) (h : M.IsWhole) (xs0 : Vec F S2x256x128 .f32) (p : Fin 2) : FVec F S1x256x128 .f32 :=
  View.readAt (Elt F) M.view (Rect.unit (s := S2x256x128) ![p.val, 0, 0] S1x256x128.size (inbK p)).toLoadRect (h.unread xs0)
/-- the gradients before the logistic function, read back -/
def ZA (M : Memref sig .tc .vmem S512x256 .f32) (z : Fin 8 → Fin 2 → FVec F S64x128 .f32) : FVec F S512x256 .f32 :=
  M.view.readCov (Val := Elt F) (lst (pF z)) (Rect.unit (s := S512x256) ![0, 0] S512x256.size inb0Z).toLoadRect

theorem z3 : (![0, 0, 0] : Fin 3 → Nat) = fun _ => 0 := by funext a; fin_cases a <;> rfl
theorem CA_eq (M : Memref sig .tc .vmem S2x256x128 .f32) : CA (F := F) M = cpp k0_pay5 := by
  funext p i
  unfold CA
  rw [View.readCov_eq_canon', show View.canon (wK (F := F)) = (k0_pay5 : FVec F S2x256x128 .f32) from canW z3 _ _ _]
  exact congrArg (k0_pay5 (F := F)) (embK p i)
theorem CB_eq (M : Memref sig .tc .vmem S2x256x128 .f32) (h : M.IsWhole) (xs0 : Vec F S2x256x128 .f32) : CB M h xs0 = cpp xs0 :=
  funext fun p => rdK M h xs0 p
theorem ZA_eq (M : Memref sig .tc .vmem S512x256 .f32) (z : Fin 8 → Fin 2 → FVec F S64x128 .f32) : ZA M z = tF z := by
  unfold ZA
  rw [View.readCov_eq_canon', canF]
  funext i
  refine congrArg (tF z) (ext2 ?_ ?_) <;> simp [Rect.unit, LoadRect.idx]

theorem rd0G (M : Memref sig .tc .vmem S1x512 .f32) (h : M.IsWhole) (x : FVec F S1x512 .f32) :
    View.readAt (Elt F) M.view (Rect.unit (s := S1x512) ![0, 0] S1x512.size inb0G).toLoadRect (h.unread x) = x := by
  rw [View.readAt_eq_ld, h.read_unread]
  funext i
  have h0 : (i 0).val < 1 := (i 0).isLt
  refine congrArg x (ext2 ?_ ?_) <;> simp [Rect.unit, LoadRect.idx] <;> omega
theorem covK (g : Fin 2 → FVec F S256x128 .f32) (L : List (View.Piece (Elt F) S2x256x128 .f32)) (y : S2x256x128.Idx) :
    ∃ q ∈ pK g 1 :: pK g 0 :: L, y ∈ q.1.set := by
  by_cases h : (y 0).val = 0
  · exact ⟨pK g 0, by simp, memK g y 0 h⟩
  · exact ⟨pK g 1, by simp, memK g y 1 (by have : (y 0).val < 2 := (y 0).isLt; change (y 0).val = 1; omega)⟩

variable (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x512 .f32) (harg6 : arg6.IsWhole) (arg7 : Memref sig .tc .vmem S2x8x256x128 .f32) (harg7 : arg7.IsWhole) (arg8 : Memref sig .tc .vmem S2x1x256x128 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S64x64 .bf16) (harg12 : arg12.IsWhole) (arg13 : Memref sig .tc .vmem S64x64 .bf16) (harg13 : arg13.IsWhole) (arg14 : Memref sig .tc .vmem S256x128 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x128 .bf16) (harg19 : arg19.IsWhole) (arg20 : Memref sig .tc .vmem S128x256 .f32) (harg20 : arg20.IsWhole) (arg21 : Memref sig .tc .vmem S1x256 .f32) (harg21 : arg21.IsWhole) (arg22 : Memref sig .tc .vmem S1x512 .f32) (harg22 : arg22.IsWhole) (arg23 : Memref sig .tc .vmem S2x256x128 .f32) (harg23 : arg23.IsWhole) (arg24 : Memref sig .tc .vmem S512x256 .f32) (harg24 : arg24.IsWhole)
variable (x0 : Vec F S512x256 .f32) (x1 : Vec F S512x256 .f32) (x2 : Vec F S512x512 .f32) (x3 : Vec F S512x512 .f32) (x4 : Vec F S512x128 .f32) (x5 : Vec F S512x512 .f32) (x6 : Vec F S2x8x256x128 .f32) (x7 : Vec F S2x1x256x128 .f32) (x8 : Vec F S128x256 .f32) (x9 : Vec F S1x256 .f32) (x10 : Vec F S1x512 .f32) (x11 : Vec F S64x64 .bf16) (x12 : Vec F S64x64 .bf16) (x13 : Vec F S256x128 .f32)
variable (xo19 : Vec F S128x256 .f32) (xo20 : Vec F S1x256 .f32) (xo21 : Vec F S1x512 .f32) (xs0 : Vec F S2x256x128 .f32)

theorem A14 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).1
   = lst (pA (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dq) := by sl_kernel_rfl
theorem rA14 (hc0 : cond0_0 i) (f : arg15.view.ty.Contents (Elt F)) :
    arg15.view.read (Elt F) (arg15.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).1) = tA (LdX x0 x1 x2 x3 x4 x5 x6 x7 x8 x9 x10 x11 x12 x13 (k0_pay14 i) (cpp k0_pay5)).dq := by
  rw [A14, LdM_eq, CA_eq arg23]
  exact (View.read_writes_eq_canon _ f _ (covA _)).trans (canA _)

theorem A15 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.1
   = lst (pA (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dk) := by sl_kernel_rfl
theorem rA15 (hc0 : cond0_0 i) (f : arg16.view.ty.Contents (Elt F)) :
    arg16.view.read (Elt F) (arg16.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.1) = tA (LdX x0 x1 x2 x3 x4 x5 x6 x7 x8 x9 x10 x11 x12 x13 (k0_pay14 i) (cpp k0_pay5)).dk := by
  rw [A15, LdM_eq, CA_eq arg23]
  exact (View.read_writes_eq_canon _ f _ (covA _)).trans (canA _)

theorem A16 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.1
   = lst (pB (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dv) := by sl_kernel_rfl
theorem rA16 (hc0 : cond0_0 i) (f : arg17.view.ty.Contents (Elt F)) :
    arg17.view.read (Elt F) (arg17.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.1) = tB (LdX x0 x1 x2 x3 x4 x5 x6 x7 x8 x9 x10 x11 x12 x13 (k0_pay14 i) (cpp k0_pay5)).dv := by
  rw [A16, LdM_eq, CA_eq arg23]
  exact (View.read_writes_eq_canon _ f _ (covB _)).trans (canB _)

theorem A17 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.1
   = lst (pB (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dgg) := by sl_kernel_rfl
theorem rA17 (hc0 : cond0_0 i) (f : arg18.view.ty.Contents (Elt F)) :
    arg18.view.read (Elt F) (arg18.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.1) = tB (LdX x0 x1 x2 x3 x4 x5 x6 x7 x8 x9 x10 x11 x12 x13 (k0_pay14 i) (cpp k0_pay5)).dgg := by
  rw [A17, LdM_eq, CA_eq arg23]
  exact (View.read_writes_eq_canon _ f _ (covB _)).trans (canB _)

theorem A18 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.1
   = [⟨Rect.unit (s := S512x128) ![0, 0] S512x128.size inb0F, dgfv (View.readAt (Elt F) arg9.view (Rect.unit (s := S128x256) ![0, 0] S128x256.size inb0W).toLoadRect (harg9.unread x8)) (ZA arg24 (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dfz)⟩] := by sl_kernel_rfl
theorem rA18 (hc0 : cond0_0 i) (f : arg19.view.ty.Contents (Elt F)) :
    arg19.view.read (Elt F) (arg19.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.1) = dgfv x8 (tF (LdX x0 x1 x2 x3 x4 x5 x6 x7 x8 x9 x10 x11 x12 x13 (k0_pay14 i) (cpp k0_pay5)).dfz) := by
  rw [A18, LdM_eq, CA_eq arg23, ZA_eq, rd0W arg9 harg9 x8]
  exact (View.read_writes_eq_canon _ f _ (covW z2 _ _ _)).trans (canW z2 _ _ _)

theorem A19 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.1
   = ⟨Rect.unit (s := S128x256) ![0, 0] S128x256.size inb0W, nW (View.readAt (Elt F) arg5.view (Rect.unit (s := S512x128) ![0, 0] S512x128.size inb0F).toLoadRect (harg5.unread x4)) (ZA arg24 (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dfz) (arg20.view.readCov (Val := Elt F) wW (Rect.unit (s := S128x256) ![0, 0] S128x256.size inb0W).toLoadRect)⟩ :: wW := by sl_kernel_rfl
theorem rA19 (hc0 : cond0_0 i) (f : arg20.view.ty.Contents (Elt F)) :
    arg20.view.read (Elt F) (arg20.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.1) = nW x4 (tF (LdX x0 x1 x2 x3 x4 x5 x6 x7 x8 x9 x10 x11 x12 x13 (k0_pay14 i) (cpp k0_pay5)).dfz) k0_pay6 := by
  rw [A19, LdM_eq, CA_eq arg23, ZA_eq, rd0F arg5 harg5 x4, show arg20.view.readCov (Val := Elt F) wW (Rect.unit (s := S128x256) ![0, 0] S128x256.size inb0W).toLoadRect = k0_pay6 from View.readCov_unit_zero _ z2 _ _]
  exact (View.read_writes_eq_canon _ f _ (covW z2 _ _ _)).trans (canW z2 _ _ _)

theorem A20 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.1
   = ⟨Rect.unit (s := S1x256) ![0, 0] S1x256.size inb0V, nB (ZA arg24 (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).dfz) (arg21.view.readCov (Val := Elt F) wB (Rect.unit (s := S1x256) ![0, 0] S1x256.size inb0V).toLoadRect)⟩ :: wB := by sl_kernel_rfl
theorem rA20 (hc0 : cond0_0 i) (f : arg21.view.ty.Contents (Elt F)) :
    arg21.view.read (Elt F) (arg21.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.1) = nB (tF (LdX x0 x1 x2 x3 x4 x5 x6 x7 x8 x9 x10 x11 x12 x13 (k0_pay14 i) (cpp k0_pay5)).dfz) k0_pay7 := by
  rw [A20, LdM_eq, CA_eq arg23, ZA_eq, show arg21.view.readCov (Val := Elt F) wB (Rect.unit (s := S1x256) ![0, 0] S1x256.size inb0V).toLoadRect = k0_pay7 from View.readCov_unit_zero _ z2 _ _]
  exact (View.read_writes_eq_canon _ f _ (covW z2 _ _ _)).trans (canW z2 _ _ _)

theorem A21 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.2.1
   = ⟨Rect.unit (s := S1x512) ![0, 0] S1x512.size inb0G, nG (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)) (arg22.view.readCov (Val := Elt F) wG (Rect.unit (s := S1x512) ![0, 0] S1x512.size inb0G).toLoadRect)⟩ :: wG := by sl_kernel_rfl
theorem rA21 (hc0 : cond0_0 i) (f : arg22.view.ty.Contents (Elt F)) :
    arg22.view.read (Elt F) (arg22.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.2.1) = nG (LdX x0 x1 x2 x3 x4 x5 x6 x7 x8 x9 x10 x11 x12 x13 (k0_pay14 i) (cpp k0_pay5)) k0_pay8 := by
  rw [A21, LdM_eq, CA_eq arg23, show arg22.view.readCov (Val := Elt F) wG (Rect.unit (s := S1x512) ![0, 0] S1x512.size inb0G).toLoadRect = k0_pay8 from View.readCov_unit_zero _ z2 _ _]
  exact (View.read_writes_eq_canon _ f _ (covW z2 _ _ _)).trans (canW z2 _ _ _)

theorem A22 (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.2.2.1
   = pK (fun p => (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).cr p 8) 1 :: pK (fun p => (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CA arg23)).cr p 8) 0 :: wK := by sl_kernel_rfl
theorem rA22 (hc0 : cond0_0 i) (f : arg23.view.ty.Contents (Elt F)) :
    arg23.view.read (Elt F) (arg23.view.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13).2.2.2.2.2.2.2.2.1) = tK (fun p => (LdX x0 x1 x2 x3 x4 x5 x6 x7 x8 x9 x10 x11 x12 x13 (k0_pay14 i) (cpp k0_pay5)).cr p 8) := by
  rw [A22, LdM_eq, CA_eq arg23]
  exact (View.read_writes_eq_canon _ f _ (covK _ _)).trans (canK' _ _)

theorem B14 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).1
   = lst (pA (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dq) := by sl_kernel_rfl
theorem rB14 (hc0 : ¬ cond0_0 i) (f : arg15.view.ty.Contents (Elt F)) :
    arg15.view.read (Elt F) (arg15.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).1) = tA (LdX x0 x1 x2 x3 x4 x5 x6 x7 x8 x9 x10 x11 x12 x13 (k0_pay14 i) (cpp xs0)).dq := by
  rw [B14, LdM_eq, CB_eq arg23 harg23 xs0]
  exact (View.read_writes_eq_canon _ f _ (covA _)).trans (canA _)

theorem B15 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.1
   = lst (pA (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dk) := by sl_kernel_rfl
theorem rB15 (hc0 : ¬ cond0_0 i) (f : arg16.view.ty.Contents (Elt F)) :
    arg16.view.read (Elt F) (arg16.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.1) = tA (LdX x0 x1 x2 x3 x4 x5 x6 x7 x8 x9 x10 x11 x12 x13 (k0_pay14 i) (cpp xs0)).dk := by
  rw [B15, LdM_eq, CB_eq arg23 harg23 xs0]
  exact (View.read_writes_eq_canon _ f _ (covA _)).trans (canA _)

theorem B16 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.1
   = lst (pB (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dv) := by sl_kernel_rfl
theorem rB16 (hc0 : ¬ cond0_0 i) (f : arg17.view.ty.Contents (Elt F)) :
    arg17.view.read (Elt F) (arg17.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.1) = tB (LdX x0 x1 x2 x3 x4 x5 x6 x7 x8 x9 x10 x11 x12 x13 (k0_pay14 i) (cpp xs0)).dv := by
  rw [B16, LdM_eq, CB_eq arg23 harg23 xs0]
  exact (View.read_writes_eq_canon _ f _ (covB _)).trans (canB _)

theorem B17 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.1
   = lst (pB (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dgg) := by sl_kernel_rfl
theorem rB17 (hc0 : ¬ cond0_0 i) (f : arg18.view.ty.Contents (Elt F)) :
    arg18.view.read (Elt F) (arg18.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.1) = tB (LdX x0 x1 x2 x3 x4 x5 x6 x7 x8 x9 x10 x11 x12 x13 (k0_pay14 i) (cpp xs0)).dgg := by
  rw [B17, LdM_eq, CB_eq arg23 harg23 xs0]
  exact (View.read_writes_eq_canon _ f _ (covB _)).trans (canB _)

theorem B18 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.1
   = [⟨Rect.unit (s := S512x128) ![0, 0] S512x128.size inb0F, dgfv (View.readAt (Elt F) arg9.view (Rect.unit (s := S128x256) ![0, 0] S128x256.size inb0W).toLoadRect (harg9.unread x8)) (ZA arg24 (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dfz)⟩] := by sl_kernel_rfl
theorem rB18 (hc0 : ¬ cond0_0 i) (f : arg19.view.ty.Contents (Elt F)) :
    arg19.view.read (Elt F) (arg19.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.1) = dgfv x8 (tF (LdX x0 x1 x2 x3 x4 x5 x6 x7 x8 x9 x10 x11 x12 x13 (k0_pay14 i) (cpp xs0)).dfz) := by
  rw [B18, LdM_eq, CB_eq arg23 harg23 xs0, ZA_eq, rd0W arg9 harg9 x8]
  exact (View.read_writes_eq_canon _ f _ (covW z2 _ _ _)).trans (canW z2 _ _ _)

theorem B19 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.1
   = ⟨Rect.unit (s := S128x256) ![0, 0] S128x256.size inb0W, nW (View.readAt (Elt F) arg5.view (Rect.unit (s := S512x128) ![0, 0] S512x128.size inb0F).toLoadRect (harg5.unread x4)) (ZA arg24 (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dfz) (View.readAt (Elt F) arg20.view (Rect.unit (s := S128x256) ![0, 0] S128x256.size inb0W).toLoadRect (harg20.unread xo19))⟩ :: [] := by sl_kernel_rfl
theorem rB19 (hc0 : ¬ cond0_0 i) (f : arg20.view.ty.Contents (Elt F)) :
    arg20.view.read (Elt F) (arg20.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.1) = nW x4 (tF (LdX x0 x1 x2 x3 x4 x5 x6 x7 x8 x9 x10 x11 x12 x13 (k0_pay14 i) (cpp xs0)).dfz) xo19 := by
  rw [B19, LdM_eq, CB_eq arg23 harg23 xs0, ZA_eq, rd0F arg5 harg5 x4, rd0W arg20 harg20 xo19]
  exact (View.read_writes_eq_canon _ f _ (covW z2 _ _ _)).trans (canW z2 _ _ _)

theorem B20 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.2.1
   = ⟨Rect.unit (s := S1x256) ![0, 0] S1x256.size inb0V, nB (ZA arg24 (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).dfz) (View.readAt (Elt F) arg21.view (Rect.unit (s := S1x256) ![0, 0] S1x256.size inb0V).toLoadRect (harg21.unread xo20))⟩ :: [] := by sl_kernel_rfl
theorem rB20 (hc0 : ¬ cond0_0 i) (f : arg21.view.ty.Contents (Elt F)) :
    arg21.view.read (Elt F) (arg21.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.2.1) = nB (tF (LdX x0 x1 x2 x3 x4 x5 x6 x7 x8 x9 x10 x11 x12 x13 (k0_pay14 i) (cpp xs0)).dfz) xo20 := by
  rw [B20, LdM_eq, CB_eq arg23 harg23 xs0, ZA_eq, rd0V arg21 harg21 xo20]
  exact (View.read_writes_eq_canon _ f _ (covW z2 _ _ _)).trans (canW z2 _ _ _)

theorem B21 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.2.2.1
   = ⟨Rect.unit (s := S1x512) ![0, 0] S1x512.size inb0G, nG (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)) (View.readAt (Elt F) arg22.view (Rect.unit (s := S1x512) ![0, 0] S1x512.size inb0G).toLoadRect (harg22.unread xo21))⟩ :: [] := by sl_kernel_rfl
theorem rB21 (hc0 : ¬ cond0_0 i) (f : arg22.view.ty.Contents (Elt F)) :
    arg22.view.read (Elt F) (arg22.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.2.2.1) = nG (LdX x0 x1 x2 x3 x4 x5 x6 x7 x8 x9 x10 x11 x12 x13 (k0_pay14 i) (cpp xs0)) xo21 := by
  rw [B21, LdM_eq, CB_eq arg23 harg23 xs0, rd0G arg22 harg22 xo21]
  exact (View.read_writes_eq_canon _ f _ (covW z2 _ _ _)).trans (canW z2 _ _ _)

theorem B22 (hc0 : ¬ cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.2.2.2.1
   = pK (fun p => (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).cr p 8) 1 :: pK (fun p => (LdM arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 (k0_pay14 i) (CB arg23 harg23 xs0)).cr p 8) 0 :: [] := by sl_kernel_rfl
theorem rB22 (hc0 : ¬ cond0_0 i) (f : arg23.view.ty.Contents (Elt F)) :
    arg23.view.read (Elt F) (arg23.view.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 xo19 xo20 xo21 xs0).2.2.2.2.2.2.2.2.1) = tK (fun p => (LdX x0 x1 x2 x3 x4 x5 x6 x7 x8 x9 x10 x11 x12 x13 (k0_pay14 i) (cpp xs0)).cr p 8) := by
  rw [B22, LdM_eq, CB_eq arg23 harg23 xs0]
  exact (View.read_writes_eq_canon _ f _ (covK _ _)).trans (canK' _ _)

end Cert.KernelIdeal.Voc

end
-- ==== Proof.Sound.lean ====
module

public import proofs.«01_k».proof.Proof.Pieces
public import proofs.«01_k».proof.Proof.Gen.KernelIdeal.Launch
public import Idealize.ShloMosaic.Lib.Claim

@[expose] public section

set_option maxRecDepth 16384

/-! The run of the kernel point by point: what each step leaves, and the launch. -/

noncomputable section

namespace Cert.KernelIdeal.Voc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- what the step at point `t` loads, after a step that left `s` -/
def ldT (c : Dev nD) (t : Fin cfg0.N) (s : St F) : Ld F :=
  LdX (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (k0_pay14 (grid0.coords t)) (cpp s.C)
/-- the state before step `n` -/
def bef (c : Dev nD) : ℕ → St F
  | 0 => st0
  | n + 1 => if h : n < cfg0.N then nxt (iblk m c 4 ⟨n, h⟩) (ldT m c ⟨n, h⟩ (bef c n)) (bef c n) else bef c n
/-- what the step at point `t` loads -/
def DT (c : Dev nD) (t : Fin cfg0.N) : Ld F := ldT m c t (bef m c t.val)
theorem bef_zero (c : Dev nD) : bef m c 0 = st0 := rfl
theorem bef_succ (c : Dev nD) (t : Fin cfg0.N) : bef m c (t.val + 1) = nxt (iblk m c 4 t) (DT m c t) (bef m c t.val) := by
  rw [bef, dif_pos t.isLt]; rfl

/-- what holds between the steps -/
def PhiS (c : Dev nD) : (n : ℕ) → n ≤ cfg0.N → sProp 𝕄
  | 0, _ => Pipeline.ΦA spec0 c
  | n + 1, hn => iprop(iprop(owns (c : Thread nD τ) scM0_0 fullShare (bef m c (n + 1)).C ∗ (∃ d, owns (c : Thread nD τ) scM0_1 fullShare d)) ∗ (∃ r, prngReg c r))
theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM0_0 fullShare (bef m c n).C ∗ (∃ d, owns (c : Thread nD τ) scM0_1 fullShare d)) ∗ (∃ r, prngReg c r)) := by
  cases n with
  | zero => exact absurd rfl hz
  | succ n => rfl

/-- the contents of every window after every step -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => tA (DT m c t).dq
    | ⟨15, _⟩ => tA (DT m c t).dk
    | ⟨16, _⟩ => tB (DT m c t).dv
    | ⟨17, _⟩ => tB (DT m c t).dgg
    | ⟨18, _⟩ => dgfv (iblk m c 8 t) (tF (DT m c t).dfz)
    | ⟨19, _⟩ => (bef m c (t.val + 1)).W
    | ⟨20, _⟩ => (bef m c (t.val + 1)).B
    | ⟨21, _⟩ => (bef m c (t.val + 1)).G
    | ⟨_ + 22, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem aft0 (c : Dev nD) (t : Fin cfg0.N) : (dats m 0 c).after 0 t = X0_0 m c t := by dsimp only [dats]
theorem aft1 (c : Dev nD) (t : Fin cfg0.N) : (dats m 0 c).after 1 t = X0_1 m c t := by dsimp only [dats]
theorem aft2 (c : Dev nD) (t : Fin cfg0.N) : (dats m 0 c).after 2 t = X0_2 m c t := by dsimp only [dats]
theorem aft3 (c : Dev nD) (t : Fin cfg0.N) : (dats m 0 c).after 3 t = X0_3 m c t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem aft10 (c : Dev nD) (t : Fin cfg0.N) : (dats m 0 c).after 10 t = iblk m c 10 t := by dsimp only [dats]
theorem aft11 (c : Dev nD) (t : Fin cfg0.N) : (dats m 0 c).after 11 t = iblk m c 11 t := by dsimp only [dats]
theorem aft12 (c : Dev nD) (t : Fin cfg0.N) : (dats m 0 c).after 12 t = iblk m c 12 t := by dsimp only [dats]
theorem aft13 (c : Dev nD) (t : Fin cfg0.N) : (dats m 0 c).after 13 t = iblk m c 13 t := by dsimp only [dats]
theorem aft14 (c : Dev nD) (t : Fin cfg0.N) : (dats m 0 c).after 14 t = tA (DT m c t).dq := by dsimp only [dats]
theorem aft15 (c : Dev nD) (t : Fin cfg0.N) : (dats m 0 c).after 15 t = tA (DT m c t).dk := by dsimp only [dats]
theorem aft16 (c : Dev nD) (t : Fin cfg0.N) : (dats m 0 c).after 16 t = tB (DT m c t).dv := by dsimp only [dats]
theorem aft17 (c : Dev nD) (t : Fin cfg0.N) : (dats m 0 c).after 17 t = tB (DT m c t).dgg := by dsimp only [dats]
theorem aft18 (c : Dev nD) (t : Fin cfg0.N) : (dats m 0 c).after 18 t = dgfv (iblk m c 8 t) (tF (DT m c t).dfz) := by dsimp only [dats]
theorem aft19 (c : Dev nD) (t : Fin cfg0.N) : (dats m 0 c).after 19 t = (bef m c (t.val + 1)).W := by dsimp only [dats]
theorem aft20 (c : Dev nD) (t : Fin cfg0.N) : (dats m 0 c).after 20 t = (bef m c (t.val + 1)).B := by dsimp only [dats]
theorem aft21 (c : Dev nD) (t : Fin cfg0.N) : (dats m 0 c).after 21 t = (bef m c (t.val + 1)).G := by dsimp only [dats]
theorem bfr0 (c : Dev nD) (t : Fin cfg0.N) (d) : (dats m 0 c).before 0 t d = X0_0 m c t :=
  before0_0_of m (dats m 0 c) (A_eq m c 0) (aft0 m c) t d
theorem bfr1 (c : Dev nD) (t : Fin cfg0.N) (d) : (dats m 0 c).before 1 t d = X0_1 m c t :=
  before0_1_of m (dats m 0 c) (A_eq m c 1) (aft1 m c) t d
theorem bfr2 (c : Dev nD) (t : Fin cfg0.N) (d) : (dats m 0 c).before 2 t d = X0_2 m c t :=
  before0_2_of m (dats m 0 c) (A_eq m c 2) (aft2 m c) t d
theorem bfr3 (c : Dev nD) (t : Fin cfg0.N) (d) : (dats m 0 c).before 3 t d = X0_3 m c t :=
  before0_3_of m (dats m 0 c) (A_eq m c 3) (aft3 m c) t d
theorem bfr4 (c : Dev nD) (t : Fin cfg0.N) (d) : (dats m 0 c).before 4 t d = iblk m c 4 t :=
  before0_4_of m (dats m 0 c) (A_eq m c 4) (aft4 m c) t d
theorem bfr5 (c : Dev nD) (t : Fin cfg0.N) (d) : (dats m 0 c).before 5 t d = iblk m c 5 t :=
  before0_5_of m (dats m 0 c) (A_eq m c 5) (aft5 m c) t d
theorem bfr6 (c : Dev nD) (t : Fin cfg0.N) (d) : (dats m 0 c).before 6 t d = iblk m c 6 t :=
  before0_6_of m (dats m 0 c) (A_eq m c 6) (aft6 m c) t d
theorem bfr7 (c : Dev nD) (t : Fin cfg0.N) (d) : (dats m 0 c).before 7 t d = iblk m c 7 t :=
  before0_7_of m (dats m 0 c) (A_eq m c 7) (aft7 m c) t d
theorem bfr8 (c : Dev nD) (t : Fin cfg0.N) (d) : (dats m 0 c).before 8 t d = iblk m c 8 t :=
  before0_8_of m (dats m 0 c) (A_eq m c 8) (aft8 m c) t d
theorem bfr9 (c : Dev nD) (t : Fin cfg0.N) (d) : (dats m 0 c).before 9 t d = iblk m c 9 t :=
  before0_9_of m (dats m 0 c) (A_eq m c 9) (aft9 m c) t d
theorem bfr10 (c : Dev nD) (t : Fin cfg0.N) (d) : (dats m 0 c).before 10 t d = iblk m c 10 t :=
  before0_10_of m (dats m 0 c) (A_eq m c 10) (aft10 m c) t d
theorem bfr11 (c : Dev nD) (t : Fin cfg0.N) (d) : (dats m 0 c).before 11 t d = iblk m c 11 t :=
  before0_11_of m (dats m 0 c) (A_eq m c 11) (aft11 m c) t d
theorem bfr12 (c : Dev nD) (t : Fin cfg0.N) (d) : (dats m 0 c).before 12 t d = iblk m c 12 t :=
  before0_12_of m (dats m 0 c) (A_eq m c 12) (aft12 m c) t d
theorem bfr13 (c : Dev nD) (t : Fin cfg0.N) (d) : (dats m 0 c).before 13 t d = iblk m c 13 t :=
  before0_13_of m (dats m 0 c) (A_eq m c 13) (aft13 m c) t d
theorem bfr19 (c : Dev nD) (t : Fin cfg0.N) (h0 : ¬t.val % 16 = 0) (d) : (dats m 0 c).before 19 t d = (bef m c t.val).W := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl), aft19]
  exact congrArg (fun n => (bef m c n).W) (show t.val - 1 + 1 = t.val by omega)
theorem bfr20 (c : Dev nD) (t : Fin cfg0.N) (h0 : ¬t.val % 16 = 0) (d) : (dats m 0 c).before 20 t d = (bef m c t.val).B := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl), aft20]
  exact congrArg (fun n => (bef m c n).B) (show t.val - 1 + 1 = t.val by omega)
theorem bfr21 (c : Dev nD) (t : Fin cfg0.N) (h0 : ¬t.val % 16 = 0) (d) : (dats m 0 c).before 21 t d = (bef m c t.val).G := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl), aft21]
  exact congrArg (fun n => (bef m c n).G) (show t.val - 1 + 1 = t.val by omega)

/-- what the step is called with -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- what the step returns -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bfr0, bfr1, bfr2, bfr3, bfr4, bfr5, bfr6, bfr7, bfr8, bfr9, bfr10, bfr11, bfr12, bfr13]
  rw [show (dats m 0 c).owesAt () t.succ = (dats m 0 c).owesAt () t.castSucc from rfl,
    aft0, aft1, aft2, aft3, aft4, aft5, aft6, aft7, aft8, aft9, aft10, aft11, aft12, aft13, aft14, aft15, aft16, aft17, aft18, aft19, aft20, aft21]
  rw [show (dats m 0 c).Φ t.succ = PhiS m c (t.val + 1) t.isLt from rfl, PhiS_pos m c (t.val + 1) t.isLt (Nat.succ_ne_zero _), bef_succ]
  unfold nxt DT ldT
  dsimp only
  have hN : t.val < 16 := lt_of_lt_of_eq t.isLt (show cfg0.N = 16 from N_0)
  by_cases h0 : t.val % 16 = 0
  · have hz : t.val = 0 := by omega
    rw [PhiS_castSucc m c t, PhiS_zero m c _ _ hz, PhiA0_eq]
    rw [show bef m c t.val = st0 from (congrArg (bef m c) hz).trans (bef_zero m c)]
    unfold st0
    dsimp only
    · skip
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%fT1, HS1⟩⟩
      isplitl [HS0 HS1 Hg]
      · isplitl [HS0 HS1]
        · isplitl [HS0]
          · unfold owns; iexists _; isplitr
            swap; · iexact HS0
            ipureintro; apply rA22
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; apply rA14
      isplitl [H15]
      · unfold owns; iexists _; isplitr
        swap; · iexact H15
        ipureintro; apply rA15
      isplitl [H16]
      · unfold owns; iexists _; isplitr
        swap; · iexact H16
        ipureintro; apply rA16
      isplitl [H17]
      · unfold owns; iexists _; isplitr
        swap; · iexact H17
        ipureintro; apply rA17
      isplitl [H18]
      · unfold owns; iexists _; isplitr
        swap; · iexact H18
        ipureintro; apply rA18
      isplitl [H19]
      · unfold owns; iexists _; isplitr
        swap; · iexact H19
        ipureintro; apply rA19
      isplitl [H20]
      · unfold owns; iexists _; isplitr
        swap; · iexact H20
        ipureintro; apply rA20
      unfold owns; iexists _; isplitr
      swap; · iexact H21
      ipureintro; apply rA21

  · have hz : t.val ≠ 0 := by omega
    rw [PhiS_castSucc m c t, PhiS_pos m c _ _ hz]
    simp only [bfr19 m c t h0, bfr20 m c t h0, bfr21 m c t h0]
    · skip
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexact H19
      isplitl [H20]; · iexact H20
      isplitl [H21]; · iexact H21
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%fT1, HS1⟩⟩
      isplitl [HS0 HS1 Hg]
      · isplitl [HS0 HS1]
        · isplitl [HS0]
          · unfold owns; iexists _; isplitr
            swap; · iexact HS0
            ipureintro; apply rB22
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; apply rB14
      isplitl [H15]
      · unfold owns; iexists _; isplitr
        swap; · iexact H15
        ipureintro; apply rB15
      isplitl [H16]
      · unfold owns; iexists _; isplitr
        swap; · iexact H16
        ipureintro; apply rB16
      isplitl [H17]
      · unfold owns; iexists _; isplitr
        swap; · iexact H17
        ipureintro; apply rB17
      isplitl [H18]
      · unfold owns; iexists _; isplitr
        swap; · iexact H18
        ipureintro; apply rB18
      isplitl [H19]
      · unfold owns; iexists _; isplitr
        swap; · iexact H19
        ipureintro; apply rB19
      isplitl [H20]
      · unfold owns; iexists _; isplitr
        swap; · iexact H20
        ipureintro; apply rB20
      unfold owns; iexists _; isplitr
      swap; · iexact H21
      ipureintro; apply rB21

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Voc

end
-- ==== Proof.Twin.lean ====
module

public import proofs.«01_k».proof.Defs
public import proofs.«01_k».proof.Proof.Gen.Kernel
public import proofs.«01_k».proof.Proof.Sound

@[expose] public section

set_option maxRecDepth 16384

/-! The first program's frame is the second's: their texts are the same. -/

noncomputable section

namespace Cert.Proof

open Idealize.ShloMosaic Idealize.SL.Sem

/-- The second program's frame at the bit-exact instance. -/
def Unchanged : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem unchanged : Unchanged := fun m ρ _ => Cert.KernelIdeal.Voc.frame (F := Bits) m ρ
theorem same : Cert.quiescent_Kernel = Unchanged := by sl_kernel_rfl
theorem frame_first : Cert.quiescent_Kernel := same.mpr unchanged

end Cert.Proof

end
-- ==== Proof.Emb.lean ====
module

public import proofs.«01_k».proof.Proof.Gen.KernelIdeal.Frame.Runs
public import Idealize.ShloMosaic.Lib.Pipeline.Value
public import Idealize.ShloMosaic.Lib.ValueIdx

@[expose] public section

set_option maxRecDepth 16384

/-! Where each window's block lies in its array. -/

noncomputable section

namespace Cert.KernelIdeal.Voc

open Cert.KernelIdeal Cert.KernelIdeal.Gen Idealize.ShloMosaic Idealize.ShloMosaic.TcCoe Idealize.ShloMosaic.ValueIdx

variable {F : FTy → Type} [FloatOps F]

theorem at0 : ∀ t : Fin grid0.N, win0_0.index t 0 = 15 - t.val ∧ win0_0.index t 1 = 6 := by decide +kernel
theorem emb0 (t : Fin grid0.N) (a : Fin 512) (j : Fin 256) (y : (win0_0.xblock (grid0.coords t)).Idx) (h0 : (y 0).val = a.val) (h1 : (y 1).val = j.val) :
    (win0_0.rect t).emb y = (ix2 ⟨512 * (15 - t.val) + a.val, by omega⟩ ⟨1536 + j.val, by omega⟩ : S8192x3200.Idx) :=
  funext fun x => match x with
    | ⟨0, _⟩ => Fin.ext ((Pipeline.Window.rect_emb_val_off win0_0 t y 0).trans (by rw [(at0 t).1]; change (15 - t.val) * 512 + (y 0).val = 512 * (15 - t.val) + a.val; rw [h0]; omega))
    | ⟨1, _⟩ => Fin.ext ((Pipeline.Window.rect_emb_val_off win0_0 t y 1).trans (by rw [(at0 t).2]; change 6 * 256 + (y 1).val = 1536 + j.val; rw [h1]))
theorem rd0 (X : S8192x3200.Idx → Elt F .f32) (t : Fin cfg0.N) (d : (cfg0.win 0).block.Idx → Elt F (cfg0.win 0).elt) (a : Fin 512) (j : Fin 256) :
    (cfg0.win 0).fill (cfg0.grid.coords t) d (((cfg0.win 0).blk t).view.read (Elt F) X) (ix2 a j) = X (ix2 ⟨512 * (15 - t.val) + a.val, by omega⟩ ⟨1536 + j.val, by omega⟩) := by
  unfold Pipeline.Window.fill
  rw [dif_pos (moved0_0 t (ix2 a j))]
  exact congrArg X (emb0 t a j _ rfl rfl)
theorem at1 : ∀ t : Fin grid0.N, win0_1.index t 0 = 15 - t.val ∧ win0_1.index t 1 = 7 := by decide +kernel
theorem emb1 (t : Fin grid0.N) (a : Fin 512) (j : Fin 256) (y : (win0_1.xblock (grid0.coords t)).Idx) (h0 : (y 0).val = a.val) (h1 : (y 1).val = j.val) :
    (win0_1.rect t).emb y = (ix2 ⟨512 * (15 - t.val) + a.val, by omega⟩ ⟨1792 + j.val, by omega⟩ : S8192x3200.Idx) :=
  funext fun x => match x with
    | ⟨0, _⟩ => Fin.ext ((Pipeline.Window.rect_emb_val_off win0_1 t y 0).trans (by rw [(at1 t).1]; change (15 - t.val) * 512 + (y 0).val = 512 * (15 - t.val) + a.val; rw [h0]; omega))
    | ⟨1, _⟩ => Fin.ext ((Pipeline.Window.rect_emb_val_off win0_1 t y 1).trans (by rw [(at1 t).2]; change 7 * 256 + (y 1).val = 1792 + j.val; rw [h1]))
theorem rd1 (X : S8192x3200.Idx → Elt F .f32) (t : Fin cfg0.N) (d : (cfg0.win 1).block.Idx → Elt F (cfg0.win 1).elt) (a : Fin 512) (j : Fin 256) :
    (cfg0.win 1).fill (cfg0.grid.coords t) d (((cfg0.win 1).blk t).view.read (Elt F) X) (ix2 a j) = X (ix2 ⟨512 * (15 - t.val) + a.val, by omega⟩ ⟨1792 + j.val, by omega⟩) := by
  unfold Pipeline.Window.fill
  rw [dif_pos (moved0_1 t (ix2 a j))]
  exact congrArg X (emb1 t a j _ rfl rfl)
theorem at2 : ∀ t : Fin grid0.N, win0_2.index t 0 = 15 - t.val ∧ win0_2.index t 1 = 4 := by decide +kernel
theorem emb2 (t : Fin grid0.N) (a : Fin 512) (j : Fin 512) (y : (win0_2.xblock (grid0.coords t)).Idx) (h0 : (y 0).val = a.val) (h1 : (y 1).val = j.val) :
    (win0_2.rect t).emb y = (ix2 ⟨512 * (15 - t.val) + a.val, by omega⟩ ⟨2048 + j.val, by omega⟩ : S8192x3200.Idx) :=
  funext fun x => match x with
    | ⟨0, _⟩ => Fin.ext ((Pipeline.Window.rect_emb_val_off win0_2 t y 0).trans (by rw [(at2 t).1]; change (15 - t.val) * 512 + (y 0).val = 512 * (15 - t.val) + a.val; rw [h0]; omega))
    | ⟨1, _⟩ => Fin.ext ((Pipeline.Window.rect_emb_val_off win0_2 t y 1).trans (by rw [(at2 t).2]; change 4 * 512 + (y 1).val = 2048 + j.val; rw [h1]))
theorem rd2 (X : S8192x3200.Idx → Elt F .f32) (t : Fin cfg0.N) (d : (cfg0.win 2).block.Idx → Elt F (cfg0.win 2).elt) (a : Fin 512) (j : Fin 512) :
    (cfg0.win 2).fill (cfg0.grid.coords t) d (((cfg0.win 2).blk t).view.read (Elt F) X) (ix2 a j) = X (ix2 ⟨512 * (15 - t.val) + a.val, by omega⟩ ⟨2048 + j.val, by omega⟩) := by
  unfold Pipeline.Window.fill
  rw [dif_pos (moved0_2 t (ix2 a j))]
  exact congrArg X (emb2 t a j _ rfl rfl)
theorem at3 : ∀ t : Fin grid0.N, win0_3.index t 0 = 15 - t.val ∧ win0_3.index t 1 = 5 := by decide +kernel
theorem emb3 (t : Fin grid0.N) (a : Fin 512) (j : Fin 512) (y : (win0_3.xblock (grid0.coords t)).Idx) (h0 : (y 0).val = a.val) (h1 : (y 1).val = j.val) :
    (win0_3.rect t).emb y = (ix2 ⟨512 * (15 - t.val) + a.val, by omega⟩ ⟨2560 + j.val, by omega⟩ : S8192x3200.Idx) :=
  funext fun x => match x with
    | ⟨0, _⟩ => Fin.ext ((Pipeline.Window.rect_emb_val_off win0_3 t y 0).trans (by rw [(at3 t).1]; change (15 - t.val) * 512 + (y 0).val = 512 * (15 - t.val) + a.val; rw [h0]; omega))
    | ⟨1, _⟩ => Fin.ext ((Pipeline.Window.rect_emb_val_off win0_3 t y 1).trans (by rw [(at3 t).2]; change 5 * 512 + (y 1).val = 2560 + j.val; rw [h1]))
theorem rd3 (X : S8192x3200.Idx → Elt F .f32) (t : Fin cfg0.N) (d : (cfg0.win 3).block.Idx → Elt F (cfg0.win 3).elt) (a : Fin 512) (j : Fin 512) :
    (cfg0.win 3).fill (cfg0.grid.coords t) d (((cfg0.win 3).blk t).view.read (Elt F) X) (ix2 a j) = X (ix2 ⟨512 * (15 - t.val) + a.val, by omega⟩ ⟨2560 + j.val, by omega⟩) := by
  unfold Pipeline.Window.fill
  rw [dif_pos (moved0_3 t (ix2 a j))]
  exact congrArg X (emb3 t a j _ rfl rfl)
theorem at4 : ∀ t : Fin grid0.N, win0_4.index t 0 = 15 - t.val ∧ win0_4.index t 1 = 24 := by decide +kernel
theorem emb4 (t : Fin grid0.N) (a : Fin 512) (j : Fin 128) : (win0_4.rect t).emb (ix2 a j) = (ix2 ⟨512 * (15 - t.val) + a.val, by omega⟩ ⟨3072 + j.val, by omega⟩ : S8192x3200.Idx) :=
  funext fun x => match x with
    | ⟨0, _⟩ => Fin.ext ((Pipeline.Window.rect_emb_val_off win0_4 t (ix2 a j) 0).trans (by rw [(at4 t).1]; change (15 - t.val) * 512 + a.val = 512 * (15 - t.val) + a.val; omega))
    | ⟨1, _⟩ => Fin.ext ((Pipeline.Window.rect_emb_val_off win0_4 t (ix2 a j) 1).trans (by rw [(at4 t).2]; change 24 * 128 + j.val = 3072 + j.val; omega))
theorem rd4 (X : S8192x3200.Idx → Elt F .f32) (t : Fin cfg0.N) (a : Fin 512) (j : Fin 128) : ((cfg0.win 4).blk t).view.read (Elt F) X (ix2 a j) = X (ix2 ⟨512 * (15 - t.val) + a.val, by omega⟩ ⟨3072 + j.val, by omega⟩) :=
  congrArg X (emb4 t a j)
theorem at5 : ∀ t : Fin grid0.N, win0_5.index t 0 = 15 - t.val ∧ win0_5.index t 1 = 1 := by decide +kernel
theorem emb5 (t : Fin grid0.N) (a : Fin 512) (j : Fin 512) : (win0_5.rect t).emb (ix2 a j) = (ix2 ⟨512 * (15 - t.val) + a.val, by omega⟩ ⟨512 + j.val, by omega⟩ : S8192x1024.Idx) :=
  funext fun x => match x with
    | ⟨0, _⟩ => Fin.ext ((Pipeline.Window.rect_emb_val_off win0_5 t (ix2 a j) 0).trans (by rw [(at5 t).1]; change (15 - t.val) * 512 + a.val = 512 * (15 - t.val) + a.val; omega))
    | ⟨1, _⟩ => Fin.ext ((Pipeline.Window.rect_emb_val_off win0_5 t (ix2 a j) 1).trans (by rw [(at5 t).2]; change 1 * 512 + j.val = 512 + j.val; omega))
theorem rd5 (X : S8192x1024.Idx → Elt F .f32) (t : Fin cfg0.N) (a : Fin 512) (j : Fin 512) : ((cfg0.win 5).blk t).view.read (Elt F) X (ix2 a j) = X (ix2 ⟨512 * (15 - t.val) + a.val, by omega⟩ ⟨512 + j.val, by omega⟩) :=
  congrArg X (emb5 t a j)
theorem at8 : ∀ t : Fin grid0.N, win0_8.index t 0 = 0 ∧ win0_8.index t 1 = 0 := by decide +kernel
theorem emb8 (t : Fin grid0.N) (a : Fin 128) (j : Fin 256) : (win0_8.rect t).emb (ix2 a j) = (ix2 a j : S128x256.Idx) :=
  funext fun x => match x with
    | ⟨0, _⟩ => Fin.ext ((Pipeline.Window.rect_emb_val_off win0_8 t (ix2 a j) 0).trans (by rw [(at8 t).1]; change 0 * 128 + a.val = a.val; omega))
    | ⟨1, _⟩ => Fin.ext ((Pipeline.Window.rect_emb_val_off win0_8 t (ix2 a j) 1).trans (by rw [(at8 t).2]; change 0 * 256 + j.val = j.val; omega))
theorem rd8 (X : S128x256.Idx → Elt F .f32) (t : Fin cfg0.N) (a : Fin 128) (j : Fin 256) : ((cfg0.win 8).blk t).view.read (Elt F) X (ix2 a j) = X (ix2 a j) :=
  congrArg X (emb8 t a j)
theorem at9 : ∀ t : Fin grid0.N, win0_9.index t 0 = 0 ∧ win0_9.index t 1 = 0 := by decide +kernel
theorem emb9 (t : Fin grid0.N) (a : Fin 1) (j : Fin 256) : (win0_9.rect t).emb (ix2 a j) = (ix2 a j : S1x256.Idx) :=
  funext fun x => match x with
    | ⟨0, _⟩ => Fin.ext ((Pipeline.Window.rect_emb_val_off win0_9 t (ix2 a j) 0).trans (by rw [(at9 t).1]; change 0 * 1 + a.val = a.val; omega))
    | ⟨1, _⟩ => Fin.ext ((Pipeline.Window.rect_emb_val_off win0_9 t (ix2 a j) 1).trans (by rw [(at9 t).2]; change 0 * 256 + j.val = j.val; omega))
theorem rd9 (X : S1x256.Idx → Elt F .f32) (t : Fin cfg0.N) (a : Fin 1) (j : Fin 256) : ((cfg0.win 9).blk t).view.read (Elt F) X (ix2 a j) = X (ix2 a j) :=
  congrArg X (emb9 t a j)
theorem at10 : ∀ t : Fin grid0.N, win0_10.index t 0 = 0 ∧ win0_10.index t 1 = 0 := by decide +kernel
theorem emb10 (t : Fin grid0.N) (a : Fin 1) (j : Fin 512) : (win0_10.rect t).emb (ix2 a j) = (ix2 a j : S1x512.Idx) :=
  funext fun x => match x with
    | ⟨0, _⟩ => Fin.ext ((Pipeline.Window.rect_emb_val_off win0_10 t (ix2 a j) 0).trans (by rw [(at10 t).1]; change 0 * 1 + a.val = a.val; omega))
    | ⟨1, _⟩ => Fin.ext ((Pipeline.Window.rect_emb_val_off win0_10 t (ix2 a j) 1).trans (by rw [(at10 t).2]; change 0 * 512 + j.val = j.val; omega))
theorem rd10 (X : S1x512.Idx → Elt F .f32) (t : Fin cfg0.N) (a : Fin 1) (j : Fin 512) : ((cfg0.win 10).blk t).view.read (Elt F) X (ix2 a j) = X (ix2 a j) :=
  congrArg X (emb10 t a j)
theorem at11 : ∀ t : Fin grid0.N, win0_11.index t 0 = 0 ∧ win0_11.index t 1 = 0 := by decide +kernel
theorem emb11 (t : Fin grid0.N) (a : Fin 64) (j : Fin 64) : (win0_11.rect t).emb (ix2 a j) = (ix2 a j : S64x64.Idx) :=
  funext fun x => match x with
    | ⟨0, _⟩ => Fin.ext ((Pipeline.Window.rect_emb_val_off win0_11 t (ix2 a j) 0).trans (by rw [(at11 t).1]; change 0 * 64 + a.val = a.val; omega))
    | ⟨1, _⟩ => Fin.ext ((Pipeline.Window.rect_emb_val_off win0_11 t (ix2 a j) 1).trans (by rw [(at11 t).2]; change 0 * 64 + j.val = j.val; omega))
theorem rd11 (X : S64x64.Idx → Elt F .bf16) (t : Fin cfg0.N) (a : Fin 64) (j : Fin 64) : ((cfg0.win 11).blk t).view.read (Elt F) X (ix2 a j) = X (ix2 a j) :=
  congrArg X (emb11 t a j)
theorem at12 : ∀ t : Fin grid0.N, win0_12.index t 0 = 0 ∧ win0_12.index t 1 = 0 := by decide +kernel
theorem emb12 (t : Fin grid0.N) (a : Fin 64) (j : Fin 64) : (win0_12.rect t).emb (ix2 a j) = (ix2 a j : S64x64.Idx) :=
  funext fun x => match x with
    | ⟨0, _⟩ => Fin.ext ((Pipeline.Window.rect_emb_val_off win0_12 t (ix2 a j) 0).trans (by rw [(at12 t).1]; change 0 * 64 + a.val = a.val; omega))
    | ⟨1, _⟩ => Fin.ext ((Pipeline.Window.rect_emb_val_off win0_12 t (ix2 a j) 1).trans (by rw [(at12 t).2]; change 0 * 64 + j.val = j.val; omega))
theorem rd12 (X : S64x64.Idx → Elt F .bf16) (t : Fin cfg0.N) (a : Fin 64) (j : Fin 64) : ((cfg0.win 12).blk t).view.read (Elt F) X (ix2 a j) = X (ix2 a j) :=
  congrArg X (emb12 t a j)
theorem at13 : ∀ t : Fin grid0.N, win0_13.index t 0 = 0 ∧ win0_13.index t 1 = 0 := by decide +kernel
theorem emb13 (t : Fin grid0.N) (a : Fin 256) (j : Fin 128) : (win0_13.rect t).emb (ix2 a j) = (ix2 a j : S256x128.Idx) :=
  funext fun x => match x with
    | ⟨0, _⟩ => Fin.ext ((Pipeline.Window.rect_emb_val_off win0_13 t (ix2 a j) 0).trans (by rw [(at13 t).1]; change 0 * 256 + a.val = a.val; omega))
    | ⟨1, _⟩ => Fin.ext ((Pipeline.Window.rect_emb_val_off win0_13 t (ix2 a j) 1).trans (by rw [(at13 t).2]; change 0 * 128 + j.val = j.val; omega))
theorem rd13 (X : S256x128.Idx → Elt F .f32) (t : Fin cfg0.N) (a : Fin 256) (j : Fin 128) : ((cfg0.win 13).blk t).view.read (Elt F) X (ix2 a j) = X (ix2 a j) :=
  congrArg X (emb13 t a j)
theorem at14 : ∀ t : Fin grid0.N, win0_14.index t 0 = 15 - t.val ∧ win0_14.index t 1 = 0 := by decide +kernel
theorem emb14 (t : Fin grid0.N) (a : Fin 512) (j : Fin 256) : (win0_14.rect t).emb (ix2 a j) = (ix2 ⟨512 * (15 - t.val) + a.val, by omega⟩ j : S8192x256.Idx) :=
  funext fun x => match x with
    | ⟨0, _⟩ => Fin.ext ((Pipeline.Window.rect_emb_val_off win0_14 t (ix2 a j) 0).trans (by rw [(at14 t).1]; change (15 - t.val) * 512 + a.val = 512 * (15 - t.val) + a.val; omega))
    | ⟨1, _⟩ => Fin.ext ((Pipeline.Window.rect_emb_val_off win0_14 t (ix2 a j) 1).trans (by rw [(at14 t).2]; change 0 * 256 + j.val = j.val; omega))
theorem at15 : ∀ t : Fin grid0.N, win0_15.index t 0 = 15 - t.val ∧ win0_15.index t 1 = 0 := by decide +kernel
theorem emb15 (t : Fin grid0.N) (a : Fin 512) (j : Fin 256) : (win0_15.rect t).emb (ix2 a j) = (ix2 ⟨512 * (15 - t.val) + a.val, by omega⟩ j : S8192x256.Idx) :=
  funext fun x => match x with
    | ⟨0, _⟩ => Fin.ext ((Pipeline.Window.rect_emb_val_off win0_15 t (ix2 a j) 0).trans (by rw [(at15 t).1]; change (15 - t.val) * 512 + a.val = 512 * (15 - t.val) + a.val; omega))
    | ⟨1, _⟩ => Fin.ext ((Pipeline.Window.rect_emb_val_off win0_15 t (ix2 a j) 1).trans (by rw [(at15 t).2]; change 0 * 256 + j.val = j.val; omega))
theorem at16 : ∀ t : Fin grid0.N, win0_16.index t 0 = 15 - t.val ∧ win0_16.index t 1 = 0 := by decide +kernel
theorem emb16 (t : Fin grid0.N) (a : Fin 512) (j : Fin 512) : (win0_16.rect t).emb (ix2 a j) = (ix2 ⟨512 * (15 - t.val) + a.val, by omega⟩ j : S8192x512.Idx) :=
  funext fun x => match x with
    | ⟨0, _⟩ => Fin.ext ((Pipeline.Window.rect_emb_val_off win0_16 t (ix2 a j) 0).trans (by rw [(at16 t).1]; change (15 - t.val) * 512 + a.val = 512 * (15 - t.val) + a.val; omega))
    | ⟨1, _⟩ => Fin.ext ((Pipeline.Window.rect_emb_val_off win0_16 t (ix2 a j) 1).trans (by rw [(at16 t).2]; change 0 * 512 + j.val = j.val; omega))
theorem at17 : ∀ t : Fin grid0.N, win0_17.index t 0 = 15 - t.val ∧ win0_17.index t 1 = 0 := by decide +kernel
theorem emb17 (t : Fin grid0.N) (a : Fin 512) (j : Fin 512) : (win0_17.rect t).emb (ix2 a j) = (ix2 ⟨512 * (15 - t.val) + a.val, by omega⟩ j : S8192x512.Idx) :=
  funext fun x => match x with
    | ⟨0, _⟩ => Fin.ext ((Pipeline.Window.rect_emb_val_off win0_17 t (ix2 a j) 0).trans (by rw [(at17 t).1]; change (15 - t.val) * 512 + a.val = 512 * (15 - t.val) + a.val; omega))
    | ⟨1, _⟩ => Fin.ext ((Pipeline.Window.rect_emb_val_off win0_17 t (ix2 a j) 1).trans (by rw [(at17 t).2]; change 0 * 512 + j.val = j.val; omega))
theorem at18 : ∀ t : Fin grid0.N, win0_18.index t 0 = 15 - t.val ∧ win0_18.index t 1 = 0 := by decide +kernel
theorem emb18 (t : Fin grid0.N) (a : Fin 512) (j : Fin 128) : (win0_18.rect t).emb (ix2 a j) = (ix2 ⟨512 * (15 - t.val) + a.val, by omega⟩ j : S8192x128.Idx) :=
  funext fun x => match x with
    | ⟨0, _⟩ => Fin.ext ((Pipeline.Window.rect_emb_val_off win0_18 t (ix2 a j) 0).trans (by rw [(at18 t).1]; change (15 - t.val) * 512 + a.val = 512 * (15 - t.val) + a.val; omega))
    | ⟨1, _⟩ => Fin.ext ((Pipeline.Window.rect_emb_val_off win0_18 t (ix2 a j) 1).trans (by rw [(at18 t).2]; change 0 * 128 + j.val = j.val; omega))
theorem at19 : ∀ t : Fin grid0.N, win0_19.index t 0 = 0 ∧ win0_19.index t 1 = 0 := by decide +kernel
theorem emb19 (t : Fin grid0.N) (a : Fin 128) (j : Fin 256) : (win0_19.rect t).emb (ix2 a j) = (ix2 a j : S128x256.Idx) :=
  funext fun x => match x with
    | ⟨0, _⟩ => Fin.ext ((Pipeline.Window.rect_emb_val_off win0_19 t (ix2 a j) 0).trans (by rw [(at19 t).1]; change 0 * 128 + a.val = a.val; omega))
    | ⟨1, _⟩ => Fin.ext ((Pipeline.Window.rect_emb_val_off win0_19 t (ix2 a j) 1).trans (by rw [(at19 t).2]; change 0 * 256 + j.val = j.val; omega))
theorem at20 : ∀ t : Fin grid0.N, win0_20.index t 0 = 0 ∧ win0_20.index t 1 = 0 := by decide +kernel
theorem emb20 (t : Fin grid0.N) (a : Fin 1) (j : Fin 256) : (win0_20.rect t).emb (ix2 a j) = (ix2 a j : S1x256.Idx) :=
  funext fun x => match x with
    | ⟨0, _⟩ => Fin.ext ((Pipeline.Window.rect_emb_val_off win0_20 t (ix2 a j) 0).trans (by rw [(at20 t).1]; change 0 * 1 + a.val = a.val; omega))
    | ⟨1, _⟩ => Fin.ext ((Pipeline.Window.rect_emb_val_off win0_20 t (ix2 a j) 1).trans (by rw [(at20 t).2]; change 0 * 256 + j.val = j.val; omega))
theorem at21 : ∀ t : Fin grid0.N, win0_21.index t 0 = 0 ∧ win0_21.index t 1 = 0 := by decide +kernel
theorem emb21 (t : Fin grid0.N) (a : Fin 1) (j : Fin 512) : (win0_21.rect t).emb (ix2 a j) = (ix2 a j : S1x512.Idx) :=
  funext fun x => match x with
    | ⟨0, _⟩ => Fin.ext ((Pipeline.Window.rect_emb_val_off win0_21 t (ix2 a j) 0).trans (by rw [(at21 t).1]; change 0 * 1 + a.val = a.val; omega))
    | ⟨1, _⟩ => Fin.ext ((Pipeline.Window.rect_emb_val_off win0_21 t (ix2 a j) 1).trans (by rw [(at21 t).2]; change 0 * 512 + j.val = j.val; omega))
theorem at6 : ∀ t : Fin grid0.N, win0_6.index t 0 = 0 ∧ win0_6.index t 1 = 15 - t.val ∧ win0_6.index t 2 = 0 ∧ win0_6.index t 3 = 0 := by decide +kernel
theorem emb6 (t : Fin grid0.N) (p : Fin 2) (b : Fin 8) (u : Fin 256) (l : Fin 128) : (win0_6.rect t).emb (ix4 p b u l) = (ix4 p ⟨8 * (15 - t.val) + b.val, by omega⟩ u l : S2x128x256x128.Idx) :=
  funext fun x => match x with
    | ⟨0, _⟩ => Fin.ext ((Pipeline.Window.rect_emb_val_off win0_6 t (ix4 p b u l) 0).trans (by rw [(at6 t).1]; change 0 * 2 + p.val = p.val; omega))
    | ⟨1, _⟩ => Fin.ext ((Pipeline.Window.rect_emb_val_off win0_6 t (ix4 p b u l) 1).trans (by rw [(at6 t).2.1]; change (15 - t.val) * 8 + b.val = 8 * (15 - t.val) + b.val; omega))
    | ⟨2, _⟩ => Fin.ext ((Pipeline.Window.rect_emb_val_off win0_6 t (ix4 p b u l) 2).trans (by rw [(at6 t).2.2.1]; change 0 * 256 + u.val = u.val; omega))
    | ⟨3, _⟩ => Fin.ext ((Pipeline.Window.rect_emb_val_off win0_6 t (ix4 p b u l) 3).trans (by rw [(at6 t).2.2.2]; change 0 * 128 + l.val = l.val; omega))
theorem rd6 (X : S2x128x256x128.Idx → Elt F .f32) (t : Fin cfg0.N) (p : Fin 2) (b : Fin 8) (u : Fin 256) (l : Fin 128) : ((cfg0.win 6).blk t).view.read (Elt F) X (ix4 p b u l) = X (ix4 p ⟨8 * (15 - t.val) + b.val, by omega⟩ u l) :=
  congrArg X (emb6 t p b u l)
theorem at7 : ∀ t : Fin grid0.N, win0_7.index t 0 = 0 ∧ win0_7.index t 1 = (15 - t.val) * 8 - 1 ∧ win0_7.index t 2 = 0 ∧ win0_7.index t 3 = 0 := by decide +kernel
theorem emb7 (t : Fin grid0.N) (p : Fin 2) (u : Fin 256) (l : Fin 128) : (win0_7.rect t).emb (ix4 p 0 u l) = (ix4 p ⟨8 * (15 - t.val) - 1, by omega⟩ u l : S2x128x256x128.Idx) :=
  funext fun x => match x with
    | ⟨0, _⟩ => Fin.ext ((Pipeline.Window.rect_emb_val_off win0_7 t (ix4 p 0 u l) 0).trans (by rw [(at7 t).1]; change 0 * 2 + p.val = p.val; omega))
    | ⟨1, _⟩ => Fin.ext ((Pipeline.Window.rect_emb_val_off win0_7 t (ix4 p 0 u l) 1).trans (by rw [(at7 t).2.1]; change ((15 - t.val) * 8 - 1) * 1 + 0 = 8 * (15 - t.val) - 1; omega))
    | ⟨2, _⟩ => Fin.ext ((Pipeline.Window.rect_emb_val_off win0_7 t (ix4 p 0 u l) 2).trans (by rw [(at7 t).2.2.1]; change 0 * 256 + u.val = u.val; omega))
    | ⟨3, _⟩ => Fin.ext ((Pipeline.Window.rect_emb_val_off win0_7 t (ix4 p 0 u l) 3).trans (by rw [(at7 t).2.2.2]; change 0 * 128 + l.val = l.val; omega))
theorem rd7 (X : S2x128x256x128.Idx → Elt F .f32) (t : Fin cfg0.N) (p : Fin 2) (u : Fin 256) (l : Fin 128) : ((cfg0.win 7).blk t).view.read (Elt F) X (ix4 p 0 u l) = X (ix4 p ⟨8 * (15 - t.val) - 1, by omega⟩ u l) :=
  congrArg X (emb7 t p u l)

variable (m : (ℓ : Loc nD τ sig) → Buf (Elt F) ℓ) (c : Dev nD)
theorem iblk_eq {w : Fin cfg0.W} {X} (h : Gen.V m c (Pipeline.arrRef spec0 w) = X) (t : Fin cfg0.N) : iblk m c w t = ((cfg0.win w).blk t).view.read (Elt F) X := by
  unfold iblk; rw [h]

end Cert.KernelIdeal.Voc

end
-- ==== Proof.Spec.lean ====
module

public import Mathlib.Analysis.SpecialFunctions.Log.Basic
public import Mathlib.Analysis.SpecialFunctions.Pow.Real
public import Mathlib.Data.EReal.Operations

@[expose] public section

/-! The gradient of gated linear attention over the real numbers, entry by entry. The 8192 rows are 128 chunks of 64;
the 256 key columns are 4 heads of 64, the 512 value columns 4 heads of 128. -/

noncomputable section

open scoped BigOperators

namespace Cert.Gla

/-- The five arguments, as real numbers. -/
structure In where
  /-- the projections: queries, keys, values, gates and the decay's low-rank factor side by side -/
  x : Fin 8192 → Fin 3200 → ℝ
  /-- the gradient of the outputs -/
  d : Fin 8192 → Fin 1024 → ℝ
  /-- the weight of the decay -/
  w : Fin 128 → Fin 256 → ℝ
  /-- the bias of the decay -/
  b : Fin 256 → ℝ
  /-- the gain of the output norm -/
  g : Fin 512 → ℝ

/-- Position `t` of chunk `c`. -/
def row (c : Fin 128) (t : Fin 64) : Fin 8192 := ⟨64 * c.val + t.val, by omega⟩
/-- Key column `k` of head `h`. -/
def kc (h : Fin 4) (k : Fin 64) : Fin 256 := ⟨64 * h.val + k.val, by omega⟩
/-- Value column `v` of head `h`. -/
def vc (h : Fin 4) (v : Fin 128) : Fin 512 := ⟨128 * h.val + v.val, by omega⟩
/-- The chunk of a row. -/
def ch (s : Fin 8192) : Fin 128 := ⟨s.val / 64, by omega⟩
/-- The position of a row in its chunk. -/
def tm (s : Fin 8192) : Fin 64 := ⟨s.val % 64, by omega⟩
/-- The head of a key column. -/
def kh (j : Fin 256) : Fin 4 := ⟨j.val / 64, by omega⟩
/-- The place of a key column in its head. -/
def kl (j : Fin 256) : Fin 64 := ⟨j.val % 64, by omega⟩
/-- The head of a value column. -/
def vh (u : Fin 512) : Fin 4 := ⟨u.val / 128, by omega⟩
/-- The place of a value column in its head. -/
def vl (u : Fin 512) : Fin 128 := ⟨u.val % 128, by omega⟩

theorem row_ch_tm (s : Fin 8192) : row (ch s) (tm s) = s := Fin.ext (by simp only [row, ch, tm]; omega)
theorem kc_kh_kl (j : Fin 256) : kc (kh j) (kl j) = j := Fin.ext (by simp only [kc, kh, kl]; omega)
theorem vc_vh_vl (u : Fin 512) : vc (vh u) (vl u) = u := Fin.ext (by simp only [vc, vh, vl]; omega)
theorem ch_row (c : Fin 128) (t : Fin 64) : ch (row c t) = c := Fin.ext (by simp only [row, ch]; omega)
theorem tm_row (c : Fin 128) (t : Fin 64) : tm (row c t) = t := Fin.ext (by simp only [row, tm]; omega)
theorem kh_kc (h : Fin 4) (k : Fin 64) : kh (kc h k) = h := Fin.ext (by simp only [kc, kh]; omega)
theorem kl_kc (h : Fin 4) (k : Fin 64) : kl (kc h k) = k := Fin.ext (by simp only [kc, kl]; omega)
theorem vh_vc (h : Fin 4) (v : Fin 128) : vh (vc h v) = h := Fin.ext (by simp only [vc, vh]; omega)
theorem vl_vc (h : Fin 4) (v : Fin 128) : vl (vc h v) = v := Fin.ext (by simp only [vc, vl]; omega)

/-- The logistic function. -/
def sigm (z : ℝ) : ℝ := 1 / (1 + Real.exp (-z))
/-- The logarithm of the logistic function. -/
def lsig (z : ℝ) : ℝ := -(max (-z) 0 + Real.log (1 + Real.exp (-|z|)))
/-- The small number in the norm. -/
def eps : ℝ := 8796093 / 2 ^ 43

variable (A : In)

/-- queries -/
def Q (h : Fin 4) (c : Fin 128) (t k : Fin 64) : ℝ := A.x (row c t) ⟨1536 + (kc h k).val, by omega⟩
/-- keys -/
def K (h : Fin 4) (c : Fin 128) (t k : Fin 64) : ℝ := A.x (row c t) ⟨1792 + (kc h k).val, by omega⟩
/-- values -/
def V (h : Fin 4) (c : Fin 128) (t : Fin 64) (v : Fin 128) : ℝ := A.x (row c t) ⟨2048 + (vc h v).val, by omega⟩
/-- gates -/
def GG (h : Fin 4) (c : Fin 128) (t : Fin 64) (v : Fin 128) : ℝ := A.x (row c t) ⟨2560 + (vc h v).val, by omega⟩
/-- the decay's low-rank factor -/
def gf (s : Fin 8192) (r : Fin 128) : ℝ := A.x s ⟨3072 + r.val, by omega⟩
/-- the gradient of the outputs -/
def ct (h : Fin 4) (c : Fin 128) (t : Fin 64) (v : Fin 128) : ℝ := A.d (row c t) ⟨512 + (vc h v).val, by omega⟩
/-- gains -/
def gn (h : Fin 4) (v : Fin 128) : ℝ := A.g (vc h v)
/-- the decay before the logistic function -/
def fz (s : Fin 8192) (j : Fin 256) : ℝ := (∑ r : Fin 128, gf A s r * A.w r j) + A.b j
/-- log decay -/
def la (h : Fin 4) (c : Fin 128) (t k : Fin 64) : ℝ := lsig (fz A (row c t) (kc h k)) / 16
/-- log decay from the chunk's start through position `t` -/
def cum (h : Fin 4) (c : Fin 128) (t k : Fin 64) : ℝ := ∑ t' : Fin 64, if t'.val ≤ t.val then la A h c t' k else 0
/-- log decay of a chunk -/
def tot (h : Fin 4) (c : Fin 128) (k : Fin 64) : ℝ := cum A h c 63 k
/-- decay from position `t` to the chunk's end -/
def ed (h : Fin 4) (c : Fin 128) (t k : Fin 64) : ℝ := Real.exp (tot A h c k - cum A h c t k)
/-- keys decayed to the chunk's end -/
def kd (h : Fin 4) (c : Fin 128) (t k : Fin 64) : ℝ := K A h c t k * ed A h c t k
/-- what a chunk adds to the state -/
def kv (h : Fin 4) (c : Fin 128) (k : Fin 64) (v : Fin 128) : ℝ := ∑ t : Fin 64, kd A h c t k * V A h c t v
/-- log decay through chunk `c` -/
def T (h : Fin 4) (c : Fin 128) (k : Fin 64) : ℝ := ∑ c' : Fin 128, if c'.val ≤ c.val then tot A h c' k else 0
/-- the decay from chunk `m` to chunk `n` -/
def D (h : Fin 4) (n m : Fin 128) (k : Fin 64) : ℝ := if m.val ≤ n.val then Real.exp (T A h n k - T A h m k) else 0
/-- the state after chunk `c` -/
def S (h : Fin 4) (c : Fin 128) (k : Fin 64) (v : Fin 128) : ℝ := ∑ m : Fin 128, kv A h m k v * D A h c m k
/-- scaled queries -/
def qs (h : Fin 4) (c : Fin 128) (t k : Fin 64) : ℝ := Q A h c t k * (1 / 8)
/-- what is read from the state -/
def o (h : Fin 4) (c : Fin 128) (t : Fin 64) (v : Fin 128) : ℝ := ∑ k : Fin 64, qs A h c t k * S A h c k v
/-- its mean square -/
def ms (h : Fin 4) (c : Fin 128) (t : Fin 64) : ℝ := (∑ v : Fin 128, o A h c t v * o A h c t v) / 128 + eps
/-- the inverse of its root -/
def rs (h : Fin 4) (c : Fin 128) (t : Fin 64) : ℝ := (Real.sqrt (ms A h c t))⁻¹
/-- the normed output -/
def nr (h : Fin 4) (c : Fin 128) (t : Fin 64) (v : Fin 128) : ℝ := o A h c t v * rs A h c t
/-- the gradient of the gate's function -/
def dsil (h : Fin 4) (c : Fin 128) (t : Fin 64) (v : Fin 128) : ℝ := nr A h c t v * gn A h v * ct A h c t v
/-- the gradient of the gates -/
def dgg (h : Fin 4) (c : Fin 128) (t : Fin 64) (v : Fin 128) : ℝ :=
  dsil A h c t v * sigm (GG A h c t v) + GG A h c t v * dsil A h c t v * (sigm (GG A h c t v) * (1 - sigm (GG A h c t v)))
/-- the gradient of the normed output times the gain -/
def dng (h : Fin 4) (c : Fin 128) (t : Fin 64) (v : Fin 128) : ℝ := ct A h c t v * (GG A h c t v * sigm (GG A h c t v))
/-- the gradient of the normed output -/
def dn (h : Fin 4) (c : Fin 128) (t : Fin 64) (v : Fin 128) : ℝ := dng A h c t v * gn A h v
/-- the gradient through the mean square -/
def q1 (h : Fin 4) (c : Fin 128) (t : Fin 64) : ℝ :=
  (∑ v : Fin 128, o A h c t v * dn A h c t v) * (-(1 / 2) * (rs A h c t / ms A h c t)) / 128
/-- the gradient of what is read from the state -/
def dov (h : Fin 4) (c : Fin 128) (t : Fin 64) (v : Fin 128) : ℝ :=
  dn A h c t v * rs A h c t + o A h c t v * q1 A h c t + q1 A h c t * o A h c t v
/-- the gradient of a chunk's state by its readers -/
def R (h : Fin 4) (c : Fin 128) (k : Fin 64) (v : Fin 128) : ℝ := ∑ t : Fin 64, dov A h c t v * qs A h c t k
/-- the gradient of the queries -/
def dq (h : Fin 4) (c : Fin 128) (t k : Fin 64) : ℝ := (∑ v : Fin 128, dov A h c t v * S A h c k v) * (1 / 8)
/-- the gradient of what a chunk adds to the state -/
def G (h : Fin 4) (c : Fin 128) (k : Fin 64) (v : Fin 128) : ℝ := ∑ n : Fin 128, R A h n k v * D A h n c k
/-- the gradient of the values -/
def dv (h : Fin 4) (c : Fin 128) (t : Fin 64) (v : Fin 128) : ℝ := ∑ k : Fin 64, kd A h c t k * G A h c k v
/-- the gradient of the decayed keys -/
def dkd (h : Fin 4) (c : Fin 128) (t k : Fin 64) : ℝ := ∑ v : Fin 128, V A h c t v * G A h c k v
/-- the gradient of the keys -/
def dk (h : Fin 4) (c : Fin 128) (t k : Fin 64) : ℝ := dkd A h c t k * ed A h c t k
/-- the gradient by the decay from chunk `m` to chunk `n` -/
def W (h : Fin 4) (n m : Fin 128) (k : Fin 64) : ℝ := (∑ v : Fin 128, R A h n k v * kv A h m k v) * D A h n m k
/-- the gradient of a chunk's log decay by the states -/
def ddec (h : Fin 4) (c : Fin 128) (k : Fin 64) : ℝ :=
  ∑ n : Fin 128, ∑ m : Fin 128, if m.val < c.val ∧ c.val ≤ n.val then W A h n m k else 0
/-- the gradient of the log decay -/
def dla (h : Fin 4) (c : Fin 128) (t k : Fin 64) : ℝ :=
  (∑ t' : Fin 64, if t'.val < t.val then dkd A h c t' k * kd A h c t' k else 0) + ddec A h c k
/-- the gradient before the logistic function -/
def dfz (s : Fin 8192) (j : Fin 256) : ℝ := dla A (kh j) (ch s) (tm s) (kl j) * (sigm (-fz A s j) / 16)
/-- the gradient of the decay's low-rank factor -/
def dgf (s : Fin 8192) (r : Fin 128) : ℝ := ∑ j : Fin 256, dfz A s j * A.w r j
/-- the gradient of the decay's weight -/
def dW (r : Fin 128) (j : Fin 256) : ℝ := ∑ s : Fin 8192, gf A s r * dfz A s j
/-- the gradient of the decay's bias -/
def dB (j : Fin 256) : ℝ := ∑ s : Fin 8192, dfz A s j
/-- the gradient of the gains -/
def dG (u : Fin 512) : ℝ := ∑ s : Fin 8192, nr A (vh u) (ch s) (tm s) (vl u) * dng A (vh u) (ch s) (tm s) (vl u)

end Cert.Gla

end
-- ==== Proof.RefFwd.lean ====
module

public import proofs.«01_k».proof.Proof.Gen.ReferenceIdeal.Read
public import proofs.«01_k».proof.Proof.Lift
public import proofs.«01_k».proof.Proof.Spec

@[expose] public section

set_option maxRecDepth 16384

/-! The reference's forward values, entry by entry, over real arguments. -/

noncomputable section

open scoped BigOperators

namespace Cert.Gla

open Cert.ReferenceIdeal Cert.ReferenceIdeal.Gen Cert.ReferenceIdeal.Read Idealize.ShloMosaic Idealize.ShloMosaic.ValueIdx

/-- the five arguments as the programs hold them -/
def a0 (A : In) : S8192x3200.Idx → EReal := fun i => ((A.x (i 0) (i 1) : ℝ) : EReal)
def a1 (A : In) : S8192x1024.Idx → EReal := fun i => ((A.d (i 0) (i 1) : ℝ) : EReal)
def a2 (A : In) : S128x256.Idx → EReal := fun i => ((A.w (i 0) (i 1) : ℝ) : EReal)
def a3 (A : In) : S1x256.Idx → EReal := fun i => ((A.b (i 1) : ℝ) : EReal)
def a4 (A : In) : S1x512.Idx → EReal := fun i => ((A.g (i 1) : ℝ) : EReal)

variable (A : In)

theorem softplus_pos (z : ℝ) : 0 < 1 + Real.exp (-|z|) := by positivity

theorem softplus_eq (z : ℝ) : max z 0 + Real.log (1 + Real.exp (-|z|)) = Real.log (1 + Real.exp z) := by
  rcases le_total 0 z with h | h
  · rw [max_eq_left h, abs_of_nonneg h]
    have : 1 + Real.exp z = Real.exp z * (1 + Real.exp (-z)) := by
      rw [mul_add, mul_one, ← Real.exp_add, add_neg_cancel, Real.exp_zero]; ring
    rw [this, Real.log_mul (Real.exp_ne_zero _) (by positivity), Real.log_exp]
  · rw [max_eq_right h, abs_of_nonpos h, neg_neg, zero_add]

theorem exp_sub_softplus (z : ℝ) : Real.exp (z - (max z 0 + Real.log (1 + Real.exp (-|z|)))) = sigm z := by
  rw [softplus_eq, Real.exp_sub, Real.exp_log (by positivity), sigm, Real.exp_neg]
  have := Real.exp_pos z
  field_simp
  ring

theorem une_self (x : EReal) : Ideal.cmp .une x x = 0#1 := by simp [Ideal.cmp]
theorem oeq_top (r : ℝ) : Ideal.cmp .oeq (r : EReal) ⊤ = 0#1 := by simp [Ideal.cmp]

theorem l7 (i : S8192x256.Idx) : val_main_v7 (F := Ideal) (a0 A) (a2 A) (a3 A) i = ((fz A (i 0) (i 1) : ℝ) : EReal) := by
  rw [val_main_v7_apply, val_main_v5_apply, val_main_v6_apply]
  have e : (∑ k : Fin 128, val_main_v4 (F := Ideal) (a0 A) (lidx_main_v5 i k) * a2 A (ridx_main_v5 i k)) = ((∑ r : Fin 128, gf A (i 0) r * A.w r (i 1) : ℝ) : EReal) :=
    sum_eq_coe fun k => by rw [val_main_v4_apply, EReal.coe_mul]; rfl
  exact (congrArg (· + a3 A (idx_main_v6 i)) e).trans (EReal.coe_add _ _).symm

theorem lc0 (i : S8192x256.Idx) : val_main_call0_v0 (F := Ideal) (a0 A) (a2 A) (a3 A) i = ((-fz A (i 0) (i 1) : ℝ) : EReal) := by
  rw [val_main_call0_v0_apply, l7]; exact (EReal.coe_neg _).symm

theorem lc3 (i : S8192x256.Idx) : val_main_call0_call0_v3 (F := Ideal) (a0 A) (a2 A) (a3 A) i = ((-fz A (i 0) (i 1) : ℝ) : EReal) := by
  rw [val_main_call0_call0_v3_apply, val_main_call0_call0_v2_apply, val_main_call0_call0_cst_apply, lc0]
  exact (congrArg (((-fz A (i 0) (i 1) : ℝ) : EReal) - ·) bits_zero).trans ((EReal.coe_sub _ _).symm.trans (congrArg _ (sub_zero _)))

theorem lc1 (i : S8192x256.Idx) : val_main_call0_v1_0 (F := Ideal) (a0 A) (a2 A) (a3 A) i = ((-lsig (fz A (i 0) (i 1)) : ℝ) : EReal) := by
  rw [val_main_call0_v1_0_apply, val_main_call0_call0_v4_apply, lc3]
  refine (congrArg (fun b => Scalar.select b _ _) (une_self _)).trans ((select_zero _ _).trans ?_)
  rw [val_main_call0_call0_v11_apply, val_main_call0_call0_v1_apply, val_main_call0_call0_v0_apply, val_main_call0_call0_cst_apply, lc0,
    val_main_call0_call0_v10_apply, val_main_call0_call0_v9_apply, val_main_call0_call0_v8_apply, val_main_call0_call0_v7_apply, lc3]
  change max ((-fz A (i 0) (i 1) : ℝ) : EReal) (Ideal.ofBits .f32 0x00000000#32) + Ideal.log1p (Ideal.exp (-(max ((-fz A (i 0) (i 1) : ℝ) : EReal) (-((-fz A (i 0) (i 1) : ℝ) : EReal))))) = _
  rw [bits_zero, max_coe, abs_coe, ← EReal.coe_neg, exp_eq, log1p_eq (softplus_pos _), ← EReal.coe_add, abs_neg, lsig, neg_neg]

theorem l8_0 (i : S8192x256.Idx) : val_main_v8_0 (F := Ideal) (a0 A) (a2 A) (a3 A) i = ((lsig (fz A (i 0) (i 1)) : ℝ) : EReal) := by
  rw [val_main_v8_0_apply, lc1]; exact (EReal.coe_neg _).symm.trans (congrArg _ (neg_neg _))

theorem l8_1 (i : S8192x256.Idx) : val_main_v8_1 (F := Ideal) (a0 A) (a2 A) (a3 A) i = ((sigm (-fz A (i 0) (i 1)) : ℝ) : EReal) := by
  rw [val_main_v8_1_apply, val_main_call0_call0_v21_apply, val_main_call0_call0_v16_apply, val_main_call0_call0_v14_apply, val_main_call0_call0_v13_apply,
    val_main_call0_call0_cst_0_apply, val_main_call0_call0_v20_apply, val_main_call0_call0_v18_apply, val_main_call0_call0_v17_apply, val_main_call0_call0_cst_2_apply, lc0, lc1]
  change Ideal.exp (Scalar.select (Ideal.cmp .oeq ((-fz A (i 0) (i 1) : ℝ) : EReal) (Ideal.ofBits .f32 0x7F800000#32)) (val_main_call0_call0_v15 (F := Ideal) i) ((-fz A (i 0) (i 1) : ℝ) : EReal) - Scalar.select (Ideal.cmp .oeq ((-lsig (fz A (i 0) (i 1)) : ℝ) : EReal) (Ideal.ofBits .f32 0x7F800000#32)) (val_main_call0_call0_v19 (F := Ideal) i) ((-lsig (fz A (i 0) (i 1)) : ℝ) : EReal)) = _
  rw [bits_inf, oeq_top, oeq_top, select_zero, select_zero, ← EReal.coe_sub, exp_eq, ← exp_sub_softplus, lsig, abs_neg, neg_neg]

theorem l10 (i : S8192x256.Idx) : val_main_v10 (F := Ideal) (a0 A) (a2 A) (a3 A) i = ((lsig (fz A (i 0) (i 1)) / 16 : ℝ) : EReal) := by
  rw [val_main_v10_apply, val_main_v9_apply, val_main_cst_apply, l8_0]
  change Ideal.div _ (Ideal.ofBits .f32 0x41800000#32) = _
  rw [bits_16, div_eq _ (by norm_num)]

theorem v11_0 (i : S128x64x4x64.Idx) : idx_main_v11 i 0 = row (i 0) (i 1) :=
  Fin.ext (by have b0 : (i 0).val < 128 := (i 0).isLt; have b1 : (i 1).val < 64 := (i 1).isLt; have b2 : (i 2).val < 4 := (i 2).isLt; have b3 : (i 3).val < 64 := (i 3).isLt; change ((((i 0).val * 64 + (i 1).val) * 4 + (i 2).val) * 64 + (i 3).val) / 256 = 64 * (i 0).val + (i 1).val; omega)

theorem v11_1 (i : S128x64x4x64.Idx) : idx_main_v11 i 1 = kc (i 2) (i 3) :=
  Fin.ext (by have b0 : (i 0).val < 128 := (i 0).isLt; have b1 : (i 1).val < 64 := (i 1).isLt; have b2 : (i 2).val < 4 := (i 2).isLt; have b3 : (i 3).val < 64 := (i 3).isLt; change ((((i 0).val * 64 + (i 1).val) * 4 + (i 2).val) * 64 + (i 3).val) % 256 = 64 * (i 2).val + (i 3).val; omega)

theorem v16_0 (i : S128x64x4x64.Idx) : idx_main_v16 i 0 = row (i 0) (i 1) :=
  Fin.ext (by have b0 : (i 0).val < 128 := (i 0).isLt; have b1 : (i 1).val < 64 := (i 1).isLt; have b2 : (i 2).val < 4 := (i 2).isLt; have b3 : (i 3).val < 64 := (i 3).isLt; change ((((i 0).val * 64 + (i 1).val) * 4 + (i 2).val) * 64 + (i 3).val) / 256 = 64 * (i 0).val + (i 1).val; omega)

theorem v16_1 (i : S128x64x4x64.Idx) : idx_main_v16 i 1 = kc (i 2) (i 3) :=
  Fin.ext (by have b0 : (i 0).val < 128 := (i 0).isLt; have b1 : (i 1).val < 64 := (i 1).isLt; have b2 : (i 2).val < 4 := (i 2).isLt; have b3 : (i 3).val < 64 := (i 3).isLt; change ((((i 0).val * 64 + (i 1).val) * 4 + (i 2).val) * 64 + (i 3).val) % 256 = 64 * (i 2).val + (i 3).val; omega)

theorem v43_0 (i : S128x64x4x64.Idx) : idx_main_v43 i 0 = row (i 0) (i 1) :=
  Fin.ext (by have b0 : (i 0).val < 128 := (i 0).isLt; have b1 : (i 1).val < 64 := (i 1).isLt; have b2 : (i 2).val < 4 := (i 2).isLt; have b3 : (i 3).val < 64 := (i 3).isLt; change ((((i 0).val * 64 + (i 1).val) * 4 + (i 2).val) * 64 + (i 3).val) / 256 = 64 * (i 0).val + (i 1).val; omega)

theorem v43_1 (i : S128x64x4x64.Idx) : idx_main_v43 i 1 = kc (i 2) (i 3) :=
  Fin.ext (by have b0 : (i 0).val < 128 := (i 0).isLt; have b1 : (i 1).val < 64 := (i 1).isLt; have b2 : (i 2).val < 4 := (i 2).isLt; have b3 : (i 3).val < 64 := (i 3).isLt; change ((((i 0).val * 64 + (i 1).val) * 4 + (i 2).val) * 64 + (i 3).val) % 256 = 64 * (i 2).val + (i 3).val; omega)

theorem v23_0 (i : S128x64x4x128.Idx) : idx_main_v23 i 0 = row (i 0) (i 1) :=
  Fin.ext (by have b0 : (i 0).val < 128 := (i 0).isLt; have b1 : (i 1).val < 64 := (i 1).isLt; have b2 : (i 2).val < 4 := (i 2).isLt; have b3 : (i 3).val < 128 := (i 3).isLt; change ((((i 0).val * 64 + (i 1).val) * 4 + (i 2).val) * 128 + (i 3).val) / 512 = 64 * (i 0).val + (i 1).val; omega)

theorem v23_1 (i : S128x64x4x128.Idx) : idx_main_v23 i 1 = vc (i 2) (i 3) :=
  Fin.ext (by have b0 : (i 0).val < 128 := (i 0).isLt; have b1 : (i 1).val < 64 := (i 1).isLt; have b2 : (i 2).val < 4 := (i 2).isLt; have b3 : (i 3).val < 128 := (i 3).isLt; change ((((i 0).val * 64 + (i 1).val) * 4 + (i 2).val) * 128 + (i 3).val) % 512 = 128 * (i 2).val + (i 3).val; omega)

theorem l12 (i : S4x128x64x64.Idx) : val_main_v12 (F := Ideal) (a0 A) (a2 A) (a3 A) i = ((la A (i 0) (i 1) (i 2) (i 3) : ℝ) : EReal) := by
  rw [val_main_v12_apply, val_main_v11_apply, l10, v11_0, v11_1]; rfl

theorem l13 (i : S4x128x64x64.Idx) : val_main_v13 (F := Ideal) (a0 A) (a2 A) (a3 A) i = ((cum A (i 0) (i 1) (i 2) (i 3) : ℝ) : EReal) := by
  change Ideal.hostReduceWindowAdd ![1, 1, 64, 1] ![1, 1, 1, 1] ![0, 0, 63, 0] ![0, 0, 0, 0] reduceWindows_S4x128x64x64_S4x128x64x64_w1s1p0_0_w1s1p0_0_w64s1p63_0_w1s1p0_0 (val_main_v12 (F := Ideal) (a0 A) (a2 A) (a3 A)) (Ideal.ofBits .f32 0x00000000#32) i = _
  rw [bits_zero, EReal.coe_zero]
  refine (window4_upto (n0 := 4) (n1 := 128) (n3 := 64) 63 ![0, 0, 0, 0] _ _ _).trans (sum_eq_coe fun t' => ?_)
  rw [coe_ite, l12]; rfl

theorem v15_0 (i : S4x128x64.Idx) : idx_main_v15 i 0 = i 0 :=
  Fin.ext (by have b0 : (i 0).val < 4 := (i 0).isLt; have b1 : (i 1).val < 128 := (i 1).isLt; have b2 : (i 2).val < 64 := (i 2).isLt; change (((i 0).val * 128 + (i 1).val) * 64 + (i 2).val) / 8192 = (i 0).val; omega)

theorem v15_1 (i : S4x128x64.Idx) : idx_main_v15 i 1 = i 1 :=
  Fin.ext (by have b0 : (i 0).val < 4 := (i 0).isLt; have b1 : (i 1).val < 128 := (i 1).isLt; have b2 : (i 2).val < 64 := (i 2).isLt; change (((i 0).val * 128 + (i 1).val) * 64 + (i 2).val) / 64 % 128 = (i 1).val; omega)

theorem v15_3 (i : S4x128x64.Idx) : idx_main_v15 i 3 = i 2 :=
  Fin.ext (by have b0 : (i 0).val < 4 := (i 0).isLt; have b1 : (i 1).val < 128 := (i 1).isLt; have b2 : (i 2).val < 64 := (i 2).isLt; change (((i 0).val * 128 + (i 1).val) * 64 + (i 2).val) % 64 = (i 2).val; omega)

theorem v14_2 (i : S4x128x1x64.Idx) : idx_main_v14 i 2 = (63 : Fin 64) :=
  Fin.ext (by have b2 : (i 2).val < 1 := (i 2).isLt; change 63 + (i 2).val = 63; omega)

theorem l15 (i : S4x128x64.Idx) : val_main_v15 (F := Ideal) (a0 A) (a2 A) (a3 A) i = ((tot A (i 0) (i 1) (i 2) : ℝ) : EReal) := by
  rw [val_main_v15_apply, val_main_v14_apply, l13, v14_2]
  change ((cum A (idx_main_v15 i 0) (idx_main_v15 i 1) 63 (idx_main_v15 i 3) : ℝ) : EReal) = _
  rw [v15_0, v15_1, v15_3]; rfl

theorem l21 (i : S4x128x64x64.Idx) : val_main_v21 (F := Ideal) (a0 A) (a2 A) (a3 A) i = ((ed A (i 0) (i 1) (i 2) (i 3) : ℝ) : EReal) := by
  rw [val_main_v21_apply, val_main_v20_apply, val_main_v19_apply, val_main_v18_apply, l15, l13]
  exact congrArg Ideal.exp (EReal.coe_sub _ _).symm

theorem l17 (i : S4x128x64x64.Idx) : val_main_v17 (F := Ideal) (a0 A) i = ((K A (i 0) (i 1) (i 2) (i 3) : ℝ) : EReal) := by
  rw [val_main_v17_apply, val_main_v16_apply, val_main_v1_apply]
  exact congrArg₂ (fun a b => ((A.x a b : ℝ) : EReal)) (v16_0 (idx_main_v17 i)) (Fin.ext (congrArg (fun z => 1792 + Fin.val z) (v16_1 (idx_main_v17 i))))

theorem l44 (i : S4x128x64x64.Idx) : val_main_v44 (F := Ideal) (a0 A) i = ((Q A (i 0) (i 1) (i 2) (i 3) : ℝ) : EReal) := by
  rw [val_main_v44_apply, val_main_v43_apply, val_main_v0_apply]
  exact congrArg₂ (fun a b => ((A.x a b : ℝ) : EReal)) (v43_0 (idx_main_v44 i)) (Fin.ext (congrArg (fun z => 1536 + Fin.val z) (v43_1 (idx_main_v44 i))))

theorem l24 (i : S4x128x64x128.Idx) : val_main_v24 (F := Ideal) (a0 A) i = ((V A (i 0) (i 1) (i 2) (i 3) : ℝ) : EReal) := by
  rw [val_main_v24_apply, val_main_v23_apply, val_main_v2_apply]
  exact congrArg₂ (fun a b => ((A.x a b : ℝ) : EReal)) (v23_0 (idx_main_v24 i)) (Fin.ext (congrArg (fun z => 2048 + Fin.val z) (v23_1 (idx_main_v24 i))))

theorem l22 (i : S4x128x64x64.Idx) : val_main_v22 (F := Ideal) (a0 A) (a2 A) (a3 A) i = ((kd A (i 0) (i 1) (i 2) (i 3) : ℝ) : EReal) := by
  rw [val_main_v22_apply, l17, l21]; exact (EReal.coe_mul _ _).symm

theorem l25 (i : S4x128x64x128.Idx) : val_main_v25 (F := Ideal) (a0 A) (a2 A) (a3 A) i = ((kv A (i 0) (i 1) (i 2) (i 3) : ℝ) : EReal) := by
  rw [val_main_v25_apply]
  exact sum_eq_coe fun k => by rw [l22, l24, EReal.coe_mul]; rfl

theorem l26 (i : S4x128x64.Idx) : val_main_v26 (F := Ideal) (a0 A) (a2 A) (a3 A) i = ((T A (i 0) (i 1) (i 2) : ℝ) : EReal) := by
  change Ideal.hostReduceWindowAdd ![1, 128, 1] ![1, 1, 1] ![0, 127, 0] ![0, 0, 0] reduceWindows_S4x128x64_S4x128x64_w1s1p0_0_w128s1p127_0_w1s1p0_0 (val_main_v15 (F := Ideal) (a0 A) (a2 A) (a3 A)) (Ideal.ofBits .f32 0x00000000#32) i = _
  rw [bits_zero, EReal.coe_zero]
  refine (window3_upto (n0 := 4) (n2 := 64) 127 ![0, 0, 0] _ _ _).trans (sum_eq_coe fun t' => ?_)
  rw [coe_ite, l15]; rfl

theorem cmpi_sge128 (n m : Fin 128) : IntOp.cmpi .sge (BitVec.ofNat 32 n.val) (BitVec.ofNat 32 m.val) = if m.val ≤ n.val then 1#1 else 0#1 := by
  revert n m; decide +kernel

theorem l40_1 (i : S4x128x128x64.Idx) : val_main_v40_1 (F := Ideal) i = if (i 2).val ≤ (i 1).val then 1#1 else 0#1 := by
  rw [val_main_v40_1_apply, val_main_v33_apply, val_main_v32_apply, val_main_v30_apply, val_main_v31_apply, val_main_v28_apply, val_main_v29_apply,
    val_main_v27_apply, val_main_v27_apply]
  exact cmpi_sge128 (i 1) (i 2)

theorem l39 (i : S4x128x128x64.Idx) : val_main_v39 (F := Ideal) (a0 A) (a2 A) (a3 A) i = ((Real.exp (T A (i 0) (i 1) (i 3) - T A (i 0) (i 2) (i 3)) : ℝ) : EReal) := by
  rw [val_main_v39_apply, val_main_v38_apply, val_main_v36_apply, val_main_v37_apply, val_main_v34_apply, val_main_v35_apply, l26, l26]
  exact congrArg Ideal.exp (EReal.coe_sub _ _).symm

theorem l40_0 (i : S4x128x128x64.Idx) : val_main_v40_0 (F := Ideal) (a0 A) (a2 A) (a3 A) i = ((D A (i 0) (i 1) (i 2) (i 3) : ℝ) : EReal) := by
  rw [val_main_v40_0_apply, l40_1, l39, val_main_call3_v2_apply, val_main_call3_v0_apply, val_main_cst_0_apply]
  unfold D; rw [coe_ite]
  split
  · exact select_one _ _
  · exact (select_zero _ _).trans bits_zero

theorem l42 (i : S4x128x64x128.Idx) : val_main_v42 (F := Ideal) (a0 A) (a2 A) (a3 A) i = ((S A (i 0) (i 1) (i 2) (i 3) : ℝ) : EReal) := by
  rw [val_main_v42_apply, val_main_v41_apply]
  exact sum_eq_coe fun k => by rw [l25, l40_0, EReal.coe_mul]; rfl

theorem l46 (i : S4x128x64x64.Idx) : val_main_v46 (F := Ideal) (a0 A) i = ((qs A (i 0) (i 1) (i 2) (i 3) : ℝ) : EReal) := by
  rw [val_main_v46_apply, val_main_v45_apply, val_main_cst_1_apply, l44]
  exact (congrArg (((Q A (i 0) (i 1) (i 2) (i 3) : ℝ) : EReal) * ·) bits_eighth).trans (EReal.coe_mul _ _).symm

theorem l47 (i : S4x128x64x128.Idx) : val_main_v47 (F := Ideal) (a0 A) (a2 A) (a3 A) i = ((o A (i 0) (i 1) (i 2) (i 3) : ℝ) : EReal) := by
  rw [val_main_v47_apply]
  exact sum_eq_coe fun k => by rw [l46, l42, EReal.coe_mul]; rfl

theorem v49_0 (i : S8192x4x128.Idx) : idx_main_v49 i 0 = ch (i 0) :=
  Fin.ext (by have b0 : (i 0).val < 8192 := (i 0).isLt; have b1 : (i 1).val < 4 := (i 1).isLt; have b2 : (i 2).val < 128 := (i 2).isLt; change (((i 0).val * 4 + (i 1).val) * 128 + (i 2).val) / 32768 = (i 0).val / 64; omega)

theorem v49_1 (i : S8192x4x128.Idx) : idx_main_v49 i 1 = tm (i 0) :=
  Fin.ext (by have b0 : (i 0).val < 8192 := (i 0).isLt; have b1 : (i 1).val < 4 := (i 1).isLt; have b2 : (i 2).val < 128 := (i 2).isLt; change (((i 0).val * 4 + (i 1).val) * 128 + (i 2).val) / 512 % 64 = (i 0).val % 64; omega)

theorem v49_2 (i : S8192x4x128.Idx) : idx_main_v49 i 2 = i 1 :=
  Fin.ext (by have b0 : (i 0).val < 8192 := (i 0).isLt; have b1 : (i 1).val < 4 := (i 1).isLt; have b2 : (i 2).val < 128 := (i 2).isLt; change (((i 0).val * 4 + (i 1).val) * 128 + (i 2).val) / 128 % 4 = (i 1).val; omega)

theorem v49_3 (i : S8192x4x128.Idx) : idx_main_v49 i 3 = i 2 :=
  Fin.ext (by have b0 : (i 0).val < 8192 := (i 0).isLt; have b1 : (i 1).val < 4 := (i 1).isLt; have b2 : (i 2).val < 128 := (i 2).isLt; change (((i 0).val * 4 + (i 1).val) * 128 + (i 2).val) % 128 = (i 2).val; omega)

theorem l49 (i : S8192x4x128.Idx) : val_main_v49 (F := Ideal) (a0 A) (a2 A) (a3 A) i = ((o A (i 1) (ch (i 0)) (tm (i 0)) (i 2) : ℝ) : EReal) := by
  rw [val_main_v49_apply, val_main_v48_apply, l47]
  change ((o A (idx_main_v49 i 2) (idx_main_v49 i 0) (idx_main_v49 i 1) (idx_main_v49 i 3) : ℝ) : EReal) = _
  rw [v49_0, v49_1, v49_2, v49_3]

theorem l56 (i : S8192x4x1.Idx) : val_main_v56 (F := Ideal) (a0 A) (a2 A) (a3 A) i = ((ms A (i 1) (ch (i 0)) (tm (i 0)) : ℝ) : EReal) := by
  rw [val_main_v56_apply, val_main_v54_apply, val_main_v55_apply, val_main_v53_apply, val_main_v52_apply, val_main_v51_apply, val_main_cst_2_apply,
    val_main_cst_3_apply, val_main_cst_4_apply]
  have e : (∑ k : Fin 128, val_main_v50 (F := Ideal) (a0 A) (a2 A) (a3 A) (idx_main_v51 (idx_main_v52 i) k)) = ((∑ v : Fin 128, o A (i 1) (ch (i 0)) (tm (i 0)) v * o A (i 1) (ch (i 0)) (tm (i 0)) v : ℝ) : EReal) :=
    sum_eq_coe fun k => by rw [val_main_v50_apply, l49, EReal.coe_mul]; rfl
  rw [e]
  change Ideal.div (Ideal.ofBits .f32 0x00000000#32 + _) (Ideal.ofBits .f32 0x43000000#32) + Ideal.ofBits .f32 0x358637BD#32 = _
  rw [bits_zero, bits_128, bits_eps, ← EReal.coe_add, div_eq _ (by norm_num), ← EReal.coe_add, zero_add]; rfl

theorem eps_pos : 0 < eps := by unfold eps; norm_num
theorem ms_pos (h : Fin 4) (c : Fin 128) (t : Fin 64) : 0 < ms A h c t := by
  have : 0 ≤ ∑ v : Fin 128, o A h c t v * o A h c t v := Finset.sum_nonneg fun v _ => mul_self_nonneg _
  have := eps_pos
  unfold ms; positivity

theorem l57 (i : S8192x4x1.Idx) : val_main_v57 (F := Ideal) (a0 A) (a2 A) (a3 A) i = ((rs A (i 1) (ch (i 0)) (tm (i 0)) : ℝ) : EReal) := by
  rw [val_main_v57_apply, l56]; exact rsqrt_eq (ms_pos A _ _ _)

theorem l60 (i : S8192x4x1.Idx) : val_main_v60 (F := Ideal) (a0 A) (a2 A) (a3 A) i = ((-(1 / 2) * (rs A (i 1) (ch (i 0)) (tm (i 0)) / ms A (i 1) (ch (i 0)) (tm (i 0))) : ℝ) : EReal) := by
  rw [val_main_v60_apply, val_main_v59_apply, val_main_cst_5_apply, val_main_v58_apply, l57, l56]
  change Ideal.ofBits .f32 0xBF000000#32 * Ideal.div _ _ = _
  exact (congrArg₂ (· * ·) bits_neg_half (div_eq _ (ms_pos A (i 1) (ch (i 0)) (tm (i 0))).ne')).trans (EReal.coe_mul _ _).symm

theorem l62 (i : S8192x4x128.Idx) : val_main_v62 (F := Ideal) (a0 A) (a2 A) (a3 A) i = ((nr A (i 1) (ch (i 0)) (tm (i 0)) (i 2) : ℝ) : EReal) := by
  rw [val_main_v62_apply, l49, val_main_v61_apply, l57]; exact (EReal.coe_mul _ _).symm

theorem v63_0 (i : S8192x512.Idx) : idx_main_v63 i 0 = i 0 :=
  Fin.ext (by have b0 : (i 0).val < 8192 := (i 0).isLt; have b1 : (i 1).val < 512 := (i 1).isLt; change ((i 0).val * 512 + (i 1).val) / 512 = (i 0).val; omega)

theorem v63_1 (i : S8192x512.Idx) : idx_main_v63 i 1 = vh (i 1) :=
  Fin.ext (by have b0 : (i 0).val < 8192 := (i 0).isLt; have b1 : (i 1).val < 512 := (i 1).isLt; change ((i 0).val * 512 + (i 1).val) / 128 % 4 = (i 1).val / 128; omega)

theorem v63_2 (i : S8192x512.Idx) : idx_main_v63 i 2 = vl (i 1) :=
  Fin.ext (by have b0 : (i 0).val < 8192 := (i 0).isLt; have b1 : (i 1).val < 512 := (i 1).isLt; change ((i 0).val * 512 + (i 1).val) % 128 = (i 1).val % 128; omega)

theorem l63 (i : S8192x512.Idx) : val_main_v63 (F := Ideal) (a0 A) (a2 A) (a3 A) i = ((nr A (vh (i 1)) (ch (i 0)) (tm (i 0)) (vl (i 1)) : ℝ) : EReal) := by
  rw [val_main_v63_apply, l62, v63_0, v63_1, v63_2]

theorem gn_vh (u : Fin 512) : gn A (vh u) (vl u) = A.g u := congrArg A.g (vc_vh_vl u)
theorem GG_vh (s : Fin 8192) (u : Fin 512) : GG A (vh u) (ch s) (tm s) (vl u) = A.x s ⟨2560 + u.val, by omega⟩ := by
  unfold GG; simp only [row_ch_tm, vc_vh_vl]
theorem ct_vh (s : Fin 8192) (u : Fin 512) : ct A (vh u) (ch s) (tm s) (vl u) = A.d s ⟨512 + u.val, by omega⟩ := by
  unfold ct; simp only [row_ch_tm, vc_vh_vl]

theorem l3 (i : S8192x512.Idx) : val_main_v3 (F := Ideal) (a0 A) i = ((GG A (vh (i 1)) (ch (i 0)) (tm (i 0)) (vl (i 1)) : ℝ) : EReal) := by
  rw [val_main_v3_apply]; exact congrArg ((↑) : ℝ → EReal) (GG_vh A (i 0) (i 1)).symm

theorem l68 (i : S8192x512.Idx) : val_main_v68 (F := Ideal) (a1 A) i = ((ct A (vh (i 1)) (ch (i 0)) (tm (i 0)) (vl (i 1)) : ℝ) : EReal) := by
  rw [val_main_v68_apply]; exact congrArg ((↑) : ℝ → EReal) (ct_vh A (i 0) (i 1)).symm

theorem l65 (i : S8192x512.Idx) : val_main_v65 (F := Ideal) (a0 A) (a2 A) (a3 A) (a4 A) i = ((nr A (vh (i 1)) (ch (i 0)) (tm (i 0)) (vl (i 1)) * gn A (vh (i 1)) (vl (i 1)) : ℝ) : EReal) := by
  rw [val_main_v65_apply, l63, val_main_v64_apply, EReal.coe_mul]
  exact congrArg (((nr A (vh (i 1)) (ch (i 0)) (tm (i 0)) (vl (i 1)) : ℝ) : EReal) * ·) (congrArg ((↑) : ℝ → EReal) (gn_vh A (i 1)).symm)

theorem l66_2 (i : S8192x512.Idx) : val_main_v66_2 (F := Ideal) (a0 A) i = ((sigm (GG A (vh (i 1)) (ch (i 0)) (tm (i 0)) (vl (i 1))) : ℝ) : EReal) := by
  rw [val_main_v66_2_apply, val_main_call4_v4_apply, val_main_call4_cst_0_apply, val_main_call4_v3_apply, val_main_call4_v2_apply, val_main_call4_cst_apply,
    val_main_call4_v1_apply, val_main_call4_v0_apply, l3]
  change Ideal.div (Ideal.ofBits .f32 0x3F800000#32) (Ideal.ofBits .f32 0x3F800000#32 + Ideal.exp (-((GG A (vh (i 1)) (ch (i 0)) (tm (i 0)) (vl (i 1)) : ℝ) : EReal))) = _
  rw [bits_one, ← EReal.coe_neg, exp_eq, ← EReal.coe_add, div_eq _ (by positivity)]; rfl

theorem l66_1 (i : S8192x512.Idx) : val_main_v66_1 (F := Ideal) (a0 A) i = ((sigm (GG A (vh (i 1)) (ch (i 0)) (tm (i 0)) (vl (i 1))) * (1 - sigm (GG A (vh (i 1)) (ch (i 0)) (tm (i 0)) (vl (i 1)))) : ℝ) : EReal) := by
  rw [val_main_v66_1_apply, val_main_call4_v7_apply, val_main_call4_v6_apply, val_main_call4_cst_1_apply, l66_2]
  change _ * (Ideal.ofBits .f32 0x3F800000#32 - _) = _
  rw [bits_one, ← EReal.coe_sub, ← EReal.coe_mul]

theorem l66_0 (i : S8192x512.Idx) : val_main_v66_0 (F := Ideal) (a0 A) i = ((GG A (vh (i 1)) (ch (i 0)) (tm (i 0)) (vl (i 1)) * sigm (GG A (vh (i 1)) (ch (i 0)) (tm (i 0)) (vl (i 1))) : ℝ) : EReal) := by
  rw [val_main_v66_0_apply, l66_2, l3]; exact (EReal.coe_mul _ _).symm

end Cert.Gla

end
-- ==== Proof.Re.lean ====
module

public import proofs.«01_k».proof.Proof.Voc
public import proofs.«01_k».proof.Proof.Lift
public import proofs.«01_k».proof.Proof.Spec
public import Idealize.ShloMosaic.Lib.ValueIdx
public import Idealize.ShloMosaic.Lib.MatmulPlain
public import Idealize.ShloMosaic.Lib.Pipeline.Value

@[expose] public section

set_option maxRecDepth 16384

/-! Arrays of two axes that hold real numbers, and what the operations make of them. -/

noncomputable section

open scoped BigOperators

namespace Cert.KernelIdeal.Voc

open Cert.KernelIdeal Cert.KernelIdeal.Gen Idealize.ShloMosaic Idealize.ShloMosaic.TcCoe Idealize.ShloMosaic.ValueIdx Cert.Gla

/-- The array `x` holds the real numbers `f`. -/
def Re {n m : ℕ} {φ : FTy} (x : FVec Ideal ⟨2, ![n, m]⟩ φ) (f : Fin n → Fin m → ℝ) : Prop :=
  ∀ i j, x (ix2 i j) = ((f i j : ℝ) : EReal)

section
variable {n m k : ℕ} {φ ψ : FTy}

theorem Re.of {x : FVec Ideal ⟨2, ![n, m]⟩ φ} {f g : Fin n → Fin m → ℝ} (h : Re x f) (e : ∀ i j, f i j = g i j) : Re x g :=
  fun i j => (h i j).trans (congrArg _ (e i j))

theorem Re.add {x y : FVec Ideal ⟨2, ![n, m]⟩ φ} {f g : Fin n → Fin m → ℝ} (hx : Re x f) (hy : Re y g) :
    Re (addf x y) (fun i j => f i j + g i j) :=
  fun i j => (congrArg₂ (fun a b : EReal => a + b) (hx i j) (hy i j)).trans (EReal.coe_add _ _).symm
theorem Re.sub {x y : FVec Ideal ⟨2, ![n, m]⟩ φ} {f g : Fin n → Fin m → ℝ} (hx : Re x f) (hy : Re y g) :
    Re (subf x y) (fun i j => f i j - g i j) :=
  fun i j => (congrArg₂ (fun a b : EReal => a - b) (hx i j) (hy i j)).trans (EReal.coe_sub _ _).symm
theorem Re.mul {x y : FVec Ideal ⟨2, ![n, m]⟩ φ} {f g : Fin n → Fin m → ℝ} (hx : Re x f) (hy : Re y g) :
    Re (mulf x y) (fun i j => f i j * g i j) :=
  fun i j => (congrArg₂ (fun a b : EReal => a * b) (hx i j) (hy i j)).trans (EReal.coe_mul _ _).symm
theorem Re.div {x y : FVec Ideal ⟨2, ![n, m]⟩ φ} {f g : Fin n → Fin m → ℝ} (hx : Re x f) (hy : Re y g) (h : ∀ i j, g i j ≠ 0) :
    Re (divf x y) (fun i j => f i j / g i j) :=
  fun i j => (congrArg₂ (fun a b : EReal => Ideal.div a b) (hx i j) (hy i j)).trans (div_eq _ (h i j))
theorem Re.min {x y : FVec Ideal ⟨2, ![n, m]⟩ φ} {f g : Fin n → Fin m → ℝ} (hx : Re x f) (hy : Re y g) :
    Re (minimumf x y) (fun i j => min (f i j) (g i j)) :=
  fun i j => (congrArg₂ (fun a b : EReal => Min.min a b) (hx i j) (hy i j)).trans (min_coe _ _)
theorem Re.exp {x : FVec Ideal ⟨2, ![n, m]⟩ φ} {f : Fin n → Fin m → ℝ} (hx : Re x f) :
    Re (Idealize.ShloMosaic.exp x) (fun i j => Real.exp (f i j)) :=
  fun i j => (congrArg Ideal.exp (hx i j)).trans (exp_eq _)
theorem Re.log {x : FVec Ideal ⟨2, ![n, m]⟩ φ} {f : Fin n → Fin m → ℝ} (hx : Re x f) (h : ∀ i j, 0 < f i j) :
    Re (Idealize.ShloMosaic.log x) (fun i j => Real.log (f i j)) :=
  fun i j => (congrArg Ideal.log (hx i j)).trans (log_eq (h i j))
theorem Re.rsqrt {x : FVec Ideal ⟨2, ![n, m]⟩ φ} {f : Fin n → Fin m → ℝ} (hx : Re x f) (h : ∀ i j, 0 < f i j) :
    Re (Idealize.ShloMosaic.rsqrt x) (fun i j => (Real.sqrt (f i j))⁻¹) :=
  fun i j => (congrArg Ideal.rsqrt (hx i j)).trans (rsqrt_eq (h i j))
theorem Re.abs {x : FVec Ideal ⟨2, ![n, m]⟩ φ} {f : Fin n → Fin m → ℝ} (hx : Re x f) :
    Re (absf x) (fun i j => |f i j|) :=
  fun i j => (congrArg (fun a : EReal => max a (-a)) (hx i j)).trans (abs_coe _)
theorem Re.r16 {x : FVec Ideal ⟨2, ![n, m]⟩ .f32} {f : Fin n → Fin m → ℝ} (hx : Re x f) : Re (r16 x) f := hx
theorem Re.ext {x : FVec Ideal ⟨2, ![n, m]⟩ .bf16} {f : Fin n → Fin m → ℝ} (hx : Re x f) : Re (extf .f32 x bitsLt_bf16_f32) f := hx
theorem Re.cst {w : BitVec 32} {r : ℝ} (h : Ideal.ofBits .f32 w = ((r : ℝ) : EReal)) : Re (n := n) (m := m) (num (F := Ideal) ⟨2, ![n, m]⟩ w) (fun _ _ => r) :=
  fun _ _ => h
theorem Re.n0 : Re (n := n) (m := m) (num (F := Ideal) ⟨2, ![n, m]⟩ 0x00000000#32) (fun _ _ => 0) := .cst bits_zero
theorem Re.n1 : Re (n := n) (m := m) (num (F := Ideal) ⟨2, ![n, m]⟩ 0x3F800000#32) (fun _ _ => 1) := .cst bits_one

theorem cz (s : Shape) (i : s.Idx) : constant (F := Ideal) s .f32 0x00000000#32 i = (0 : EReal) := bits_zero

theorem Re.plain {x : FVec Ideal ⟨2, ![n, k]⟩ φ} {y : FVec Ideal ⟨2, ![k, m]⟩ ψ} {f : Fin n → Fin k → ℝ} {g : Fin k → Fin m → ℝ}
    (hx : Re x f) (hy : Re y g) :
    Re (matmul (DotDims.plain n k m) none x y (constant ⟨2, ![n, m]⟩ .f32 0x00000000#32)) (fun i j => ∑ l, f i l * g l j) := fun i j =>
  (Ideal.matmul_plain_apply none x y _ i j).trans ((congrArg (fun a : EReal => a + _) (cz _ _)).trans ((zero_add _).trans
    (sum_eq_coe fun l => (congrArg₂ (fun a b : EReal => a * b) (hx i l) (hy l j)).trans (EReal.coe_mul _ _).symm)))
theorem Re.tr {x : FVec Ideal ⟨2, ![n, k]⟩ φ} {y : FVec Ideal ⟨2, ![m, k]⟩ ψ} {f : Fin n → Fin k → ℝ} {g : Fin m → Fin k → ℝ}
    (hx : Re x f) (hy : Re y g) :
    Re (matmul (DotDims.transposedRhs n k m) none x y (constant ⟨2, ![n, m]⟩ .f32 0x00000000#32)) (fun i j => ∑ l, f i l * g j l) := fun i j =>
  (Ideal.matmul_transposedRhs_apply none x y _ i j).trans ((congrArg (fun a : EReal => a + _) (cz _ _)).trans ((zero_add _).trans
    (sum_eq_coe fun l => (congrArg₂ (fun a b : EReal => a * b) (hx i l) (hy j l)).trans (EReal.coe_mul _ _).symm)))

theorem Re.row {x : FVec Ideal ⟨2, ![1, m]⟩ φ} {f : Fin 1 → Fin m → ℝ} (hx : Re x f) (h : (⟨2, ![1, m]⟩ : Shape).Broadcasts ⟨2, ![n, m]⟩) :
    Re (broadcastTo ⟨2, ![n, m]⟩ x h) (fun _ j => f 0 j) := fun i j =>
  (broadcastTo_apply x h (ix2 i j) (ix2 0 j) (Fin.forall_fin_two.2 ⟨by simp, by
    change j.val = if m = 1 then 0 else j.val
    split
    · have := j.isLt; omega
    · rfl⟩)).trans (hx 0 j)
theorem Re.col {x : FVec Ideal ⟨2, ![n, 1]⟩ φ} {f : Fin n → Fin 1 → ℝ} (hx : Re x f) (h : (⟨2, ![n, 1]⟩ : Shape).Broadcasts ⟨2, ![n, m]⟩) :
    Re (broadcastTo ⟨2, ![n, m]⟩ x h) (fun i _ => f i 0) := fun i j =>
  (broadcastTo_apply x h (ix2 i j) (ix2 i 0) (Fin.forall_fin_two.2 ⟨by
    change i.val = if n = 1 then 0 else i.val
    split
    · have := i.isLt; omega
    · rfl, by simp⟩)).trans (hx i 0)
theorem Re.slice {N M o p : ℕ} {x : FVec Ideal ⟨2, ![N, M]⟩ φ} {f : Fin N → Fin M → ℝ} (hx : Re x f)
    (h : (⟨2, ![N, M]⟩ : Shape).Slices ![o, p] ⟨2, ![n, m]⟩) (h0 : o + n ≤ N) (h1 : p + m ≤ M) :
    Re (extractStridedSlice ⟨2, ![n, m]⟩ ![o, p] x h) (fun i j => f ⟨o + i.val, by omega⟩ ⟨p + j.val, by omega⟩) := fun i j =>
  (extractStridedSlice_apply ![o, p] x h (ix2 i j) (ix2 ⟨o + i.val, by omega⟩ ⟨p + j.val, by omega⟩)
    (Fin.forall_fin_two.2 ⟨rfl, rfl⟩)).trans (hx _ _)
theorem Re.cat {c : ℕ} {x : FVec Ideal ⟨2, ![n, m]⟩ φ} {y : FVec Ideal ⟨2, ![n, k]⟩ φ} {f : Fin n → Fin m → ℝ} {g : Fin n → Fin k → ℝ}
    {G : Fin n → Fin c → ℝ} (hx : Re x f) (hy : Re y g)
    (h : Shape.Concatenates [(⟨2, ![n, m]⟩ : Shape), ⟨2, ![n, k]⟩] ⟨2, ![n, c]⟩ 1) (hc : c = m + k)
    (hl : ∀ i (j : Fin m), G i ⟨j.val, by omega⟩ = f i j) (hr : ∀ i (j : Fin k), G i ⟨m + j.val, by omega⟩ = g i j) :
    Re (concatenate ⟨2, ![n, c]⟩ 1 [⟨⟨2, ![n, m]⟩, x⟩, ⟨⟨2, ![n, k]⟩, y⟩] h) G := fun i j => by
  by_cases hj : j.val < m
  · refine (concatenate_pair_apply_left (1 : Fin 2) x y h (ix2 i j) rfl (ix2 i ⟨j.val, hj⟩) (Fin.forall_fin_two.2 ⟨rfl, rfl⟩)).trans ((hx _ _).trans ?_)
    rw [← hl]
  · have hj2 : j.val - m < k := by omega
    refine (concatenate_pair_apply_right (1 : Fin 2) x y h (ix2 i j) rfl rfl (ix2 i ⟨j.val - m, hj2⟩)
      (Fin.forall_fin_two.2 ⟨fun _ => rfl, fun h => absurd rfl h⟩) (by change j.val - m + m = j.val; omega)).trans ((hy _ _).trans ?_)
    rw [← hr]
    exact congrArg (fun z => ((G i z : ℝ) : EReal)) (Fin.ext (by simp only; omega))
end

theorem mm_f {x : FVec Ideal S512x128 .bf16} {y : FVec Ideal S128x256 .bf16} {f : Fin 512 → Fin 128 → ℝ} {g : Fin 128 → Fin 256 → ℝ} (hx : Re x f) (hy : Re y g) :
    Re (matmul dot_S512x128_S128x256_S512x256_1_0_0_1_n_n none x y (constant S512x256 .f32 0x00000000#32)) (fun i j => ∑ l, f i l * g l j) := Re.plain hx hy
theorem mm_t {x : FVec Ideal S64x64 .bf16} {y : FVec Ideal S64x128 .bf16} {f : Fin 64 → Fin 64 → ℝ} {g : Fin 64 → Fin 128 → ℝ} (hx : Re x f) (hy : Re y g) :
    Re (matmul dot_S64x64_S64x128_S64x128_1_0_0_1_n_n none x y (constant S64x128 .f32 0x00000000#32)) (fun i j => ∑ l, f i l * g l j) := Re.plain hx hy
theorem mm_o {x : FVec Ideal S64x128 .bf16} {y : FVec Ideal S256x128 .bf16} {f : Fin 64 → Fin 128 → ℝ} {g : Fin 256 → Fin 128 → ℝ} (hx : Re x f) (hy : Re y g) :
    Re (matmul dot_S64x128_S256x128_S64x256_1_1_0_0_n_n none x y (constant S64x256 .f32 0x00000000#32)) (fun i j => ∑ l, f i l * g j l) := Re.tr hx hy
theorem mm_q {x : FVec Ideal S64x256 .bf16} {y : FVec Ideal S256x128 .bf16} {f : Fin 64 → Fin 256 → ℝ} {g : Fin 256 → Fin 128 → ℝ} (hx : Re x f) (hy : Re y g) :
    Re (matmul dot_S64x256_S256x128_S64x128_1_0_0_1_n_n none x y (constant S64x128 .f32 0x00000000#32)) (fun i j => ∑ l, f i l * g l j) := Re.plain hx hy
theorem mm_g {x : FVec Ideal S512x256 .bf16} {y : FVec Ideal S128x256 .bf16} {f : Fin 512 → Fin 256 → ℝ} {g : Fin 128 → Fin 256 → ℝ} (hx : Re x f) (hy : Re y g) :
    Re (matmul dot_S512x256_S128x256_S512x128_1_1_0_0_n_n none x y (constant S512x128 .f32 0x00000000#32)) (fun i j => ∑ l, f i l * g j l) := Re.tr hx hy

theorem mm_r {x : FVec Ideal S64x256 .bf16} {y : FVec Ideal S64x128 .bf16} {f : Fin 64 → Fin 256 → ℝ} {g : Fin 64 → Fin 128 → ℝ} (hx : Re x f) (hy : Re y g) :
    Re (matmul dot_S64x256_S64x128_S256x128_0_0_1_1_n_n none x y (constant S256x128 .f32 0x00000000#32)) (fun i j => ∑ l, f l i * g l j) := fun i j => by
  refine (Ideal.matmul_apply _ _ _ _ _ _).trans ((congrArg (fun a : EReal => a + _) (cz _ _)).trans ((zero_add _).trans ?_))
  rw [← Equiv.sum_comp (contrEquiv1 dot_S64x256_S64x128_S256x128_0_0_1_1_n_n 64 rfl rfl).symm]
  refine sum_eq_coe fun l => ?_
  have hk := contrEquiv1_symm_val dot_S64x256_S64x128_S256x128_0_0_1_1_n_n 64 rfl rfl l
  refine (congrArg₂ (fun a b : EReal => a * b) ((congrArg x (ext2 ?_ ?_)).trans (hx l i)) ((congrArg y (ext2 ?_ ?_)).trans (hy l j))).trans (EReal.coe_mul _ _).symm
  · exact hk
  · rfl
  · exact hk
  · rfl
theorem mm_w {x : FVec Ideal S512x128 .bf16} {y : FVec Ideal S512x256 .bf16} {f : Fin 512 → Fin 128 → ℝ} {g : Fin 512 → Fin 256 → ℝ} (hx : Re x f) (hy : Re y g) :
    Re (matmul dot_S512x128_S512x256_S128x256_0_0_1_1_n_n none x y (constant S128x256 .f32 0x00000000#32)) (fun i j => ∑ l, f l i * g l j) := fun i j => by
  refine (Ideal.matmul_apply _ _ _ _ _ _).trans ((congrArg (fun a : EReal => a + _) (cz _ _)).trans ((zero_add _).trans ?_))
  rw [← Equiv.sum_comp (contrEquiv1 dot_S512x128_S512x256_S128x256_0_0_1_1_n_n 512 rfl rfl).symm]
  refine sum_eq_coe fun l => ?_
  have hk := contrEquiv1_symm_val dot_S512x128_S512x256_S128x256_0_0_1_1_n_n 512 rfl rfl l
  refine (congrArg₂ (fun a b : EReal => a * b) ((congrArg x (ext2 ?_ ?_)).trans (hx l i)) ((congrArg y (ext2 ?_ ?_)).trans (hy l j))).trans (EReal.coe_mul _ _).symm
  · exact hk
  · rfl
  · exact hk
  · rfl

theorem Re.cast11 {n m : ℕ} {x : FVec Ideal ⟨1, ![n]⟩ .f32} {f : Fin n → ℝ} (hx : ∀ i, x (ix1 i) = ((f i : ℝ) : EReal))
    (h : (⟨1, ![n]⟩ : Shape).ShapeCasts ⟨2, ![n, 1]⟩) : Re (shapeCast ⟨2, ![n, 1]⟩ x h) (fun i _ => f i) := fun i j =>
  (shapeCast_apply x h (ix2 i j) (ix1 i) (by
    rw [Shape.rowMajor_val_one, Shape.rowMajor_val_two]
    change i.val = i.val * 1 + j.val
    have := j.isLt
    omega)).trans (hx i)
theorem Re.cast1 {n m : ℕ} {x : FVec Ideal ⟨1, ![n]⟩ .f32} {f : Fin n → ℝ} (hx : ∀ i, x (ix1 i) = ((f i : ℝ) : EReal))
    (h : (⟨1, ![n]⟩ : Shape).ShapeCasts ⟨2, ![1, n]⟩) : Re (shapeCast ⟨2, ![1, n]⟩ x h) (fun _ i => f i) := fun i j =>
  (shapeCast_apply x h (ix2 i j) (ix1 j) (by
    rw [Shape.rowMajor_val_one, Shape.rowMajor_val_two]
    change j.val = i.val * n + j.val
    have : i.val = 0 := by have := i.isLt; omega
    rw [this]; omega)).trans (hx j)

theorem sum1 {x : FVec Ideal S64x128 .f32} {f : Fin 64 → Fin 128 → ℝ} (hx : Re x f) (i : Fin 64) :
    multiReduction .add [1] S64 x 0x00000000#32 reduces_S64x128_S64 (.inl rfl) rfl (ix1 i) = ((∑ j, f i j : ℝ) : EReal) :=
  (Ideal.multiReduction_add_single x _ reduces_S64x128_S64 _ _ (ix1 i)).trans
    (sum_eq_coe fun j => (congrArg x (ext2 (i := reduces_S64x128_S64.lift (ix1 i) j) (j := ix2 i j) rfl rfl)).trans (hx i j))
theorem sum1u {x : FVec Ideal S64x1 .f32} {f : Fin 64 → Fin 1 → ℝ} (hx : Re x f) (i : Fin 64) :
    multiReduction .add [1] S64 x 0x00000000#32 reduces_S64x1_S64 (.inl rfl) rfl (ix1 i) = ((f i 0 : ℝ) : EReal) :=
  (Ideal.multiReduction_add_single x _ reduces_S64x1_S64 _ _ (ix1 i)).trans
    ((sum_eq_coe (g := fun j => f i j) fun j => (congrArg x (ext2 (i := reduces_S64x1_S64.lift (ix1 i) j) (j := ix2 i j) rfl rfl)).trans (hx i j)).trans (congrArg _ (Fin.sum_univ_one _)))
theorem sum0 {x : FVec Ideal S64x256 .f32} {f : Fin 64 → Fin 256 → ℝ} (hx : Re x f) (j : Fin 256) :
    multiReduction .add [0] S256 x 0x00000000#32 reduces_S64x256_S256 (.inl rfl) rfl (ix1 j) = ((∑ i, f i j : ℝ) : EReal) :=
  (Ideal.multiReduction_add_single x _ reduces_S64x256_S256 _ _ (ix1 j)).trans
    (sum_eq_coe fun i => (congrArg x (ext2 (i := reduces_S64x256_S256.lift (ix1 j) i) (j := ix2 i j) rfl rfl)).trans (hx i j))
theorem sum0c {x : FVec Ideal S256x128 .f32} {f : Fin 256 → Fin 128 → ℝ} (hx : Re x f) (j : Fin 128) :
    multiReduction .add [0] S128 x 0x00000000#32 reduces_S256x128_S128 (.inl rfl) rfl (ix1 j) = ((∑ i, f i j : ℝ) : EReal) :=
  (Ideal.multiReduction_add_single x _ reduces_S256x128_S128 _ _ (ix1 j)).trans
    (sum_eq_coe fun i => (congrArg x (ext2 (i := reduces_S256x128_S128.lift (ix1 j) i) (j := ix2 i j) rfl rfl)).trans (hx i j))
theorem sum0b {x : FVec Ideal S512x256 .f32} {f : Fin 512 → Fin 256 → ℝ} (hx : Re x f) (j : Fin 256) :
    multiReduction .add [0] S256 x 0x00000000#32 reduces_S512x256_S256 (.inl rfl) rfl (ix1 j) = ((∑ i, f i j : ℝ) : EReal) :=
  (Ideal.multiReduction_add_single x _ reduces_S512x256_S256 _ _ (ix1 j)).trans
    (sum_eq_coe fun i => (congrArg x (ext2 (i := reduces_S512x256_S256.lift (ix1 j) i) (j := ix2 i j) rfl rfl)).trans (hx i j))

end Cert.KernelIdeal.Voc

end
-- ==== Proof.Carry.lean ====
module

public import proofs.«01_k».proof.Proof.Spec

@[expose] public section

/-! The recurrences the chunks are visited by: the state forwards, its gradient backwards. -/

noncomputable section

open scoped BigOperators

namespace Cert.Gla

variable (A : In)

/-- log decay before chunk `m` -/
def Tb (h : Fin 4) (m : ℕ) (k : Fin 64) : ℝ := ∑ c' : Fin 128, if c'.val < m then tot A h c' k else 0
/-- the state before chunk `m` -/
def SP (h : Fin 4) (m : ℕ) (k : Fin 64) (v : Fin 128) : ℝ :=
  ∑ n : Fin 128, if n.val < m then kv A h n k v * Real.exp (Tb A h m k - Tb A h (n.val + 1) k) else 0
/-- the gradient that chunk `m` and those after it send to the state before chunk `m` -/
def CY (h : Fin 4) (m : ℕ) (k : Fin 64) (v : Fin 128) : ℝ :=
  ∑ n : Fin 128, if m ≤ n.val then R A h n k v * Real.exp (Tb A h (n.val + 1) k - Tb A h m k) else 0

theorem T_eq (h : Fin 4) (c : Fin 128) (k : Fin 64) : T A h c k = Tb A h (c.val + 1) k :=
  Finset.sum_congr rfl fun n _ => by simp only [Nat.lt_succ_iff]

theorem Tb_succ (h : Fin 4) (c : Fin 128) (k : Fin 64) : Tb A h (c.val + 1) k = Tb A h c.val k + tot A h c k := by
  unfold Tb
  have e : tot A h c k = ∑ n : Fin 128, if n = c then tot A h n k else 0 := by simp
  rw [e, ← Finset.sum_add_distrib]
  refine Finset.sum_congr rfl fun n _ => ?_
  rcases lt_trichotomy n.val c.val with l | l | l
  · rw [if_pos (by omega), if_pos l, if_neg (by intro q; rw [q] at l; omega), add_zero]
  · rw [if_pos (by omega), if_neg (by omega), if_pos (Fin.ext l), zero_add]
  · rw [if_neg (by omega), if_neg (by omega), if_neg (by intro q; rw [q] at l; omega), add_zero]

theorem SP_zero (h : Fin 4) (k : Fin 64) (v : Fin 128) : SP A h 0 k v = 0 := by simp [SP]
theorem CY_end (h : Fin 4) (k : Fin 64) (v : Fin 128) : CY A h 128 k v = 0 :=
  Finset.sum_eq_zero fun n _ => if_neg (by have := n.isLt; omega)

theorem SP_succ (h : Fin 4) (c : Fin 128) (k : Fin 64) (v : Fin 128) : SP A h (c.val + 1) k v = S A h c k v := by
  refine Finset.sum_congr rfl fun n _ => ?_
  simp only [D, T_eq, Nat.lt_succ_iff]
  split <;> simp

theorem G_eq (h : Fin 4) (c : Fin 128) (k : Fin 64) (v : Fin 128) : G A h c k v = R A h c k v + CY A h (c.val + 1) k v := by
  have e : R A h c k v = ∑ n : Fin 128, if n = c then R A h n k v else 0 := by simp
  rw [e, G, CY, ← Finset.sum_add_distrib]
  refine Finset.sum_congr rfl fun n _ => ?_
  simp only [D, T_eq]
  rcases lt_trichotomy n.val c.val with l | l | l
  · have n1 : ¬c.val ≤ n.val := by omega
    have n2 : ¬c.val + 1 ≤ n.val := by omega
    have n3 : ¬n = c := fun q => by rw [q] at l; omega
    simp only [if_neg n1, if_neg n2, if_neg n3, mul_zero, add_zero]
  · obtain rfl : n = c := Fin.ext l
    simp
  · have n1 : c.val ≤ n.val := by omega
    have n2 : c.val + 1 ≤ n.val := by omega
    have n3 : ¬n = c := fun q => by rw [q] at l; omega
    simp only [if_pos n1, if_pos n2, if_neg n3, zero_add]

theorem CY_eq (h : Fin 4) (c : Fin 128) (k : Fin 64) (v : Fin 128) : CY A h c.val k v = G A h c k v * Real.exp (tot A h c k) := by
  rw [G, CY, Finset.sum_mul]
  refine Finset.sum_congr rfl fun n _ => ?_
  simp only [D, T_eq]
  split
  · rw [mul_assoc, ← Real.exp_add, Tb_succ A h c]; congr 2; ring
  · simp

theorem ddec_eq (h : Fin 4) (c : Fin 128) (k : Fin 64) :
    ddec A h c k = (∑ v : Fin 128, G A h c k v * SP A h c.val k v) * Real.exp (tot A h c k) := by
  have e : ∀ v, G A h c k v * SP A h c.val k v * Real.exp (tot A h c k)
      = ∑ n : Fin 128, ∑ m : Fin 128, if m.val < c.val ∧ c.val ≤ n.val then (R A h n k v * kv A h m k v) * D A h n m k else 0 := fun v => by
    rw [G, SP, Finset.sum_mul_sum, Finset.sum_mul]
    refine Finset.sum_congr rfl fun n _ => ?_
    rw [Finset.sum_mul]
    refine Finset.sum_congr rfl fun m _ => ?_
    simp only [D, T_eq]
    by_cases h1 : m.val < c.val
    · by_cases h2 : c.val ≤ n.val
      · have h3 : m.val ≤ n.val := by omega
        have : Real.exp (Tb A h (n.val + 1) k - Tb A h (m.val + 1) k) = Real.exp (Tb A h (n.val + 1) k - Tb A h (c.val + 1) k) * Real.exp (Tb A h c.val k - Tb A h (m.val + 1) k) * Real.exp (tot A h c k) := by
          rw [← Real.exp_add, ← Real.exp_add, Tb_succ A h c]; congr 1; ring
        simp only [if_pos h1, if_pos h2, if_pos h3, if_pos (And.intro h1 h2), this]; ring
      · have h4 : ¬(m.val < c.val ∧ c.val ≤ n.val) := fun q => h2 q.2
        simp only [if_neg h2, if_neg h4, mul_zero, zero_mul]
    · have h4 : ¬(m.val < c.val ∧ c.val ≤ n.val) := fun q => h1 q.1
      simp only [if_neg h1, if_neg h4, mul_zero, zero_mul]
  rw [Finset.sum_mul, Finset.sum_congr rfl fun v _ => e v, Finset.sum_comm, ddec]
  refine Finset.sum_congr rfl fun n _ => ?_
  rw [Finset.sum_comm]
  refine Finset.sum_congr rfl fun m _ => ?_
  split
  · rw [W, Finset.sum_mul]
  · simp

theorem sigm_neg (z : ℝ) : sigm (-z) = 1 / (1 + Real.exp z) := by rw [sigm, neg_neg]
theorem one_add_exp_pos (z : ℝ) : 0 < 1 + Real.exp z := by positivity
theorem sigm_deriv (z : ℝ) : 1 / ((1 + Real.exp (-z)) * (1 + Real.exp (-z))) * Real.exp (-z) = sigm z * (1 - sigm z) := by
  have h := (one_add_exp_pos (-z)).ne'
  rw [sigm]; field_simp; ring

theorem lsig_eq (z : ℝ) : min z 0 - Real.log (1 + Real.exp (-|z|)) = lsig z := by
  rw [lsig, neg_add, ← sub_eq_add_neg, ← min_neg_neg, neg_neg, neg_zero]

theorem meansq_pos (h : Fin 4) (c : Fin 128) (t : Fin 64) : 0 < ms A h c t := by
  have : 0 ≤ ∑ v : Fin 128, o A h c t v * o A h c t v := Finset.sum_nonneg fun v _ => mul_self_nonneg _
  have e : 0 < eps := by unfold eps; positivity
  unfold ms; positivity

end Cert.Gla

end
-- ==== Proof.Ent.lean ====
module

public import proofs.«01_k».proof.Proof.Re
public import proofs.«01_k».proof.Proof.Carry

@[expose] public section

set_option maxRecDepth 16384

/-! One chunk and pair of heads, entry by entry, over real arguments. -/

noncomputable section

open scoped BigOperators

namespace Cert.KernelIdeal.Voc

open Cert.KernelIdeal Cert.KernelIdeal.Gen Idealize.ShloMosaic Idealize.ShloMosaic.TcCoe Idealize.ShloMosaic.ValueIdx Cert.Gla

/-- Head `h` of pair `p`. -/
def hd (p h : Fin 2) : Fin 4 := ⟨2 * p.val + h.val, by omega⟩
/-- The head of a key column of a pair. -/
def hl (l : Fin 128) : Fin 2 := ⟨l.val / 64, by omega⟩
/-- The place of a key column in its head. -/
def lk (l : Fin 128) : Fin 64 := ⟨l.val % 64, by omega⟩
/-- The head of a value column of a pair. -/
def hu (u : Fin 256) : Fin 2 := ⟨u.val / 128, by omega⟩
/-- The place of a value column in its head. -/
def lu (u : Fin 256) : Fin 128 := ⟨u.val % 128, by omega⟩
/-- The block-diagonal array of two heads' arrays. -/
def bdg (f : Fin 2 → Fin 64 → Fin 128 → ℝ) (u : Fin 256) (l : Fin 128) : ℝ := if hu u = hl l then f (hl l) (lk l) (lu u) else 0

theorem sumL (f : Fin 2 → Fin 64 → ℝ) : ∑ l : Fin 128, f (hl l) (lk l) = ∑ h, ∑ k, f h k := by
  rw [← (finProdFinEquiv (m := 2) (n := 64)).sum_comp (fun l : Fin 128 => f (hl l) (lk l)), Fintype.sum_prod_type]
  refine Finset.sum_congr rfl fun h _ => Finset.sum_congr rfl fun k _ => ?_
  have e : ((finProdFinEquiv (m := 2) (n := 64)) (h, k)).val = k.val + 64 * h.val := rfl
  exact congrArg₂ f (Fin.ext (by simp only [hl, e]; omega)) (Fin.ext (by simp only [lk, e]; omega))
theorem sumU (f : Fin 2 → Fin 128 → ℝ) : ∑ u : Fin 256, f (hu u) (lu u) = ∑ h, ∑ v, f h v := by
  rw [← (finProdFinEquiv (m := 2) (n := 128)).sum_comp (fun l : Fin 256 => f (hu l) (lu l)), Fintype.sum_prod_type]
  refine Finset.sum_congr rfl fun h _ => Finset.sum_congr rfl fun k _ => ?_
  have e : ((finProdFinEquiv (m := 2) (n := 128)) (h, k)).val = k.val + 128 * h.val := rfl
  exact congrArg₂ f (Fin.ext (by simp only [hu, e]; omega)) (Fin.ext (by simp only [lu, e]; omega))

theorem sumLb (a : Fin 2 → Fin 64 → ℝ) (f : Fin 2 → Fin 64 → Fin 128 → ℝ) (u : Fin 256) :
    ∑ l : Fin 128, a (hl l) (lk l) * bdg f u l = ∑ k, a (hu u) k * f (hu u) k (lu u) := by
  refine (sumL fun h k => a h k * (if hu u = h then f h k (lu u) else 0)).trans ?_
  rw [Finset.sum_eq_single (hu u) (fun h _ ne => Finset.sum_eq_zero fun k _ => by rw [if_neg (Ne.symm ne), mul_zero]) (fun h => absurd (Finset.mem_univ _) h)]
  exact Finset.sum_congr rfl fun k _ => by rw [if_pos rfl]
theorem sumUb (a : Fin 2 → Fin 128 → ℝ) (f : Fin 2 → Fin 64 → Fin 128 → ℝ) (l : Fin 128) :
    ∑ u : Fin 256, a (hu u) (lu u) * bdg f u l = ∑ v, a (hl l) v * f (hl l) (lk l) v := by
  refine (sumU fun h v => a h v * (if h = hl l then f (hl l) (lk l) v else 0)).trans ?_
  rw [Finset.sum_eq_single (hl l) (fun h _ ne => Finset.sum_eq_zero fun k _ => by rw [if_neg ne, mul_zero]) (fun h => absurd (Finset.mem_univ _) h)]
  exact Finset.sum_congr rfl fun k _ => by rw [if_pos rfl]
theorem bdg_add (f g : Fin 2 → Fin 64 → Fin 128 → ℝ) (u : Fin 256) (l : Fin 128) :
    bdg f u l + bdg g u l = bdg (fun h k v => f h k v + g h k v) u l := by
  unfold bdg; split <;> simp
theorem bdg_mul (f g : Fin 2 → Fin 64 → Fin 128 → ℝ) (u : Fin 256) (l : Fin 128) :
    bdg f u l * bdg g u l = bdg (fun h k v => f h k v * g h k v) u l := by
  unfold bdg; split <;> simp
theorem bdg_row (f : Fin 2 → Fin 64 → Fin 128 → ℝ) (d : Fin 2 → Fin 64 → ℝ) (u : Fin 256) (l : Fin 128) :
    bdg f u l * d (hl l) (lk l) = bdg (fun h k v => f h k v * d h k) u l := by
  unfold bdg; split <;> simp
theorem sumUbb (f g : Fin 2 → Fin 64 → Fin 128 → ℝ) (l : Fin 128) :
    ∑ u : Fin 256, bdg f u l * bdg g u l = ∑ v, f (hl l) (lk l) v * g (hl l) (lk l) v := by
  refine (Finset.sum_congr rfl fun u _ => ?_).trans (sumUb (fun _ _ => 1) (fun h k v => f h k v * g h k v) l) |>.trans ?_
  · rw [bdg_mul, one_mul]
  · exact Finset.sum_congr rfl fun v _ => one_mul _

variable {A : In} {p : Fin 2} {c : Fin 128}

/-- A pair's array of key columns. -/
abbrev Kc (x : FVec Ideal S64x128 .f32) (p : Fin 2) (c : Fin 128) (f : Fin 4 → Fin 128 → Fin 64 → Fin 64 → ℝ) : Prop :=
  Re x (fun t l => f (hd p (hl l)) c t (lk l))
/-- A pair's array of value columns. -/
abbrev Vc (x : FVec Ideal S64x256 .f32) (p : Fin 2) (c : Fin 128) (f : Fin 4 → Fin 128 → Fin 64 → Fin 128 → ℝ) : Prop :=
  Re x (fun t u => f (hd p (hu u)) c t (lu u))

theorem e_qs {q : FVec Ideal S64x128 .f32} (h : Kc q p c (Q A)) : Kc (qs16 q) p c (qs A) := (h.mul (.cst bits_eighth)).r16

theorem e_st {st : FVec Ideal S1x1x256x128 .f32} {f : Fin 256 → Fin 128 → ℝ}
    (h : ∀ u l, st (ix4 0 0 u l) = ((f u l : ℝ) : EReal)) :
    Re (shapeCast S256x128 st shapeCasts_S1x1x256x128_S256x128) f := fun u l =>
  (shapeCast_apply st shapeCasts_S1x1x256x128_S256x128 (ix2 u l) (ix4 0 0 u l) (by
    rw [Shape.rowMajor_val_four, Shape.rowMajor_val_two]
    change ((0 * 1 + 0) * 256 + u.val) * 128 + l.val = u.val * 128 + l.val
    omega)).trans (h u l)

section
variable {q : FVec Ideal S64x128 .f32} {st : FVec Ideal S1x1x256x128 .f32}

/-- The state of chunk `c`, block-diagonal. -/
abbrev bS (A : In) (p : Fin 2) (c : Fin 128) : Fin 256 → Fin 128 → ℝ := bdg fun h k v => S A (hd p h) c k v

theorem e_o (hq : Kc q p c (Q A)) (hs : ∀ u l, st (ix4 0 0 u l) = ((bS A p c u l : ℝ) : EReal)) : Vc (oo q st) p c (o A) :=
  (mm_o (e_qs hq) (e_st hs).r16).of fun t u => sumLb (fun h k => qs A (hd p h) c t k) _ u
end

theorem hu_lo (v : Fin 128) (h : 0 + v.val < 256) : hu ⟨0 + v.val, h⟩ = 0 := Fin.ext (by simp only [hu]; change (0 + v.val) / 128 = 0; omega)
theorem hu_hi (v : Fin 128) (h : 128 + v.val < 256) : hu ⟨128 + v.val, h⟩ = 1 := Fin.ext (by simp only [hu]; change (128 + v.val) / 128 = 1; omega)
theorem lu_lo (v : Fin 128) (h : 0 + v.val < 256) : lu ⟨0 + v.val, h⟩ = v := Fin.ext (by simp only [lu]; omega)
theorem lu_hi (v : Fin 128) (h : 128 + v.val < 256) : lu ⟨128 + v.val, h⟩ = v := Fin.ext (by simp only [lu]; omega)
theorem hu_lo' (v : Fin 128) (h : v.val < 256) : hu ⟨v.val, h⟩ = 0 := Fin.ext (by simp only [hu]; change v.val / 128 = 0; omega)
theorem lu_lo' (v : Fin 128) (h : v.val < 256) : lu ⟨v.val, h⟩ = v := Fin.ext (by simp only [lu]; omega)

theorem e_lo {x : FVec Ideal S64x256 .f32} {X : Fin 2 → Fin 64 → Fin 128 → ℝ} (h : Re x (fun t u => X (hu u) t (lu u))) : Re (lo x) (X 0) :=
  (h.slice slices_S64x256_o0_0_S64x128 (by omega) (by omega)).of fun t v => by
    rw [hu_lo, lu_lo]; exact congrArg (fun z => X 0 z v) (Fin.ext (Nat.zero_add _))
theorem e_hi {x : FVec Ideal S64x256 .f32} {X : Fin 2 → Fin 64 → Fin 128 → ℝ} (h : Re x (fun t u => X (hu u) t (lu u))) : Re (hi x) (X 1) :=
  (h.slice slices_S64x256_o0_128_S64x128 (by omega) (by omega)).of fun t v => by
    rw [hu_hi, lu_hi]; exact congrArg (fun z => X 1 z v) (Fin.ext (Nat.zero_add _))
theorem e_cat {x y : FVec Ideal S64x128 .f32} {X : Fin 2 → Fin 64 → Fin 128 → ℝ} (hx : Re x (X 0)) (hy : Re y (X 1)) :
    Re (cat2 x y) (fun t u => X (hu u) t (lu u)) :=
  Re.cat hx hy concatenates_S64x128_S64x128_S64x256_d1 (by omega) (fun t v => by rw [hu_lo', lu_lo']) (fun t v => by rw [hu_hi, lu_hi])

section
variable {x : FVec Ideal S64x128 .f32} {h : Fin 4}

theorem e_rsum {f : Fin 64 → Fin 128 → ℝ} (hx : Re x f) : Re (rsum x) (fun t _ => ∑ v, f t v) := Re.cast11 (m := 1) (sum1 hx) shapeCasts_S64_S64x1
theorem e_along {y : FVec Ideal S64x1 .f32} {f : Fin 64 → Fin 1 → ℝ} (hy : Re y f) : Re (along y) (fun t _ => f t 0) := hy.col broadcasts_S64x1_S64x128
theorem e_msq (hx : Re x (o A h c)) : Re (msq x) (fun t _ => ms A h c t) :=
  ((e_rsum (hx.mul hx)).div (.cst bits_128) (fun _ _ => by norm_num)).add (.cst bits_eps)
theorem e_irt (hx : Re x (o A h c)) : Re (irt x) (fun t _ => rs A h c t) := (e_msq hx).rsqrt fun t _ => meansq_pos A h c t
theorem e_nhalf (hx : Re x (o A h c)) : Re (nhalf x) (nr A h c) := hx.mul (e_along (e_irt hx))
theorem e_q1 {d : FVec Ideal S64x128 .f32} (hx : Re x (o A h c)) (hd : Re d (dn A h c)) : Re (q1v x d) (fun t _ => q1 A h c t) :=
  e_along (Re.cast11 (m := 1) (sum1u (((e_rsum (hx.mul hd)).mul ((Re.cst bits_neg_half).mul ((e_irt hx).div (e_msq hx) fun t _ => (meansq_pos A h c t).ne'))).div
    (.cst bits_128) fun _ _ => by norm_num)) shapeCasts_S64_S64x1)
theorem e_dhalf {d : FVec Ideal S64x128 .f32} (hx : Re x (o A h c)) (hd : Re d (dn A h c)) : Re (dhalf x d) (dov A h c) :=
  ((hd.mul (e_along (e_irt hx))).add (hx.mul (e_q1 hx hd))).add ((e_q1 hx hd).mul hx)
end

section
variable {ov dov_ gv ctv : FVec Ideal S64x256 .f32} {g : FVec Ideal S1x256 .f32}

theorem e_normed (ho : Vc ov p c (o A)) : Vc (normed ov) p c (nr A) :=
  e_cat (X := fun h => nr A (hd p h) c) (e_nhalf (e_lo (X := fun h => o A (hd p h) c) ho)) (e_nhalf (e_hi (X := fun h => o A (hd p h) c) ho))
theorem e_down (hg : Re g (fun _ u => gn A (hd p (hu u)) (lu u))) : Re (down g) (fun _ u => gn A (hd p (hu u)) (lu u)) := hg.row broadcasts_S1x256_S64x256
theorem e_dsl (ho : Vc ov p c (o A)) (hg : Re g (fun _ u => gn A (hd p (hu u)) (lu u))) (hc : Vc ctv p c (ct A)) : Vc (dsl ov g ctv) p c (dsil A) :=
  ((e_normed ho).mul (e_down hg)).mul hc
theorem e_egg (h : Vc gv p c (GG A)) : Re (egg gv) (fun t u => Real.exp (-GG A (hd p (hu u)) c t (lu u))) :=
  (Re.n0.sub h).exp.of fun t u => by rw [zero_sub]
theorem e_egg1 (h : Vc gv p c (GG A)) : Re (egg1 gv) (fun t u => 1 + Real.exp (-GG A (hd p (hu u)) c t (lu u))) := Re.n1.add (e_egg h)
theorem e_sgg (h : Vc gv p c (GG A)) : Re (sgg gv) (fun t u => sigm (GG A (hd p (hu u)) c t (lu u))) :=
  Re.n1.div (e_egg1 h) fun t u => (one_add_exp_pos _).ne'
theorem e_dgg (ho : Vc ov p c (o A)) (hg : Re g (fun _ u => gn A (hd p (hu u)) (lu u))) (hc : Vc ctv p c (ct A)) (h : Vc gv p c (GG A)) :
    Vc (dgate ov g ctv gv) p c (dgg A) :=
  (((e_dsl ho hg hc).mul (e_sgg h)).add (Re.n0.sub ((Re.n0.sub (((h.mul (e_dsl ho hg hc)).mul (Re.n1.div ((e_egg1 h).mul (e_egg1 h))
    fun t u => mul_ne_zero (one_add_exp_pos _).ne' (one_add_exp_pos _).ne')).mul Re.n1)).mul (e_egg h)))).of fun t u => by
      rw [dgg, ← sigm_deriv]; ring
theorem e_dng (hc : Vc ctv p c (ct A)) (h : Vc gv p c (GG A)) : Vc (dngv ctv gv) p c (dng A) := hc.mul (h.mul (e_sgg h))
theorem e_dn (hg : Re g (fun _ u => gn A (hd p (hu u)) (lu u))) (hc : Vc ctv p c (ct A)) (h : Vc gv p c (GG A)) : Vc (dnv g ctv gv) p c (dn A) :=
  (e_dng hc h).mul (e_down hg)
theorem e_dgain (ho : Vc ov p c (o A)) (hc : Vc ctv p c (ct A)) (h : Vc gv p c (GG A)) :
    Re (dgain ov ctv gv) (fun _ u => ∑ t, nr A (hd p (hu u)) c t (lu u) * dng A (hd p (hu u)) c t (lu u)) :=
  Re.cast1 (m := 1) (sum0 ((e_normed ho).mul (e_dng hc h))) shapeCasts_S256_S1x256
theorem e_dov (ho : Vc ov p c (o A)) (hg : Re g (fun _ u => gn A (hd p (hu u)) (lu u))) (hc : Vc ctv p c (ct A)) (h : Vc gv p c (GG A)) :
    Re (dov16 ov g ctv gv) (fun t u => dov A (hd p (hu u)) c t (lu u)) :=
  ((e_cat (X := fun h t v => if h = 1 then dov A (hd p 1) c t v else 0) (Re.n0.of fun _ _ => by simp)
      ((e_dhalf (e_hi (X := fun h => o A (hd p h) c) ho) (e_hi (X := fun h => dn A (hd p h) c) (e_dn hg hc h))).of fun _ _ => by simp)).add
    (e_cat (X := fun h t v => if h = 0 then dov A (hd p 0) c t v else 0)
      ((e_dhalf (e_lo (X := fun h => o A (hd p h) c) ho) (e_lo (X := fun h => dn A (hd p h) c) (e_dn hg hc h))).of fun _ _ => by simp)
      (Re.n0.of fun _ _ => by simp))).r16.of fun t u => by
    rcases (by omega : hu u = 0 ∨ hu u = 1) with e | e <;> rw [e] <;> simp
end

section
variable {d : FVec Ideal S64x256 .bf16} {q k la cs kd ed dkd dl : FVec Ideal S64x128 .f32} {v : FVec Ideal S64x256 .f32} {st : FVec Ideal S1x1x256x128 .f32}
  {bd G P : FVec Ideal S256x128 .f32} {tri : FVec Ideal S64x64 .bf16} {de : FVec Ideal S1x128 .f32}

theorem e_dq (hd' : Re d (fun t u => dov A (hd p (hu u)) c t (lu u))) (hs : ∀ u l, st (ix4 0 0 u l) = ((bS A p c u l : ℝ) : EReal)) :
    Re (dq16 d st) (fun t l => dq A (hd p (hl l)) c t (lk l)) :=
  ((mm_q hd' (e_st hs).r16).mul (.cst bits_eighth)).r16.of fun t l =>
    congrArg (· * (1 / 8 : ℝ)) (sumUb (fun h v => dov A (hd p h) c t v) _ l)
theorem e_rdr (hb : Re bd (bdg fun _ _ _ => 1)) (hd' : Re d (fun t u => dov A (hd p (hu u)) c t (lu u))) (hq : Kc q p c (Q A)) :
    Re (readers bd d q) (bdg fun h k v => R A (hd p h) c k v) :=
  (hb.mul (mm_r hd' (e_qs hq))).of fun u l => by
    unfold bdg
    split
    · next e => rw [one_mul, e]; rfl
    · rw [zero_mul]
theorem e_tsum {τ : Fin 64 → Fin 64 → ℝ} {f : Fin 64 → Fin 128 → ℝ} (ht : Re tri τ) (hx : Re la f) : Re (tsum tri la) (fun t l => ∑ t', τ t t' * f t' l) :=
  ((mm_t ht hx.r16).add (mm_t ht (hx.sub hx.r16.ext).r16)).of fun t l => by simp
theorem e_cs (ht : Re tri (fun t t' => if t'.val ≤ t.val then 1 else 0)) (hx : Kc la p c (Gla.la A)) : Kc (tsum tri la) p c (cum A) :=
  (e_tsum ht hx).of fun t l => Finset.sum_congr rfl fun t' _ => by rw [ite_mul, one_mul, zero_mul]
theorem e_totl (h : Kc cs p c (cum A)) : Re (totl cs) (fun _ l => tot A (hd p (hl l)) c (lk l)) :=
  (h.slice slices_S64x128_o63_0_S1x128 (by omega) (by omega)).of fun i l => by
    have e : (⟨0 + l.val, by omega⟩ : Fin 128) = l := Fin.ext (Nat.zero_add _)
    have e' : (⟨63 + i.val, by omega⟩ : Fin 64) = 63 := Fin.ext (by change 63 + i.val = 63; omega)
    rw [e, e']; rfl
theorem e_ed (h : Kc cs p c (cum A)) : Kc (edec cs) p c (Gla.ed A) := (((e_totl h).row broadcasts_S1x128_S64x128).sub h).exp
theorem e_dec (h : Kc cs p c (cum A)) : Re (dec cs) (fun _ l => Real.exp (tot A (hd p (hl l)) c (lk l))) := (e_totl h).exp
theorem e_kd (hk : Kc k p c (K A)) (h : Kc cs p c (cum A)) : Kc (kdec k cs) p c (Gla.kd A) := hk.mul (e_ed h)
theorem e_dv (hk : Kc kd p c (Gla.kd A)) (hG : Re G (bdg fun h k v => Gla.G A (hd p h) c k v)) :
    Re (dv16 kd G) (fun t u => dv A (hd p (hu u)) c t (lu u)) :=
  (mm_o hk.r16 hG.r16).r16.of fun t u => sumLb (fun h k => Gla.kd A (hd p h) c t k) _ u
theorem e_dkd (hv : Vc v p c (V A)) (hG : Re G (bdg fun h k v => Gla.G A (hd p h) c k v)) : Kc (dkdv v G) p c (Gla.dkd A) :=
  (mm_q hv.r16 hG.r16).of fun t l => sumUb (fun h v => V A (hd p h) c t v) _ l
theorem e_dk (hk : Kc dkd p c (Gla.dkd A)) (he : Kc ed p c (Gla.ed A)) : Re (dk16 dkd ed) (fun t l => dk A (hd p (hl l)) c t (lk l)) := (hk.mul he).r16
theorem e_ddec (hG : Re G (bdg fun h k v => Gla.G A (hd p h) c k v)) (hP : Re P (bdg fun h k v => SP A (hd p h) c.val k v))
    (hd' : Re de (fun _ l => Real.exp (tot A (hd p (hl l)) c (lk l)))) : Re (ddecv G P de) (fun _ l => ddec A (hd p (hl l)) c (lk l)) :=
  ((Re.cast1 (m := 1) (sum0c (hG.mul hP)) shapeCasts_S128_S1x128).mul hd').of fun _ l => by
    rw [sumUbb, ddec_eq]
theorem e_dfz (ht : Re tri (fun t t' => if t'.val < t.val then 1 else 0)) (h1 : Kc dkd p c (Gla.dkd A)) (h2 : Kc kd p c (Gla.kd A))
    (h3 : Re de (fun _ l => ddec A (hd p (hl l)) c (lk l)))
    (h4 : Re dl (fun t l => sigm (-fz A (row c t) (kc (hd p (hl l)) (lk l))) / 16)) :
    Re (dfzv tri dkd kd de dl) (fun t l => dla A (hd p (hl l)) c t (lk l) * (sigm (-fz A (row c t) (kc (hd p (hl l)) (lk l))) / 16)) :=
  (((e_tsum ht (h1.mul h2)).add (h3.row broadcasts_S1x128_S64x128)).mul h4).of fun t l => by
    rw [dla]
    congr 2
    exact Finset.sum_congr rfl fun t' _ => by rw [ite_mul, one_mul, zero_mul]
theorem e_back (hG : Re G (bdg fun h k v => Gla.G A (hd p h) c k v)) (hd' : Re de (fun _ l => Real.exp (tot A (hd p (hl l)) c (lk l)))) :
    Re (back G de) (bdg fun h k v => CY A (hd p h) c.val k v) :=
  (hG.mul (hd'.row broadcasts_S1x128_S256x128)).of fun u l => by
    rw [bdg_row _ (fun h k => Real.exp (tot A (hd p h) c k))]
    simp only [CY_eq]
end

end Cert.KernelIdeal.Voc

end
-- ==== Proof.Mask0.lean ====
module

public import proofs.«01_k».proof.KernelIdeal

@[expose] public section

set_option maxRecDepth 65536

/-! The constant masks' entries. -/

namespace Cert.KernelIdeal.Voc

open Cert.KernelIdeal Idealize.ShloMosaic

/-- Rows `8 k` to `8 k + 7` of the third mask hold ones on the diagonal blocks and zeros elsewhere. -/
def MaskRows (k : ℕ) (hk : k < 32) : Prop := ∀ r : Fin 8, ∀ j : Fin 128, lit2 ⟨(8 * k + r.val) * 128 + j.val, by omega⟩ = if (8 * k + r.val) / 128 = j.val / 64 then 0x3F800000#32 else 0x00000000#32

end Cert.KernelIdeal.Voc
-- ==== Proof.MaskA.lean ====
module

public import proofs.«01_k».proof.KernelIdeal
public import proofs.«01_k».proof.Proof.Mask0

@[expose] public section

set_option maxRecDepth 65536

/-! The constant masks' entries. -/

namespace Cert.KernelIdeal.Voc

open Cert.KernelIdeal Idealize.ShloMosaic

theorem maskRows_0 : MaskRows 0 (by decide) := (by decide +kernel : ∀ r : Fin 8, ∀ j : Fin 128, lit2 ⟨(8 * 0 + r.val) * 128 + j.val, by omega⟩ = if (8 * 0 + r.val) / 128 = j.val / 64 then 0x3F800000#32 else 0x00000000#32)
theorem maskRows_1 : MaskRows 1 (by decide) := (by decide +kernel : ∀ r : Fin 8, ∀ j : Fin 128, lit2 ⟨(8 * 1 + r.val) * 128 + j.val, by omega⟩ = if (8 * 1 + r.val) / 128 = j.val / 64 then 0x3F800000#32 else 0x00000000#32)
theorem maskRows_2 : MaskRows 2 (by decide) := (by decide +kernel : ∀ r : Fin 8, ∀ j : Fin 128, lit2 ⟨(8 * 2 + r.val) * 128 + j.val, by omega⟩ = if (8 * 2 + r.val) / 128 = j.val / 64 then 0x3F800000#32 else 0x00000000#32)
theorem maskRows_3 : MaskRows 3 (by decide) := (by decide +kernel : ∀ r : Fin 8, ∀ j : Fin 128, lit2 ⟨(8 * 3 + r.val) * 128 + j.val, by omega⟩ = if (8 * 3 + r.val) / 128 = j.val / 64 then 0x3F800000#32 else 0x00000000#32)
theorem maskRows_4 : MaskRows 4 (by decide) := (by decide +kernel : ∀ r : Fin 8, ∀ j : Fin 128, lit2 ⟨(8 * 4 + r.val) * 128 + j.val, by omega⟩ = if (8 * 4 + r.val) / 128 = j.val / 64 then 0x3F800000#32 else 0x00000000#32)
theorem maskRows_5 : MaskRows 5 (by decide) := (by decide +kernel : ∀ r : Fin 8, ∀ j : Fin 128, lit2 ⟨(8 * 5 + r.val) * 128 + j.val, by omega⟩ = if (8 * 5 + r.val) / 128 = j.val / 64 then 0x3F800000#32 else 0x00000000#32)
theorem maskRows_6 : MaskRows 6 (by decide) := (by decide +kernel : ∀ r : Fin 8, ∀ j : Fin 128, lit2 ⟨(8 * 6 + r.val) * 128 + j.val, by omega⟩ = if (8 * 6 + r.val) / 128 = j.val / 64 then 0x3F800000#32 else 0x00000000#32)
theorem maskRows_7 : MaskRows 7 (by decide) := (by decide +kernel : ∀ r : Fin 8, ∀ j : Fin 128, lit2 ⟨(8 * 7 + r.val) * 128 + j.val, by omega⟩ = if (8 * 7 + r.val) / 128 = j.val / 64 then 0x3F800000#32 else 0x00000000#32)

end Cert.KernelIdeal.Voc
-- ==== Proof.MaskB.lean ====
module

public import proofs.«01_k».proof.KernelIdeal
public import proofs.«01_k».proof.Proof.Mask0

@[expose] public section

set_option maxRecDepth 65536

/-! The constant masks' entries. -/

namespace Cert.KernelIdeal.Voc

open Cert.KernelIdeal Idealize.ShloMosaic

theorem maskRows_8 : MaskRows 8 (by decide) := (by decide +kernel : ∀ r : Fin 8, ∀ j : Fin 128, lit2 ⟨(8 * 8 + r.val) * 128 + j.val, by omega⟩ = if (8 * 8 + r.val) / 128 = j.val / 64 then 0x3F800000#32 else 0x00000000#32)
theorem maskRows_9 : MaskRows 9 (by decide) := (by decide +kernel : ∀ r : Fin 8, ∀ j : Fin 128, lit2 ⟨(8 * 9 + r.val) * 128 + j.val, by omega⟩ = if (8 * 9 + r.val) / 128 = j.val / 64 then 0x3F800000#32 else 0x00000000#32)
theorem maskRows_10 : MaskRows 10 (by decide) := (by decide +kernel : ∀ r : Fin 8, ∀ j : Fin 128, lit2 ⟨(8 * 10 + r.val) * 128 + j.val, by omega⟩ = if (8 * 10 + r.val) / 128 = j.val / 64 then 0x3F800000#32 else 0x00000000#32)
theorem maskRows_11 : MaskRows 11 (by decide) := (by decide +kernel : ∀ r : Fin 8, ∀ j : Fin 128, lit2 ⟨(8 * 11 + r.val) * 128 + j.val, by omega⟩ = if (8 * 11 + r.val) / 128 = j.val / 64 then 0x3F800000#32 else 0x00000000#32)
theorem maskRows_12 : MaskRows 12 (by decide) := (by decide +kernel : ∀ r : Fin 8, ∀ j : Fin 128, lit2 ⟨(8 * 12 + r.val) * 128 + j.val, by omega⟩ = if (8 * 12 + r.val) / 128 = j.val / 64 then 0x3F800000#32 else 0x00000000#32)
theorem maskRows_13 : MaskRows 13 (by decide) := (by decide +kernel : ∀ r : Fin 8, ∀ j : Fin 128, lit2 ⟨(8 * 13 + r.val) * 128 + j.val, by omega⟩ = if (8 * 13 + r.val) / 128 = j.val / 64 then 0x3F800000#32 else 0x00000000#32)
theorem maskRows_14 : MaskRows 14 (by decide) := (by decide +kernel : ∀ r : Fin 8, ∀ j : Fin 128, lit2 ⟨(8 * 14 + r.val) * 128 + j.val, by omega⟩ = if (8 * 14 + r.val) / 128 = j.val / 64 then 0x3F800000#32 else 0x00000000#32)
theorem maskRows_15 : MaskRows 15 (by decide) := (by decide +kernel : ∀ r : Fin 8, ∀ j : Fin 128, lit2 ⟨(8 * 15 + r.val) * 128 + j.val, by omega⟩ = if (8 * 15 + r.val) / 128 = j.val / 64 then 0x3F800000#32 else 0x00000000#32)

end Cert.KernelIdeal.Voc
-- ==== Proof.MaskC.lean ====
module

public import proofs.«01_k».proof.KernelIdeal
public import proofs.«01_k».proof.Proof.Mask0

@[expose] public section

set_option maxRecDepth 65536

/-! The constant masks' entries. -/

namespace Cert.KernelIdeal.Voc

open Cert.KernelIdeal Idealize.ShloMosaic

theorem maskRows_16 : MaskRows 16 (by decide) := (by decide +kernel : ∀ r : Fin 8, ∀ j : Fin 128, lit2 ⟨(8 * 16 + r.val) * 128 + j.val, by omega⟩ = if (8 * 16 + r.val) / 128 = j.val / 64 then 0x3F800000#32 else 0x00000000#32)
theorem maskRows_17 : MaskRows 17 (by decide) := (by decide +kernel : ∀ r : Fin 8, ∀ j : Fin 128, lit2 ⟨(8 * 17 + r.val) * 128 + j.val, by omega⟩ = if (8 * 17 + r.val) / 128 = j.val / 64 then 0x3F800000#32 else 0x00000000#32)
theorem maskRows_18 : MaskRows 18 (by decide) := (by decide +kernel : ∀ r : Fin 8, ∀ j : Fin 128, lit2 ⟨(8 * 18 + r.val) * 128 + j.val, by omega⟩ = if (8 * 18 + r.val) / 128 = j.val / 64 then 0x3F800000#32 else 0x00000000#32)
theorem maskRows_19 : MaskRows 19 (by decide) := (by decide +kernel : ∀ r : Fin 8, ∀ j : Fin 128, lit2 ⟨(8 * 19 + r.val) * 128 + j.val, by omega⟩ = if (8 * 19 + r.val) / 128 = j.val / 64 then 0x3F800000#32 else 0x00000000#32)
theorem maskRows_20 : MaskRows 20 (by decide) := (by decide +kernel : ∀ r : Fin 8, ∀ j : Fin 128, lit2 ⟨(8 * 20 + r.val) * 128 + j.val, by omega⟩ = if (8 * 20 + r.val) / 128 = j.val / 64 then 0x3F800000#32 else 0x00000000#32)
theorem maskRows_21 : MaskRows 21 (by decide) := (by decide +kernel : ∀ r : Fin 8, ∀ j : Fin 128, lit2 ⟨(8 * 21 + r.val) * 128 + j.val, by omega⟩ = if (8 * 21 + r.val) / 128 = j.val / 64 then 0x3F800000#32 else 0x00000000#32)
theorem maskRows_22 : MaskRows 22 (by decide) := (by decide +kernel : ∀ r : Fin 8, ∀ j : Fin 128, lit2 ⟨(8 * 22 + r.val) * 128 + j.val, by omega⟩ = if (8 * 22 + r.val) / 128 = j.val / 64 then 0x3F800000#32 else 0x00000000#32)
theorem maskRows_23 : MaskRows 23 (by decide) := (by decide +kernel : ∀ r : Fin 8, ∀ j : Fin 128, lit2 ⟨(8 * 23 + r.val) * 128 + j.val, by omega⟩ = if (8 * 23 + r.val) / 128 = j.val / 64 then 0x3F800000#32 else 0x00000000#32)

end Cert.KernelIdeal.Voc
-- ==== Proof.MaskD.lean ====
module

public import proofs.«01_k».proof.KernelIdeal
public import proofs.«01_k».proof.Proof.Mask0

@[expose] public section

set_option maxRecDepth 65536

/-! The constant masks' entries. -/

namespace Cert.KernelIdeal.Voc

open Cert.KernelIdeal Idealize.ShloMosaic

theorem maskRows_24 : MaskRows 24 (by decide) := (by decide +kernel : ∀ r : Fin 8, ∀ j : Fin 128, lit2 ⟨(8 * 24 + r.val) * 128 + j.val, by omega⟩ = if (8 * 24 + r.val) / 128 = j.val / 64 then 0x3F800000#32 else 0x00000000#32)
theorem maskRows_25 : MaskRows 25 (by decide) := (by decide +kernel : ∀ r : Fin 8, ∀ j : Fin 128, lit2 ⟨(8 * 25 + r.val) * 128 + j.val, by omega⟩ = if (8 * 25 + r.val) / 128 = j.val / 64 then 0x3F800000#32 else 0x00000000#32)
theorem maskRows_26 : MaskRows 26 (by decide) := (by decide +kernel : ∀ r : Fin 8, ∀ j : Fin 128, lit2 ⟨(8 * 26 + r.val) * 128 + j.val, by omega⟩ = if (8 * 26 + r.val) / 128 = j.val / 64 then 0x3F800000#32 else 0x00000000#32)
theorem maskRows_27 : MaskRows 27 (by decide) := (by decide +kernel : ∀ r : Fin 8, ∀ j : Fin 128, lit2 ⟨(8 * 27 + r.val) * 128 + j.val, by omega⟩ = if (8 * 27 + r.val) / 128 = j.val / 64 then 0x3F800000#32 else 0x00000000#32)
theorem maskRows_28 : MaskRows 28 (by decide) := (by decide +kernel : ∀ r : Fin 8, ∀ j : Fin 128, lit2 ⟨(8 * 28 + r.val) * 128 + j.val, by omega⟩ = if (8 * 28 + r.val) / 128 = j.val / 64 then 0x3F800000#32 else 0x00000000#32)
theorem maskRows_29 : MaskRows 29 (by decide) := (by decide +kernel : ∀ r : Fin 8, ∀ j : Fin 128, lit2 ⟨(8 * 29 + r.val) * 128 + j.val, by omega⟩ = if (8 * 29 + r.val) / 128 = j.val / 64 then 0x3F800000#32 else 0x00000000#32)
theorem maskRows_30 : MaskRows 30 (by decide) := (by decide +kernel : ∀ r : Fin 8, ∀ j : Fin 128, lit2 ⟨(8 * 30 + r.val) * 128 + j.val, by omega⟩ = if (8 * 30 + r.val) / 128 = j.val / 64 then 0x3F800000#32 else 0x00000000#32)
theorem maskRows_31 : MaskRows 31 (by decide) := (by decide +kernel : ∀ r : Fin 8, ∀ j : Fin 128, lit2 ⟨(8 * 31 + r.val) * 128 + j.val, by omega⟩ = if (8 * 31 + r.val) / 128 = j.val / 64 then 0x3F800000#32 else 0x00000000#32)

end Cert.KernelIdeal.Voc
-- ==== Proof.Mask.lean ====
module

public import proofs.«01_k».proof.KernelIdeal
public import proofs.«01_k».proof.Proof.MaskA
public import proofs.«01_k».proof.Proof.MaskB
public import proofs.«01_k».proof.Proof.MaskC
public import proofs.«01_k».proof.Proof.MaskD

@[expose] public section

set_option maxRecDepth 65536

/-! The constant masks' entries. -/

namespace Cert.KernelIdeal.Voc

open Cert.KernelIdeal Idealize.ShloMosaic

theorem lit0_at : ∀ i j : Fin 64, lit0 ⟨i.val * 64 + j.val, by omega⟩ = if j.val ≤ i.val then 0x3F80#16 else 0x0000#16 := by decide +kernel
theorem lit1_at : ∀ i j : Fin 64, lit1 ⟨i.val * 64 + j.val, by omega⟩ = if j.val < i.val then 0x3F80#16 else 0x0000#16 := by decide +kernel
theorem maskRows_all : ∀ (k : ℕ) (hk : k < 32), MaskRows k hk
  | 0, _ => maskRows_0
  | 1, _ => maskRows_1
  | 2, _ => maskRows_2
  | 3, _ => maskRows_3
  | 4, _ => maskRows_4
  | 5, _ => maskRows_5
  | 6, _ => maskRows_6
  | 7, _ => maskRows_7
  | 8, _ => maskRows_8
  | 9, _ => maskRows_9
  | 10, _ => maskRows_10
  | 11, _ => maskRows_11
  | 12, _ => maskRows_12
  | 13, _ => maskRows_13
  | 14, _ => maskRows_14
  | 15, _ => maskRows_15
  | 16, _ => maskRows_16
  | 17, _ => maskRows_17
  | 18, _ => maskRows_18
  | 19, _ => maskRows_19
  | 20, _ => maskRows_20
  | 21, _ => maskRows_21
  | 22, _ => maskRows_22
  | 23, _ => maskRows_23
  | 24, _ => maskRows_24
  | 25, _ => maskRows_25
  | 26, _ => maskRows_26
  | 27, _ => maskRows_27
  | 28, _ => maskRows_28
  | 29, _ => maskRows_29
  | 30, _ => maskRows_30
  | 31, _ => maskRows_31
  | _ + 32, h => absurd h (by omega)
theorem lit2_at (i : Fin 256) (j : Fin 128) : lit2 ⟨i.val * 128 + j.val, by omega⟩ = if i.val / 128 = j.val / 64 then 0x3F800000#32 else 0x00000000#32 := by
  have h := maskRows_all (i.val / 8) (by omega) ⟨i.val % 8, by omega⟩ j
  have e : 8 * (i.val / 8) + i.val % 8 = i.val := by omega
  simp only [e] at h
  exact h

end Cert.KernelIdeal.Voc
-- ==== Proof.States.lean ====
module

public import proofs.«01_k».proof.Proof.Gen.KernelIdeal.Frame.Runs
public import proofs.«01_k».proof.Proof.RefFwd
public import proofs.«01_k».proof.Proof.Ent
public import proofs.«01_k».proof.Proof.Mask
public import Idealize.ShloMosaic.Lib.StableHlo.RunRead
public import Idealize.ShloMosaic.Lib.StableHlo.RunClose
public import Idealize.ShloMosaic.Lib.ValueIdxRank6

@[expose] public section

set_option maxRecDepth 65536

/-! The arrays the host lines prepare for the region: the states of the recurrence and the three constant masks. -/

noncomputable section

open scoped BigOperators

namespace Cert.KernelIdeal.Voc

open Cert.KernelIdeal Cert.KernelIdeal.Gen Idealize.ShloMosaic Idealize.ShloMosaic.TcCoe Idealize.ShloMosaic.ValueIdx Cert.Gla

variable {F : FTy → Type} [FloatOps F]
variable (m : (ℓ : Loc nD τ sig) → Buf (Elt F) ℓ) (c : Dev nD)

/-- One state per chunk and head pair, its two heads' states put on the diagonal blocks. -/
def pairs (x : FVec F S4x128x64x128 .f32) : FVec F S2x128x256x128 .f32 :=
  shapeCast S2x128x256x128 (transpose S2x128x2x128x2x64 [1, 0, 2, 3, 4, 5]
    (select (broadcastInDim S128x2x2x128x2x64 ![2, 3, 4, 5] bcast_S2x1x2x1_S128x2x2x128x2x64_2_3_4_5
        (cmpi .eq (broadcastInDim S2x1x2x1 ![0, 1, 2, 3] bcast_S2x1x1x1_S2x1x2x1_0_1_2_3 (broadcastInDim S2x1x1x1 ![0] bcast_S2_S2x1x1x1_0 (iotaInDim S2 32 0)))
          (broadcastInDim S2x1x2x1 ![0, 1, 2, 3] bcast_S1x1x2x1_S2x1x2x1_0_1_2_3 (broadcastInDim S1x1x2x1 ![2] bcast_S2_S1x1x2x1_2 (iotaInDim S2 32 0)))))
      (broadcastInDim S128x2x2x128x2x64 ![0, 1, 2, 3, 4, 5] bcast_S128x2x2x128x1x64_S128x2x2x128x2x64_0_1_2_3_4_5
        (broadcastInDim S128x2x2x128x1x64 ![0, 1, 2, 3, 5] bcast_S128x2x2x128x64_S128x2x2x128x1x64_0_1_2_3_5
          (shapeCast S128x2x2x128x64 (transpose S128x4x128x64 [1, 0, 3, 2] x transposes_S4x128x64x128_S128x4x128x64_1_0_3_2) shapeCasts_S128x4x128x64_S128x2x2x128x64)))
      (broadcastInDim S128x2x2x128x2x64 ![] bcast_S_S128x2x2x128x2x64 (constant S_ .f32 0x00000000#32)))
    transposes_S128x2x2x128x2x64_S2x128x2x128x2x64_1_0_2_3_4_5) shapeCasts_S2x128x2x128x2x64_S2x128x256x128

set_option maxHeartbeats 1000000 in
theorem V_states : Gen.V m c main_v53 = pairs (Cert.ReferenceIdeal.Read.val_main_v42 (F := F) (m ((c : Thread nD τ).loc main_arg0)) (m ((c : Thread nD τ).loc main_arg2)) (m ((c : Thread nD τ).loc main_arg3))) := by
  unfold Gen.V
  simp only [List.flatten_cons, List.flatten_nil, List.append_nil]
  after_reads_simp
  rfl

set_option maxHeartbeats 400000 in
theorem V_inc : Gen.V m c main_cst = fun i => FloatOps.ofBits .bf16 (lit0 (S64x64.rowMajor i)) := by
  unfold Gen.V
  simp only [List.flatten_cons, List.flatten_nil, List.append_nil]
  after_reads_simp
  rfl
set_option maxHeartbeats 400000 in
theorem V_str : Gen.V m c main_cst_0 = fun i => FloatOps.ofBits .bf16 (lit1 (S64x64.rowMajor i)) := by
  unfold Gen.V
  simp only [List.flatten_cons, List.flatten_nil, List.append_nil]
  after_reads_simp
  rfl
set_option maxHeartbeats 400000 in
theorem V_bd : Gen.V m c main_cst_1 = fun i => FloatOps.ofBits .f32 (lit2 (S256x128.rowMajor i)) := by
  unfold Gen.V
  simp only [List.flatten_cons, List.flatten_nil, List.append_nil]
  after_reads_simp
  rfl

/-! ## Their entries -/

theorem eq_bit (a b : Fin 2) : IntOp.cmpi .eq (BitVec.ofNat 32 a.val) (BitVec.ofNat 32 b.val) = if a = b then 1#1 else 0#1 := by
  revert a b; decide +kernel

/-- Where in the six-axis array an entry lies. -/
abbrev p6 (p : Fin 2) (c : Fin 128) (u : Fin 256) (l : Fin 128) : S2x128x2x128x2x64.Idx := ix6 p c (hu u) (lu u) (hl l) (lk l)

set_option maxHeartbeats 1000000 in
theorem pairs_at {x : FVec Ideal S4x128x64x128 .f32} {A : In} (hx : ∀ i, x i = ((S A (i 0) (i 1) (i 2) (i 3) : ℝ) : EReal)) (p : Fin 2) (c : Fin 128) (u : Fin 256) (l : Fin 128) :
    pairs x (ix4 p c u l) = ((bS A p c u l : ℝ) : EReal) := by
  unfold pairs
  rw [shapeCast_apply _ shapeCasts_S2x128x2x128x2x64_S2x128x256x128 (ix4 p c u l) (ix6 p c (hu u) (lu u) (hl l) (lk l)) (by
    rw [Shape.rowMajor_val_six, Shape.rowMajor_val_four]
    change ((((p.val * 128 + c.val) * 2 + u.val / 128) * 128 + u.val % 128) * 2 + l.val / 64) * 64 + l.val % 64 = ((p.val * 128 + c.val) * 256 + u.val) * 128 + l.val
    omega),
    transpose_apply _ _ transposes_S128x2x2x128x2x64_S2x128x2x128x2x64_1_0_2_3_4_5 (ix6 p c (hu u) (lu u) (hl l) (lk l)) (ix6 c p (hu u) (lu u) (hl l) (lk l)) (fun a => match a with
      | ⟨0, _⟩ => rfl | ⟨1, _⟩ => rfl | ⟨2, _⟩ => rfl | ⟨3, _⟩ => rfl | ⟨4, _⟩ => rfl | ⟨5, _⟩ => rfl),
    select_apply,
    broadcastInDim_apply _ bcast_S2x1x2x1_S128x2x2x128x2x64_2_3_4_5 _ (ix6 c p (hu u) (lu u) (hl l) (lk l)) (ix4 (hu u) 0 (hl l) 0) (fun a => match a with
      | ⟨0, _⟩ => rfl | ⟨1, _⟩ => rfl | ⟨2, _⟩ => rfl | ⟨3, _⟩ => rfl),
    broadcastInDim_apply _ bcast_S128x2x2x128x1x64_S128x2x2x128x2x64_0_1_2_3_4_5 _ (ix6 c p (hu u) (lu u) (hl l) (lk l)) (ix6 c p (hu u) (lu u) 0 (lk l)) (fun a => match a with
      | ⟨0, _⟩ => rfl | ⟨1, _⟩ => rfl | ⟨2, _⟩ => rfl | ⟨3, _⟩ => rfl | ⟨4, _⟩ => rfl | ⟨5, _⟩ => rfl),
    broadcastInDim_apply _ bcast_S128x2x2x128x64_S128x2x2x128x1x64_0_1_2_3_5 _ (ix6 c p (hu u) (lu u) 0 (lk l)) (ix5 c p (hu u) (lu u) (lk l)) (fun a => match a with
      | ⟨0, _⟩ => rfl | ⟨1, _⟩ => rfl | ⟨2, _⟩ => rfl | ⟨3, _⟩ => rfl | ⟨4, _⟩ => rfl),
    shapeCast_apply _ shapeCasts_S128x4x128x64_S128x2x2x128x64 (ix5 c p (hu u) (lu u) (lk l)) (ix4 c (hd p (hu u)) (lu u) (lk l)) (by
      rw [Shape.rowMajor_val_four, Shape.rowMajor_val_five]
      change ((c.val * 4 + (2 * p.val + u.val / 128)) * 128 + u.val % 128) * 64 + l.val % 64 = (((c.val * 2 + p.val) * 2 + u.val / 128) * 128 + u.val % 128) * 64 + l.val % 64
      omega),
    transpose_apply _ _ transposes_S4x128x64x128_S128x4x128x64_1_0_3_2 (ix4 c (hd p (hu u)) (lu u) (lk l)) (ix4 (hd p (hu u)) c (lk l) (lu u)) (fun a => match a with
      | ⟨0, _⟩ => rfl | ⟨1, _⟩ => rfl | ⟨2, _⟩ => rfl | ⟨3, _⟩ => rfl),
    hx]
  have e : cmpi .eq (broadcastInDim S2x1x2x1 ![0, 1, 2, 3] bcast_S2x1x1x1_S2x1x2x1_0_1_2_3 (broadcastInDim S2x1x1x1 ![0] bcast_S2_S2x1x1x1_0 (iotaInDim S2 32 0)))
          (broadcastInDim S2x1x2x1 ![0, 1, 2, 3] bcast_S1x1x2x1_S2x1x2x1_0_1_2_3 (broadcastInDim S1x1x2x1 ![2] bcast_S2_S1x1x2x1_2 (iotaInDim S2 32 0))) (ix4 (hu u) 0 (hl l) 0)
      = if hu u = hl l then 1#1 else 0#1 := eq_bit (hu u) (hl l)
  rw [e]
  unfold bS bdg
  by_cases h : hu u = hl l
  · rw [if_pos h, if_pos h, ← h]; exact select_one _ _
  · rw [if_neg h, if_neg h]; exact (select_zero _ _).trans bits_zero

theorem inc_at (i j : Fin 64) : (FloatOps.ofBits (F := Ideal) .bf16 (lit0 (S64x64.rowMajor (ix2 i j))) : EReal) = ((if j.val ≤ i.val then 1 else 0 : ℝ) : EReal) := by
  have e : S64x64.rowMajor (ix2 i j) = (⟨i.val * 64 + j.val, by omega⟩ : Fin 4096) := Fin.ext (Shape.rowMajor_val_two _)
  rw [e, lit0_at]
  split
  · exact bits_one16
  · exact bits_zero16
theorem str_at (i j : Fin 64) : (FloatOps.ofBits (F := Ideal) .bf16 (lit1 (S64x64.rowMajor (ix2 i j))) : EReal) = ((if j.val < i.val then 1 else 0 : ℝ) : EReal) := by
  have e : S64x64.rowMajor (ix2 i j) = (⟨i.val * 64 + j.val, by omega⟩ : Fin 4096) := Fin.ext (Shape.rowMajor_val_two _)
  rw [e, lit1_at]
  split
  · exact bits_one16
  · exact bits_zero16
theorem bd_at (i : Fin 256) (j : Fin 128) : (FloatOps.ofBits (F := Ideal) .f32 (lit2 (S256x128.rowMajor (ix2 i j))) : EReal) = ((bdg (fun _ _ _ => 1) i j : ℝ) : EReal) := by
  have e : S256x128.rowMajor (ix2 i j) = (⟨i.val * 128 + j.val, by omega⟩ : Fin 32768) := Fin.ext (Shape.rowMajor_val_two _)
  have e2 : (hu i = hl j) ↔ i.val / 128 = j.val / 64 := ⟨fun h => congrArg Fin.val h, fun h => Fin.ext h⟩
  rw [e, lit2_at]
  unfold bdg
  simp only [e2]
  split
  · exact bits_one
  · exact bits_zero

end Cert.KernelIdeal.Voc

end
-- ==== Proof.Blkre.lean ====
module

public import proofs.«01_k».proof.Proof.Ent
public import proofs.«01_k».proof.Proof.Out

@[expose] public section

set_option maxRecDepth 16384

/-! One block of rows, entry by entry, over real arguments. -/

noncomputable section

open scoped BigOperators

namespace Cert.KernelIdeal.Voc

open Cert.KernelIdeal Cert.KernelIdeal.Gen Idealize.ShloMosaic Idealize.ShloMosaic.TcCoe Idealize.ShloMosaic.ValueIdx Cert.Gla

/-- Chunk `cc` of block `b`. -/
def chk (b : Fin 16) (cc : Fin 8) : Fin 128 := ⟨8 * b.val + cc.val, by omega⟩
/-- Row `a` of block `b`. -/
def srow (b : Fin 16) (a : Fin 512) : Fin 8192 := ⟨512 * b.val + a.val, by omega⟩

variable {A : In} {b : Fin 16}

/-- What a step loads, when its arguments are real numbers. -/
structure Ok (A : In) (b : Fin 16) (D : Ld Ideal) : Prop where
  q : ∀ cc p, Kc (D.q cc p) p (chk b cc) (Q A)
  k : ∀ cc p, Kc (D.k cc p) p (chk b cc) (K A)
  la : ∀ cc p, Kc (D.la cc p) p (chk b cc) (Gla.la A)
  dl : ∀ cc p, Re (D.dl cc p) (fun t l => sigm (-fz A (row (chk b cc) t) (kc (hd p (hl l)) (lk l))) / 16)
  v : ∀ cc p, Vc (D.v cc p) p (chk b cc) (V A)
  gg : ∀ cc p, Vc (D.gg cc p) p (chk b cc) (GG A)
  ct : ∀ cc p, Vc (D.ct cc p) p (chk b cc) (Gla.ct A)
  st : ∀ cc p u l, D.st cc p (ix4 0 0 u l) = ((bS A p (chk b cc) u l : ℝ) : EReal)
  pv : ∀ p, Re (D.pv p) (bdg fun h k v => SP A (hd p h) (8 * b.val) k v)
  g : ∀ p, Re (D.g p) (fun _ u => gn A (hd p (hu u)) (lu u))
  inc : Re D.inc (fun t t' => if t'.val ≤ t.val then 1 else 0)
  str : Re D.str (fun t t' => if t'.val < t.val then 1 else 0)
  bd : Re D.bd (bdg fun _ _ _ => 1)
  C : ∀ p, Re (D.C p) (bdg fun h k v => CY A (hd p h) (8 * b.val + 8) k v)

section
variable {D : Ld Ideal} (H : Ok A b D)
include H

theorem Ok.cs (cc : Fin 8) (p : Fin 2) : Kc (D.cs cc p) p (chk b cc) (cum A) := e_cs H.inc (H.la cc p)
theorem Ok.o (cc : Fin 8) (p : Fin 2) : Vc (D.o cc p) p (chk b cc) (Gla.o A) := e_o (H.q cc p) (H.st cc p)
theorem Ok.dgg (cc : Fin 8) (p : Fin 2) : Re (D.dgg cc p) (fun t u => Gla.dgg A (hd p (hu u)) (chk b cc) t (lu u)) :=
  (e_dgg (H.o cc p) (H.g p) (H.ct cc p) (H.gg cc p)).r16
theorem Ok.dov (cc : Fin 8) (p : Fin 2) : Re (D.dov cc p) (fun t u => Gla.dov A (hd p (hu u)) (chk b cc) t (lu u)) :=
  e_dov (H.o cc p) (H.g p) (H.ct cc p) (H.gg cc p)
theorem Ok.dq (cc : Fin 8) (p : Fin 2) : Re (D.dq cc p) (fun t l => Gla.dq A (hd p (hl l)) (chk b cc) t (lk l)) := e_dq (H.dov cc p) (H.st cc p)
theorem Ok.rdr (cc : Fin 8) (p : Fin 2) : Re (D.rdr cc p) (bdg fun h k v => R A (hd p h) (chk b cc) k v) := e_rdr H.bd (H.dov cc p) (H.q cc p)

theorem Ok.G' (cc : Fin 8) (p : Fin 2) {x : FVec Ideal S256x128 .f32} {m : ℕ} (e : m = 8 * b.val + cc.val + 1)
    (hx : Re x (bdg fun h k v => CY A (hd p h) m k v)) :
    Re (addf (D.rdr cc p) x) (bdg fun h k v => Gla.G A (hd p h) (chk b cc) k v) :=
  ((H.rdr cc p).add hx).of fun u l => by
    rw [bdg_add, e]
    simp only [G_eq]
    rfl

theorem Ok.cr (p : Fin 2) : ∀ n, n ≤ 8 → Re (D.cr p n) (bdg fun h k v => CY A (hd p h) (8 * b.val + 8 - n) k v)
  | 0, _ => H.C p
  | n + 1, hn => by
    have i := Ok.cr p n (by omega)
    have g := H.G' (nth n) p (m := 8 * b.val + 8 - n) (by change _ = 8 * b.val + (7 - n) + 1; omega) i
    have r := e_back g (e_dec (H.cs (nth n) p))
    have e : (chk b (nth n)).val = 8 * b.val + 8 - (n + 1) := by change 8 * b.val + (7 - n) = _; omega
    rw [e] at r
    exact r
theorem Ok.G (cc : Fin 8) (p : Fin 2) : Re (D.G cc p) (bdg fun h k v => Gla.G A (hd p h) (chk b cc) k v) :=
  H.G' cc p (m := 8 * b.val + 8 - (7 - cc.val)) (by omega) (H.cr p (7 - cc.val) (by omega))
theorem Ok.P (p : Fin 2) : ∀ cc, Re (D.P p cc) (bdg fun h k v => SP A (hd p h) (chk b cc).val k v)
  | ⟨0, _⟩ => H.pv p
  | ⟨n + 1, hn⟩ => (e_st (H.st ⟨n, by omega⟩ p)).of fun u l => by
    have e : (chk b ⟨n + 1, hn⟩).val = (chk b ⟨n, by omega⟩).val + 1 := rfl
    rw [e]
    simp only [SP_succ]
theorem Ok.kd (cc : Fin 8) (p : Fin 2) : Kc (D.kd cc p) p (chk b cc) (Gla.kd A) := e_kd (H.k cc p) (H.cs cc p)
theorem Ok.dv (cc : Fin 8) (p : Fin 2) : Re (D.dv cc p) (fun t u => Gla.dv A (hd p (hu u)) (chk b cc) t (lu u)) := e_dv (H.kd cc p) (H.G cc p)
theorem Ok.dkd (cc : Fin 8) (p : Fin 2) : Kc (D.dkd cc p) p (chk b cc) (Gla.dkd A) := e_dkd (H.v cc p) (H.G cc p)
theorem Ok.dk (cc : Fin 8) (p : Fin 2) : Re (D.dk cc p) (fun t l => Gla.dk A (hd p (hl l)) (chk b cc) t (lk l)) := e_dk (H.dkd cc p) (e_ed (H.cs cc p))
theorem Ok.dfz (cc : Fin 8) (p : Fin 2) :
    Re (D.dfz cc p) (fun t l => dla A (hd p (hl l)) (chk b cc) t (lk l) * (sigm (-fz A (row (chk b cc) t) (kc (hd p (hl l)) (lk l))) / 16)) :=
  e_dfz H.str (H.dkd cc p) (H.kd cc p) (e_ddec (H.G cc p) (H.P p cc) (e_dec (H.cs cc p))) (H.dl cc p)

/-- One chunk's part of the gains' gradient. -/
def gpart (A : In) (h : Fin 4) (c : Fin 128) (v : Fin 128) : ℝ := ∑ t, nr A h c t v * dng A h c t v
theorem Ok.gs (p : Fin 2) : ∀ n, n ≤ 8 → Re (D.gs p n) (fun _ u => ∑ cc : Fin 8, if 8 - n ≤ cc.val then gpart A (hd p (hu u)) (chk b cc) (lu u) else 0)
  | 0, _ => Re.n0.of fun _ u => (Finset.sum_eq_zero fun cc _ => if_neg (by have := cc.isLt; omega)).symm
  | n + 1, hn => ((Ok.gs p n (by omega)).add (e_dgain (H.o (nth n) p) (H.ct (nth n) p) (H.gg (nth n) p))).of fun _ u => by
    have e : gpart A (hd p (hu u)) (chk b (nth n)) (lu u) = ∑ cc : Fin 8, if cc = nth n then gpart A (hd p (hu u)) (chk b cc) (lu u) else 0 := by simp
    change _ + gpart A (hd p (hu u)) (chk b (nth n)) (lu u) = _
    rw [e, ← Finset.sum_add_distrib]
    refine Finset.sum_congr rfl fun cc _ => ?_
    have e1 : (cc = nth n) ↔ cc.val = 7 - n := ⟨fun h => congrArg Fin.val h, fun h => Fin.ext h⟩
    simp only [e1]
    rcases lt_trichotomy cc.val (7 - n) with l | l | l
    · rw [if_neg (by omega), if_neg (by omega), if_neg (by omega), add_zero]
    · rw [if_neg (by omega), if_pos l, if_pos (by omega), zero_add]
    · rw [if_pos (by omega), if_neg (by omega), if_pos (by omega), add_zero]
theorem Ok.gs8 (p : Fin 2) : Re (D.gs p 8) (fun _ u => ∑ cc : Fin 8, gpart A (hd p (hu u)) (chk b cc) (lu u)) :=
  (H.gs p 8 le_rfl).of fun _ u => Finset.sum_congr rfl fun cc _ => if_pos (by omega)

theorem ch_srow (a : Fin 512) : ch (srow b a) = chk b ⟨a.val / 64, by omega⟩ := Fin.ext (by simp only [ch, srow, chk]; omega)
theorem tm_srow (a : Fin 512) : tm (srow b a) = ⟨a.val % 64, by omega⟩ := Fin.ext (by simp only [tm, srow]; omega)

/-- The block's gradient of the queries. -/
theorem Ok.bdq : Re (tA D.dq) (fun a j => Gla.dq A (kh j) (ch (srow b a)) (tm (srow b a)) (kl j)) := fun a j => by
  refine (H.dq ⟨a.val / 64, by omega⟩ ⟨j.val / 128, by omega⟩ ⟨a.val % 64, by omega⟩ ⟨j.val % 128, by omega⟩).trans ?_
  beta_reduce
  rw [ch_srow H, tm_srow H]
  exact congrArg₂ (fun x y => ((Gla.dq A x _ _ y : ℝ) : EReal)) (Fin.ext (by simp only [hd, hl, kh]; omega)) (Fin.ext (by simp only [lk, kl]; omega))
theorem Ok.bdk : Re (tA D.dk) (fun a j => Gla.dk A (kh j) (ch (srow b a)) (tm (srow b a)) (kl j)) := fun a j => by
  refine (H.dk ⟨a.val / 64, by omega⟩ ⟨j.val / 128, by omega⟩ ⟨a.val % 64, by omega⟩ ⟨j.val % 128, by omega⟩).trans ?_
  beta_reduce
  rw [ch_srow H, tm_srow H]
  exact congrArg₂ (fun x y => ((Gla.dk A x _ _ y : ℝ) : EReal)) (Fin.ext (by simp only [hd, hl, kh]; omega)) (Fin.ext (by simp only [lk, kl]; omega))
theorem Ok.bdv : Re (tB D.dv) (fun a u => Gla.dv A (vh u) (ch (srow b a)) (tm (srow b a)) (vl u)) := fun a j => by
  refine (H.dv ⟨a.val / 64, by omega⟩ ⟨j.val / 256, by omega⟩ ⟨a.val % 64, by omega⟩ ⟨j.val % 256, by omega⟩).trans ?_
  beta_reduce
  rw [ch_srow H, tm_srow H]
  exact congrArg₂ (fun x y => ((Gla.dv A x _ _ y : ℝ) : EReal)) (Fin.ext (by simp only [hd, hu, vh]; omega)) (Fin.ext (by simp only [lu, vl]; omega))
theorem Ok.bdgg : Re (tB D.dgg) (fun a u => Gla.dgg A (vh u) (ch (srow b a)) (tm (srow b a)) (vl u)) := fun a j => by
  refine (H.dgg ⟨a.val / 64, by omega⟩ ⟨j.val / 256, by omega⟩ ⟨a.val % 64, by omega⟩ ⟨j.val % 256, by omega⟩).trans ?_
  beta_reduce
  rw [ch_srow H, tm_srow H]
  exact congrArg₂ (fun x y => ((Gla.dgg A x _ _ y : ℝ) : EReal)) (Fin.ext (by simp only [hd, hu, vh]; omega)) (Fin.ext (by simp only [lu, vl]; omega))
theorem Ok.bdfz : Re (tF D.dfz) (fun a j => Gla.dfz A (srow b a) j) := fun a j => by
  refine (H.dfz ⟨a.val / 64, by omega⟩ ⟨j.val / 128, by omega⟩ ⟨a.val % 64, by omega⟩ ⟨j.val % 128, by omega⟩).trans ?_
  have e1 : hd ⟨j.val / 128, by omega⟩ (hl ⟨j.val % 128, by omega⟩) = kh j := Fin.ext (by simp only [hd, hl, kh]; omega)
  have e2 : lk ⟨j.val % 128, by omega⟩ = kl j := Fin.ext (by simp only [lk, kl]; omega)
  have e3 : row (chk b ⟨a.val / 64, by omega⟩) ⟨a.val % 64, by omega⟩ = srow b a := Fin.ext (by simp only [row, chk, srow]; omega)
  beta_reduce
  rw [e1, e2, e3, kc_kh_kl, Gla.dfz, ch_srow H, tm_srow H]
end

/-! ## The sums over the blocks -/

theorem sumS (f : Fin 8192 → ℝ) : ∑ s, f s = ∑ b, ∑ a, f (srow b a) := by
  rw [← (finProdFinEquiv (m := 16) (n := 512)).sum_comp f, Fintype.sum_prod_type]
  exact Finset.sum_congr rfl fun b _ => Finset.sum_congr rfl fun a _ => congrArg f (Fin.ext (by
    have e : ((finProdFinEquiv (m := 16) (n := 512)) (b, a)).val = a.val + 512 * b.val := rfl
    simp only [srow, e]; omega))
theorem sumC (f : Fin 8192 → ℝ) (b : Fin 16) : ∑ a, f (srow b a) = ∑ cc, ∑ t, f (row (chk b cc) t) := by
  rw [← (finProdFinEquiv (m := 8) (n := 64)).sum_comp (fun a : Fin 512 => f (srow b a)), Fintype.sum_prod_type]
  exact Finset.sum_congr rfl fun cc _ => Finset.sum_congr rfl fun t _ => congrArg f (Fin.ext (by
    have e : ((finProdFinEquiv (m := 8) (n := 64)) (cc, t)).val = t.val + 64 * cc.val := rfl
    simp only [srow, row, chk, e]; omega))
/-- The sum over the blocks visited by `n` steps. -/
def upto (n : ℕ) (f : Fin 16 → ℝ) : ℝ := ∑ b : Fin 16, if 16 - n ≤ b.val then f b else 0
theorem upto_zero (f : Fin 16 → ℝ) : upto 0 f = 0 := Finset.sum_eq_zero fun b _ => if_neg (by have := b.isLt; omega)
theorem upto_end (f : Fin 16 → ℝ) : upto 16 f = ∑ b, f b := Finset.sum_congr rfl fun b _ => if_pos (by omega)
theorem upto_succ (n : ℕ) (hn : n < 16) (f : Fin 16 → ℝ) : upto (n + 1) f = upto n f + f ⟨15 - n, by omega⟩ := by
  have e : f ⟨15 - n, by omega⟩ = ∑ b : Fin 16, if b = ⟨15 - n, by omega⟩ then f b else 0 := by simp
  rw [e, upto, upto, ← Finset.sum_add_distrib]
  refine Finset.sum_congr rfl fun b _ => ?_
  have e1 : (b = (⟨15 - n, by omega⟩ : Fin 16)) ↔ b.val = 15 - n := ⟨fun h => congrArg Fin.val h, fun h => Fin.ext h⟩
  simp only [e1]
  rcases lt_trichotomy b.val (15 - n) with l | l | l
  · rw [if_neg (by omega), if_neg (by omega), if_neg (by omega), add_zero]
  · rw [if_pos (by omega), if_neg (by omega), if_pos l, zero_add]
  · rw [if_pos (by omega), if_pos (by omega), if_neg (by omega), add_zero]

/-- A block's part of the weights' gradient. -/
def bW (A : In) (r : Fin 128) (j : Fin 256) (b : Fin 16) : ℝ := ∑ a, gf A (srow b a) r * Gla.dfz A (srow b a) j
/-- A block's part of the biases' gradient. -/
def bB (A : In) (j : Fin 256) (b : Fin 16) : ℝ := ∑ a, Gla.dfz A (srow b a) j
/-- A block's part of the gains' gradient. -/
def bG (A : In) (u : Fin 512) (b : Fin 16) : ℝ := ∑ cc, gpart A (vh u) (chk b cc) (vl u)
theorem sum_bW (r : Fin 128) (j : Fin 256) : ∑ b, bW A r j b = Gla.dW A r j := (sumS fun s => gf A s r * Gla.dfz A s j).symm
theorem sum_bB (j : Fin 256) : ∑ b, bB A j b = Gla.dB A j := (sumS fun s => Gla.dfz A s j).symm
theorem sum_bG (u : Fin 512) : ∑ b, bG A u b = Gla.dG A u := by
  rw [Gla.dG, sumS]
  refine Finset.sum_congr rfl fun b _ => ?_
  rw [sumC (fun s => nr A (vh u) (ch s) (tm s) (vl u) * dng A (vh u) (ch s) (tm s) (vl u)) b]
  simp only [ch_row, tm_row]
  rfl

/-- What is carried after `n` steps. -/
structure OkS (A : In) (n : ℕ) (s : St Ideal) : Prop where
  W : Re s.W (fun r j => upto n (bW A r j))
  B : Re s.B (fun _ j => upto n (bB A j))
  G : Re s.G (fun _ u => upto n (bG A u))
  C : ∀ p u l, s.C (ix3 p u l) = ((bdg (fun h k v => CY A (hd p h) (8 * (16 - n)) k v) u l : ℝ) : EReal)

theorem okS_zero : OkS A 0 (st0 (F := Ideal)) where
  W r j := bits_zero.trans (congrArg _ (upto_zero (bW A r j)).symm)
  B r j := bits_zero.trans (congrArg _ (upto_zero (bB A j)).symm)
  G r j := bits_zero.trans (congrArg _ (upto_zero (bG A j)).symm)
  C p u l := bits_zero.trans (by
    have e : bdg (fun h k v => CY A (hd p h) (8 * (16 - 0)) k v) u l = 0 := by
      unfold bdg; split
      · exact CY_end A _ _ _
      · rfl
    rw [e])

theorem pairC {y : FVec Ideal S2x256x128 .f32} {p : Fin 2} {f : Fin 256 → Fin 128 → ℝ} (h : ∀ u l, y (ix3 p u l) = ((f u l : ℝ) : EReal)) :
    Re (shapeCast S256x128 (cpp y p) shapeCasts_S1x256x128_S256x128) f := fun u l =>
  (shapeCast_apply (cpp y p) shapeCasts_S1x256x128_S256x128 (ix2 u l) (ix3 0 u l) (by
    rw [Shape.rowMajor_val_three, Shape.rowMajor_val_two]
    change (0 * 256 + u.val) * 128 + l.val = u.val * 128 + l.val
    omega)).trans (h u l)
theorem e_tK {g : Fin 2 → FVec Ideal S256x128 .f32} {p : Fin 2} {f : Fin 256 → Fin 128 → ℝ} (h : Re (g p) f) (u : Fin 256) (l : Fin 128) :
    tK g (ix3 p u l) = ((f u l : ℝ) : EReal) :=
  (shapeCast_apply (g p) shapeCasts_S256x128_S1x256x128 (ix3 0 u l) (ix2 u l) (by
    rw [Shape.rowMajor_val_three, Shape.rowMajor_val_two]
    change u.val * 128 + l.val = (0 * 256 + u.val) * 128 + l.val
    omega)).trans (h u l)

theorem e_nW {f : FVec Ideal S512x128 .f32} {z : FVec Ideal S512x256 .f32} {w : FVec Ideal S128x256 .f32} {f' : Fin 512 → Fin 128 → ℝ} {z' : Fin 512 → Fin 256 → ℝ} {w' : Fin 128 → Fin 256 → ℝ}
    (hf : Re f f') (hz : Re z z') (hw : Re w w') : Re (nW f z w) (fun r j => w' r j + ∑ a, f' a r * z' a j) := by
  have e : nW f z w = addf w (matmul dot_S512x128_S512x256_S128x256_0_0_1_1_n_n none (r16 f) (r16 z) (constant S128x256 .f32 0x00000000#32)) :=
    congrArg (fun y => addf y _) (shapeCast_self w shapeCasts_S128x256_S128x256)
  rw [e]
  exact hw.add (mm_w hf.r16 hz.r16)
theorem e_nB {z : FVec Ideal S512x256 .f32} {w : FVec Ideal S1x256 .f32} {z' : Fin 512 → Fin 256 → ℝ} {w' : Fin 1 → Fin 256 → ℝ}
    (hz : Re z z') (hw : Re w w') : Re (nB z w) (fun i j => w' i j + ∑ a, z' a j) := by
  have e : nB z w = addf w (shapeCast S1x256 (multiReduction .add [0] S256 z 0x00000000#32 reduces_S512x256_S256 (.inl rfl) rfl) shapeCasts_S256_S1x256) :=
    congrArg (fun y => addf y _) (shapeCast_self w shapeCasts_S1x256_S1x256)
  rw [e]
  exact hw.add (Re.cast1 (m := 1) (sum0b hz) shapeCasts_S256_S1x256)
theorem e_nG {D : Ld Ideal} (H : Ok A b D) {w : FVec Ideal S1x512 .f32} {w' : Fin 1 → Fin 512 → ℝ} (hw : Re w w') :
    Re (nG D w) (fun i u => w' i u + bG A u b) := by
  have e : nG D w = addf w (concatenate S1x512 1 [⟨S1x256, D.gs 0 8⟩, ⟨S1x256, D.gs 1 8⟩] concatenates_S1x256_S1x256_S1x512_d1) :=
    congrArg (fun y => addf y _) (shapeCast_self w shapeCasts_S1x512_S1x512)
  rw [e]
  refine hw.add (Re.cat (H.gs8 0) (H.gs8 1) concatenates_S1x256_S1x256_S1x512_d1 (by omega) (fun _ u => ?_) (fun _ u => ?_))
  · have e1 : vh ⟨u.val, by omega⟩ = hd 0 (hu u) := Fin.ext (by simp only [hd, hu, vh]; change _ = 2 * 0 + _; omega)
    have e2 : vl ⟨u.val, by omega⟩ = lu u := rfl
    unfold bG; rw [e1, e2]
  · have e1 : vh ⟨256 + u.val, by omega⟩ = hd 1 (hu u) := Fin.ext (by simp only [hd, hu, vh]; change _ = 2 * 1 + _; omega)
    have e2 : vl ⟨256 + u.val, by omega⟩ = lu u := Fin.ext (by simp only [vl, lu]; omega)
    unfold bG; rw [e1, e2]
theorem e_dgf {w : FVec Ideal S128x256 .f32} {z : FVec Ideal S512x256 .f32} (hz : Re z (fun a j => Gla.dfz A (srow b a) j)) (hw : Re w A.w) :
    Re (dgfv w z) (fun a r => Gla.dgf A (srow b a) r) := (mm_g hz.r16 hw.r16).r16

theorem okS_succ {n : ℕ} (hn : n < 16) {D : Ld Ideal} {f : FVec Ideal S512x128 .f32} {s : St Ideal} (e : b.val = 15 - n)
    (hf : Re f (fun a r => gf A (srow b a) r)) (H : Ok A b D) (hs : OkS A n s) : OkS A (n + 1) (nxt f D s) := by
  obtain ⟨k, rfl⟩ : ∃ k : Fin 16, k = b := ⟨_, rfl⟩
  have e0 : (⟨15 - n, by omega⟩ : Fin 16) = k := Fin.ext e.symm
  have us := fun f => upto_succ n hn f
  simp only [e0] at us
  refine ⟨(e_nW hf H.bdfz hs.W).of fun r j => (us _).symm, (e_nB H.bdfz hs.B).of fun r j => (us _).symm,
    (e_nG H hs.G).of fun r j => (us _).symm, fun p u l => ?_⟩
  have r := H.cr p 8 le_rfl
  have q : 8 * k.val + 8 - 8 = 8 * (16 - (n + 1)) := by omega
  rw [← q]
  exact e_tK (g := fun p => D.cr p 8) r u l

/-! ## The blocks a step is given -/

/-- A step's blocks, when the arguments are real numbers. -/
structure Inp (A : In) (b : Fin 16) (x0 x1 : FVec Ideal S512x256 .f32) (x2 x3 : FVec Ideal S512x512 .f32) (x4 : FVec Ideal S512x128 .f32) (x5 : FVec Ideal S512x512 .f32)
    (x6 : FVec Ideal S2x8x256x128 .f32) (x7 : FVec Ideal S2x1x256x128 .f32) (x8 : FVec Ideal S128x256 .f32) (x9 : FVec Ideal S1x256 .f32) (x10 : FVec Ideal S1x512 .f32)
    (x11 x12 : FVec Ideal S64x64 .bf16) (x13 : FVec Ideal S256x128 .f32) (e : Ideal .f32) : Prop where
  h0 : Re x0 (fun a j => A.x (srow b a) ⟨1536 + j.val, by omega⟩)
  h1 : Re x1 (fun a j => A.x (srow b a) ⟨1792 + j.val, by omega⟩)
  h2 : Re x2 (fun a u => A.x (srow b a) ⟨2048 + u.val, by omega⟩)
  h3 : Re x3 (fun a u => A.x (srow b a) ⟨2560 + u.val, by omega⟩)
  h4 : Re x4 (fun a r => gf A (srow b a) r)
  h5 : Re x5 (fun a u => A.d (srow b a) ⟨512 + u.val, by omega⟩)
  h6 : ∀ p cc u l, x6 (ix4 p cc u l) = ((bS A p (chk b cc) u l : ℝ) : EReal)
  h7 : ∀ p u l, x7 (ix4 p 0 u l) = ((bS A p ⟨8 * b.val - 1, by omega⟩ u l : ℝ) : EReal)
  h8 : Re x8 A.w
  h9 : Re x9 (fun _ j => A.b j)
  h10 : Re x10 (fun _ u => A.g u)
  h11 : Re x11 (fun t t' => if t'.val ≤ t.val then 1 else 0)
  h12 : Re x12 (fun t t' => if t'.val < t.val then 1 else 0)
  h13 : Re x13 (bdg fun _ _ _ => 1)
  he : e = ((if b.val = 0 then 0 else 1 : ℝ) : EReal)

theorem e_fpre {x4 : FVec Ideal S512x128 .f32} {x8 : FVec Ideal S128x256 .f32} {x9 : FVec Ideal S1x256 .f32} (h4 : Re x4 (fun a r => gf A (srow b a) r)) (h8 : Re x8 A.w)
    (h9 : Re x9 (fun _ j => A.b j)) : Re (fpre x4 x8 x9) (fun a j => fz A (srow b a) j) :=
  (mm_f h4.r16 h8.r16).add (h9.row broadcasts_S1x256_S512x256)
theorem e_logd {z : FVec Ideal S512x256 .f32} {f : Fin 512 → Fin 256 → ℝ} (h : Re z f) : Re (logd z) (fun a j => lsig (f a j) / 16) :=
  ((((h.min Re.n0).sub ((Re.n1.add (Re.n0.sub h.abs).exp).log fun a j => one_add_exp_pos _)).mul (.cst bits_sixteenth))).of fun a j => by
    rw [zero_sub, lsig_eq]; ring
theorem e_dlogd {z : FVec Ideal S512x256 .f32} {f : Fin 512 → Fin 256 → ℝ} (h : Re z f) : Re (dlogd z) (fun a j => sigm (-f a j) / 16) :=
  ((Re.n1.div (Re.n1.add (Re.n0.sub (Re.n0.sub h)).exp) fun a j => (one_add_exp_pos _).ne').mul (.cst bits_sixteenth)).of fun a j => by
    rw [sigm_neg]
    have : (0 : ℝ) - (0 - f a j) = f a j := by ring
    rw [this]; ring
theorem e_subA {x : FVec Ideal S512x256 .f32} {f : Fin 8192 → Fin 256 → ℝ} (h : Re x (fun a j => f (srow b a) j)) (cc : Fin 8) (p : Fin 2) :
    Re (extractStridedSlice S64x128 ![64 * cc.val, 128 * p.val] x (slcA cc p)) (fun t l => f (row (chk b cc) t) (kc (hd p (hl l)) (lk l))) :=
  (h.slice (slcA cc p) (by omega) (by omega)).of fun t l => congrArg₂ f (Fin.ext (by simp only [srow, row, chk]; omega)) (Fin.ext (by simp only [kc, hd, hl, lk]; omega))

theorem e_sub {x : FVec Ideal S512x256 .f32} {f : Fin 8192 → Fin 256 → ℝ} (h : Re x (fun a j => f (srow b a) j)) (cc : Fin 8) (p : Fin 2) :
    Re (sub x cc p) (fun t l => f (row (chk b cc) t) (kc (hd p (hl l)) (lk l))) := fun t l =>
  (h ⟨64 * cc.val + t.val, by omega⟩ ⟨128 * p.val + l.val, by omega⟩).trans
    (congrArg₂ (fun r s => ((f r s : ℝ) : EReal)) (Fin.ext (by simp only [srow, row, chk]; omega)) (Fin.ext (by simp only [kc, hd, hl, lk]; omega)))
theorem e_sub2 {x : FVec Ideal S512x512 .f32} {f : Fin 8192 → Fin 512 → ℝ} (h : Re x (fun a j => f (srow b a) j)) (cc : Fin 8) (p : Fin 2) :
    Re (sub2 x cc p) (fun t l => f (row (chk b cc) t) (vc (hd p (hu l)) (lu l))) := fun t l =>
  (h ⟨64 * cc.val + t.val, by omega⟩ ⟨256 * p.val + l.val, by omega⟩).trans
    (congrArg₂ (fun r s => ((f r s : ℝ) : EReal)) (Fin.ext (by simp only [srow, row, chk]; omega)) (Fin.ext (by simp only [vc, hd, hu, lu]; omega)))

theorem Inp.ok {x0 x1 : FVec Ideal S512x256 .f32} {x2 x3 : FVec Ideal S512x512 .f32} {x4 : FVec Ideal S512x128 .f32} {x5 : FVec Ideal S512x512 .f32}
    {x6 : FVec Ideal S2x8x256x128 .f32} {x7 : FVec Ideal S2x1x256x128 .f32} {x8 : FVec Ideal S128x256 .f32} {x9 : FVec Ideal S1x256 .f32} {x10 : FVec Ideal S1x512 .f32}
    {x11 x12 : FVec Ideal S64x64 .bf16} {x13 : FVec Ideal S256x128 .f32} {e : Ideal .f32} (I : Inp A b x0 x1 x2 x3 x4 x5 x6 x7 x8 x9 x10 x11 x12 x13 e)
    {y : FVec Ideal S2x256x128 .f32} (hy : ∀ p u l, y (ix3 p u l) = ((bdg (fun h k v => CY A (hd p h) (8 * b.val + 8) k v) u l : ℝ) : EReal)) :
    Ok A b (LdX x0 x1 x2 x3 x4 x5 x6 x7 x8 x9 x10 x11 x12 x13 e (cpp y)) where
  q cc p := e_sub (f := fun s j => A.x s ⟨1536 + j.val, by omega⟩) I.h0 cc p
  k cc p := e_sub (f := fun s j => A.x s ⟨1792 + j.val, by omega⟩) I.h1 cc p
  la cc p := e_subA (f := fun s j => lsig (fz A s j) / 16) (e_logd (e_fpre I.h4 I.h8 I.h9)) cc p
  dl cc p := e_subA (f := fun s j => sigm (-fz A s j) / 16) (e_dlogd (e_fpre I.h4 I.h8 I.h9)) cc p
  v cc p := e_sub2 (f := fun s j => A.x s ⟨2048 + j.val, by omega⟩) I.h2 cc p
  gg cc p := e_sub2 (f := fun s j => A.x s ⟨2560 + j.val, by omega⟩) I.h3 cc p
  ct cc p := e_sub2 (f := fun s j => A.d s ⟨512 + j.val, by omega⟩) I.h5 cc p
  st cc p u l := I.h6 p cc u l
  pv p := ((e_st (st := spp x7 p) fun u l => I.h7 p u l).mul (y := broadcast S256x128 e) (g := fun _ _ => if b.val = 0 then 0 else 1) fun _ _ => I.he).of fun u l => by
    by_cases h : b.val = 0
    · rw [if_pos h, mul_zero, h]
      unfold bdg; split
      · exact (SP_zero A _ _ _).symm
      · rfl
    · rw [if_neg h, mul_one]
      obtain ⟨n, hn⟩ : ∃ n, n = 8 * b.val - 1 + 1 := ⟨_, rfl⟩
      have e : 8 * b.val = n := by omega
      have e' := fun h k v => SP_succ A h ⟨8 * b.val - 1, by omega⟩ k v
      change ∀ h k v, SP A h (8 * b.val - 1 + 1) k v = _ at e'
      rw [← hn] at e'
      refine Eq.trans ?_ (congrArg (fun n => bdg (fun h k v => SP A (hd p h) n k v) u l) e.symm)
      beta_reduce
      simp only [e']
  g p i u := (I.h10 0 ⟨256 * p.val + u.val, by omega⟩).trans (congrArg (fun r => ((A.g r : ℝ) : EReal)) (Fin.ext (by simp only [vc, hd, hu, lu]; omega)))
  inc := I.h11
  str := I.h12
  bd := I.h13
  C p := pairC (hy p)

end Cert.KernelIdeal.Voc

end
-- ==== Proof.Feed.lean ====
module

public import proofs.«01_k».proof.Proof.Emb
public import proofs.«01_k».proof.Proof.States
public import proofs.«01_k».proof.Proof.Blkre

@[expose] public section

set_option maxRecDepth 16384

/-! The blocks a step is given, when the arguments are real numbers. -/

noncomputable section

namespace Cert.KernelIdeal.Voc

open Cert.KernelIdeal Cert.KernelIdeal.Gen Idealize.ShloMosaic Idealize.ShloMosaic.TcCoe Idealize.ShloMosaic.ValueIdx Cert.Gla

/-- The arguments are the real numbers `A`. -/
structure Args (m : (ℓ : Loc nD τ sig) → Buf (Elt Ideal) ℓ) (c : Dev nD) (A : In) : Prop where
  h0 : m ((c : Thread nD τ).loc main_arg0) = a0 A
  h1 : m ((c : Thread nD τ).loc main_arg1) = a1 A
  h2 : m ((c : Thread nD τ).loc main_arg2) = a2 A
  h3 : m ((c : Thread nD τ).loc main_arg3) = a3 A
  h4 : m ((c : Thread nD τ).loc main_arg4) = a4 A

/-- The block of rows a step works on. -/
def blkOf (t : Fin cfg0.N) : Fin 16 := ⟨15 - t.val, by omega⟩

variable {m : (ℓ : Loc nD τ sig) → Buf (Elt Ideal) ℓ} {c : Dev nD} {A : In} (H : Args m c A) (t : Fin cfg0.N)
include H

theorem V0 : Gen.V m c (Pipeline.arrRef spec0 0) = a0 A := (V_main_arg0 m c).trans H.h0
theorem V1 : Gen.V m c (Pipeline.arrRef spec0 1) = a0 A := (V_main_arg0 m c).trans H.h0
theorem V2 : Gen.V m c (Pipeline.arrRef spec0 2) = a0 A := (V_main_arg0 m c).trans H.h0
theorem V3 : Gen.V m c (Pipeline.arrRef spec0 3) = a0 A := (V_main_arg0 m c).trans H.h0
theorem V4 : Gen.V m c (Pipeline.arrRef spec0 4) = a0 A := (V_main_arg0 m c).trans H.h0
theorem V5 : Gen.V m c (Pipeline.arrRef spec0 5) = a1 A := (V_main_arg1 m c).trans H.h1
theorem V8 : Gen.V m c (Pipeline.arrRef spec0 8) = a2 A := (V_main_arg2 m c).trans H.h2
theorem V9 : Gen.V m c (Pipeline.arrRef spec0 9) = a3 A := (V_main_arg3 m c).trans H.h3
theorem V10 : Gen.V m c (Pipeline.arrRef spec0 10) = a4 A := (V_main_arg4 m c).trans H.h4
theorem f0 : Re (φ := .f32) (X0_0 m c t) (fun a j => A.x (srow (blkOf t) a) ⟨1536 + j.val, by omega⟩) := fun a j => by
  unfold X0_0
  rw [iblk_eq m c (V0 H)]
  exact rd0 (F := Ideal) (a0 A) t _ a j
theorem f1 : Re (φ := .f32) (X0_1 m c t) (fun a j => A.x (srow (blkOf t) a) ⟨1792 + j.val, by omega⟩) := fun a j => by
  unfold X0_1
  rw [iblk_eq m c (V1 H)]
  exact rd1 (F := Ideal) (a0 A) t _ a j
theorem f2 : Re (φ := .f32) (X0_2 m c t) (fun a j => A.x (srow (blkOf t) a) ⟨2048 + j.val, by omega⟩) := fun a j => by
  unfold X0_2
  rw [iblk_eq m c (V2 H)]
  exact rd2 (F := Ideal) (a0 A) t _ a j
theorem f3 : Re (φ := .f32) (X0_3 m c t) (fun a j => A.x (srow (blkOf t) a) ⟨2560 + j.val, by omega⟩) := fun a j => by
  unfold X0_3
  rw [iblk_eq m c (V3 H)]
  exact rd3 (F := Ideal) (a0 A) t _ a j
theorem f4 : Re (n := 512) (m := 128) (φ := .f32) (iblk m c 4 t) (fun a j => gf A (srow (blkOf t) a) j) := fun a j => by
  rw [iblk_eq m c (V4 H)]
  exact rd4 (F := Ideal) (a0 A) t a j
theorem f5 : Re (n := 512) (m := 512) (φ := .f32) (iblk m c 5 t) (fun a j => A.d (srow (blkOf t) a) ⟨512 + j.val, by omega⟩) := fun a j => by
  rw [iblk_eq m c (V5 H)]
  exact rd5 (F := Ideal) (a1 A) t a j
theorem f8 : Re (n := 128) (m := 256) (φ := .f32) (iblk m c 8 t) (fun a j => A.w a j) := fun a j => by
  rw [iblk_eq m c (V8 H)]
  exact rd8 (F := Ideal) (a2 A) t a j
theorem f9 : Re (n := 1) (m := 256) (φ := .f32) (iblk m c 9 t) (fun a j => A.b j) := fun a j => by
  rw [iblk_eq m c (V9 H)]
  exact rd9 (F := Ideal) (a3 A) t a j
theorem f10 : Re (n := 1) (m := 512) (φ := .f32) (iblk m c 10 t) (fun a j => A.g j) := fun a j => by
  rw [iblk_eq m c (V10 H)]
  exact rd10 (F := Ideal) (a4 A) t a j

theorem VS : Gen.V m c main_v53 = pairs (F := Ideal) (Cert.ReferenceIdeal.Read.val_main_v42 (F := Ideal) (a0 A) (a2 A) (a3 A)) := by
  rw [V_states, H.h0, H.h2, H.h3]
theorem f6 (p : Fin 2) (cc : Fin 8) (u : Fin 256) (l : Fin 128) : iblk m c 6 t (ix4 p cc u l) = ((bS A p (chk (blkOf t) cc) u l : ℝ) : EReal) := by
  rw [iblk_eq m c (w := 6) (VS H)]
  exact (rd6 (F := Ideal) _ t p cc u l).trans (pairs_at (l42 A) p _ u l)
theorem f7 (p : Fin 2) (u : Fin 256) (l : Fin 128) : iblk m c 7 t (ix4 p 0 u l) = ((bS A p ⟨8 * (blkOf t).val - 1, by omega⟩ u l : ℝ) : EReal) := by
  rw [iblk_eq m c (w := 7) (VS H)]
  exact (rd7 (F := Ideal) _ t p u l).trans (pairs_at (l42 A) p _ u l)
omit H
theorem f11 : Re (n := 64) (m := 64) (φ := .bf16) (iblk m c 11 t) (fun i j => if j.val ≤ i.val then 1 else 0) := fun i j => by
  rw [iblk_eq m c (w := 11) (V_inc m c)]
  exact (rd11 (F := Ideal) _ t i j).trans (inc_at i j)
theorem f12 : Re (n := 64) (m := 64) (φ := .bf16) (iblk m c 12 t) (fun i j => if j.val < i.val then 1 else 0) := fun i j => by
  rw [iblk_eq m c (w := 12) (V_str m c)]
  exact (rd12 (F := Ideal) _ t i j).trans (str_at i j)
theorem f13 : Re (n := 256) (m := 128) (φ := .f32) (iblk m c 13 t) (bdg fun _ _ _ => 1) := fun i j => by
  rw [iblk_eq m c (w := 13) (V_bd m c)]
  exact (rd13 (F := Ideal) _ t i j).trans (bd_at i j)
theorem fe : k0_pay14 (F := Ideal) (grid0.coords t) = ((if (blkOf t).val = 0 then 0 else 1 : ℝ) : EReal) := by
  have ht : t.val < 16 := Nat.lt_of_lt_of_eq t.isLt N_0
  have e0 : (grid0.coords t 0).val = t.val / 1 % 16 := Pipeline.Grid.coords_val t 0 (by decide) rfl
  have e1 : (grid0.coords t 0).val = t.val := by omega
  have k : ∀ n : Fin 16, Scalar.cmpi .eq (BitVec.ofNat 32 n.val) 15#32 = if n.val = 15 then 1#1 else 0#1 := by decide
  have k' := k ⟨t.val, ht⟩
  change Scalar.select (Scalar.cmpi .eq (BitVec.ofNat 32 (grid0.coords t 0).val) 15#32) (Scalar.ofBits .f32 0x00000000#32) (Scalar.ofBits .f32 0x3F800000#32) = _
  rw [e1, k']
  change Scalar.select (if t.val = 15 then 1#1 else 0#1) _ _ = ((if 15 - t.val = 0 then 0 else 1 : ℝ) : EReal)
  by_cases h : t.val = 15
  · rw [if_pos h, if_pos (by omega)]; exact bits_zero
  · rw [if_neg h, if_neg (by omega)]; exact bits_one
include H
/-- A step's blocks hold what they should. -/
theorem feed : Inp A (blkOf t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (k0_pay14 (grid0.coords t)) where
  h0 := f0 H t
  h1 := f1 H t
  h2 := f2 H t
  h3 := f3 H t
  h4 := f4 H t
  h5 := f5 H t
  h6 := f6 H t
  h7 := f7 H t
  h8 := f8 H t
  h9 := f9 H t
  h10 := f10 H t
  h11 := f11 t
  h12 := f12 t
  h13 := f13 t
  he := fe t

end Cert.KernelIdeal.Voc

end
-- ==== Proof.Land.lean ====
module

public import proofs.«01_k».proof.Proof.Emb
public import proofs.«01_k».proof.Proof.Sound
public import proofs.«01_k».proof.Proof.Lift

@[expose] public section

set_option maxRecDepth 16384

/-! The result arrays, from what each step writes. -/

noncomputable section

namespace Cert.KernelIdeal.Voc

open Cert.KernelIdeal Cert.KernelIdeal.Gen Idealize.ShloMosaic Idealize.ShloMosaic.TcCoe Idealize.ShloMosaic.ValueIdx Cert.Gla

variable {F : FTy → Type} [FloatOps F]
variable (m : (ℓ : Loc nD τ sig) → Buf (Elt F) ℓ) (c : Dev nD)

/-- The grid's point `n`. -/
def pt (n : ℕ) (h : n < 16) : Fin cfg0.N := ⟨n, Nat.lt_of_lt_of_eq h N_0.symm⟩

theorem mem14 (t : Fin cfg0.N) (a : Fin 512) (j : Fin 256) : (ix2 ⟨512 * (15 - t.val) + a.val, by omega⟩ j : S8192x256.Idx) ∈ ((cfg0.win 14).blk t).view.set := by
  rw [← emb14 t a j]; exact ((cfg0.win 14).blk t).view.emb_mem_set (ix2 a j)
theorem land14 (f : Fin 8192 → Fin 256 → F .bf16) (h : ∀ (t : Fin cfg0.N) (a : Fin 512) (j : Fin 256), (dats m 0 c).after 14 t (ix2 a j) = f ⟨512 * (15 - t.val) + a.val, by omega⟩ j) :
    (dats m 0 c).arrAt 14 cfg0.N = (fun i => f (i 0) (i 1) : S8192x256.Idx → F .bf16) :=
  (dats m 0 c).arrAt_eq_of_cover 14 (fun i => f (i 0) (i 1) : S8192x256.Idx → F .bf16) (fun t _ => funext fun (y : S512x256.Idx) => by
    obtain ⟨a, j, rfl⟩ : ∃ a j, y = ix2 a j := ⟨y 0, y 1, ext2 rfl rfl⟩
    refine (h t a j).trans ?_
    change _ = (fun i => f (i 0) (i 1) : S8192x256.Idx → F .bf16) ((win0_14.rect t).emb (ix2 a j))
    rw [emb14 t a j]) fun (i : S8192x256.Idx) => by
    obtain ⟨r, j, rfl⟩ : ∃ r j, i = ix2 r j := ⟨i 0, i 1, ext2 rfl rfl⟩
    have e := mem14 (pt (15 - r.val / 512) (by omega)) ⟨r.val % 512, by omega⟩ j
    have e2 : (⟨512 * (15 - (15 - r.val / 512)) + r.val % 512, by omega⟩ : Fin 8192) = r := Fin.ext (by change 512 * (15 - (15 - r.val / 512)) + r.val % 512 = r.val; omega)
    exact ⟨pt (15 - r.val / 512) (by omega), flush0_14 _, e2 ▸ e⟩

theorem mem15 (t : Fin cfg0.N) (a : Fin 512) (j : Fin 256) : (ix2 ⟨512 * (15 - t.val) + a.val, by omega⟩ j : S8192x256.Idx) ∈ ((cfg0.win 15).blk t).view.set := by
  rw [← emb15 t a j]; exact ((cfg0.win 15).blk t).view.emb_mem_set (ix2 a j)
theorem land15 (f : Fin 8192 → Fin 256 → F .bf16) (h : ∀ (t : Fin cfg0.N) (a : Fin 512) (j : Fin 256), (dats m 0 c).after 15 t (ix2 a j) = f ⟨512 * (15 - t.val) + a.val, by omega⟩ j) :
    (dats m 0 c).arrAt 15 cfg0.N = (fun i => f (i 0) (i 1) : S8192x256.Idx → F .bf16) :=
  (dats m 0 c).arrAt_eq_of_cover 15 (fun i => f (i 0) (i 1) : S8192x256.Idx → F .bf16) (fun t _ => funext fun (y : S512x256.Idx) => by
    obtain ⟨a, j, rfl⟩ : ∃ a j, y = ix2 a j := ⟨y 0, y 1, ext2 rfl rfl⟩
    refine (h t a j).trans ?_
    change _ = (fun i => f (i 0) (i 1) : S8192x256.Idx → F .bf16) ((win0_15.rect t).emb (ix2 a j))
    rw [emb15 t a j]) fun (i : S8192x256.Idx) => by
    obtain ⟨r, j, rfl⟩ : ∃ r j, i = ix2 r j := ⟨i 0, i 1, ext2 rfl rfl⟩
    have e := mem15 (pt (15 - r.val / 512) (by omega)) ⟨r.val % 512, by omega⟩ j
    have e2 : (⟨512 * (15 - (15 - r.val / 512)) + r.val % 512, by omega⟩ : Fin 8192) = r := Fin.ext (by change 512 * (15 - (15 - r.val / 512)) + r.val % 512 = r.val; omega)
    exact ⟨pt (15 - r.val / 512) (by omega), flush0_15 _, e2 ▸ e⟩

theorem mem16 (t : Fin cfg0.N) (a : Fin 512) (j : Fin 512) : (ix2 ⟨512 * (15 - t.val) + a.val, by omega⟩ j : S8192x512.Idx) ∈ ((cfg0.win 16).blk t).view.set := by
  rw [← emb16 t a j]; exact ((cfg0.win 16).blk t).view.emb_mem_set (ix2 a j)
theorem land16 (f : Fin 8192 → Fin 512 → F .bf16) (h : ∀ (t : Fin cfg0.N) (a : Fin 512) (j : Fin 512), (dats m 0 c).after 16 t (ix2 a j) = f ⟨512 * (15 - t.val) + a.val, by omega⟩ j) :
    (dats m 0 c).arrAt 16 cfg0.N = (fun i => f (i 0) (i 1) : S8192x512.Idx → F .bf16) :=
  (dats m 0 c).arrAt_eq_of_cover 16 (fun i => f (i 0) (i 1) : S8192x512.Idx → F .bf16) (fun t _ => funext fun (y : S512x512.Idx) => by
    obtain ⟨a, j, rfl⟩ : ∃ a j, y = ix2 a j := ⟨y 0, y 1, ext2 rfl rfl⟩
    refine (h t a j).trans ?_
    change _ = (fun i => f (i 0) (i 1) : S8192x512.Idx → F .bf16) ((win0_16.rect t).emb (ix2 a j))
    rw [emb16 t a j]) fun (i : S8192x512.Idx) => by
    obtain ⟨r, j, rfl⟩ : ∃ r j, i = ix2 r j := ⟨i 0, i 1, ext2 rfl rfl⟩
    have e := mem16 (pt (15 - r.val / 512) (by omega)) ⟨r.val % 512, by omega⟩ j
    have e2 : (⟨512 * (15 - (15 - r.val / 512)) + r.val % 512, by omega⟩ : Fin 8192) = r := Fin.ext (by change 512 * (15 - (15 - r.val / 512)) + r.val % 512 = r.val; omega)
    exact ⟨pt (15 - r.val / 512) (by omega), flush0_16 _, e2 ▸ e⟩

theorem mem17 (t : Fin cfg0.N) (a : Fin 512) (j : Fin 512) : (ix2 ⟨512 * (15 - t.val) + a.val, by omega⟩ j : S8192x512.Idx) ∈ ((cfg0.win 17).blk t).view.set := by
  rw [← emb17 t a j]; exact ((cfg0.win 17).blk t).view.emb_mem_set (ix2 a j)
theorem land17 (f : Fin 8192 → Fin 512 → F .bf16) (h : ∀ (t : Fin cfg0.N) (a : Fin 512) (j : Fin 512), (dats m 0 c).after 17 t (ix2 a j) = f ⟨512 * (15 - t.val) + a.val, by omega⟩ j) :
    (dats m 0 c).arrAt 17 cfg0.N = (fun i => f (i 0) (i 1) : S8192x512.Idx → F .bf16) :=
  (dats m 0 c).arrAt_eq_of_cover 17 (fun i => f (i 0) (i 1) : S8192x512.Idx → F .bf16) (fun t _ => funext fun (y : S512x512.Idx) => by
    obtain ⟨a, j, rfl⟩ : ∃ a j, y = ix2 a j := ⟨y 0, y 1, ext2 rfl rfl⟩
    refine (h t a j).trans ?_
    change _ = (fun i => f (i 0) (i 1) : S8192x512.Idx → F .bf16) ((win0_17.rect t).emb (ix2 a j))
    rw [emb17 t a j]) fun (i : S8192x512.Idx) => by
    obtain ⟨r, j, rfl⟩ : ∃ r j, i = ix2 r j := ⟨i 0, i 1, ext2 rfl rfl⟩
    have e := mem17 (pt (15 - r.val / 512) (by omega)) ⟨r.val % 512, by omega⟩ j
    have e2 : (⟨512 * (15 - (15 - r.val / 512)) + r.val % 512, by omega⟩ : Fin 8192) = r := Fin.ext (by change 512 * (15 - (15 - r.val / 512)) + r.val % 512 = r.val; omega)
    exact ⟨pt (15 - r.val / 512) (by omega), flush0_17 _, e2 ▸ e⟩

theorem mem18 (t : Fin cfg0.N) (a : Fin 512) (j : Fin 128) : (ix2 ⟨512 * (15 - t.val) + a.val, by omega⟩ j : S8192x128.Idx) ∈ ((cfg0.win 18).blk t).view.set := by
  rw [← emb18 t a j]; exact ((cfg0.win 18).blk t).view.emb_mem_set (ix2 a j)
theorem land18 (f : Fin 8192 → Fin 128 → F .bf16) (h : ∀ (t : Fin cfg0.N) (a : Fin 512) (j : Fin 128), (dats m 0 c).after 18 t (ix2 a j) = f ⟨512 * (15 - t.val) + a.val, by omega⟩ j) :
    (dats m 0 c).arrAt 18 cfg0.N = (fun i => f (i 0) (i 1) : S8192x128.Idx → F .bf16) :=
  (dats m 0 c).arrAt_eq_of_cover 18 (fun i => f (i 0) (i 1) : S8192x128.Idx → F .bf16) (fun t _ => funext fun (y : S512x128.Idx) => by
    obtain ⟨a, j, rfl⟩ : ∃ a j, y = ix2 a j := ⟨y 0, y 1, ext2 rfl rfl⟩
    refine (h t a j).trans ?_
    change _ = (fun i => f (i 0) (i 1) : S8192x128.Idx → F .bf16) ((win0_18.rect t).emb (ix2 a j))
    rw [emb18 t a j]) fun (i : S8192x128.Idx) => by
    obtain ⟨r, j, rfl⟩ : ∃ r j, i = ix2 r j := ⟨i 0, i 1, ext2 rfl rfl⟩
    have e := mem18 (pt (15 - r.val / 512) (by omega)) ⟨r.val % 512, by omega⟩ j
    have e2 : (⟨512 * (15 - (15 - r.val / 512)) + r.val % 512, by omega⟩ : Fin 8192) = r := Fin.ext (by change 512 * (15 - (15 - r.val / 512)) + r.val % 512 = r.val; omega)
    exact ⟨pt (15 - r.val / 512) (by omega), flush0_18 _, e2 ▸ e⟩

theorem mem19 (t : Fin cfg0.N) (a : Fin 128) (j : Fin 256) : (ix2 a j : S128x256.Idx) ∈ ((cfg0.win 19).blk t).view.set := by
  rw [← emb19 t a j]; exact ((cfg0.win 19).blk t).view.emb_mem_set (ix2 a j)
theorem land19 (f : Fin 128 → Fin 256 → F .f32) (h : ∀ (t : Fin cfg0.N), t.val = 15 → ∀ (a : Fin 128) (j : Fin 256), (dats m 0 c).after 19 t (ix2 a j) = f a j) :
    (dats m 0 c).arrAt 19 cfg0.N = (fun i => f (i 0) (i 1) : S128x256.Idx → F .f32) :=
  (dats m 0 c).arrAt_eq_of_cover 19 (fun i => f (i 0) (i 1) : S128x256.Idx → F .f32) (fun t ht => funext fun (y : S128x256.Idx) => by
    obtain ⟨a, j, rfl⟩ : ∃ a j, y = ix2 a j := ⟨y 0, y 1, ext2 rfl rfl⟩
    have hN : cfg0.N = 16 := N_0
    have h15 := (flush0_19 t).1 ht
    have hlt := t.isLt
    refine (h t (by omega) a j).trans ?_
    change _ = (fun i => f (i 0) (i 1) : S128x256.Idx → F .f32) ((win0_19.rect t).emb (ix2 a j))
    rw [emb19 t a j]) fun (i : S128x256.Idx) => by
    obtain ⟨r, j, rfl⟩ : ∃ r j, i = ix2 r j := ⟨i 0, i 1, ext2 rfl rfl⟩
    exact ⟨pt 15 (by omega), (flush0_19 _).2 rfl, mem19 _ r j⟩

theorem mem20 (t : Fin cfg0.N) (a : Fin 1) (j : Fin 256) : (ix2 a j : S1x256.Idx) ∈ ((cfg0.win 20).blk t).view.set := by
  rw [← emb20 t a j]; exact ((cfg0.win 20).blk t).view.emb_mem_set (ix2 a j)
theorem land20 (f : Fin 1 → Fin 256 → F .f32) (h : ∀ (t : Fin cfg0.N), t.val = 15 → ∀ (a : Fin 1) (j : Fin 256), (dats m 0 c).after 20 t (ix2 a j) = f a j) :
    (dats m 0 c).arrAt 20 cfg0.N = (fun i => f (i 0) (i 1) : S1x256.Idx → F .f32) :=
  (dats m 0 c).arrAt_eq_of_cover 20 (fun i => f (i 0) (i 1) : S1x256.Idx → F .f32) (fun t ht => funext fun (y : S1x256.Idx) => by
    obtain ⟨a, j, rfl⟩ : ∃ a j, y = ix2 a j := ⟨y 0, y 1, ext2 rfl rfl⟩
    have hN : cfg0.N = 16 := N_0
    have h15 := (flush0_20 t).1 ht
    have hlt := t.isLt
    refine (h t (by omega) a j).trans ?_
    change _ = (fun i => f (i 0) (i 1) : S1x256.Idx → F .f32) ((win0_20.rect t).emb (ix2 a j))
    rw [emb20 t a j]) fun (i : S1x256.Idx) => by
    obtain ⟨r, j, rfl⟩ : ∃ r j, i = ix2 r j := ⟨i 0, i 1, ext2 rfl rfl⟩
    exact ⟨pt 15 (by omega), (flush0_20 _).2 rfl, mem20 _ r j⟩

theorem mem21 (t : Fin cfg0.N) (a : Fin 1) (j : Fin 512) : (ix2 a j : S1x512.Idx) ∈ ((cfg0.win 21).blk t).view.set := by
  rw [← emb21 t a j]; exact ((cfg0.win 21).blk t).view.emb_mem_set (ix2 a j)
theorem land21 (f : Fin 1 → Fin 512 → F .f32) (h : ∀ (t : Fin cfg0.N), t.val = 15 → ∀ (a : Fin 1) (j : Fin 512), (dats m 0 c).after 21 t (ix2 a j) = f a j) :
    (dats m 0 c).arrAt 21 cfg0.N = (fun i => f (i 0) (i 1) : S1x512.Idx → F .f32) :=
  (dats m 0 c).arrAt_eq_of_cover 21 (fun i => f (i 0) (i 1) : S1x512.Idx → F .f32) (fun t ht => funext fun (y : S1x512.Idx) => by
    obtain ⟨a, j, rfl⟩ : ∃ a j, y = ix2 a j := ⟨y 0, y 1, ext2 rfl rfl⟩
    have hN : cfg0.N = 16 := N_0
    have h15 := (flush0_21 t).1 ht
    have hlt := t.isLt
    refine (h t (by omega) a j).trans ?_
    change _ = (fun i => f (i 0) (i 1) : S1x512.Idx → F .f32) ((win0_21.rect t).emb (ix2 a j))
    rw [emb21 t a j]) fun (i : S1x512.Idx) => by
    obtain ⟨r, j, rfl⟩ : ∃ r j, i = ix2 r j := ⟨i 0, i 1, ext2 rfl rfl⟩
    exact ⟨pt 15 (by omega), (flush0_21 _).2 rfl, mem21 _ r j⟩

end Cert.KernelIdeal.Voc

end
-- ==== Proof.Ends.lean ====
module

public import proofs.«01_k».proof.Proof.Feed
public import proofs.«01_k».proof.Proof.Land

@[expose] public section

set_option maxRecDepth 16384

/-! The result arrays over real arguments. -/

noncomputable section

namespace Cert.KernelIdeal.Voc

open Cert.KernelIdeal Cert.KernelIdeal.Gen Idealize.ShloMosaic Idealize.ShloMosaic.TcCoe Idealize.ShloMosaic.ValueIdx Idealize.SL.Sem Cert.Gla

variable {m : (ℓ : Loc nD τ sig) → Buf (Elt Ideal) ℓ} {c : Dev nD} {A : In} (H : Args m c A)
include H

theorem ok_of (t : Fin cfg0.N) (hs : OkS A t.val (bef m c t.val)) : Ok A (blkOf t) (DT m c t) := by
  unfold DT ldT
  refine (feed H t).ok fun p u l => (hs.C p u l).trans ?_
  have ht : t.val < 16 := Nat.lt_of_lt_of_eq t.isLt N_0
  have e : 8 * (16 - t.val) = 8 * (blkOf t).val + 8 := by change 8 * (16 - t.val) = 8 * (15 - t.val) + 8; omega
  exact congrArg (fun n => ((bdg (fun h k v => CY A (hd p h) n k v) u l : ℝ) : EReal)) e

theorem okBef : ∀ n, n ≤ 16 → OkS A n (bef m c n)
  | 0, _ => okS_zero
  | n + 1, h => by
    have hs := okBef n (by omega)
    have e := bef_succ m c (pt n (by omega))
    have D := ok_of H (pt n (by omega)) hs
    change bef m c (n + 1) = _ at e
    rw [e]
    exact okS_succ (b := blkOf (pt n (by omega))) (by omega) rfl (f4 H _) D hs

theorem okD (t : Fin cfg0.N) : Ok A (blkOf t) (DT m c t) := ok_of H t (okBef H t.val (by have := Nat.lt_of_lt_of_eq t.isLt N_0; omega))

theorem end14 : (dats m 0 c).arrAt 14 cfg0.N = (fun i => ((Gla.dq A (kh (i 1)) (ch (i 0)) (tm (i 0)) (kl (i 1)) : ℝ) : EReal) : S8192x256.Idx → EReal) :=
  land14 m c (fun s j => ((Gla.dq A (kh j) (ch s) (tm s) (kl j) : ℝ) : EReal)) fun t a j => by rw [aft14]; exact (okD H t).bdq a j
theorem end15 : (dats m 0 c).arrAt 15 cfg0.N = (fun i => ((Gla.dk A (kh (i 1)) (ch (i 0)) (tm (i 0)) (kl (i 1)) : ℝ) : EReal) : S8192x256.Idx → EReal) :=
  land15 m c (fun s j => ((Gla.dk A (kh j) (ch s) (tm s) (kl j) : ℝ) : EReal)) fun t a j => by rw [aft15]; exact (okD H t).bdk a j
theorem end16 : (dats m 0 c).arrAt 16 cfg0.N = (fun i => ((Gla.dv A (vh (i 1)) (ch (i 0)) (tm (i 0)) (vl (i 1)) : ℝ) : EReal) : S8192x512.Idx → EReal) :=
  land16 m c (fun s j => ((Gla.dv A (vh j) (ch s) (tm s) (vl j) : ℝ) : EReal)) fun t a j => by rw [aft16]; exact (okD H t).bdv a j
theorem end17 : (dats m 0 c).arrAt 17 cfg0.N = (fun i => ((Gla.dgg A (vh (i 1)) (ch (i 0)) (tm (i 0)) (vl (i 1)) : ℝ) : EReal) : S8192x512.Idx → EReal) :=
  land17 m c (fun s j => ((Gla.dgg A (vh j) (ch s) (tm s) (vl j) : ℝ) : EReal)) fun t a j => by rw [aft17]; exact (okD H t).bdgg a j
theorem end18 : (dats m 0 c).arrAt 18 cfg0.N = (fun i => ((Gla.dgf A (i 0) (i 1) : ℝ) : EReal) : S8192x128.Idx → EReal) :=
  land18 m c (fun s j => ((Gla.dgf A s j : ℝ) : EReal)) fun t a j => by rw [aft18]; exact e_dgf (okD H t).bdfz (f8 H t) a j
theorem end19 : (dats m 0 c).arrAt 19 cfg0.N = (fun i => ((Gla.dW A (i 0) (i 1) : ℝ) : EReal) : S128x256.Idx → EReal) :=
  land19 m c (fun s j => ((Gla.dW A s j : ℝ) : EReal)) fun t ht a j => by
    rw [aft19, ht]; exact ((okBef H 16 (by omega)).W a j).trans (congrArg _ ((upto_end _).trans (sum_bW a j)))
theorem end20 : (dats m 0 c).arrAt 20 cfg0.N = (fun i => ((Gla.dB A (i 1) : ℝ) : EReal) : S1x256.Idx → EReal) :=
  land20 m c (fun s j => ((Gla.dB A j : ℝ) : EReal)) fun t ht a j => by
    rw [aft20, ht]; exact ((okBef H 16 (by omega)).B a j).trans (congrArg _ ((upto_end _).trans (sum_bB j)))
theorem end21 : (dats m 0 c).arrAt 21 cfg0.N = (fun i => ((Gla.dG A (i 1) : ℝ) : EReal) : S1x512.Idx → EReal) :=
  land21 m c (fun s j => ((Gla.dG A j : ℝ) : EReal)) fun t ht a j => by
    rw [aft21, ht]; exact ((okBef H 16 (by omega)).G a j).trans (congrArg _ ((upto_end _).trans (sum_bG j)))

omit H
set_option maxHeartbeats 1600000 in
/-- The run: every result array holds its gradient and the arguments are kept. -/
theorem run_ends (m : (ℓ : Loc nD τ sig) → Buf (Elt Ideal) ℓ) (ρ : Dev nD → PrngReg) (A : Dev nD → In) (H : ∀ c, Args m c (A c)) :
    θ_run (defs (F := Ideal)) (onTc (τ := τ) (main (F := Ideal))) ⟨m, fun _ => 0, ρ⟩ (fun r => ∀ c : Dev nD,
      r.2.mem ((c.tc : Thread nD τ).loc main_v54_0) = (fun i => ((Gla.dq (A c) (kh (i 1)) (ch (i 0)) (tm (i 0)) (kl (i 1)) : ℝ) : EReal) : S8192x256.Idx → EReal)
      ∧ r.2.mem ((c.tc : Thread nD τ).loc main_v54_1) = (fun i => ((Gla.dk (A c) (kh (i 1)) (ch (i 0)) (tm (i 0)) (kl (i 1)) : ℝ) : EReal) : S8192x256.Idx → EReal)
      ∧ r.2.mem ((c.tc : Thread nD τ).loc main_v54_2) = (fun i => ((Gla.dv (A c) (vh (i 1)) (ch (i 0)) (tm (i 0)) (vl (i 1)) : ℝ) : EReal) : S8192x512.Idx → EReal)
      ∧ r.2.mem ((c.tc : Thread nD τ).loc main_v54_3) = (fun i => ((Gla.dgg (A c) (vh (i 1)) (ch (i 0)) (tm (i 0)) (vl (i 1)) : ℝ) : EReal) : S8192x512.Idx → EReal)
      ∧ r.2.mem ((c.tc : Thread nD τ).loc main_v54_4) = (fun i => ((Gla.dgf (A c) (i 0) (i 1) : ℝ) : EReal) : S8192x128.Idx → EReal)
      ∧ r.2.mem ((c.tc : Thread nD τ).loc main_v54_5) = (fun i => ((Gla.dW (A c) (i 0) (i 1) : ℝ) : EReal) : S128x256.Idx → EReal)
      ∧ r.2.mem ((c.tc : Thread nD τ).loc main_v54_6) = (fun i => ((Gla.dB (A c) (i 1) : ℝ) : EReal) : S1x256.Idx → EReal)
      ∧ r.2.mem ((c.tc : Thread nD τ).loc main_v54_7) = (fun i => ((Gla.dG (A c) (i 1) : ℝ) : EReal) : S1x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 14).trans (end14 (H c)),
      ((h c).1 15).trans (end15 (H c)),
      ((h c).1 16).trans (end16 (H c)),
      ((h c).1 17).trans (end17 (H c)),
      ((h c).1 18).trans (end18 (H c)),
      ((h c).1 19).trans (end19 (H c)),
      ((h c).1 20).trans (end20 (H c)),
      ((h c).1 21).trans (end21 (H c)),
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 8).trans (((dats m 0 c).arrAt_in 8 rfl _).trans ((A_eq m c 8).trans (V_main_arg2 m c))),
      ((h c).1 9).trans (((dats m 0 c).arrAt_in 9 rfl _).trans ((A_eq m c 9).trans (V_main_arg3 m c))),
      ((h c).1 10).trans (((dats m 0 c).arrAt_in 10 rfl _).trans ((A_eq m c 10).trans (V_main_arg4 m c)))⟩) (run_main m ρ)

end Cert.KernelIdeal.Voc

end
-- ==== Proof.Reals.lean ====
module

public import proofs.«01_k».proof.Proof.Ends
public import proofs.«01_k».proof.Pre_finite

@[expose] public section

set_option maxRecDepth 16384

/-! Finite arguments are real numbers. -/

noncomputable section

/-- The shape relations the precondition's operations take. -/
theorem Cert.Pre_finite.holds : Cert.Pre_finite.Facts where
  bcast_S_S8192x3200 := ⟨fun a => a.elim0, fun a => a.elim0⟩
  bcast_S_S8192x1024 := ⟨fun a => a.elim0, fun a => a.elim0⟩
  bcast_S_S128x256 := ⟨fun a => a.elim0, fun a => a.elim0⟩
  bcast_S_S1x256 := ⟨fun a => a.elim0, fun a => a.elim0⟩
  bcast_S_S1x512 := ⟨fun a => a.elim0, fun a => a.elim0⟩

namespace Cert.KernelIdeal.Voc

open Cert.KernelIdeal Cert.KernelIdeal.Gen Idealize.ShloMosaic Idealize.ShloMosaic.TcCoe Idealize.ShloMosaic.ValueIdx Cert.Gla

theorem bits_inf : Ideal.ofBits .f32 0x7F800000#32 = ⊤ := by
  simp [Ideal.ofBits, Ideal.ieee]
/-- A number whose absolute value is below infinity is real. -/
theorem real_of {x : EReal} (h : Ideal.cmp .olt (max x (-x)) (Ideal.ofBits .f32 0x7F800000#32) = 1#1) : x = ((x.toReal : ℝ) : EReal) := by
  rw [bits_inf] at h
  have h2 : max x (-x) < ⊤ := by
    by_contra hc
    simp [Ideal.cmp, hc] at h
  refine (EReal.coe_toReal ?_ ?_).symm
  · rintro rfl; simp at h2
  · rintro rfl; simp at h2

variable [Cert.Pre_finite.Facts]

/-- The arguments' real numbers. -/
def realsOf (x0 : S8192x3200.Idx → EReal) (x1 : S8192x1024.Idx → EReal) (x2 : S128x256.Idx → EReal) (x3 : S1x256.Idx → EReal) (x4 : S1x512.Idx → EReal) : In where
  x r j := (x0 (ix2 r j)).toReal
  d r j := (x1 (ix2 r j)).toReal
  w r j := (x2 (ix2 r j)).toReal
  b j := (x3 (ix2 0 j)).toReal
  g j := (x4 (ix2 0 j)).toReal

theorem reals0 {x0 : S8192x3200.Idx → EReal} {x1 : S8192x1024.Idx → EReal} {x2 : S128x256.Idx → EReal} {x3 : S1x256.Idx → EReal} {x4 : S1x512.Idx → EReal}
    (h : (Cert.Pre_finite.fn (F := Ideal) x0 x1 x2 x3 x4).1 = fun _ => 1#1) : x0 = a0 (realsOf x0 x1 x2 x3 x4) := funext fun i => by
  obtain ⟨r, j, rfl⟩ : ∃ r j, i = ix2 r j := ⟨i 0, i 1, ext2 rfl rfl⟩
  exact real_of (congrFun h (ix2 r j))
theorem reals1 {x0 : S8192x3200.Idx → EReal} {x1 : S8192x1024.Idx → EReal} {x2 : S128x256.Idx → EReal} {x3 : S1x256.Idx → EReal} {x4 : S1x512.Idx → EReal}
    (h : (Cert.Pre_finite.fn (F := Ideal) x0 x1 x2 x3 x4).2.1 = fun _ => 1#1) : x1 = a1 (realsOf x0 x1 x2 x3 x4) := funext fun i => by
  obtain ⟨r, j, rfl⟩ : ∃ r j, i = ix2 r j := ⟨i 0, i 1, ext2 rfl rfl⟩
  exact real_of (congrFun h (ix2 r j))
theorem reals2 {x0 : S8192x3200.Idx → EReal} {x1 : S8192x1024.Idx → EReal} {x2 : S128x256.Idx → EReal} {x3 : S1x256.Idx → EReal} {x4 : S1x512.Idx → EReal}
    (h : (Cert.Pre_finite.fn (F := Ideal) x0 x1 x2 x3 x4).2.2.1 = fun _ => 1#1) : x2 = a2 (realsOf x0 x1 x2 x3 x4) := funext fun i => by
  obtain ⟨r, j, rfl⟩ : ∃ r j, i = ix2 r j := ⟨i 0, i 1, ext2 rfl rfl⟩
  exact real_of (congrFun h (ix2 r j))
theorem reals3 {x0 : S8192x3200.Idx → EReal} {x1 : S8192x1024.Idx → EReal} {x2 : S128x256.Idx → EReal} {x3 : S1x256.Idx → EReal} {x4 : S1x512.Idx → EReal}
    (h : (Cert.Pre_finite.fn (F := Ideal) x0 x1 x2 x3 x4).2.2.2.1 = fun _ => 1#1) : x3 = a3 (realsOf x0 x1 x2 x3 x4) := funext fun i => by
  obtain ⟨r, j, rfl⟩ : ∃ r j, i = ix2 r j := ⟨i 0, i 1, ext2 rfl rfl⟩
  obtain rfl : r = 0 := Subsingleton.elim r 0
  exact real_of (congrFun h (ix2 0 j))
theorem reals4 {x0 : S8192x3200.Idx → EReal} {x1 : S8192x1024.Idx → EReal} {x2 : S128x256.Idx → EReal} {x3 : S1x256.Idx → EReal} {x4 : S1x512.Idx → EReal}
    (h : (Cert.Pre_finite.fn (F := Ideal) x0 x1 x2 x3 x4).2.2.2.2 = fun _ => 1#1) : x4 = a4 (realsOf x0 x1 x2 x3 x4) := funext fun i => by
  obtain ⟨r, j, rfl⟩ : ∃ r j, i = ix2 r j := ⟨i 0, i 1, ext2 rfl rfl⟩
  obtain rfl : r = 0 := Subsingleton.elim r 0
  exact real_of (congrFun h (ix2 0 j))

end Cert.KernelIdeal.Voc

end
-- ==== Proof.RefBwd.lean ====
module

public import proofs.«01_k».proof.Proof.RefFwd
public import Idealize.ShloMosaic.Lib.KernelVsHost

@[expose] public section

set_option maxRecDepth 16384

/-! The reference's backward values, entry by entry, over real arguments. -/

noncomputable section

open scoped BigOperators

namespace Cert.Gla

open Cert.ReferenceIdeal Cert.ReferenceIdeal.Gen Cert.ReferenceIdeal.Read Idealize.ShloMosaic Idealize.ShloMosaic.ValueIdx

variable (A : In)

theorem zero_add_coe {x : EReal} {r : ℝ} (h : x = (r : EReal)) : Ideal.ofBits .f32 0x00000000#32 + x = (r : EReal) := by
  rw [h, bits_zero, ← EReal.coe_add, zero_add]

/-- The running sum, from the last chunk, of what comes out of a chunk less what comes in. -/
theorem suffix_flow {N : ℕ} (w : Fin N → Fin N → ℝ) (hw : ∀ n m, n < m → w n m = 0) (j : Fin N) :
    (∑ i : Fin N, if j.val ≤ i.val then (-(∑ n, w n i) + ∑ m, w i m) else 0)
      = ∑ n, ∑ m, if m.val < j.val ∧ j.val ≤ n.val then w n m else 0 := by
  have e1 : (∑ i : Fin N, if j.val ≤ i.val then (-(∑ n, w n i) + ∑ m, w i m) else 0)
      = -(∑ m : Fin N, ∑ n : Fin N, if j.val ≤ m.val then w n m else 0) + ∑ n : Fin N, ∑ m : Fin N, if j.val ≤ n.val then w n m else 0 := by
    rw [← Finset.sum_neg_distrib, ← Finset.sum_add_distrib]
    refine Finset.sum_congr rfl fun i _ => ?_
    by_cases h : j.val ≤ i.val
    · simp only [if_pos h]
    · simp only [if_neg h, Finset.sum_const_zero, neg_zero, add_zero]
  rw [e1, Finset.sum_comm, ← Finset.sum_neg_distrib, ← Finset.sum_add_distrib]
  refine Finset.sum_congr rfl fun n _ => ?_
  rw [← Finset.sum_neg_distrib, ← Finset.sum_add_distrib]
  refine Finset.sum_congr rfl fun m _ => ?_
  by_cases hm : j.val ≤ m.val <;> by_cases hn : j.val ≤ n.val
  · simp [hm, hn, not_lt.2 hm]
  · have : w n m = 0 := hw n m (by rw [Fin.lt_def]; omega)
    simp [this]
  · simp [hm, hn, not_le.1 hm]
  · simp [hm, hn]

/-- What is left of a sum above a suffix. -/
theorem sum_sub_suffix {N : ℕ} (x : Fin N → ℝ) (t : Fin N) :
    (∑ i, x i) - (∑ i : Fin N, if t.val ≤ i.val then x i else 0) = ∑ i : Fin N, if i.val < t.val then x i else 0 := by
  rw [← Finset.sum_sub_distrib]
  refine Finset.sum_congr rfl fun i _ => ?_
  by_cases h : t.val ≤ i.val
  · rw [if_pos h, if_neg (not_lt.2 h), sub_self]
  · rw [if_neg h, if_pos (not_le.1 h), sub_zero]

theorem D_zero (h : Fin 4) (n m : Fin 128) (k : Fin 64) (hn : n < m) : D A h n m k = 0 := if_neg (not_le.2 hn)

theorem l69 (i : S8192x512.Idx) : val_main_v69 (F := Ideal) (a0 A) (a1 A) (a2 A) (a3 A) (a4 A) i = ((dsil A (vh (i 1)) (ch (i 0)) (tm (i 0)) (vl (i 1)) : ℝ) : EReal) := by
  rw [val_main_v69_apply, l65, l68]; exact (EReal.coe_mul _ _).symm

theorem l71 (i : S8192x512.Idx) : val_main_v71 (F := Ideal) (a0 A) (a1 A) (a2 A) (a3 A) (a4 A) i = ((dgg A (vh (i 1)) (ch (i 0)) (tm (i 0)) (vl (i 1)) : ℝ) : EReal) := by
  rw [val_main_v71_apply, val_main_call5_v1_apply, val_main_call5_v2_apply, val_main_call5_v0_apply, l69, l66_2, l66_1, l3]
  unfold dgg
  rw [EReal.coe_add, EReal.coe_mul, EReal.coe_mul, EReal.coe_mul]; rfl

theorem l70 (i : S8192x512.Idx) : val_main_v70 (F := Ideal) (a0 A) (a1 A) i = ((dng A (vh (i 1)) (ch (i 0)) (tm (i 0)) (vl (i 1)) : ℝ) : EReal) := by
  rw [val_main_v70_apply, l68, l66_0]; exact (EReal.coe_mul _ _).symm

theorem l72 (i : S8192x512.Idx) : val_main_v72 (F := Ideal) (a0 A) (a1 A) (a2 A) (a3 A) i = ((nr A (vh (i 1)) (ch (i 0)) (tm (i 0)) (vl (i 1)) * dng A (vh (i 1)) (ch (i 0)) (tm (i 0)) (vl (i 1)) : ℝ) : EReal) := by
  rw [val_main_v72_apply, l63, l70]; exact (EReal.coe_mul _ _).symm

theorem v74_0 (i : S1x512.Idx) : idx_main_v74 i 0 = i 1 :=
  Fin.ext (by have b0 : (i 0).val < 1 := (i 0).isLt; change (i 0).val * 512 + (i 1).val = (i 1).val; omega)
theorem v143_0 (i : S1x256.Idx) : idx_main_v143 i 0 = i 1 :=
  Fin.ext (by have b0 : (i 0).val < 1 := (i 0).isLt; change (i 0).val * 256 + (i 1).val = (i 1).val; omega)

theorem l74 (i : S1x512.Idx) : val_main_v74 (F := Ideal) (a0 A) (a1 A) (a2 A) (a3 A) i = ((dG A (i 1) : ℝ) : EReal) := by
  rw [val_main_v74_apply, val_main_v73_apply, val_main_cst_6_apply]
  refine zero_add_coe (sum_eq_coe fun k => ?_)
  rw [l72]
  change ((nr A (vh (idx_main_v74 i 0)) (ch k) (tm k) (vl (idx_main_v74 i 0)) * dng A (vh (idx_main_v74 i 0)) (ch k) (tm k) (vl (idx_main_v74 i 0)) : ℝ) : EReal) = _
  rw [v74_0]

theorem l76 (i : S8192x512.Idx) : val_main_v76 (F := Ideal) (a0 A) (a1 A) (a4 A) i = ((dn A (vh (i 1)) (ch (i 0)) (tm (i 0)) (vl (i 1)) : ℝ) : EReal) := by
  rw [val_main_v76_apply, l70, val_main_v75_apply]
  unfold dn
  rw [EReal.coe_mul]
  exact congrArg (((dng A (vh (i 1)) (ch (i 0)) (tm (i 0)) (vl (i 1)) : ℝ) : EReal) * ·) (congrArg ((↑) : ℝ → EReal) (gn_vh A (i 1)).symm)

theorem v77_0 (i : S8192x4x128.Idx) : idx_main_v77 i 0 = i 0 :=
  Fin.ext (by have b1 : (i 1).val < 4 := (i 1).isLt; have b2 : (i 2).val < 128 := (i 2).isLt; change (((i 0).val * 4 + (i 1).val) * 128 + (i 2).val) / 512 = (i 0).val; omega)
theorem v77_vh (i : S8192x4x128.Idx) : vh (idx_main_v77 i 1) = i 1 :=
  Fin.ext (by have b1 : (i 1).val < 4 := (i 1).isLt; have b2 : (i 2).val < 128 := (i 2).isLt; change (((i 0).val * 4 + (i 1).val) * 128 + (i 2).val) % 512 / 128 = (i 1).val; omega)
theorem v77_vl (i : S8192x4x128.Idx) : vl (idx_main_v77 i 1) = i 2 :=
  Fin.ext (by have b1 : (i 1).val < 4 := (i 1).isLt; have b2 : (i 2).val < 128 := (i 2).isLt; change (((i 0).val * 4 + (i 1).val) * 128 + (i 2).val) % 512 % 128 = (i 2).val; omega)

theorem l77 (i : S8192x4x128.Idx) : val_main_v77 (F := Ideal) (a0 A) (a1 A) (a4 A) i = ((dn A (i 1) (ch (i 0)) (tm (i 0)) (i 2) : ℝ) : EReal) := by
  rw [val_main_v77_apply, l76, v77_0, v77_vh, v77_vl]

theorem v80_0 (i : S8192x4x1.Idx) : idx_main_v80 i 0 = i 0 :=
  Fin.ext (by have b0 : (i 0).val < 8192 := (i 0).isLt; have b1 : (i 1).val < 4 := (i 1).isLt; have b2 : (i 2).val < 1 := (i 2).isLt; change (((i 0).val * 4 + (i 1).val) * 1 + (i 2).val) / 4 = (i 0).val; omega)

theorem v80_1 (i : S8192x4x1.Idx) : idx_main_v80 i 1 = i 1 :=
  Fin.ext (by have b0 : (i 0).val < 8192 := (i 0).isLt; have b1 : (i 1).val < 4 := (i 1).isLt; have b2 : (i 2).val < 1 := (i 2).isLt; change (((i 0).val * 4 + (i 1).val) * 1 + (i 2).val) % 4 = (i 1).val; omega)

theorem l83 (i : S8192x4x1.Idx) : val_main_v83 (F := Ideal) (a0 A) (a1 A) (a2 A) (a3 A) (a4 A) i = (((∑ v : Fin 128, o A (i 1) (ch (i 0)) (tm (i 0)) v * dn A (i 1) (ch (i 0)) (tm (i 0)) v) * (-(1 / 2) * (rs A (i 1) (ch (i 0)) (tm (i 0)) / ms A (i 1) (ch (i 0)) (tm (i 0)))) : ℝ) : EReal) := by
  rw [val_main_v83_apply, val_main_v80_apply, val_main_v79_apply, val_main_cst_7_apply, l60]
  rw [EReal.coe_mul]
  refine congrArg (· * _) (zero_add_coe (sum_eq_coe fun k => ?_))
  rw [val_main_v78_apply, l49, l77]
  change ((o A (idx_main_v80 i 1) (ch (idx_main_v80 i 0)) (tm (idx_main_v80 i 0)) k : ℝ) : EReal) * ((dn A (idx_main_v80 i 1) (ch (idx_main_v80 i 0)) (tm (idx_main_v80 i 0)) k : ℝ) : EReal) = _
  rw [v80_0, v80_1, ← EReal.coe_mul]

theorem l87 (i : S8192x4x128.Idx) : val_main_v87 (F := Ideal) (a0 A) (a1 A) (a2 A) (a3 A) (a4 A) i = ((q1 A (i 1) (ch (i 0)) (tm (i 0)) : ℝ) : EReal) := by
  rw [val_main_v87_apply, val_main_v86_apply, val_main_cst_9_apply]
  refine zero_add_coe ?_
  rw [Fin.sum_univ_one, val_main_v85_apply, val_main_v84_apply, val_main_cst_8_apply, l83]
  exact (congrArg (Ideal.div _) bits_128).trans (div_eq _ (by norm_num))

theorem l91 (i : S8192x4x128.Idx) : val_main_v91 (F := Ideal) (a0 A) (a1 A) (a2 A) (a3 A) (a4 A) i = ((dov A (i 1) (ch (i 0)) (tm (i 0)) (i 2) : ℝ) : EReal) := by
  rw [val_main_v91_apply, val_main_v89_apply, val_main_v82_apply, val_main_v81_apply, val_main_v88_apply, val_main_v90_apply, l77, l57, l49, l87]
  unfold dov
  rw [EReal.coe_add, EReal.coe_add, EReal.coe_mul, EReal.coe_mul, EReal.coe_mul]; rfl

theorem v92_ch (i : S128x64x4x128.Idx) : ch (idx_main_v92 i 0) = i 0 :=
  Fin.ext (by have b1 : (i 1).val < 64 := (i 1).isLt; have b2 : (i 2).val < 4 := (i 2).isLt; have b3 : (i 3).val < 128 := (i 3).isLt; change ((((i 0).val * 64 + (i 1).val) * 4 + (i 2).val) * 128 + (i 3).val) / 512 / 64 = (i 0).val; omega)
theorem v92_tm (i : S128x64x4x128.Idx) : tm (idx_main_v92 i 0) = i 1 :=
  Fin.ext (by have b1 : (i 1).val < 64 := (i 1).isLt; have b2 : (i 2).val < 4 := (i 2).isLt; have b3 : (i 3).val < 128 := (i 3).isLt; change ((((i 0).val * 64 + (i 1).val) * 4 + (i 2).val) * 128 + (i 3).val) / 512 % 64 = (i 1).val; omega)

theorem v92_1 (i : S128x64x4x128.Idx) : idx_main_v92 i 1 = i 2 :=
  Fin.ext (by have b0 : (i 0).val < 128 := (i 0).isLt; have b1 : (i 1).val < 64 := (i 1).isLt; have b2 : (i 2).val < 4 := (i 2).isLt; have b3 : (i 3).val < 128 := (i 3).isLt; change ((((i 0).val * 64 + (i 1).val) * 4 + (i 2).val) * 128 + (i 3).val) / 128 % 4 = (i 2).val; omega)

theorem v92_2 (i : S128x64x4x128.Idx) : idx_main_v92 i 2 = i 3 :=
  Fin.ext (by have b0 : (i 0).val < 128 := (i 0).isLt; have b1 : (i 1).val < 64 := (i 1).isLt; have b2 : (i 2).val < 4 := (i 2).isLt; have b3 : (i 3).val < 128 := (i 3).isLt; change ((((i 0).val * 64 + (i 1).val) * 4 + (i 2).val) * 128 + (i 3).val) % 128 = (i 3).val; omega)

theorem l93 (i : S4x128x64x128.Idx) : val_main_v93 (F := Ideal) (a0 A) (a1 A) (a2 A) (a3 A) (a4 A) i = ((dov A (i 0) (i 1) (i 2) (i 3) : ℝ) : EReal) := by
  rw [val_main_v93_apply, val_main_v92_apply, l91, v92_ch, v92_tm]
  exact congrArg₂ (fun a b => ((dov A a (i 1) (i 2) b : ℝ) : EReal)) (v92_1 (idx_main_v93 i)) (v92_2 (idx_main_v93 i))

theorem l95 (i : S4x128x64x128.Idx) : val_main_v95 (F := Ideal) (a0 A) (a1 A) (a2 A) (a3 A) (a4 A) i = ((R A (i 0) (i 1) (i 2) (i 3) : ℝ) : EReal) := by
  rw [val_main_v95_apply, val_main_v94_apply]
  exact sum_eq_coe fun k => by rw [l93, l46, EReal.coe_mul]; rfl

theorem l98 (i : S4x128x64x64.Idx) : val_main_v98 (F := Ideal) (a0 A) (a1 A) (a2 A) (a3 A) (a4 A) i = ((dq A (i 0) (i 1) (i 2) (i 3) : ℝ) : EReal) := by
  rw [val_main_v98_apply, val_main_v96_apply, val_main_v97_apply, val_main_cst_10_apply]
  unfold dq
  rw [EReal.coe_mul]
  exact congrArg₂ (· * ·) (sum_eq_coe fun k => by rw [l93, l42, EReal.coe_mul]; rfl) bits_eighth

theorem v100_0 (i : S8192x256.Idx) : idx_main_v100 i 0 = ch (i 0) :=
  Fin.ext (by have b0 : (i 0).val < 8192 := (i 0).isLt; have b1 : (i 1).val < 256 := (i 1).isLt; change ((i 0).val * 256 + (i 1).val) / 16384 = (i 0).val / 64; omega)

theorem v100_1 (i : S8192x256.Idx) : idx_main_v100 i 1 = tm (i 0) :=
  Fin.ext (by have b0 : (i 0).val < 8192 := (i 0).isLt; have b1 : (i 1).val < 256 := (i 1).isLt; change ((i 0).val * 256 + (i 1).val) / 256 % 64 = (i 0).val % 64; omega)

theorem v100_2 (i : S8192x256.Idx) : idx_main_v100 i 2 = kh (i 1) :=
  Fin.ext (by have b0 : (i 0).val < 8192 := (i 0).isLt; have b1 : (i 1).val < 256 := (i 1).isLt; change ((i 0).val * 256 + (i 1).val) / 64 % 4 = (i 1).val / 64; omega)

theorem v100_3 (i : S8192x256.Idx) : idx_main_v100 i 3 = kl (i 1) :=
  Fin.ext (by have b0 : (i 0).val < 8192 := (i 0).isLt; have b1 : (i 1).val < 256 := (i 1).isLt; change ((i 0).val * 256 + (i 1).val) % 64 = (i 1).val % 64; omega)

theorem v132_0 (i : S8192x256.Idx) : idx_main_v132 i 0 = ch (i 0) :=
  Fin.ext (by have b0 : (i 0).val < 8192 := (i 0).isLt; have b1 : (i 1).val < 256 := (i 1).isLt; change ((i 0).val * 256 + (i 1).val) / 16384 = (i 0).val / 64; omega)

theorem v132_1 (i : S8192x256.Idx) : idx_main_v132 i 1 = tm (i 0) :=
  Fin.ext (by have b0 : (i 0).val < 8192 := (i 0).isLt; have b1 : (i 1).val < 256 := (i 1).isLt; change ((i 0).val * 256 + (i 1).val) / 256 % 64 = (i 0).val % 64; omega)

theorem v132_2 (i : S8192x256.Idx) : idx_main_v132 i 2 = kh (i 1) :=
  Fin.ext (by have b0 : (i 0).val < 8192 := (i 0).isLt; have b1 : (i 1).val < 256 := (i 1).isLt; change ((i 0).val * 256 + (i 1).val) / 64 % 4 = (i 1).val / 64; omega)

theorem v132_3 (i : S8192x256.Idx) : idx_main_v132 i 3 = kl (i 1) :=
  Fin.ext (by have b0 : (i 0).val < 8192 := (i 0).isLt; have b1 : (i 1).val < 256 := (i 1).isLt; change ((i 0).val * 256 + (i 1).val) % 64 = (i 1).val % 64; omega)

theorem v138_0 (i : S8192x256.Idx) : idx_main_v138 i 0 = ch (i 0) :=
  Fin.ext (by have b0 : (i 0).val < 8192 := (i 0).isLt; have b1 : (i 1).val < 256 := (i 1).isLt; change ((i 0).val * 256 + (i 1).val) / 16384 = (i 0).val / 64; omega)

theorem v138_1 (i : S8192x256.Idx) : idx_main_v138 i 1 = tm (i 0) :=
  Fin.ext (by have b0 : (i 0).val < 8192 := (i 0).isLt; have b1 : (i 1).val < 256 := (i 1).isLt; change ((i 0).val * 256 + (i 1).val) / 256 % 64 = (i 0).val % 64; omega)

theorem v138_2 (i : S8192x256.Idx) : idx_main_v138 i 2 = kh (i 1) :=
  Fin.ext (by have b0 : (i 0).val < 8192 := (i 0).isLt; have b1 : (i 1).val < 256 := (i 1).isLt; change ((i 0).val * 256 + (i 1).val) / 64 % 4 = (i 1).val / 64; omega)

theorem v138_3 (i : S8192x256.Idx) : idx_main_v138 i 3 = kl (i 1) :=
  Fin.ext (by have b0 : (i 0).val < 8192 := (i 0).isLt; have b1 : (i 1).val < 256 := (i 1).isLt; change ((i 0).val * 256 + (i 1).val) % 64 = (i 1).val % 64; omega)

theorem v122_0 (i : S8192x512.Idx) : idx_main_v122 i 0 = ch (i 0) :=
  Fin.ext (by have b0 : (i 0).val < 8192 := (i 0).isLt; have b1 : (i 1).val < 512 := (i 1).isLt; change ((i 0).val * 512 + (i 1).val) / 32768 = (i 0).val / 64; omega)

theorem v122_1 (i : S8192x512.Idx) : idx_main_v122 i 1 = tm (i 0) :=
  Fin.ext (by have b0 : (i 0).val < 8192 := (i 0).isLt; have b1 : (i 1).val < 512 := (i 1).isLt; change ((i 0).val * 512 + (i 1).val) / 512 % 64 = (i 0).val % 64; omega)

theorem v122_2 (i : S8192x512.Idx) : idx_main_v122 i 2 = vh (i 1) :=
  Fin.ext (by have b0 : (i 0).val < 8192 := (i 0).isLt; have b1 : (i 1).val < 512 := (i 1).isLt; change ((i 0).val * 512 + (i 1).val) / 128 % 4 = (i 1).val / 128; omega)

theorem v122_3 (i : S8192x512.Idx) : idx_main_v122 i 3 = vl (i 1) :=
  Fin.ext (by have b0 : (i 0).val < 8192 := (i 0).isLt; have b1 : (i 1).val < 512 := (i 1).isLt; change ((i 0).val * 512 + (i 1).val) % 128 = (i 1).val % 128; omega)

theorem l100 (i : S8192x256.Idx) : val_main_v100 (F := Ideal) (a0 A) (a1 A) (a2 A) (a3 A) (a4 A) i = ((dq A (kh (i 1)) (ch (i 0)) (tm (i 0)) (kl (i 1)) : ℝ) : EReal) := by
  rw [val_main_v100_apply, val_main_v99_apply, l98]
  change ((dq A (idx_main_v100 i 2) (idx_main_v100 i 0) (idx_main_v100 i 1) (idx_main_v100 i 3) : ℝ) : EReal) = _
  rw [v100_0, v100_1, v100_2, v100_3]

theorem l107 (i : S4x128x128x64.Idx) : val_main_v107 (F := Ideal) (a0 A) (a1 A) (a2 A) (a3 A) (a4 A) i = ((W A (i 0) (i 1) (i 2) (i 3) : ℝ) : EReal) := by
  rw [val_main_v107_apply, val_main_v106_apply, l40_1, l39, val_main_v103_apply, val_main_v102_apply, val_main_call6_v0_apply, val_main_call6_cst_apply]
  have e : (∑ k : Fin 128, val_main_v101 (F := Ideal) (a0 A) (a1 A) (a2 A) (a3 A) (a4 A) (lidx_main_v102 (idx_main_v103 i) k) * val_main_v25 (F := Ideal) (a0 A) (a2 A) (a3 A) (ridx_main_v102 (idx_main_v103 i) k))
      = ((∑ v : Fin 128, R A (i 0) (i 1) (i 3) v * kv A (i 0) (i 2) (i 3) v : ℝ) : EReal) :=
    sum_eq_coe fun k => by rw [val_main_v101_apply, l95, l25, EReal.coe_mul]; rfl
  rw [e]
  unfold W D
  by_cases h : (i 2).val ≤ (i 1).val
  · rw [if_pos h, if_pos h, EReal.coe_mul]; rfl
  · rw [if_neg h, if_neg h, mul_zero]
    refine (congrArg (· * _) ((select_zero _ _).trans bits_zero)).trans ?_
    rw [← EReal.coe_mul, zero_mul]

theorem l105 (i : S4x128x64x128.Idx) : val_main_v105 (F := Ideal) (a0 A) (a1 A) (a2 A) (a3 A) (a4 A) i = ((G A (i 0) (i 1) (i 2) (i 3) : ℝ) : EReal) := by
  rw [val_main_v105_apply, val_main_v104_apply]
  exact sum_eq_coe fun k => by rw [val_main_v101_apply, l95, l40_0, EReal.coe_mul]; rfl

theorem v109_0 (i : S4x128x1x64.Idx) : idx_main_v109 i 0 = i 0 :=
  Fin.ext (by have b0 : (i 0).val < 4 := (i 0).isLt; have b1 : (i 1).val < 128 := (i 1).isLt; have b2 : (i 2).val < 1 := (i 2).isLt; have b3 : (i 3).val < 64 := (i 3).isLt; change ((((i 0).val * 128 + (i 1).val) * 1 + (i 2).val) * 64 + (i 3).val) / 8192 = (i 0).val; omega)

theorem v109_1 (i : S4x128x1x64.Idx) : idx_main_v109 i 1 = i 1 :=
  Fin.ext (by have b0 : (i 0).val < 4 := (i 0).isLt; have b1 : (i 1).val < 128 := (i 1).isLt; have b2 : (i 2).val < 1 := (i 2).isLt; have b3 : (i 3).val < 64 := (i 3).isLt; change ((((i 0).val * 128 + (i 1).val) * 1 + (i 2).val) * 64 + (i 3).val) / 64 % 128 = (i 1).val; omega)

theorem v109_2 (i : S4x128x1x64.Idx) : idx_main_v109 i 2 = i 3 :=
  Fin.ext (by have b0 : (i 0).val < 4 := (i 0).isLt; have b1 : (i 1).val < 128 := (i 1).isLt; have b2 : (i 2).val < 1 := (i 2).isLt; have b3 : (i 3).val < 64 := (i 3).isLt; change ((((i 0).val * 128 + (i 1).val) * 1 + (i 2).val) * 64 + (i 3).val) % 64 = (i 3).val; omega)

theorem v127_0 (i : S4x128x1x64.Idx) : idx_main_v127 i 0 = i 0 :=
  Fin.ext (by have b0 : (i 0).val < 4 := (i 0).isLt; have b1 : (i 1).val < 128 := (i 1).isLt; have b2 : (i 2).val < 1 := (i 2).isLt; have b3 : (i 3).val < 64 := (i 3).isLt; change ((((i 0).val * 128 + (i 1).val) * 1 + (i 2).val) * 64 + (i 3).val) / 8192 = (i 0).val; omega)

theorem v127_1 (i : S4x128x1x64.Idx) : idx_main_v127 i 1 = i 1 :=
  Fin.ext (by have b0 : (i 0).val < 4 := (i 0).isLt; have b1 : (i 1).val < 128 := (i 1).isLt; have b2 : (i 2).val < 1 := (i 2).isLt; have b3 : (i 3).val < 64 := (i 3).isLt; change ((((i 0).val * 128 + (i 1).val) * 1 + (i 2).val) * 64 + (i 3).val) / 64 % 128 = (i 1).val; omega)

theorem v127_2 (i : S4x128x1x64.Idx) : idx_main_v127 i 2 = i 3 :=
  Fin.ext (by have b0 : (i 0).val < 4 := (i 0).isLt; have b1 : (i 1).val < 128 := (i 1).isLt; have b2 : (i 2).val < 1 := (i 2).isLt; have b3 : (i 3).val < 64 := (i 3).isLt; change ((((i 0).val * 128 + (i 1).val) * 1 + (i 2).val) * 64 + (i 3).val) % 64 = (i 3).val; omega)

theorem v112_0 (i : S4x1x128x64.Idx) : idx_main_v112 i 0 = i 0 :=
  Fin.ext (by have b0 : (i 0).val < 4 := (i 0).isLt; have b1 : (i 1).val < 1 := (i 1).isLt; have b2 : (i 2).val < 128 := (i 2).isLt; have b3 : (i 3).val < 64 := (i 3).isLt; change ((((i 0).val * 1 + (i 1).val) * 128 + (i 2).val) * 64 + (i 3).val) / 8192 = (i 0).val; omega)

theorem v112_1 (i : S4x1x128x64.Idx) : idx_main_v112 i 1 = i 2 :=
  Fin.ext (by have b0 : (i 0).val < 4 := (i 0).isLt; have b1 : (i 1).val < 1 := (i 1).isLt; have b2 : (i 2).val < 128 := (i 2).isLt; have b3 : (i 3).val < 64 := (i 3).isLt; change ((((i 0).val * 1 + (i 1).val) * 128 + (i 2).val) * 64 + (i 3).val) / 64 % 128 = (i 2).val; omega)

theorem v112_2 (i : S4x1x128x64.Idx) : idx_main_v112 i 2 = i 3 :=
  Fin.ext (by have b0 : (i 0).val < 4 := (i 0).isLt; have b1 : (i 1).val < 1 := (i 1).isLt; have b2 : (i 2).val < 128 := (i 2).isLt; have b3 : (i 3).val < 64 := (i 3).isLt; change ((((i 0).val * 1 + (i 1).val) * 128 + (i 2).val) * 64 + (i 3).val) % 64 = (i 3).val; omega)

theorem l115 (i : S4x128x64.Idx) : val_main_v115 (F := Ideal) (a0 A) (a1 A) (a2 A) (a3 A) (a4 A) i = ((-(∑ n : Fin 128, W A (i 0) n (i 1) (i 2)) + ∑ m : Fin 128, W A (i 0) (i 1) m (i 2) : ℝ) : EReal) := by
  rw [val_main_v115_apply, val_main_v113_apply, val_main_v114_apply, val_main_cst_13_apply, val_main_cst_14_apply, EReal.coe_add]
  refine congrArg₂ (· + ·) (zero_add_coe ?_) (zero_add_coe ?_)
  · rw [Fin.sum_univ_one, val_main_v112_apply, val_main_v111_apply, val_main_cst_12_apply]
    refine zero_add_coe ?_
    rw [← Finset.sum_neg_distrib]
    refine sum_eq_coe fun k => ?_
    rw [val_main_v110_apply, l107]
    refine (EReal.coe_neg _).symm.trans ?_
    change ((-W A (idx_main_v112 (idx_main_v113 i 0) 0) k (idx_main_v112 (idx_main_v113 i 0) 1) (idx_main_v112 (idx_main_v113 i 0) 2) : ℝ) : EReal) = _
    rw [v112_0, v112_1, v112_2]; rfl
  · rw [Fin.sum_univ_one, val_main_v109_apply, val_main_v108_apply, val_main_cst_11_apply]
    refine zero_add_coe (sum_eq_coe fun k => ?_)
    rw [l107]
    change ((W A (idx_main_v109 (idx_main_v114 i 0) 0) (idx_main_v109 (idx_main_v114 i 0) 1) k (idx_main_v109 (idx_main_v114 i 0) 2) : ℝ) : EReal) = _
    rw [v109_0, v109_1, v109_2]; rfl

theorem l116 (i : S4x128x64.Idx) : val_main_v116 (F := Ideal) (a0 A) (a1 A) (a2 A) (a3 A) (a4 A) i = ((ddec A (i 0) (i 1) (i 2) : ℝ) : EReal) := by
  change Ideal.hostReduceWindowAdd ![1, 128, 1] ![1, 1, 1] ![0, 0, 0] ![0, 127, 0] reduceWindows_S4x128x64_S4x128x64_w1s1p0_0_w128s1p0_127_w1s1p0_0 (val_main_v115 (F := Ideal) (a0 A) (a1 A) (a2 A) (a3 A) (a4 A)) (Ideal.ofBits .f32 0x00000000#32) i = _
  rw [bits_zero, EReal.coe_zero]
  refine (window3_from (n0 := 4) (n2 := 64) 127 ![0, 127, 0] _ _ _).trans ?_
  have e := suffix_flow (fun n m => W A (i 0) n m (i 2)) (fun n m hn => (congrArg (_ * ·) (D_zero A _ _ _ _ hn)).trans (mul_zero _)) (i 1)
  refine Eq.trans ?_ (congrArg ((↑) : ℝ → EReal) e)
  refine sum_eq_coe fun t' => ?_
  rw [coe_ite, l115]; rfl

theorem l119 (i : S4x128x64x64.Idx) : val_main_v119 (F := Ideal) (a0 A) (a1 A) (a2 A) (a3 A) (a4 A) i = ((∑ v : Fin 128, G A (i 0) (i 1) (i 2) v * V A (i 0) (i 1) (i 3) v : ℝ) : EReal) := by
  rw [val_main_v119_apply]
  exact sum_eq_coe fun k => by rw [l105, l24, EReal.coe_mul]; rfl

theorem l120 (i : S4x128x64x64.Idx) : val_main_v120 (F := Ideal) (a0 A) (a1 A) (a2 A) (a3 A) (a4 A) i = ((dkd A (i 0) (i 1) (i 2) (i 3) : ℝ) : EReal) := by
  rw [val_main_v120_apply, l119]
  exact congrArg ((↑) : ℝ → EReal) (Finset.sum_congr rfl fun v _ => mul_comm _ _)

theorem l118 (i : S4x128x64x128.Idx) : val_main_v118 (F := Ideal) (a0 A) (a1 A) (a2 A) (a3 A) (a4 A) i = ((dv A (i 0) (i 1) (i 2) (i 3) : ℝ) : EReal) := by
  rw [val_main_v118_apply, val_main_v117_apply]
  exact sum_eq_coe fun k => by rw [l105, l22, EReal.coe_mul, mul_comm]; rfl

theorem l122 (i : S8192x512.Idx) : val_main_v122 (F := Ideal) (a0 A) (a1 A) (a2 A) (a3 A) (a4 A) i = ((dv A (vh (i 1)) (ch (i 0)) (tm (i 0)) (vl (i 1)) : ℝ) : EReal) := by
  rw [val_main_v122_apply, val_main_v121_apply, l118]
  change ((dv A (idx_main_v122 i 2) (idx_main_v122 i 0) (idx_main_v122 i 1) (idx_main_v122 i 3) : ℝ) : EReal) = _
  rw [v122_0, v122_1, v122_2, v122_3]

theorem l124 (i : S4x128x64x64.Idx) : val_main_v124 (F := Ideal) (a0 A) (a1 A) (a2 A) (a3 A) (a4 A) i = ((dk A (i 0) (i 1) (i 2) (i 3) : ℝ) : EReal) := by
  rw [val_main_v124_apply, l120, l21]; exact (EReal.coe_mul _ _).symm

theorem l132 (i : S8192x256.Idx) : val_main_v132 (F := Ideal) (a0 A) (a1 A) (a2 A) (a3 A) (a4 A) i = ((dk A (kh (i 1)) (ch (i 0)) (tm (i 0)) (kl (i 1)) : ℝ) : EReal) := by
  rw [val_main_v132_apply, val_main_v131_apply, l124]
  change ((dk A (idx_main_v132 i 2) (idx_main_v132 i 0) (idx_main_v132 i 1) (idx_main_v132 i 3) : ℝ) : EReal) = _
  rw [v132_0, v132_1, v132_2, v132_3]

theorem l125 (i : S4x128x64x64.Idx) : val_main_v125 (F := Ideal) (a0 A) (a1 A) (a2 A) (a3 A) (a4 A) i = ((dkd A (i 0) (i 1) (i 2) (i 3) * kd A (i 0) (i 1) (i 2) (i 3) : ℝ) : EReal) := by
  rw [val_main_v125_apply, val_main_v123_apply, l120, l21, l17]
  refine ((congrArg (· * _) (EReal.coe_mul _ _).symm).trans (EReal.coe_mul _ _).symm).trans ?_
  unfold kd
  congr 1; ring

theorem l130 (i : S4x128x64.Idx) : val_main_v130 (F := Ideal) (a0 A) (a1 A) (a2 A) (a3 A) (a4 A) i = ((ddec A (i 0) (i 1) (i 2) + ∑ t : Fin 64, dkd A (i 0) (i 1) t (i 2) * kd A (i 0) (i 1) t (i 2) : ℝ) : EReal) := by
  rw [val_main_v130_apply, val_main_v129_apply, val_main_cst_16_apply, l116, EReal.coe_add]
  refine congrArg (_ + ·) (zero_add_coe ?_)
  rw [Fin.sum_univ_one, val_main_v127_apply, val_main_v126_apply, val_main_cst_15_apply]
  refine zero_add_coe (sum_eq_coe fun k => ?_)
  rw [l125]
  change ((dkd A (idx_main_v127 (idx_main_v129 i 0) 0) (idx_main_v127 (idx_main_v129 i 0) 1) k (idx_main_v127 (idx_main_v129 i 0) 2) * kd A (idx_main_v127 (idx_main_v129 i 0) 0) (idx_main_v127 (idx_main_v129 i 0) 1) k (idx_main_v127 (idx_main_v129 i 0) 2) : ℝ) : EReal) = _
  rw [v127_0, v127_1, v127_2]; rfl

theorem l134 (i : S4x128x64x64.Idx) : val_main_v134 (F := Ideal) (a0 A) (a1 A) (a2 A) (a3 A) (a4 A) i = ((if (i 2).val = 63 then ddec A (i 0) (i 1) (i 3) + ∑ t : Fin 64, dkd A (i 0) (i 1) t (i 3) * kd A (i 0) (i 1) t (i 3) else 0 : ℝ) : EReal) := by
  unfold val_main_v134
  by_cases h : (i 2).val = 63
  · rw [if_pos h]
    refine (pad_apply_of_inside ![0, 0, 63, 0] ![0, 0, 0, 0] ![0, 0, 0, 0] (val_main_v133 (F := Ideal) (a0 A) (a1 A) (a2 A) (a3 A) (a4 A)) _ _ _ i (ix4 (i 0) (i 1) 0 (i 3)) ?_).trans ?_
    · intro a
      match a with
      | ⟨0, _⟩ => change (i 0).val = 0 + (i 0).val * (0 + 1); omega
      | ⟨1, _⟩ => change (i 1).val = 0 + (i 1).val * (0 + 1); omega
      | ⟨2, _⟩ => change (i 2).val = 63 + 0 * (0 + 1); omega
      | ⟨3, _⟩ => change (i 3).val = 0 + (i 3).val * (0 + 1); omega
    · rw [val_main_v133_apply, l130]; rfl
  · rw [if_neg h]
    refine (pad_apply_of_not_inside ![0, 0, 63, 0] ![0, 0, 0, 0] ![0, 0, 0, 0] (val_main_v133 (F := Ideal) (a0 A) (a1 A) (a2 A) (a3 A) (a4 A)) (val_main_cst_17 (F := Ideal)) pads_S4x128x1x64_S4x128x64x64_000_000_6300_000 h_S_ i 2 ?_).trans bits_zero
    intro hh
    have b2 : (i 2).val < 64 := (i 2).isLt
    change 63 ≤ (i 2).val ∧ ((i 2).val - 63) % (0 + 1) = 0 ∧ ((i 2).val - 63) / (0 + 1) < 1 at hh
    omega

/-- The running sum, from the chunk's end, with the total put at the last position. -/
theorem suffix_last (x : Fin 64 → ℝ) (y : ℝ) (t : Fin 64) :
    (∑ i : Fin 64, if t.val ≤ i.val then (-x i + if i.val = 63 then y + ∑ s, x s else 0) else 0)
      = (∑ i : Fin 64, if i.val < t.val then x i else 0) + y := by
  rw [← sum_sub_suffix x t]
  have e : ∀ i : Fin 64, (if t.val ≤ i.val then (-x i + if i.val = 63 then y + ∑ s, x s else 0) else 0)
      = -(if t.val ≤ i.val then x i else 0) + if i = (63 : Fin 64) then y + ∑ s, x s else 0 := fun i => by
    have hi : (i = (63 : Fin 64)) ↔ i.val = 63 := Fin.ext_iff
    by_cases h : t.val ≤ i.val
    · simp only [if_pos h, hi]
    · have : i.val ≠ 63 := by omega
      simp only [if_neg h, hi, if_neg this, neg_zero, add_zero]
  rw [Finset.sum_congr rfl fun i _ => e i, Finset.sum_add_distrib, Finset.sum_neg_distrib, Finset.sum_ite_eq' Finset.univ (63 : Fin 64), if_pos (Finset.mem_univ _)]
  ring

theorem l136 (i : S4x128x64x64.Idx) : val_main_v136 (F := Ideal) (a0 A) (a1 A) (a2 A) (a3 A) (a4 A) i = ((dla A (i 0) (i 1) (i 2) (i 3) : ℝ) : EReal) := by
  change Ideal.hostReduceWindowAdd ![1, 1, 64, 1] ![1, 1, 1, 1] ![0, 0, 0, 0] ![0, 0, 63, 0] reduceWindows_S4x128x64x64_S4x128x64x64_w1s1p0_0_w1s1p0_0_w64s1p0_63_w1s1p0_0 (val_main_v135 (F := Ideal) (a0 A) (a1 A) (a2 A) (a3 A) (a4 A)) (Ideal.ofBits .f32 0x00000000#32) i = _
  rw [bits_zero, EReal.coe_zero]
  refine (window4_from (n0 := 4) (n1 := 128) (n3 := 64) 63 ![0, 0, 63, 0] _ _ _).trans ?_
  refine Eq.trans ?_ (congrArg ((↑) : ℝ → EReal) (suffix_last (fun t => dkd A (i 0) (i 1) t (i 3) * kd A (i 0) (i 1) t (i 3)) (ddec A (i 0) (i 1) (i 3)) (i 2)))
  refine sum_eq_coe fun t' => ?_
  rw [coe_ite, val_main_v135_apply, val_main_v128_apply, l125, l134, EReal.coe_add, EReal.coe_neg]; rfl

theorem l138 (i : S8192x256.Idx) : val_main_v138 (F := Ideal) (a0 A) (a1 A) (a2 A) (a3 A) (a4 A) i = ((dla A (kh (i 1)) (ch (i 0)) (tm (i 0)) (kl (i 1)) : ℝ) : EReal) := by
  rw [val_main_v138_apply, val_main_v137_apply, l136]
  change ((dla A (idx_main_v138 i 2) (idx_main_v138 i 0) (idx_main_v138 i 1) (idx_main_v138 i 3) : ℝ) : EReal) = _
  rw [v138_0, v138_1, v138_2, v138_3]

theorem l141 (i : S8192x256.Idx) : val_main_v141 (F := Ideal) (a0 A) (a1 A) (a2 A) (a3 A) (a4 A) i = ((dfz A (i 0) (i 1) : ℝ) : EReal) := by
  rw [val_main_v141_apply, val_main_call9_v1_apply, val_main_call9_v0_apply, val_main_v140_apply, val_main_v139_apply, val_main_cst_18_apply, l138, l8_1]
  change -(-(Ideal.div ((dla A (kh (i 1)) (ch (i 0)) (tm (i 0)) (kl (i 1)) : ℝ) : EReal) (Ideal.ofBits .f32 0x41800000#32)) * ((sigm (-fz A (i 0) (i 1)) : ℝ) : EReal)) = _
  rw [bits_16, div_eq _ (by norm_num), ← EReal.coe_neg, ← EReal.coe_mul, ← EReal.coe_neg]
  unfold dfz
  congr 1; ring

theorem l143 (i : S1x256.Idx) : val_main_v143 (F := Ideal) (a0 A) (a1 A) (a2 A) (a3 A) (a4 A) i = ((dB A (i 1) : ℝ) : EReal) := by
  rw [val_main_v143_apply, val_main_v142_apply, val_main_cst_19_apply]
  refine zero_add_coe (sum_eq_coe fun k => ?_)
  rw [l141]
  change ((dfz A k (idx_main_v143 i 0) : ℝ) : EReal) = _
  rw [v143_0]

theorem l145 (i : S128x256.Idx) : val_main_v145 (F := Ideal) (a0 A) (a1 A) (a2 A) (a3 A) (a4 A) i = ((dW A (i 0) (i 1) : ℝ) : EReal) := by
  rw [val_main_v145_apply, val_main_v144_apply]
  exact sum_eq_coe fun k => by rw [l141, val_main_v4_apply, EReal.coe_mul, mul_comm]; rfl

theorem l146 (i : S8192x128.Idx) : val_main_v146 (F := Ideal) (a0 A) (a1 A) (a2 A) (a3 A) (a4 A) i = ((dgf A (i 0) (i 1) : ℝ) : EReal) := by
  rw [val_main_v146_apply]
  exact sum_eq_coe fun k => by rw [l141, EReal.coe_mul]; rfl

theorem l147 (i : S8192x256.Idx) : val_main_v147 (F := Ideal) (a0 A) (a1 A) (a2 A) (a3 A) (a4 A) i = ((dq A (kh (i 1)) (ch (i 0)) (tm (i 0)) (kl (i 1)) : ℝ) : EReal) := by
  rw [val_main_v147_apply]; exact l100 A i

theorem l148 (i : S8192x256.Idx) : val_main_v148 (F := Ideal) (a0 A) (a1 A) (a2 A) (a3 A) (a4 A) i = ((dk A (kh (i 1)) (ch (i 0)) (tm (i 0)) (kl (i 1)) : ℝ) : EReal) := by
  rw [val_main_v148_apply]; exact l132 A i

theorem l149 (i : S8192x512.Idx) : val_main_v149 (F := Ideal) (a0 A) (a1 A) (a2 A) (a3 A) (a4 A) i = ((dv A (vh (i 1)) (ch (i 0)) (tm (i 0)) (vl (i 1)) : ℝ) : EReal) := by
  rw [val_main_v149_apply]; exact l122 A i

theorem l150 (i : S8192x512.Idx) : val_main_v150 (F := Ideal) (a0 A) (a1 A) (a2 A) (a3 A) (a4 A) i = ((dgg A (vh (i 1)) (ch (i 0)) (tm (i 0)) (vl (i 1)) : ℝ) : EReal) := by
  rw [val_main_v150_apply]; exact l71 A i

theorem l151 (i : S8192x128.Idx) : val_main_v151 (F := Ideal) (a0 A) (a1 A) (a2 A) (a3 A) (a4 A) i = ((dgf A (i 0) (i 1) : ℝ) : EReal) := by
  rw [val_main_v151_apply]; exact l146 A i

end Cert.Gla

end
-- ==== Proof.RefEnds.lean ====
module

public import proofs.«01_k».proof.Proof.RefBwd
public import proofs.«01_k».proof.Proof.Gen.ReferenceIdeal.Run

@[expose] public section

set_option maxRecDepth 16384

/-! What the reference ends with, over real arguments. -/

noncomputable section

namespace Cert.Gla

open Cert.ReferenceIdeal Cert.ReferenceIdeal.Gen Cert.ReferenceIdeal.Read Idealize.ShloMosaic Idealize.ShloMosaic.TcCoe Idealize.SL.Sem Idealize.ShloMosaic.StableHlo

/-- The arguments are the real numbers `A`. -/
structure RArgs (m : (ℓ : Loc nD τ sig) → Buf (Elt Ideal) ℓ) (c : Dev nD) (A : In) : Prop where
  h0 : m ((c.tc : Thread nD τ).loc main_arg0) = a0 A
  h1 : m ((c.tc : Thread nD τ).loc main_arg1) = a1 A
  h2 : m ((c.tc : Thread nD τ).loc main_arg2) = a2 A
  h3 : m ((c.tc : Thread nD τ).loc main_arg3) = a3 A
  h4 : m ((c.tc : Thread nD τ).loc main_arg4) = a4 A

theorem r147 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v147 (F := Ideal) x0 x1 x2 x3 x4 = (fun i => ((dq A (kh (i 1)) (ch (i 0)) (tm (i 0)) (kl (i 1)) : ℝ) : EReal) : S8192x256.Idx → EReal) := by
  subst h0 h1 h2 h3 h4
  exact funext (l147 A)
theorem r148 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v148 (F := Ideal) x0 x1 x2 x3 x4 = (fun i => ((dk A (kh (i 1)) (ch (i 0)) (tm (i 0)) (kl (i 1)) : ℝ) : EReal) : S8192x256.Idx → EReal) := by
  subst h0 h1 h2 h3 h4
  exact funext (l148 A)
theorem r149 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v149 (F := Ideal) x0 x1 x2 x3 x4 = (fun i => ((dv A (vh (i 1)) (ch (i 0)) (tm (i 0)) (vl (i 1)) : ℝ) : EReal) : S8192x512.Idx → EReal) := by
  subst h0 h1 h2 h3 h4
  exact funext (l149 A)
theorem r150 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v150 (F := Ideal) x0 x1 x2 x3 x4 = (fun i => ((dgg A (vh (i 1)) (ch (i 0)) (tm (i 0)) (vl (i 1)) : ℝ) : EReal) : S8192x512.Idx → EReal) := by
  subst h0 h1 h2 h3 h4
  exact funext (l150 A)
theorem r151 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v151 (F := Ideal) x0 x1 x2 x3 x4 = (fun i => ((dgf A (i 0) (i 1) : ℝ) : EReal) : S8192x128.Idx → EReal) := by
  subst h0 h1 h2 h3 h4
  exact funext (l151 A)
theorem r145 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v145 (F := Ideal) x0 x1 x2 x3 x4 = (fun i => ((dW A (i 0) (i 1) : ℝ) : EReal) : S128x256.Idx → EReal) := by
  subst h0 h1 h2 h3 h4
  exact funext (l145 A)
theorem r143 {A : In} {x0 : S8192x3200.Idx → EReal} {x1 : S8192x1024.Idx → EReal} {x2 : S128x256.Idx → EReal} {x3 : S1x256.Idx → EReal} {x4 : S1x512.Idx → EReal} (h0 : x0 = a0 A) (h1 : x1 = a1 A) (h2 : x2 = a2 A) (h3 : x3 = a3 A) (h4 : x4 = a4 A) :
    val_main_v143 (F := Ideal) x0 x1 x2 x3 x4 = (fun i => ((dB A (i 1) : ℝ) : EReal) : S1x256.Idx → EReal) := by
  subst h0 h1 h2 h3 h4
  exact funext (l143 A)
theorem r74 {A : In} {x0 : S8192x3200.Idx → EReal} {x1 : S8192x1024.Idx → EReal} {x2 : S128x256.Idx → EReal} {x3 : S1x256.Idx → EReal} (h0 : x0 = a0 A) (h1 : x1 = a1 A) (h2 : x2 = a2 A) (h3 : x3 = a3 A) :
    val_main_v74 (F := Ideal) x0 x1 x2 x3 = (fun i => ((dG A (i 1) : ℝ) : EReal) : S1x512.Idx → EReal) := by
  subst h0 h1 h2 h3
  exact funext (l74 A)

theorem run (m : (ℓ : Loc nD τ sig) → Buf (Elt Ideal) ℓ) (ρ : Dev nD → PrngReg) (A : Dev nD → In) (H : ∀ c, RArgs m c (A c)) :
    θ_run (defs (F := Ideal)) (onTc (τ := τ) (main (F := Ideal))) ⟨m, fun _ => 0, ρ⟩ fun r => ∀ c : Dev nD,
      r.2.mem ((c.tc : Thread nD τ).loc main_v147) = (fun i => ((dq (A c) (kh (i 1)) (ch (i 0)) (tm (i 0)) (kl (i 1)) : ℝ) : EReal) : S8192x256.Idx → EReal)
      ∧ r.2.mem ((c.tc : Thread nD τ).loc main_v148) = (fun i => ((dk (A c) (kh (i 1)) (ch (i 0)) (tm (i 0)) (kl (i 1)) : ℝ) : EReal) : S8192x256.Idx → EReal)
      ∧ r.2.mem ((c.tc : Thread nD τ).loc main_v149) = (fun i => ((dv (A c) (vh (i 1)) (ch (i 0)) (tm (i 0)) (vl (i 1)) : ℝ) : EReal) : S8192x512.Idx → EReal)
      ∧ r.2.mem ((c.tc : Thread nD τ).loc main_v150) = (fun i => ((dgg (A c) (vh (i 1)) (ch (i 0)) (tm (i 0)) (vl (i 1)) : ℝ) : EReal) : S8192x512.Idx → EReal)
      ∧ r.2.mem ((c.tc : Thread nD τ).loc main_v151) = (fun i => ((dgf (A c) (i 0) (i 1) : ℝ) : EReal) : S8192x128.Idx → EReal)
      ∧ r.2.mem ((c.tc : Thread nD τ).loc main_v145) = (fun i => ((dW (A c) (i 0) (i 1) : ℝ) : EReal) : S128x256.Idx → EReal)
      ∧ r.2.mem ((c.tc : Thread nD τ).loc main_v143) = (fun i => ((dB (A c) (i 1) : ℝ) : EReal) : S1x256.Idx → EReal)
      ∧ r.2.mem ((c.tc : Thread nD τ).loc main_v74) = (fun i => ((dG (A c) (i 1) : ℝ) : EReal) : S1x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun r h c => by
    obtain ⟨q0, q1, q2, q3, q4, q5, q6, q7, q8, q9, q10, q11, q12⟩ := h c
    exact ⟨q0.trans ((val_main_v147_eq (launchContents m c)).trans (r147 (H c).h0 (H c).h1 (H c).h2 (H c).h3 (H c).h4)),
      q1.trans ((val_main_v148_eq (launchContents m c)).trans (r148 (H c).h0 (H c).h1 (H c).h2 (H c).h3 (H c).h4)),
      q2.trans ((val_main_v149_eq (launchContents m c)).trans (r149 (H c).h0 (H c).h1 (H c).h2 (H c).h3 (H c).h4)),
      q3.trans ((val_main_v150_eq (launchContents m c)).trans (r150 (H c).h0 (H c).h1 (H c).h2 (H c).h3 (H c).h4)),
      q4.trans ((val_main_v151_eq (launchContents m c)).trans (r151 (H c).h0 (H c).h1 (H c).h2 (H c).h3 (H c).h4)),
      q5.trans ((val_main_v145_eq (launchContents m c)).trans (r145 (H c).h0 (H c).h1 (H c).h2 (H c).h3 (H c).h4)),
      q6.trans ((val_main_v143_eq (launchContents m c)).trans (r143 (H c).h0 (H c).h1 (H c).h2 (H c).h3 (H c).h4)),
      q7.trans ((val_main_v74_eq (launchContents m c)).trans (r74 (H c).h0 (H c).h1 (H c).h2 (H c).h3)),
      q8,
      q9,
      q10,
      q11,
      q12⟩) (Cert.ReferenceIdeal.Value.run m ρ)

end Cert.Gla

end
-- ==== Proof.UpD.lean ====
/-
The gradient of the up projection in its input: the two partial products that the call adds are the halves of the
sum that the reference's product over the joined columns is.
-/
module

public import proofs.«01_k».proof.Proof.Gen.UpDgradIdeal.Value
public import proofs.«01_k».proof.Proof.Gen.UpDgradRefIdeal.Run
public import proofs.«01_k».proof.Proof.Gen.UpDgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpDgradIdeal.Value

open Cert.UpDgradIdeal Cert.UpDgradIdeal.Gen

variable (m : (ℓ : Loc nD τ sig) → Buf (Elt Ideal) ℓ)

/-- The reference's product over the three arguments. -/
abbrev Ref (X Y : FVec Ideal S8192x2816 .bf16) (W : FVec Ideal S5632x1024 .bf16) : FVec Ideal S8192x1024 .f32 :=
  Cert.UpDgradRefIdeal.Read.val_main_v7 (F := Ideal) X Y W

/-- Where each window's block stands at each point of the grid. -/
theorem idx : ∀ t : Fin cfg0.N, win0_0.index t = ![t.val % 8, 0] ∧ win0_1.index t = ![t.val % 8, 0]
    ∧ win0_2.index t = ![0, t.val / 8] ∧ win0_3.index t = ![1, t.val / 8] ∧ win0_4.index t = ![t.val % 8, t.val / 8] :=
  (by decide +kernel : ∀ t : Fin grid0.N, _)

/-- The reference at an index: one sum for each of the two joined arrays. -/
theorem ref_apply (X Y : FVec Ideal S8192x2816 .bf16) (W : FVec Ideal S5632x1024 .bf16) (i : Fin 8192) (j : Fin 1024) :
    Ref X Y W (ix2 i j) = (∑ k : Fin 2816, X (ix2 i k) * W (ix2 ⟨k.val, by omega⟩ j))
      + ∑ k : Fin 2816, Y (ix2 i k) * W (ix2 ⟨2816 + k.val, by omega⟩ j) := by
  pointwise [Ref, Cert.UpDgradRefIdeal.Read.val_main_v7, Cert.UpDgradRefIdeal.Read.val_main_v6, Cert.UpDgradRefIdeal.Read.val_main_v5, Cert.UpDgradRefIdeal.Read.val_main_v4, Cert.UpDgradRefIdeal.Read.val_main_v1, Cert.UpDgradRefIdeal.Read.val_main_v0]

/-- What a point stores, at an index of its block, is the reference at the array's index there. -/
theorem point (c : Dev nD) (t : Fin cfg0.N) (y) : k0_pay1 (F := Ideal) (iblk m c 0 t) (iblk m c 2 t) (iblk m c 1 t) (iblk m c 3 t) y
    = Ref (m ((c : Thread nD τ).loc main_arg0)) (m ((c : Thread nD τ).loc main_arg1)) (m ((c : Thread nD τ).loc main_arg2))
        (((cfg0.win 4).blk t).view.emb y) := by
  pointwise [k0_pay1, Ref, Cert.UpDgradRefIdeal.Read.val_main_v7, Cert.UpDgradRefIdeal.Read.val_main_v6, Cert.UpDgradRefIdeal.Read.val_main_v5, Cert.UpDgradRefIdeal.Read.val_main_v4, Cert.UpDgradRefIdeal.Read.val_main_v1, Cert.UpDgradRefIdeal.Read.val_main_v0]
  blk_point [iblk, V, idx t]

/-- The array that the call leaves is the reference of the arguments. -/
theorem final (c : Dev nD) : (dats m 0 c).arrAt 4 cfg0.N
    = Ref (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.UpDgradIdeal.Value

end
-- ==== Proof.DownW.lean ====
/-
The gradient of the down projection in its weights: the blocks that the call adds along the grid's last axis are the
pieces of the sum that the reference's product is.
-/
module

public import proofs.«01_k».proof.Proof.Gen.DownWgradIdeal.Value
public import proofs.«01_k».proof.Proof.Gen.DownWgradRefIdeal.Run
public import proofs.«01_k».proof.Proof.Gen.DownWgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownWgradIdeal.Value

open Cert.DownWgradIdeal Cert.DownWgradIdeal.Gen

variable (m : (ℓ : Loc nD τ sig) → Buf (Elt Ideal) ℓ)

/-- The reference's product over the two arguments. -/
abbrev Ref (X : FVec Ideal S8192x2816 .bf16) (W : FVec Ideal S8192x1024 .bf16) : FVec Ideal S2816x1024 .f32 :=
  Cert.DownWgradRefIdeal.Read.val_main_v5 (F := Ideal) X W

/-- The first fill is zero. -/
theorem hzero (j) : k0_pay1 (F := Ideal) j = 0 := by pointwise [k0_pay1]

/-- What a point leaves is what stood there and the point's part of the sum. -/
theorem hpay (acc : FVec Ideal S1408x1024 .f32) (x1 : FVec Ideal S1024x1024 .bf16) (x0 : FVec Ideal S1024x1408 .bf16) (j) :
    k0_pay2 (F := Ideal) x0 acc x1 j = acc j + ∑ k : Fin 1024, x0 (ix2 k (j 0)) * x1 (ix2 k (j 1)) := by
  pointwise [k0_pay2]

/-- The reference at an index. -/
theorem href (X : FVec Ideal S8192x2816 .bf16) (W : FVec Ideal S8192x1024 .bf16) (j) :
    Ref X W j = ∑ k : Fin 8192, X (ix2 k (j 0)) * W (ix2 k (j 1)) := by
  pointwise [Ref, Cert.DownWgradRefIdeal.Read.val_main_v5, Cert.DownWgradRefIdeal.Read.val_main_v4, Cert.DownWgradRefIdeal.Read.val_main_v3, Cert.DownWgradRefIdeal.Read.val_main_v1, Cert.DownWgradRefIdeal.Read.val_main_v0]
  simp only [mul_comm]

/-- Where each window's block stands at each point of the grid. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The array that the call leaves is the reference of the arguments. -/
theorem final (c : Dev nD) : (dats m 0 c).arrAt 2 cfg0.N
    = Ref (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DownWgradIdeal.Value

end
-- ==== Proof.DownD.lean ====
/-
The gradient of the down projection in its input: the array that the call leaves is, entry by entry, the sum that
the reference's product is.
-/
module

public import proofs.«01_k».proof.Proof.Gen.DownDgradIdeal.Value
public import proofs.«01_k».proof.Proof.Gen.DownDgradRefIdeal.Run
public import proofs.«01_k».proof.Proof.Gen.DownDgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownDgradIdeal.Value

open Cert.DownDgradIdeal Cert.DownDgradIdeal.Gen

variable (m : (ℓ : Loc nD τ sig) → Buf (Elt Ideal) ℓ)

/-- The reference's product over the two arguments. -/
abbrev Ref (X : FVec Ideal S8192x1024 .bf16) (W : FVec Ideal S2816x1024 .bf16) : FVec Ideal S8192x2816 .f32 :=
  Cert.DownDgradRefIdeal.Read.val_main_v4 (F := Ideal) X W

/-- Where each window's block stands at each point of the grid. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- What a point stores, at an index of its block, is the reference at the array's index there. -/
theorem point (c : Dev nD) (t : Fin cfg0.N) (y) : k0_pay1 (F := Ideal) (iblk m c 0 t) (iblk m c 1 t) y
    = Ref (m ((c : Thread nD τ).loc main_arg0)) (m ((c : Thread nD τ).loc main_arg1))
        (((cfg0.win 2).blk t).view.emb y) := by
  unfold Ref
  rw [Cert.DownDgradRefIdeal.Read.val_main_v4_apply]
  pointwise [k0_pay1]
  blk_point [iblk, V, idx t]

/-- The array that the call leaves is the reference of the arguments. -/
theorem final (c : Dev nD) : (dats m 0 c).arrAt 2 cfg0.N
    = Ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownDgradIdeal.Value

end
-- ==== Proof.UpW.lean ====
/-
The gradient of the up projection in half of its weights, transposed: the blocks that the call adds along the grid's last axis are the
pieces of the sum that the reference's product is.
-/
module

public import proofs.«01_k».proof.Proof.Gen.UpWgradIdeal.Value
public import proofs.«01_k».proof.Proof.Gen.UpWgradRefIdeal.Run
public import proofs.«01_k».proof.Proof.Gen.UpWgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpWgradIdeal.Value

open Cert.UpWgradIdeal Cert.UpWgradIdeal.Gen

variable (m : (ℓ : Loc nD τ sig) → Buf (Elt Ideal) ℓ)

/-- The reference's product over the two arguments. -/
abbrev Ref (X : FVec Ideal S8192x2816 .bf16) (W : FVec Ideal S8192x1024 .bf16) : FVec Ideal S2816x1024 .f32 :=
  Cert.UpWgradRefIdeal.Read.val_main_v6 (F := Ideal) X W

/-- The first fill is zero. -/
theorem hzero (j) : k0_pay1 (F := Ideal) j = 0 := by pointwise [k0_pay1]

/-- What a point leaves is what stood there and the point's part of the sum. -/
theorem hpay (acc : FVec Ideal S1408x1024 .f32) (x1 : FVec Ideal S1024x1024 .bf16) (x0 : FVec Ideal S1024x1408 .bf16) (j) :
    k0_pay2 (F := Ideal) x0 acc x1 j = acc j + ∑ k : Fin 1024, x0 (ix2 k (j 0)) * x1 (ix2 k (j 1)) := by
  pointwise [k0_pay2]

/-- The reference at an index. -/
theorem href (X : FVec Ideal S8192x2816 .bf16) (W : FVec Ideal S8192x1024 .bf16) (j) :
    Ref X W j = ∑ k : Fin 8192, X (ix2 k (j 0)) * W (ix2 k (j 1)) := by
  pointwise [Ref, Cert.UpWgradRefIdeal.Read.val_main_v6, Cert.UpWgradRefIdeal.Read.val_main_v5, Cert.UpWgradRefIdeal.Read.val_main_v4, Cert.UpWgradRefIdeal.Read.val_main_v3, Cert.UpWgradRefIdeal.Read.val_main_v1, Cert.UpWgradRefIdeal.Read.val_main_v0]

/-- Where each window's block stands at each point of the grid. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The array that the call leaves is the reference of the arguments. -/
theorem final (c : Dev nD) : (dats m 0 c).arrAt 2 cfg0.N
    = Ref (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [hpay, hzero]) (fun t h j => by rw [outsAt0_B m c t h]; frame_out; rw [hpay])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.UpWgradIdeal.Value

end
-- ==== Proof.OutW.lean ====
/-
The gradient of the output projection in its weights: the blocks that the call adds along the grid are the pieces of
the sums that the rows of the reference's product are.
-/
module

public import proofs.«01_k».proof.Proof.Gen.OutWgradIdeal.Value
public import proofs.«01_k».proof.Proof.Gen.OutWgradRefIdeal.Run
public import proofs.«01_k».proof.Proof.Gen.OutWgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutWgradIdeal.Value

open Cert.OutWgradIdeal Cert.OutWgradIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0] :=
  (by decide +kernel : ∀ t : Fin grid0.N, _)

/-- The grid has eight points. -/
theorem lt_points (t : Fin cfg0.N) : t.val < 8 := Nat.lt_of_lt_of_eq t.isLt N_0

/-- The reference's term for result 0, over the arguments. -/
abbrev Ref0 (X : FVec Ideal S8192x512 .bf16) (Y : FVec Ideal S8192x512 .bf16) (Z : FVec Ideal S8192x1024 .bf16) : FVec Ideal S512x1024 .f32 :=
  Cert.OutWgradRefIdeal.Read.val_main_v8 (F := Ideal) X Y Z

/-- The first fill of result 0 is zero. -/
theorem hzero0 (j) : k0_pay1 (F := Ideal) j = 0 := by pointwise [k0_pay1]

/-- What a point leaves of result 0 is what stood there and the point's part of the sum. -/
theorem hpay0 (acc : FVec Ideal S512x1024 .f32) (x1 : FVec Ideal S1024x1024 .bf16) (x0 : FVec Ideal S1024x512 .bf16) (j) :
    k0_pay3 (F := Ideal) x1 acc x0 j = acc j + ∑ k : Fin 1024, x0 (ix2 k (j 0)) * x1 (ix2 k (j 1)) := by
  pointwise [k0_pay3]

/-- The reference's result 0 at an index. -/
theorem href0 (X : FVec Ideal S8192x512 .bf16) (Y : FVec Ideal S8192x512 .bf16) (Z : FVec Ideal S8192x1024 .bf16) (j) :
    Ref0 X Y Z j = ∑ k : Fin 8192, X (ix2 k (j 0)) * Z (ix2 k (j 1)) := by
  pointwise! [Ref0, Cert.OutWgradRefIdeal.Read.val_main_v8, Cert.OutWgradRefIdeal.Read.val_main_v7, Cert.OutWgradRefIdeal.Read.val_main_v6, Cert.OutWgradRefIdeal.Read.val_main_v5, Cert.OutWgradRefIdeal.Read.val_main_v2, Cert.OutWgradRefIdeal.Read.val_main_v1, Cert.OutWgradRefIdeal.Read.val_main_v0]

/-- Result 0's array, as the call leaves it, is the reference of the arguments. -/
theorem final0 (c : Dev nD) : (dats m 0 c).arrAt 3 cfg0.N
    = Ref0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h).1) 8 (fun _ => 0) _
    (fun t h j => by rw [outsAt0_A m c t h]; frame_out; rw [hpay0, hzero0]) (fun t h j => by rw [outsAt0_B m c t h]; frame_out; rw [hpay0])
    t ((flush0_3 t).mp hf) _, zero_add, href0]
  refine Fin.sum_mul_add_congr fun s k hl => ?_
  have h8 := lt_points t
  blk_point [iblk, V, idx t, idx ⟨_, Pipeline.run_point_lt_of_flush t ((flush0_3 t).mp hf) s⟩]

/-- The reference's term for result 1, over the arguments. -/
abbrev Ref1 (X : FVec Ideal S8192x512 .bf16) (Y : FVec Ideal S8192x512 .bf16) (Z : FVec Ideal S8192x1024 .bf16) : FVec Ideal S512x1024 .f32 :=
  Cert.OutWgradRefIdeal.Read.val_main_v9 (F := Ideal) X Y Z

/-- The first fill of result 1 is zero. -/
theorem hzero1 (j) : k0_pay2 (F := Ideal) j = 0 := by pointwise [k0_pay2]

/-- What a point leaves of result 1 is what stood there and the point's part of the sum. -/
theorem hpay1 (acc : FVec Ideal S512x1024 .f32) (x1 : FVec Ideal S1024x1024 .bf16) (x0 : FVec Ideal S1024x512 .bf16) (j) :
    k0_pay4 (F := Ideal) x1 acc x0 j = acc j + ∑ k : Fin 1024, x0 (ix2 k (j 0)) * x1 (ix2 k (j 1)) := by
  pointwise [k0_pay4]

/-- The reference's result 1 at an index. -/
theorem href1 (X : FVec Ideal S8192x512 .bf16) (Y : FVec Ideal S8192x512 .bf16) (Z : FVec Ideal S8192x1024 .bf16) (j) :
    Ref1 X Y Z j = ∑ k : Fin 8192, Y (ix2 k (j 0)) * Z (ix2 k (j 1)) := by
  pointwise! [Ref1, Cert.OutWgradRefIdeal.Read.val_main_v9, Cert.OutWgradRefIdeal.Read.val_main_v7, Cert.OutWgradRefIdeal.Read.val_main_v6, Cert.OutWgradRefIdeal.Read.val_main_v5, Cert.OutWgradRefIdeal.Read.val_main_v2, Cert.OutWgradRefIdeal.Read.val_main_v1, Cert.OutWgradRefIdeal.Read.val_main_v0]

/-- Result 1's array, as the call leaves it, is the reference of the arguments. -/
theorem final1 (c : Dev nD) : (dats m 0 c).arrAt 4 cfg0.N
    = Ref1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 8 (fun _ => 0) _
    (fun t h j => by rw [outsAt0_A m c t h]; frame_out; rw [hpay1, hzero1]) (fun t h j => by rw [outsAt0_B m c t h]; frame_out; rw [hpay1])
    t ((flush0_4 t).mp hf) _, zero_add, href1]
  refine Fin.sum_mul_add_congr fun s k hl => ?_
  have h8 := lt_points t
  blk_point [iblk, V, idx t, idx ⟨_, Pipeline.run_point_lt_of_flush t ((flush0_4 t).mp hf) s⟩]

end Cert.OutWgradIdeal.Value

end
-- ==== Proof.OutD.lean ====
/-
The gradient of the output projection in its input: the array that the call leaves is, entry by entry, the sum that
the reference's product is.
-/
module

public import proofs.«01_k».proof.Proof.Gen.OutDgradIdeal.Value
public import proofs.«01_k».proof.Proof.Gen.OutDgradRefIdeal.Run
public import proofs.«01_k».proof.Proof.Gen.OutDgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutDgradIdeal.Value

open Cert.OutDgradIdeal Cert.OutDgradIdeal.Gen

variable (m : (ℓ : Loc nD τ sig) → Buf (Elt Ideal) ℓ)

/-- Where each window's block stands at each point of the grid. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The reference's term for the result, over the arguments. -/
abbrev Ref (X : FVec Ideal S8192x1024 .bf16) (W : FVec Ideal S1024x1024 .bf16) : FVec Ideal S8192x1024 .f32 :=
  Cert.OutDgradRefIdeal.Read.val_main_v4 (F := Ideal) X W

/-- What a point stores, at an index of its block, is the reference at the array's index there. -/
theorem point (c : Dev nD) (t : Fin cfg0.N) (y) : k0_pay1 (F := Ideal) (iblk m c 0 t) (iblk m c 1 t) y
    = Ref (m ((c : Thread nD τ).loc main_arg0)) (m ((c : Thread nD τ).loc main_arg1))
        (((cfg0.win 2).blk t).view.emb y) := by
  pointwise [k0_pay1, Ref, Cert.OutDgradRefIdeal.Read.val_main_v4, Cert.OutDgradRefIdeal.Read.val_main_v3, Cert.OutDgradRefIdeal.Read.val_main_v1]
  blk_point [iblk, V, idx t]

/-- The array that the call leaves is the reference of the arguments. -/
theorem final (c : Dev nD) : (dats m 0 c).arrAt 2 cfg0.N
    = Ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutDgradIdeal.Value

end
-- ==== Proof.InW.lean ====
/-
The gradient of the input projection in its weights, transposed: the blocks that the call adds along the grid are the
pieces of the sums that the rows of the reference's product are.
-/
module

public import proofs.«01_k».proof.Proof.Gen.InWgradIdeal.Value
public import proofs.«01_k».proof.Proof.Gen.InWgradRefIdeal.Run
public import proofs.«01_k».proof.Proof.Gen.InWgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InWgradIdeal.Value

open Cert.InWgradIdeal Cert.InWgradIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0] :=
  (by decide +kernel : ∀ t : Fin grid0.N, _)

/-- The grid has eight points. -/
theorem lt_points (t : Fin cfg0.N) : t.val < 8 := Nat.lt_of_lt_of_eq t.isLt N_0

/-- The reference's term for result 0, over the arguments. -/
abbrev Ref0 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S512x1024 .f32 :=
  Cert.InWgradRefIdeal.Read.val_main_v15 (F := Ideal) A0 A1 A2 A3 A4 A5 A6 A7 H

/-- The first fill of result 0 is zero. -/
theorem hzero0 (j) : k0_pay1 (F := Ideal) j = 0 := by pointwise [k0_pay1]

/-- What a point leaves of result 0 is what stood there and the point's part of the sum. -/
theorem hpay0 (acc : FVec Ideal S512x1024 .f32) (x1 : FVec Ideal S1024x1024 .bf16) (x0 : FVec Ideal S1024x512 .bf16) (j) :
    k0_pay9 (F := Ideal) x1 acc x0 j = acc j + ∑ k : Fin 1024, x0 (ix2 k (j 0)) * x1 (ix2 k (j 1)) := by
  pointwise [k0_pay9]

/-- The reference's result 0 at an index. -/
theorem href0 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref0 A0 A1 A2 A3 A4 A5 A6 A7 H j = ∑ k : Fin 8192, A0 (ix2 k (j 0)) * H (ix2 k (j 1)) := by
  pointwise [Ref0, Cert.InWgradRefIdeal.Read.val_main_v15, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]

/-- Result 0's array, as the call leaves it, is the reference of the arguments. -/
theorem final0 (c : Dev nD) : (dats m 0 c).arrAt 9 cfg0.N
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9, Pipeline.eq_sum_fin_of_reset_step_apply_of_flush (fun n h => (outsAt0 m c n h).1) 8 (fun _ => 0) _
    (fun t h j => by rw [outsAt0_A m c t h]; frame_out; rw [hpay0, hzero0]) (fun t h j => by rw [outsAt0_B m c t h]; frame_out; rw [hpay0])
    t ((flush0_9 t).mp hf) _, zero_add, href0]
  refine Fin.sum_mul_add_congr fun s k hl => ?_
  have h8 := lt_points t
  blk_point [iblk, V, idx t, idx ⟨_, Pipeline.run_point_lt_of_flush t ((flush0_9 t).mp hf) s⟩]

/-- The reference's term for result 1, over the arguments. -/
abbrev Ref1 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S512x1024 .f32 :=
  Cert.InWgradRefIdeal.Read.val_main_v16 (F := Ideal) A0 A1 A2 A3 A4 A5 A6 A7 H

/-- The first fill of result 1 is zero. -/
theorem hzero1 (j) : k0_pay2 (F := Ideal) j = 0 := by pointwise [k0_pay2]

/-- What a point leaves of result 1 is what stood there and the point's part of the sum. -/
theorem hpay1 (acc : FVec Ideal S512x1024 .f32) (x1 : FVec Ideal S1024x1024 .bf16) (x0 : FVec Ideal S1024x512 .bf16) (j) :
    k0_pay10 (F := Ideal) x1 acc x0 j = acc j + ∑ k : Fin 1024, x0 (ix2 k (j 0)) * x1 (ix2 k (j 1)) := by
  pointwise [k0_pay10]

/-- The reference's result 1 at an index. -/
theorem href1 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref1 A0 A1 A2 A3 A4 A5 A6 A7 H j = ∑ k : Fin 8192, A1 (ix2 k (j 0)) * H (ix2 k (j 1)) := by
  pointwise [Ref1, Cert.InWgradRefIdeal.Read.val_main_v16, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]

/-- Result 1's array, as the call leaves it, is the reference of the arguments. -/
theorem final1 (c : Dev nD) : (dats m 0 c).arrAt 10 cfg0.N
    = Ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10, Pipeline.eq_sum_fin_of_reset_step_apply_of_flush (fun n h => (outsAt0 m c n h).2.1) 8 (fun _ => 0) _
    (fun t h j => by rw [outsAt0_A m c t h]; frame_out; rw [hpay1, hzero1]) (fun t h j => by rw [outsAt0_B m c t h]; frame_out; rw [hpay1])
    t ((flush0_10 t).mp hf) _, zero_add, href1]
  refine Fin.sum_mul_add_congr fun s k hl => ?_
  have h8 := lt_points t
  blk_point [iblk, V, idx t, idx ⟨_, Pipeline.run_point_lt_of_flush t ((flush0_10 t).mp hf) s⟩]

/-- The reference's term for result 2, over the arguments. -/
abbrev Ref2 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S512x1024 .f32 :=
  Cert.InWgradRefIdeal.Read.val_main_v17 (F := Ideal) A0 A1 A2 A3 A4 A5 A6 A7 H

/-- The first fill of result 2 is zero. -/
theorem hzero2 (j) : k0_pay3 (F := Ideal) j = 0 := by pointwise [k0_pay3]

/-- What a point leaves of result 2 is what stood there and the point's part of the sum. -/
theorem hpay2 (acc : FVec Ideal S512x1024 .f32) (x1 : FVec Ideal S1024x1024 .bf16) (x0 : FVec Ideal S1024x512 .bf16) (j) :
    k0_pay11 (F := Ideal) x1 acc x0 j = acc j + ∑ k : Fin 1024, x0 (ix2 k (j 0)) * x1 (ix2 k (j 1)) := by
  pointwise [k0_pay11]

/-- The reference's result 2 at an index. -/
theorem href2 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref2 A0 A1 A2 A3 A4 A5 A6 A7 H j = ∑ k : Fin 8192, A2 (ix2 k (j 0)) * H (ix2 k (j 1)) := by
  pointwise [Ref2, Cert.InWgradRefIdeal.Read.val_main_v17, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]
  refine Finset.sum_congr rfl fun x _ => ?_
  have hb : (j 0).val < 512 := (j 0).isLt
  rw [dif_neg (by omega), dif_neg (by omega), dif_pos (by omega)]
  exact congrArg (fun q => A2 (ix2 x q) * H (ix2 x (j 1))) (Fin.ext (by dsimp only; omega))

/-- Result 2's array, as the call leaves it, is the reference of the arguments. -/
theorem final2 (c : Dev nD) : (dats m 0 c).arrAt 11 cfg0.N
    = Ref2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11, Pipeline.eq_sum_fin_of_reset_step_apply_of_flush (fun n h => (outsAt0 m c n h).2.2.1) 8 (fun _ => 0) _
    (fun t h j => by rw [outsAt0_A m c t h]; frame_out; rw [hpay2, hzero2]) (fun t h j => by rw [outsAt0_B m c t h]; frame_out; rw [hpay2])
    t ((flush0_11 t).mp hf) _, zero_add, href2]
  refine Fin.sum_mul_add_congr fun s k hl => ?_
  have h8 := lt_points t
  blk_point [iblk, V, idx t, idx ⟨_, Pipeline.run_point_lt_of_flush t ((flush0_11 t).mp hf) s⟩]

/-- The reference's term for result 3, over the arguments. -/
abbrev Ref3 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S256x1024 .f32 :=
  Cert.InWgradRefIdeal.Read.val_main_v18 (F := Ideal) A0 A1 A2 A3 A4 A5 A6 A7 H

/-- The first fill of result 3 is zero. -/
theorem hzero3 (j) : k0_pay4 (F := Ideal) j = 0 := by pointwise [k0_pay4]

/-- What a point leaves of result 3 is what stood there and the point's part of the sum. -/
theorem hpay3 (acc : FVec Ideal S256x1024 .f32) (x1 : FVec Ideal S1024x1024 .bf16) (x0 : FVec Ideal S1024x256 .bf16) (j) :
    k0_pay13 (F := Ideal) x1 (k0_pay12 acc) x0 (constant S256x1024 .f32 0x00000000#32) j = acc j + ∑ k : Fin 1024, x0 (ix2 k (j 0)) * x1 (ix2 k (j 1)) := by
  pointwise [k0_pay13, k0_pay12]

/-- The reference's result 3 at an index. -/
theorem href3 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref3 A0 A1 A2 A3 A4 A5 A6 A7 H j = ∑ k : Fin 8192, A3 (ix2 k (j 0)) * H (ix2 k (j 1)) := by
  pointwise [Ref3, Cert.InWgradRefIdeal.Read.val_main_v18, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]
  refine Finset.sum_congr rfl fun x _ => ?_
  have hb : (j 0).val < 256 := (j 0).isLt
  rw [dif_neg (by omega), dif_neg (by omega), dif_neg (by omega), dif_pos (by omega)]
  exact congrArg (fun q => A3 (ix2 x q) * H (ix2 x (j 1))) (Fin.ext (by dsimp only; omega))

/-- Result 3's array, as the call leaves it, is the reference of the arguments. -/
theorem final3 (c : Dev nD) : (dats m 0 c).arrAt 12 cfg0.N
    = Ref3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12, Pipeline.eq_sum_fin_of_reset_step_apply_of_flush (fun n h => (outsAt0 m c n h).2.2.2.1) 8 (fun _ => 0) _
    (fun t h j => by rw [outsAt0_A m c t h]; frame_out; rw [hpay3, hzero3]) (fun t h j => by rw [outsAt0_B m c t h]; frame_out; rw [hpay3])
    t ((flush0_12 t).mp hf) _, zero_add, href3]
  refine Fin.sum_mul_add_congr fun s k hl => ?_
  have h8 := lt_points t
  blk_point [iblk, V, idx t, idx ⟨_, Pipeline.run_point_lt_of_flush t ((flush0_12 t).mp hf) s⟩]

/-- The reference's term for result 4, over the arguments. -/
abbrev Ref4 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S256x1024 .f32 :=
  Cert.InWgradRefIdeal.Read.val_main_v19 (F := Ideal) A0 A1 A2 A3 A4 A5 A6 A7 H

/-- The first fill of result 4 is zero. -/
theorem hzero4 (j) : k0_pay5 (F := Ideal) j = 0 := by pointwise [k0_pay5]

/-- What a point leaves of result 4 is what stood there and the point's part of the sum. -/
theorem hpay4 (acc : FVec Ideal S256x1024 .f32) (x1 : FVec Ideal S1024x1024 .bf16) (x0 : FVec Ideal S1024x256 .bf16) (j) :
    k0_pay14 (F := Ideal) x1 acc x0 j = acc j + ∑ k : Fin 1024, x0 (ix2 k (j 0)) * x1 (ix2 k (j 1)) := by
  pointwise [k0_pay14]

/-- The reference's result 4 at an index. -/
theorem href4 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref4 A0 A1 A2 A3 A4 A5 A6 A7 H j = ∑ k : Fin 8192, A4 (ix2 k (j 0)) * H (ix2 k (j 1)) := by
  pointwise [Ref4, Cert.InWgradRefIdeal.Read.val_main_v19, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]
  refine Finset.sum_congr rfl fun x _ => ?_
  have hb : (j 0).val < 256 := (j 0).isLt
  rw [dif_neg (by omega), dif_neg (by omega), dif_neg (by omega), dif_neg (by omega), dif_pos (by omega)]
  exact congrArg (fun q => A4 (ix2 x q) * H (ix2 x (j 1))) (Fin.ext (by dsimp only; omega))

/-- Result 4's array, as the call leaves it, is the reference of the arguments. -/
theorem final4 (c : Dev nD) : (dats m 0 c).arrAt 13 cfg0.N
    = Ref4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 8 (fun _ => 0) _
    (fun t h j => by rw [outsAt0_A m c t h]; frame_out; rw [hpay4, hzero4]) (fun t h j => by rw [outsAt0_B m c t h]; frame_out; rw [hpay4])
    t ((flush0_13 t).mp hf) _, zero_add, href4]
  refine Fin.sum_mul_add_congr fun s k hl => ?_
  have h8 := lt_points t
  blk_point [iblk, V, idx t, idx ⟨_, Pipeline.run_point_lt_of_flush t ((flush0_13 t).mp hf) s⟩]

/-- The reference's term for result 5, over the arguments. -/
abbrev Ref5 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S512x1024 .f32 :=
  Cert.InWgradRefIdeal.Read.val_main_v20 (F := Ideal) A0 A1 A2 A3 A4 A5 A6 A7 H

/-- The first fill of result 5 is zero. -/
theorem hzero5 (j) : k0_pay6 (F := Ideal) j = 0 := by pointwise [k0_pay6]

/-- What a point leaves of result 5 is what stood there and the point's part of the sum. -/
theorem hpay5 (acc : FVec Ideal S512x1024 .f32) (x1 : FVec Ideal S1024x1024 .bf16) (x0 : FVec Ideal S1024x512 .bf16) (j) :
    k0_pay15 (F := Ideal) x1 acc x0 j = acc j + ∑ k : Fin 1024, x0 (ix2 k (j 0)) * x1 (ix2 k (j 1)) := by
  pointwise [k0_pay15]

/-- The reference's result 5 at an index. -/
theorem href5 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref5 A0 A1 A2 A3 A4 A5 A6 A7 H j = ∑ k : Fin 8192, A5 (ix2 k (j 0)) * H (ix2 k (j 1)) := by
  pointwise [Ref5, Cert.InWgradRefIdeal.Read.val_main_v20, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]
  refine Finset.sum_congr rfl fun x _ => ?_
  have hb : (j 0).val < 512 := (j 0).isLt
  rw [dif_neg (by omega), dif_neg (by omega), dif_neg (by omega), dif_neg (by omega), dif_neg (by omega), dif_pos (by omega)]
  exact congrArg (fun q => A5 (ix2 x q) * H (ix2 x (j 1))) (Fin.ext (by dsimp only; omega))

/-- Result 5's array, as the call leaves it, is the reference of the arguments. -/
theorem final5 (c : Dev nD) : (dats m 0 c).arrAt 14 cfg0.N
    = Ref5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 8 (fun _ => 0) _
    (fun t h j => by rw [outsAt0_A m c t h]; frame_out; rw [hpay5, hzero5]) (fun t h j => by rw [outsAt0_B m c t h]; frame_out; rw [hpay5])
    t ((flush0_14 t).mp hf) _, zero_add, href5]
  refine Fin.sum_mul_add_congr fun s k hl => ?_
  have h8 := lt_points t
  blk_point [iblk, V, idx t, idx ⟨_, Pipeline.run_point_lt_of_flush t ((flush0_14 t).mp hf) s⟩]

/-- The reference's term for result 6, over the arguments. -/
abbrev Ref6 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S512x1024 .f32 :=
  Cert.InWgradRefIdeal.Read.val_main_v21 (F := Ideal) A0 A1 A2 A3 A4 A5 A6 A7 H

/-- The first fill of result 6 is zero. -/
theorem hzero6 (j) : k0_pay7 (F := Ideal) j = 0 := by pointwise [k0_pay7]

/-- What a point leaves of result 6 is what stood there and the point's part of the sum. -/
theorem hpay6 (acc : FVec Ideal S512x1024 .f32) (x1 : FVec Ideal S1024x1024 .bf16) (x0 : FVec Ideal S1024x512 .bf16) (j) :
    k0_pay16 (F := Ideal) x1 acc x0 j = acc j + ∑ k : Fin 1024, x0 (ix2 k (j 0)) * x1 (ix2 k (j 1)) := by
  pointwise [k0_pay16]

/-- The reference's result 6 at an index. -/
theorem href6 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref6 A0 A1 A2 A3 A4 A5 A6 A7 H j = ∑ k : Fin 8192, A6 (ix2 k (j 0)) * H (ix2 k (j 1)) := by
  pointwise [Ref6, Cert.InWgradRefIdeal.Read.val_main_v21, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]
  refine Finset.sum_congr rfl fun x _ => ?_
  have hb : (j 0).val < 512 := (j 0).isLt
  rw [dif_neg (by omega), dif_neg (by omega), dif_neg (by omega), dif_neg (by omega), dif_neg (by omega), dif_neg (by omega), dif_pos (by omega)]
  exact congrArg (fun q => A6 (ix2 x q) * H (ix2 x (j 1))) (Fin.ext (by dsimp only; omega))

/-- Result 6's array, as the call leaves it, is the reference of the arguments. -/
theorem final6 (c : Dev nD) : (dats m 0 c).arrAt 15 cfg0.N
    = Ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.1) 8 (fun _ => 0) _
    (fun t h j => by rw [outsAt0_A m c t h]; frame_out; rw [hpay6, hzero6]) (fun t h j => by rw [outsAt0_B m c t h]; frame_out; rw [hpay6])
    t ((flush0_15 t).mp hf) _, zero_add, href6]
  refine Fin.sum_mul_add_congr fun s k hl => ?_
  have h8 := lt_points t
  blk_point [iblk, V, idx t, idx ⟨_, Pipeline.run_point_lt_of_flush t ((flush0_15 t).mp hf) s⟩]

/-- The reference's term for result 7, over the arguments. -/
abbrev Ref7 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) : FVec Ideal S128x1024 .f32 :=
  Cert.InWgradRefIdeal.Read.val_main_v22 (F := Ideal) A0 A1 A2 A3 A4 A5 A6 A7 H

/-- The first fill of result 7 is zero. -/
theorem hzero7 (j) : k0_pay8 (F := Ideal) j = 0 := by pointwise [k0_pay8]

/-- What a point leaves of result 7 is what stood there and the point's part of the sum. -/
theorem hpay7 (acc : FVec Ideal S128x1024 .f32) (x1 : FVec Ideal S1024x1024 .bf16) (x0 : FVec Ideal S1024x128 .bf16) (j) :
    k0_pay17 (F := Ideal) x1 acc x0 j = acc j + ∑ k : Fin 1024, x0 (ix2 k (j 0)) * x1 (ix2 k (j 1)) := by
  pointwise [k0_pay17]

/-- The reference's result 7 at an index. -/
theorem href7 (A0 : FVec Ideal S8192x512 .bf16) (A1 : FVec Ideal S8192x512 .bf16) (A2 : FVec Ideal S8192x512 .bf16) (A3 : FVec Ideal S8192x256 .bf16) (A4 : FVec Ideal S8192x256 .bf16) (A5 : FVec Ideal S8192x512 .bf16) (A6 : FVec Ideal S8192x512 .bf16) (A7 : FVec Ideal S8192x128 .bf16) (H : FVec Ideal S8192x1024 .bf16) (j) :
    Ref7 A0 A1 A2 A3 A4 A5 A6 A7 H j = ∑ k : Fin 8192, A7 (ix2 k (j 0)) * H (ix2 k (j 1)) := by
  pointwise [Ref7, Cert.InWgradRefIdeal.Read.val_main_v22, Cert.InWgradRefIdeal.Read.val_main_v14, Cert.InWgradRefIdeal.Read.val_main_v13, Cert.InWgradRefIdeal.Read.val_main_v12, Cert.InWgradRefIdeal.Read.val_main_v11, Cert.InWgradRefIdeal.Read.val_main_v10, Cert.InWgradRefIdeal.Read.val_main_v9, Cert.InWgradRefIdeal.Read.val_main_v8, Cert.InWgradRefIdeal.Read.val_main_v7, Cert.InWgradRefIdeal.Read.val_main_v6, Cert.InWgradRefIdeal.Read.val_main_v5, Cert.InWgradRefIdeal.Read.val_main_v4, Cert.InWgradRefIdeal.Read.val_main_v3, Cert.InWgradRefIdeal.Read.val_main_v1]
  refine Finset.sum_congr rfl fun x _ => ?_
  have hb : (j 0).val < 128 := (j 0).isLt
  rw [dif_neg (by omega), dif_neg (by omega), dif_neg (by omega), dif_neg (by omega), dif_neg (by omega), dif_neg (by omega), dif_neg (by omega)]
  exact congrArg (fun q => A7 (ix2 x q) * H (ix2 x (j 1))) (Fin.ext (by dsimp only; omega))

/-- Result 7's array, as the call leaves it, is the reference of the arguments. -/
theorem final7 (c : Dev nD) : (dats m 0 c).arrAt 16 cfg0.N
    = Ref7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.2) 8 (fun _ => 0) _
    (fun t h j => by rw [outsAt0_A m c t h]; frame_out; rw [hpay7, hzero7]) (fun t h j => by rw [outsAt0_B m c t h]; frame_out; rw [hpay7])
    t ((flush0_16 t).mp hf) _, zero_add, href7]
  refine Fin.sum_mul_add_congr fun s k hl => ?_
  have h8 := lt_points t
  blk_point [iblk, V, idx t, idx ⟨_, Pipeline.run_point_lt_of_flush t ((flush0_16 t).mp hf) s⟩]

end Cert.InWgradIdeal.Value

end
-- ==== Proof.InP.lean ====
/-
The input projection: the array that the call leaves is, entry by entry, the sum that the reference's product is.
-/
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's term for the result, over the arguments. -/
abbrev Ref (X : FVec Ideal S8192x1024 .bf16) (W : FVec Ideal S3200x1024 .bf16) : FVec Ideal S8192x3200 .f32 :=
  Cert.InProjRefIdeal.Read.val_main_v3 (F := Ideal) X W

/-- What a point stores, at an index of its block, is the reference at the array's index there. -/
theorem point (c : Dev nD) (t : Fin cfg0.N) (y) : k0_pay1 (F := Ideal) (iblk m c 0 t) (iblk m c 1 t) y
    = Ref (m ((c : Thread nD τ).loc main_arg0)) (m ((c : Thread nD τ).loc main_arg1))
        (((cfg0.win 2).blk t).view.emb y) := by
  pointwise [k0_pay1, Ref, Cert.InProjRefIdeal.Read.val_main_v3, Cert.InProjRefIdeal.Read.val_main_v2, Cert.InProjRefIdeal.Read.val_main_v1, Cert.InProjRefIdeal.Read.val_main_v0]
  blk_point [iblk, V, idx t]

/-- The array that the call leaves is the reference of the arguments. -/
theorem final (c : Dev nD) : (dats m 0 c).arrAt 2 cfg0.N
    = Ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProjIdeal.Value

end
-- ==== Proof.UpP.lean ====
/-
The up projection: each of the two arrays that the call leaves is a half of the columns of the reference's product.
-/
module

public import proofs.«01_k».proof.Proof.Gen.UpProjIdeal.Value
public import proofs.«01_k».proof.Proof.Gen.UpProjRefIdeal.Run
public import proofs.«01_k».proof.Proof.Gen.UpProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpProjIdeal.Value

open Cert.UpProjIdeal Cert.UpProjIdeal.Gen

variable (m : (ℓ : Loc nD τ sig) → Buf (Elt Ideal) ℓ)

/-- Where each window's block stands at each point of the grid. -/
theorem idx : ∀ t : Fin cfg0.N, win0_0.index t = ![t.val % 8, 0]
    ∧ win0_1.index t = ![t.val / 8, 0]
    ∧ win0_2.index t = ![2 + t.val / 8, 0]
    ∧ win0_3.index t = ![t.val % 8, t.val / 8]
    ∧ win0_4.index t = ![t.val % 8, t.val / 8] :=
  (by decide +kernel : ∀ t : Fin grid0.N, _)

/-- The reference's term for the first result, over the arguments. -/
abbrev Ref0 (X : FVec Ideal S8192x1024 .bf16) (W : FVec Ideal S5632x1024 .bf16) : FVec Ideal S8192x2816 .f32 :=
  Cert.UpProjRefIdeal.Read.val_main_v4 (F := Ideal) X W

/-- What a point stores, at an index of its block, is the reference at the array's index there. -/
theorem point0 (c : Dev nD) (t : Fin cfg0.N) (y) : k0_pay1 (F := Ideal) (iblk m c 0 t) (iblk m c 1 t) y
    = Ref0 (m ((c : Thread nD τ).loc main_arg0)) (m ((c : Thread nD τ).loc main_arg1))
        (((cfg0.win 3).blk t).view.emb y) := by
  pointwise [k0_pay1, Ref0, Cert.UpProjRefIdeal.Read.val_main_v4, Cert.UpProjRefIdeal.Read.val_main_v3, Cert.UpProjRefIdeal.Read.val_main_v2, Cert.UpProjRefIdeal.Read.val_main_v1, Cert.UpProjRefIdeal.Read.val_main_v0]
  blk_point [iblk, V, idx t]

/-- The array that the call leaves is the reference of the arguments. -/
theorem final0 (c : Dev nD) : (dats m 0 c).arrAt 3 cfg0.N
    = Ref0 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point0 m c t y

/-- The reference's term for the second result, over the arguments. -/
abbrev Ref1 (X : FVec Ideal S8192x1024 .bf16) (W : FVec Ideal S5632x1024 .bf16) : FVec Ideal S8192x2816 .f32 :=
  Cert.UpProjRefIdeal.Read.val_main_v5 (F := Ideal) X W

/-- What a point stores, at an index of its block, is the reference at the array's index there. -/
theorem point1 (c : Dev nD) (t : Fin cfg0.N) (y) : k0_pay2 (F := Ideal) (iblk m c 0 t) (iblk m c 2 t) y
    = Ref1 (m ((c : Thread nD τ).loc main_arg0)) (m ((c : Thread nD τ).loc main_arg1))
        (((cfg0.win 4).blk t).view.emb y) := by
  pointwise [k0_pay2, Ref1, Cert.UpProjRefIdeal.Read.val_main_v5, Cert.UpProjRefIdeal.Read.val_main_v3, Cert.UpProjRefIdeal.Read.val_main_v2, Cert.UpProjRefIdeal.Read.val_main_v1, Cert.UpProjRefIdeal.Read.val_main_v0]
  blk_point [iblk, V, idx t]

/-- The array that the call leaves is the reference of the arguments. -/
theorem final1 (c : Dev nD) : (dats m 0 c).arrAt 4 cfg0.N
    = Ref1 (m ((c : Thread nD τ).loc main_arg0)) (m ((c : Thread nD τ).loc main_arg1)) := by
  refine (dats m 0 c).arrAt_eq_of_covers 4 _ (by decide +kernel) fun t _ y => ?_
  blk_simp
  rw [after0_4]; frame_out
  exact point1 m c t y

end Cert.UpProjIdeal.Value

end
-- ==== Proof.DownP.lean ====
/-
The down projection: the array that the call leaves is, entry by entry, the sum that the reference's product is.
-/
module

public import proofs.«01_k».proof.Proof.Gen.DownProjIdeal.Value
public import proofs.«01_k».proof.Proof.Gen.DownProjRefIdeal.Run
public import proofs.«01_k».proof.Proof.Gen.DownProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownProjIdeal.Value

open Cert.DownProjIdeal Cert.DownProjIdeal.Gen

variable (m : (ℓ : Loc nD τ sig) → Buf (Elt Ideal) ℓ)

/-- Where each window's block stands at each point of the grid. -/
theorem idx : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-- The reference's term for the result, over the arguments. -/
abbrev Ref (X : FVec Ideal S8192x2816 .bf16) (W : FVec Ideal S2816x1024 .bf16) : FVec Ideal S8192x1024 .f32 :=
  Cert.DownProjRefIdeal.Read.val_main_v2 (F := Ideal) X W

/-- What a point stores, at an index of its block, is the reference at the array's index there. -/
theorem point (c : Dev nD) (t : Fin cfg0.N) (y) : k0_pay1 (F := Ideal) (iblk m c 0 t) (iblk m c 1 t) y
    = Ref (m ((c : Thread nD τ).loc main_arg0)) (m ((c : Thread nD τ).loc main_arg1))
        (((cfg0.win 2).blk t).view.emb y) := by
  pointwise [k0_pay1, Ref, Cert.DownProjRefIdeal.Read.val_main_v2, Cert.DownProjRefIdeal.Read.val_main_v1, Cert.DownProjRefIdeal.Read.val_main_v0]
  blk_point [iblk, V, idx t]

/-- The array that the call leaves is the reference of the arguments. -/
theorem final (c : Dev nD) : (dats m 0 c).arrAt 2 cfg0.N
    = Ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownProjIdeal.Value

end
-- ==== Proof.OutP.lean ====
/-
The output projection: the two partial products that the call adds are the halves of the sum that the reference's
product over the joined columns is.
-/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- Where each window's block stands at each point of the grid. -/
theorem idx : ∀ t : Fin cfg0.N, win0_0.index t = ![t.val % 8, 0]
    ∧ win0_1.index t = ![t.val % 8, 0]
    ∧ win0_2.index t = ![0, t.val / 8]
    ∧ win0_3.index t = ![1, t.val / 8]
    ∧ win0_4.index t = ![t.val % 8, t.val / 8] :=
  (by decide +kernel : ∀ t : Fin grid0.N, _)

/-- The reference's term for the result, over the arguments. -/
abbrev Ref (X : FVec Ideal S8192x512 .bf16) (Y : FVec Ideal S8192x512 .bf16) (W : FVec Ideal S1024x1024 .bf16) : FVec Ideal S8192x1024 .f32 :=
  Cert.OutProjRefIdeal.Read.val_main_v4 (F := Ideal) X Y W

/-- What a point stores, at an index of its block, is the reference at the array's index there. -/
theorem point (c : Dev nD) (t : Fin cfg0.N) (y) : k0_pay1 (F := Ideal) (iblk m c 0 t) (iblk m c 2 t) (iblk m c 1 t) (iblk m c 3 t) y
    = Ref (m ((c : Thread nD τ).loc main_arg0)) (m ((c : Thread nD τ).loc main_arg1)) (m ((c : Thread nD τ).loc main_arg2))
        (((cfg0.win 4).blk t).view.emb y) := by
  pointwise [k0_pay1, Ref, Cert.OutProjRefIdeal.Read.val_main_v4, Cert.OutProjRefIdeal.Read.val_main_v3, Cert.OutProjRefIdeal.Read.val_main_v2, Cert.OutProjRefIdeal.Read.val_main_v1, Cert.OutProjRefIdeal.Read.val_main_v0]
  blk_point [iblk, V, idx t]

/-- The array that the call leaves is the reference of the arguments. -/
theorem final (c : Dev nD) : (dats m 0 c).arrAt 4 cfg0.N
    = Ref (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.OutProjIdeal.Value

end
-- ==== Proof.Calls.lean ====
/-
The statements about the calls of the step that are one product each: frames, and the equality of the call's results
with the reference's over any arguments.
-/
module

public import proofs.«01_k».proof.Defs
public import proofs.«01_k».proof.Proof.Gen.UpDgrad.Frame
public import proofs.«01_k».proof.Proof.Gen.UpDgradIdeal.Frame
public import proofs.«01_k».proof.Proof.UpD
public import proofs.«01_k».proof.Proof.Gen.DownWgrad.Frame
public import proofs.«01_k».proof.Proof.Gen.DownWgradIdeal.Frame
public import proofs.«01_k».proof.Proof.DownW
public import proofs.«01_k».proof.Proof.Gen.DownDgrad.Frame
public import proofs.«01_k».proof.Proof.Gen.DownDgradIdeal.Frame
public import proofs.«01_k».proof.Proof.DownD
public import proofs.«01_k».proof.Proof.Gen.UpWgrad.Frame
public import proofs.«01_k».proof.Proof.Gen.UpWgradIdeal.Frame
public import proofs.«01_k».proof.Proof.UpW
public import proofs.«01_k».proof.Proof.Gen.OutWgrad.Frame
public import proofs.«01_k».proof.Proof.Gen.OutWgradIdeal.Frame
public import proofs.«01_k».proof.Proof.OutW
public import proofs.«01_k».proof.Proof.Gen.OutDgrad.Frame
public import proofs.«01_k».proof.Proof.Gen.OutDgradIdeal.Frame
public import proofs.«01_k».proof.Proof.OutD
public import proofs.«01_k».proof.Proof.Gen.InWgrad.Frame
public import proofs.«01_k».proof.Proof.Gen.InWgradIdeal.Frame
public import proofs.«01_k».proof.Proof.InW
public import proofs.«01_k».proof.Proof.Gen.InProj.Frame
public import proofs.«01_k».proof.Proof.Gen.InProjIdeal.Frame
public import proofs.«01_k».proof.Proof.InP
public import proofs.«01_k».proof.Proof.Gen.UpProj.Frame
public import proofs.«01_k».proof.Proof.Gen.UpProjIdeal.Frame
public import proofs.«01_k».proof.Proof.UpP
public import proofs.«01_k».proof.Proof.Gen.DownProj.Frame
public import proofs.«01_k».proof.Proof.Gen.DownProjIdeal.Frame
public import proofs.«01_k».proof.Proof.DownP
public import proofs.«01_k».proof.Proof.Gen.OutProj.Frame
public import proofs.«01_k».proof.Proof.Gen.OutProjIdeal.Frame
public import proofs.«01_k».proof.Proof.OutP
public import Idealize.ShloMosaic.Adequacy
public import Idealize.ShloMosaic.Init

@[expose] public section

set_option maxRecDepth 16384

noncomputable section

namespace Cert.Calls

open Idealize.ShloMosaic Idealize.ShloMosaic.TcCoe Idealize.SL.Sem

/-- `UpDgradRef`'s frame: its run read at the arguments; it declares no semaphore. -/
theorem frame_UpDgradRef : Cert.quiescent_UpDgradRefIdeal := by
  intro m g _
  exact (θ_run (Cert.UpDgradRefIdeal.defs (F := Ideal)) _ _).mono
    (fun r h => ⟨fun c => (h c).2, sem_eq_zero_of_no_sems (by decide) r.2⟩) (Cert.UpDgradRefIdeal.Value.run m g)

/-- `UpDgrad`'s results are its reference's. -/
theorem equal_UpDgrad : Cert.algebraic_UpDgradIdeal_UpDgradRefIdeal := by
  intro m g m' g' _ ha
  refine ⟨fun c => Cert.UpDgradIdeal.Value.Ref (m ((c.tc : Thread Cert.UpDgradIdeal.nD Cert.UpDgradIdeal.τ).loc Cert.UpDgradIdeal.main_arg0)) (m ((c.tc : Thread Cert.UpDgradIdeal.nD Cert.UpDgradIdeal.τ).loc Cert.UpDgradIdeal.main_arg1)) (m ((c.tc : Thread Cert.UpDgradIdeal.nD Cert.UpDgradIdeal.τ).loc Cert.UpDgradIdeal.main_arg2)),
    (θ_run (Cert.UpDgradIdeal.defs (F := Ideal)) _ _).mono
      (fun r h c => ⟨(h c).1.trans (Cert.UpDgradIdeal.Value.final m c), (h c).2⟩)
      (Cert.UpDgradIdeal.Value.run_blocks m g),
    (θ_run (Cert.UpDgradRefIdeal.defs (F := Ideal)) _ _).mono
      (fun r h c => ⟨(h c).1.trans (by rw [(ha c).1, (ha c).2.1, (ha c).2.2]; exact Cert.UpDgradRefIdeal.Read.val_main_v7_eq (F := Ideal) (m ((c.tc : Thread Cert.UpDgradIdeal.nD Cert.UpDgradIdeal.τ).loc Cert.UpDgradIdeal.main_arg0)) (m ((c.tc : Thread Cert.UpDgradIdeal.nD Cert.UpDgradIdeal.τ).loc Cert.UpDgradIdeal.main_arg1)) (m ((c.tc : Thread Cert.UpDgradIdeal.nD Cert.UpDgradIdeal.τ).loc Cert.UpDgradIdeal.main_arg2))), (h c).2⟩)
      (Cert.UpDgradRefIdeal.Value.run m' g')⟩

/-- `DownWgradRef`'s frame: its run read at the arguments; it declares no semaphore. -/
theorem frame_DownWgradRef : Cert.quiescent_DownWgradRefIdeal := by
  intro m g _
  exact (θ_run (Cert.DownWgradRefIdeal.defs (F := Ideal)) _ _).mono
    (fun r h => ⟨fun c => (h c).2, sem_eq_zero_of_no_sems (by decide) r.2⟩) (Cert.DownWgradRefIdeal.Value.run m g)

/-- `DownWgrad`'s results are its reference's. -/
theorem equal_DownWgrad : Cert.algebraic_DownWgradIdeal_DownWgradRefIdeal := by
  intro m g m' g' _ ha
  refine ⟨fun c => Cert.DownWgradIdeal.Value.Ref (m ((c.tc : Thread Cert.DownWgradIdeal.nD Cert.DownWgradIdeal.τ).loc Cert.DownWgradIdeal.main_arg0)) (m ((c.tc : Thread Cert.DownWgradIdeal.nD Cert.DownWgradIdeal.τ).loc Cert.DownWgradIdeal.main_arg1)),
    (θ_run (Cert.DownWgradIdeal.defs (F := Ideal)) _ _).mono
      (fun r h c => ⟨(h c).1.trans (Cert.DownWgradIdeal.Value.final m c), (h c).2⟩)
      (Cert.DownWgradIdeal.Value.run_blocks m g),
    (θ_run (Cert.DownWgradRefIdeal.defs (F := Ideal)) _ _).mono
      (fun r h c => ⟨(h c).1.trans (by rw [(ha c).1, (ha c).2]; exact Cert.DownWgradRefIdeal.Read.val_main_v5_eq (F := Ideal) (m ((c.tc : Thread Cert.DownWgradIdeal.nD Cert.DownWgradIdeal.τ).loc Cert.DownWgradIdeal.main_arg0)) (m ((c.tc : Thread Cert.DownWgradIdeal.nD Cert.DownWgradIdeal.τ).loc Cert.DownWgradIdeal.main_arg1))), (h c).2⟩)
      (Cert.DownWgradRefIdeal.Value.run m' g')⟩

/-- `DownDgradRef`'s frame: its run read at the arguments; it declares no semaphore. -/
theorem frame_DownDgradRef : Cert.quiescent_DownDgradRefIdeal := by
  intro m g _
  exact (θ_run (Cert.DownDgradRefIdeal.defs (F := Ideal)) _ _).mono
    (fun r h => ⟨fun c => (h c).2, sem_eq_zero_of_no_sems (by decide) r.2⟩) (Cert.DownDgradRefIdeal.Value.run m g)

/-- `DownDgrad`'s results are its reference's. -/
theorem equal_DownDgrad : Cert.algebraic_DownDgradIdeal_DownDgradRefIdeal := by
  intro m g m' g' _ ha
  refine ⟨fun c => Cert.DownDgradIdeal.Value.Ref (m ((c.tc : Thread Cert.DownDgradIdeal.nD Cert.DownDgradIdeal.τ).loc Cert.DownDgradIdeal.main_arg0)) (m ((c.tc : Thread Cert.DownDgradIdeal.nD Cert.DownDgradIdeal.τ).loc Cert.DownDgradIdeal.main_arg1)),
    (θ_run (Cert.DownDgradIdeal.defs (F := Ideal)) _ _).mono
      (fun r h c => ⟨(h c).1.trans (Cert.DownDgradIdeal.Value.final m c), (h c).2⟩)
      (Cert.DownDgradIdeal.Value.run_blocks m g),
    (θ_run (Cert.DownDgradRefIdeal.defs (F := Ideal)) _ _).mono
      (fun r h c => ⟨(h c).1.trans (by rw [(ha c).1, (ha c).2]; exact Cert.DownDgradRefIdeal.Read.val_main_v4_eq (F := Ideal) (m ((c.tc : Thread Cert.DownDgradIdeal.nD Cert.DownDgradIdeal.τ).loc Cert.DownDgradIdeal.main_arg0)) (m ((c.tc : Thread Cert.DownDgradIdeal.nD Cert.DownDgradIdeal.τ).loc Cert.DownDgradIdeal.main_arg1))), (h c).2⟩)
      (Cert.DownDgradRefIdeal.Value.run m' g')⟩

/-- `UpWgradRef`'s frame: its run read at the arguments; it declares no semaphore. -/
theorem frame_UpWgradRef : Cert.quiescent_UpWgradRefIdeal := by
  intro m g _
  exact (θ_run (Cert.UpWgradRefIdeal.defs (F := Ideal)) _ _).mono
    (fun r h => ⟨fun c => (h c).2, sem_eq_zero_of_no_sems (by decide) r.2⟩) (Cert.UpWgradRefIdeal.Value.run m g)

/-- `UpWgrad`'s results are its reference's. -/
theorem equal_UpWgrad : Cert.algebraic_UpWgradIdeal_UpWgradRefIdeal := by
  intro m g m' g' _ ha
  refine ⟨fun c => Cert.UpWgradIdeal.Value.Ref (m ((c.tc : Thread Cert.UpWgradIdeal.nD Cert.UpWgradIdeal.τ).loc Cert.UpWgradIdeal.main_arg0)) (m ((c.tc : Thread Cert.UpWgradIdeal.nD Cert.UpWgradIdeal.τ).loc Cert.UpWgradIdeal.main_arg1)),
    (θ_run (Cert.UpWgradIdeal.defs (F := Ideal)) _ _).mono
      (fun r h c => ⟨(h c).1.trans (Cert.UpWgradIdeal.Value.final m c), (h c).2⟩)
      (Cert.UpWgradIdeal.Value.run_blocks m g),
    (θ_run (Cert.UpWgradRefIdeal.defs (F := Ideal)) _ _).mono
      (fun r h c => ⟨(h c).1.trans (by rw [(ha c).1, (ha c).2]; exact Cert.UpWgradRefIdeal.Read.val_main_v6_eq (F := Ideal) (m ((c.tc : Thread Cert.UpWgradIdeal.nD Cert.UpWgradIdeal.τ).loc Cert.UpWgradIdeal.main_arg0)) (m ((c.tc : Thread Cert.UpWgradIdeal.nD Cert.UpWgradIdeal.τ).loc Cert.UpWgradIdeal.main_arg1))), (h c).2⟩)
      (Cert.UpWgradRefIdeal.Value.run m' g')⟩

/-- `OutWgradRef`'s frame: its run read at the arguments; it declares no semaphore. -/
theorem frame_OutWgradRef : Cert.quiescent_OutWgradRefIdeal := by
  intro m g _
  exact (θ_run (Cert.OutWgradRefIdeal.defs (F := Ideal)) _ _).mono
    (fun r h => ⟨fun c => (h c).2.2, sem_eq_zero_of_no_sems (by decide) r.2⟩) (Cert.OutWgradRefIdeal.Value.run m g)

/-- `OutWgrad`'s results are its reference's. -/
theorem equal_OutWgrad : Cert.algebraic_OutWgradIdeal_OutWgradRefIdeal := by
  intro m g m' g' _ ha
  refine ⟨fun c => Cert.OutWgradIdeal.Value.Ref0 (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2)),
    fun c => Cert.OutWgradIdeal.Value.Ref1 (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2)),
    (θ_run (Cert.OutWgradIdeal.defs (F := Ideal)) _ _).mono
      (fun r h c => ⟨(h c).1.trans (Cert.OutWgradIdeal.Value.final0 m c), (h c).2.1.trans (Cert.OutWgradIdeal.Value.final1 m c), (h c).2.2⟩)
      (Cert.OutWgradIdeal.Value.run_blocks m g),
    (θ_run (Cert.OutWgradRefIdeal.defs (F := Ideal)) _ _).mono
      (fun r h c => ⟨(h c).1.trans (by rw [(ha c).1, (ha c).2.1, (ha c).2.2]; exact Cert.OutWgradRefIdeal.Read.val_main_v8_eq (F := Ideal) (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2))), (h c).2.1.trans (by rw [(ha c).1, (ha c).2.1, (ha c).2.2]; exact Cert.OutWgradRefIdeal.Read.val_main_v9_eq (F := Ideal) (m ((c.tc : Thread Cert.OutWgradIdeal.nD Cert.OutWgradIdeal.τ).loc Cert.OutWgradIdeal.main_arg0)) (m ((c.tc : Thread Cert.OutWgradIdeal.nD Cert.OutWgradIdeal.τ).loc Cert.OutWgradIdeal.main_arg1)) (m ((c.tc : Thread Cert.OutWgradIdeal.nD Cert.OutWgradIdeal.τ).loc Cert.OutWgradIdeal.main_arg2))), (h c).2.2⟩)
      (Cert.OutWgradRefIdeal.Value.run m' g')⟩

/-- `OutDgradRef`'s frame: its run read at the arguments; it declares no semaphore. -/
theorem frame_OutDgradRef : Cert.quiescent_OutDgradRefIdeal := by
  intro m g _
  exact (θ_run (Cert.OutDgradRefIdeal.defs (F := Ideal)) _ _).mono
    (fun r h => ⟨fun c => (h c).2, sem_eq_zero_of_no_sems (by decide) r.2⟩) (Cert.OutDgradRefIdeal.Value.run m g)

/-- `OutDgrad`'s results are its reference's. -/
theorem equal_OutDgrad : Cert.algebraic_OutDgradIdeal_OutDgradRefIdeal := by
  intro m g m' g' _ ha
  refine ⟨fun c => Cert.OutDgradIdeal.Value.Ref (m ((c.tc : Thread Cert.OutDgradIdeal.nD Cert.OutDgradIdeal.τ).loc Cert.OutDgradIdeal.main_arg0)) (m ((c.tc : Thread Cert.OutDgradIdeal.nD Cert.OutDgradIdeal.τ).loc Cert.OutDgradIdeal.main_arg1)),
    (θ_run (Cert.OutDgradIdeal.defs (F := Ideal)) _ _).mono
      (fun r h c => ⟨(h c).1.trans (Cert.OutDgradIdeal.Value.final m c), (h c).2⟩)
      (Cert.OutDgradIdeal.Value.run_blocks m g),
    (θ_run (Cert.OutDgradRefIdeal.defs (F := Ideal)) _ _).mono
      (fun r h c => ⟨(h c).1.trans (by rw [(ha c).1, (ha c).2]; exact Cert.OutDgradRefIdeal.Read.val_main_v4_eq (F := Ideal) (m ((c.tc : Thread Cert.OutDgradIdeal.nD Cert.OutDgradIdeal.τ).loc Cert.OutDgradIdeal.main_arg0)) (m ((c.tc : Thread Cert.OutDgradIdeal.nD Cert.OutDgradIdeal.τ).loc Cert.OutDgradIdeal.main_arg1))), (h c).2⟩)
      (Cert.OutDgradRefIdeal.Value.run m' g')⟩

/-- `InWgradRef`'s frame: its run read at the arguments; it declares no semaphore. -/
theorem frame_InWgradRef : Cert.quiescent_InWgradRefIdeal := by
  intro m g _
  exact (θ_run (Cert.InWgradRefIdeal.defs (F := Ideal)) _ _).mono
    (fun r h => ⟨fun c => (h c).2.2.2.2.2.2.2.2, sem_eq_zero_of_no_sems (by decide) r.2⟩) (Cert.InWgradRefIdeal.Value.run m g)

set_option maxHeartbeats 1600000 in
/-- `InWgrad`'s results are its reference's. -/
theorem equal_InWgrad : Cert.algebraic_InWgradIdeal_InWgradRefIdeal := by
  intro m g m' g' _ ha
  refine ⟨fun c => Cert.InWgradIdeal.Value.Ref0 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref1 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref2 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref3 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref4 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref5 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref6 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    fun c => Cert.InWgradIdeal.Value.Ref7 (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8)),
    (θ_run (Cert.InWgradIdeal.defs (F := Ideal)) _ _).mono
      (fun r h c => ⟨(h c).1.trans (Cert.InWgradIdeal.Value.final0 m c), (h c).2.1.trans (Cert.InWgradIdeal.Value.final1 m c), (h c).2.2.1.trans (Cert.InWgradIdeal.Value.final2 m c), (h c).2.2.2.1.trans (Cert.InWgradIdeal.Value.final3 m c), (h c).2.2.2.2.1.trans (Cert.InWgradIdeal.Value.final4 m c), (h c).2.2.2.2.2.1.trans (Cert.InWgradIdeal.Value.final5 m c), (h c).2.2.2.2.2.2.1.trans (Cert.InWgradIdeal.Value.final6 m c), (h c).2.2.2.2.2.2.2.1.trans (Cert.InWgradIdeal.Value.final7 m c), (h c).2.2.2.2.2.2.2.2⟩)
      (Cert.InWgradIdeal.Value.run_blocks m g),
    (θ_run (Cert.InWgradRefIdeal.defs (F := Ideal)) _ _).mono
      (fun r h c => ⟨(h c).1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v15_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v16_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v17_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v18_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.2.2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v19_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.2.2.2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v20_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.2.2.2.2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v21_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.2.2.2.2.2.1.trans (by rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]; exact Cert.InWgradRefIdeal.Read.val_main_v22_eq (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg1)) (m ((c.tc : Thread Cert.InWgradIdeal.nD Cert.InWgradIdeal.τ).loc Cert.InWgradIdeal.main_arg2)) (m ((c.tc : Thread Cert.InWgradIdeal.nD Cert.InWgradIdeal.τ).loc Cert.InWgradIdeal.main_arg3)) (m ((c.tc : Thread Cert.InWgradIdeal.nD Cert.InWgradIdeal.τ).loc Cert.InWgradIdeal.main_arg4)) (m ((c.tc : Thread Cert.InWgradIdeal.nD Cert.InWgradIdeal.τ).loc Cert.InWgradIdeal.main_arg5)) (m ((c.tc : Thread Cert.InWgradIdeal.nD Cert.InWgradIdeal.τ).loc Cert.InWgradIdeal.main_arg6)) (m ((c.tc : Thread Cert.InWgradIdeal.nD Cert.InWgradIdeal.τ).loc Cert.InWgradIdeal.main_arg7)) (m ((c.tc : Thread Cert.InWgradIdeal.nD Cert.InWgradIdeal.τ).loc Cert.InWgradIdeal.main_arg8))), (h c).2.2.2.2.2.2.2.2⟩)
      (Cert.InWgradRefIdeal.Value.run m' g')⟩

/-- `InProjRef`'s frame: its run read at the arguments; it declares no semaphore. -/
theorem frame_InProjRef : Cert.quiescent_InProjRefIdeal := by
  intro m g _
  exact (θ_run (Cert.InProjRefIdeal.defs (F := Ideal)) _ _).mono
    (fun r h => ⟨fun c => (h c).2, sem_eq_zero_of_no_sems (by decide) r.2⟩) (Cert.InProjRefIdeal.Value.run m g)

/-- `InProj`'s results are its reference's. -/
theorem equal_InProj : Cert.algebraic_InProjIdeal_InProjRefIdeal := by
  intro m g m' g' _ ha
  refine ⟨fun c => Cert.InProjIdeal.Value.Ref (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    (θ_run (Cert.InProjIdeal.defs (F := Ideal)) _ _).mono
      (fun r h c => ⟨(h c).1.trans (Cert.InProjIdeal.Value.final m c), (h c).2⟩)
      (Cert.InProjIdeal.Value.run_blocks m g),
    (θ_run (Cert.InProjRefIdeal.defs (F := Ideal)) _ _).mono
      (fun r h c => ⟨(h c).1.trans (by rw [(ha c).1, (ha c).2]; exact Cert.InProjRefIdeal.Read.val_main_v3_eq (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1))), (h c).2⟩)
      (Cert.InProjRefIdeal.Value.run m' g')⟩

/-- `UpProjRef`'s frame: its run read at the arguments; it declares no semaphore. -/
theorem frame_UpProjRef : Cert.quiescent_UpProjRefIdeal := by
  intro m g _
  exact (θ_run (Cert.UpProjRefIdeal.defs (F := Ideal)) _ _).mono
    (fun r h => ⟨fun c => (h c).2.2, sem_eq_zero_of_no_sems (by decide) r.2⟩) (Cert.UpProjRefIdeal.Value.run m g)

/-- `UpProj`'s results are its reference's. -/
theorem equal_UpProj : Cert.algebraic_UpProjIdeal_UpProjRefIdeal := by
  intro m g m' g' _ ha
  refine ⟨fun c => Cert.UpProjIdeal.Value.Ref0 (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)),
    fun c => Cert.UpProjIdeal.Value.Ref1 (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)),
    (θ_run (Cert.UpProjIdeal.defs (F := Ideal)) _ _).mono
      (fun r h c => ⟨(h c).1.trans (Cert.UpProjIdeal.Value.final0 m c), (h c).2.1.trans (Cert.UpProjIdeal.Value.final1 m c), (h c).2.2⟩)
      (Cert.UpProjIdeal.Value.run_blocks m g),
    (θ_run (Cert.UpProjRefIdeal.defs (F := Ideal)) _ _).mono
      (fun r h c => ⟨(h c).1.trans (by rw [(ha c).1, (ha c).2]; exact Cert.UpProjRefIdeal.Read.val_main_v4_eq (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1))), (h c).2.1.trans (by rw [(ha c).1, (ha c).2]; exact Cert.UpProjRefIdeal.Read.val_main_v5_eq (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1))), (h c).2.2⟩)
      (Cert.UpProjRefIdeal.Value.run m' g')⟩

/-- `DownProjRef`'s frame: its run read at the arguments; it declares no semaphore. -/
theorem frame_DownProjRef : Cert.quiescent_DownProjRefIdeal := by
  intro m g _
  exact (θ_run (Cert.DownProjRefIdeal.defs (F := Ideal)) _ _).mono
    (fun r h => ⟨fun c => (h c).2, sem_eq_zero_of_no_sems (by decide) r.2⟩) (Cert.DownProjRefIdeal.Value.run m g)

/-- `DownProj`'s results are its reference's. -/
theorem equal_DownProj : Cert.algebraic_DownProjIdeal_DownProjRefIdeal := by
  intro m g m' g' _ ha
  refine ⟨fun c => Cert.DownProjIdeal.Value.Ref (m ((c.tc : Thread Cert.DownProjIdeal.nD Cert.DownProjIdeal.τ).loc Cert.DownProjIdeal.main_arg0)) (m ((c.tc : Thread Cert.DownProjIdeal.nD Cert.DownProjIdeal.τ).loc Cert.DownProjIdeal.main_arg1)),
    (θ_run (Cert.DownProjIdeal.defs (F := Ideal)) _ _).mono
      (fun r h c => ⟨(h c).1.trans (Cert.DownProjIdeal.Value.final m c), (h c).2⟩)
      (Cert.DownProjIdeal.Value.run_blocks m g),
    (θ_run (Cert.DownProjRefIdeal.defs (F := Ideal)) _ _).mono
      (fun r h c => ⟨(h c).1.trans (by rw [(ha c).1, (ha c).2]; exact Cert.DownProjRefIdeal.Read.val_main_v2_eq (F := Ideal) (m ((c.tc : Thread Cert.DownProjIdeal.nD Cert.DownProjIdeal.τ).loc Cert.DownProjIdeal.main_arg0)) (m ((c.tc : Thread Cert.DownProjIdeal.nD Cert.DownProjIdeal.τ).loc Cert.DownProjIdeal.main_arg1))), (h c).2⟩)
      (Cert.DownProjRefIdeal.Value.run m' g')⟩

/-- `OutProjRef`'s frame: its run read at the arguments; it declares no semaphore. -/
theorem frame_OutProjRef : Cert.quiescent_OutProjRefIdeal := by
  intro m g _
  exact (θ_run (Cert.OutProjRefIdeal.defs (F := Ideal)) _ _).mono
    (fun r h => ⟨fun c => (h c).2, sem_eq_zero_of_no_sems (by decide) r.2⟩) (Cert.OutProjRefIdeal.Value.run m g)

/-- `OutProj`'s results are its reference's. -/
theorem equal_OutProj : Cert.algebraic_OutProjIdeal_OutProjRefIdeal := by
  intro m g m' g' _ ha
  refine ⟨fun c => Cert.OutProjIdeal.Value.Ref (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)),
    (θ_run (Cert.OutProjIdeal.defs (F := Ideal)) _ _).mono
      (fun r h c => ⟨(h c).1.trans (Cert.OutProjIdeal.Value.final m c), (h c).2⟩)
      (Cert.OutProjIdeal.Value.run_blocks m g),
    (θ_run (Cert.OutProjRefIdeal.defs (F := Ideal)) _ _).mono
      (fun r h c => ⟨(h c).1.trans (by rw [(ha c).1, (ha c).2.1, (ha c).2.2]; exact Cert.OutProjRefIdeal.Read.val_main_v4_eq (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))), (h c).2⟩)
      (Cert.OutProjRefIdeal.Value.run m' g')⟩

end Cert.Calls

end
-- ==== Proof.Rows.lean ====
/-
The gradient of a root-mean-square norm of a row of 1024 numbers, over the reals: the names that the calls' sums over
rows are stated with.
-/
module

public import Idealize.ShloMosaic.Lib.Pipeline.ValueKit

@[expose] public section

noncomputable section

open Idealize.ShloMosaic

namespace Cert.Rows

/-- A row of 1024 numbers. -/
abbrev Row := Fin 1024 → Ideal .f32

/-- The mean of a row's squares, plus epsilon. -/
def msq (r : Row) : Ideal .f32 :=
  Ideal.div (∑ k, r k * r k) (Ideal.ofBits FTy.f32 0x44800000#32) + Ideal.ofBits FTy.f32 0x358637BD#32

/-- What the norm multiplies a row by. -/
def rinv (r : Row) : Ideal .f32 := Ideal.rsqrt (msq r)

/-- The gradient that reaches an entry of the row through the square of it in the mean, over the entry; `d` is the
gradient at the normed row. -/
def through (r d : Row) : Ideal .f32 :=
  ∑ _k : Fin 1, Ideal.div ((∑ k, r k * d k) * (Ideal.ofBits FTy.f32 0xBF000000#32 * Ideal.div (rinv r) (msq r)))
    (Ideal.ofBits FTy.f32 0x44800000#32)

/-- The residual sum of two rows, the second gated. -/
def resid (x y g : Row) : Row := fun k => x k + (1 + g k) * y k

end Cert.Rows

end
-- ==== Proof.NormB.lean ====
/-
The gradient of the first norm: the array of the argument's gradient row by row, and the gain's, the scale's and the
shift's as sums over all rows.
-/
module

public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Rows

namespace Cert.NormBwdIdeal.Value

open Cert.NormBwdIdeal Cert.NormBwdIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![0, 0]
    ∧ win0_9.index t = ![0, 0] :=
  (by decide +kernel : ∀ t : Fin grid0.N, _)

/-- The grid's number of points. -/
theorem lt_points (t : Fin cfg0.N) : t.val < 16 := Nat.lt_of_lt_of_eq t.isLt N_0

/-- The reference's term for result 0, over the arguments. -/
abbrev Ref0 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) : FVec Ideal S8192x1024 .f32 :=
  Cert.NormBwdRefIdeal.Read.val_main_v48 (F := Ideal) x dh dx1 g sc

/-- What a point stores of result 0, at an index of its block, is the reference at the array's index there. -/
theorem point0 (c : Dev nD) (t : Fin cfg0.N) (y) :
    (fun (x : FVec Ideal S512x1024 .f32) (dh : FVec Ideal S512x1024 .f32) (dx1 : FVec Ideal S512x1024 .f32) (g : FVec Ideal S1x1024 .f32) (sc : FVec Ideal S1x1024 .f32) (sh : FVec Ideal S1x1024 .f32) => k0_pay1 (F := Ideal) x dx1 (k0_pay10 x) (k0_pay18 x dh g sc) (k0_pay19 x dh g sc)) (iblk m c 0 t) (iblk m c 1 t) (iblk m c 2 t) (iblk m c 3 t) (iblk m c 4 t) (iblk m c 5 t) y
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (((cfg0.win 6).blk t).view.emb y) := by
  dsimp only
  pointwise [k0_pay1, k0_pay10, k0_pay9, k0_pay8, k0_pay18, k0_pay17, k0_pay15, k0_pay12, k0_pay19, Ref0, Cert.NormBwdRefIdeal.Read.val_main_v48, Cert.NormBwdRefIdeal.Read.val_main_v47, Cert.NormBwdRefIdeal.Read.val_main_v45, Cert.NormBwdRefIdeal.Read.val_main_v38, Cert.NormBwdRefIdeal.Read.val_main_v33, Cert.NormBwdRefIdeal.Read.val_main_v28, Cert.NormBwdRefIdeal.Read.val_main_v21, Cert.NormBwdRefIdeal.Read.val_main_v27, Cert.NormBwdRefIdeal.Read.val_main_v16, Cert.NormBwdRefIdeal.Read.val_main_v15, Cert.NormBwdRefIdeal.Read.val_main_cst_3, Cert.NormBwdRefIdeal.Read.val_main_v32, Cert.NormBwdRefIdeal.Read.val_main_v37, Cert.NormBwdRefIdeal.Read.val_main_v7, Cert.NormBwdRefIdeal.Read.val_main_v6, Cert.NormBwdRefIdeal.Read.val_main_v4, Cert.NormBwdRefIdeal.Read.val_main_v2, Cert.NormBwdRefIdeal.Read.val_main_v1, Cert.NormBwdRefIdeal.Read.val_main_v0, Cert.NormBwdRefIdeal.Read.val_main_cst, Cert.NormBwdRefIdeal.Read.val_main_v3, Cert.NormBwdRefIdeal.Read.val_main_cst_0, Cert.NormBwdRefIdeal.Read.val_main_v5, Cert.NormBwdRefIdeal.Read.val_main_cst_1, Cert.NormBwdRefIdeal.Read.val_main_v44, Cert.NormBwdRefIdeal.Read.val_main_v43, Cert.NormBwdRefIdeal.Read.val_main_v42, Cert.NormBwdRefIdeal.Read.val_main_v41, Cert.NormBwdRefIdeal.Read.val_main_v39, Cert.NormBwdRefIdeal.Read.val_main_v36, Cert.NormBwdRefIdeal.Read.val_main_v35, Cert.NormBwdRefIdeal.Read.val_main_v34, Cert.NormBwdRefIdeal.Read.val_main_cst_7, Cert.NormBwdRefIdeal.Read.val_main_v10, Cert.NormBwdRefIdeal.Read.val_main_v9, Cert.NormBwdRefIdeal.Read.val_main_cst_2, Cert.NormBwdRefIdeal.Read.val_main_v8, Cert.NormBwdRefIdeal.Read.val_main_v40, Cert.NormBwdRefIdeal.Read.val_main_cst_8, Cert.NormBwdRefIdeal.Read.val_main_cst_9, Cert.NormBwdRefIdeal.Read.val_main_v46]
  blk_point [iblk, V, idx t]

/-- Result 0's array, as the call leaves it, is the reference of the arguments. -/
theorem final0 (c : Dev nD) : (dats m 0 c).arrAt 6 cfg0.N
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h8 := lt_points t
  blk_simp
  rw [after0_6]
  by_cases h : t.val % 16 = 0
  · rw [outsAt0_A m c t h]; frame_out
    exact point0 m c t y
  · rw [outsAt0_B m c t h]; frame_out
    exact point0 m c t y

/-- The reference's term for result 1, over the arguments. -/
abbrev Ref1 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) : FVec Ideal S1x1024 .f32 :=
  Cert.NormBwdRefIdeal.Read.val_main_v31 (F := Ideal) x dh sc

/-- The first fill of result 1 is zero. -/
theorem hzero1 (j) : k0_pay2 (F := Ideal) j = 0 := by pointwise [k0_pay2]

/-- What a point leaves of result 1 is what stood there and the sum of its rows. -/
theorem hpay1 (acc : FVec Ideal S1x1024 .f32) (x : FVec Ideal S512x1024 .f32) (dh : FVec Ideal S512x1024 .f32) (sc : FVec Ideal S1x1024 .f32) (j) :
    k0_pay5 (F := Ideal) (k0_pay16 x dh sc) acc j = acc j + ∑ k : Fin 512, x (ix2 k (j 1)) * rinv (fun l => x (ix2 k l)) * (dh (ix2 k (j 1)) * (1 + sc (ix2 0 (j 1)))) := by
  pointwise [k0_pay5, k0_pay16, k0_pay11, k0_pay9, k0_pay8, k0_pay15, k0_pay12, msq, rinv]

/-- The reference's result 1 at an index. -/
theorem href1 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) (j) :
    Ref1 x dh dx1 g sc sh j = ∑ k : Fin 8192, x (ix2 k (j 1)) * rinv (fun l => x (ix2 k l)) * (dh (ix2 k (j 1)) * (1 + sc (ix2 0 (j 1)))) := by
  pointwise [Ref1, Cert.NormBwdRefIdeal.Read.val_main_v31, Cert.NormBwdRefIdeal.Read.val_main_v30, Cert.NormBwdRefIdeal.Read.val_main_v29, Cert.NormBwdRefIdeal.Read.val_main_v12, Cert.NormBwdRefIdeal.Read.val_main_v11, Cert.NormBwdRefIdeal.Read.val_main_v7, Cert.NormBwdRefIdeal.Read.val_main_v6, Cert.NormBwdRefIdeal.Read.val_main_v4, Cert.NormBwdRefIdeal.Read.val_main_v2, Cert.NormBwdRefIdeal.Read.val_main_v1, Cert.NormBwdRefIdeal.Read.val_main_v0, Cert.NormBwdRefIdeal.Read.val_main_cst, Cert.NormBwdRefIdeal.Read.val_main_v3, Cert.NormBwdRefIdeal.Read.val_main_cst_0, Cert.NormBwdRefIdeal.Read.val_main_v5, Cert.NormBwdRefIdeal.Read.val_main_cst_1, Cert.NormBwdRefIdeal.Read.val_main_v28, Cert.NormBwdRefIdeal.Read.val_main_v21, Cert.NormBwdRefIdeal.Read.val_main_v27, Cert.NormBwdRefIdeal.Read.val_main_v16, Cert.NormBwdRefIdeal.Read.val_main_v15, Cert.NormBwdRefIdeal.Read.val_main_cst_3, Cert.NormBwdRefIdeal.Read.val_main_cst_6, msq, rinv]

/-- Result 1's array, as the call leaves it, is the reference of the arguments. -/
theorem final1 (c : Dev nD) : (dats m 0 c).arrAt 7 cfg0.N
    = Ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0) _
    (fun t h j => by rw [outsAt0_A m c t h]; frame_out; rw [hpay1, hzero1]) (fun t h j => by rw [outsAt0_B m c t h]; frame_out; rw [hpay1])
    t ((flush0_7 t).mp hf) _, zero_add, href1]
  refine Fin.sum_mul_add_congr fun s k hl => ?_
  have h8 := lt_points t
  blk_point [iblk, V, idx t, idx ⟨_, Pipeline.run_point_lt_of_flush t ((flush0_7 t).mp hf) s⟩, msq, rinv]

/-- The reference's term for result 2, over the arguments. -/
abbrev Ref2 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) : FVec Ideal S1x1024 .f32 :=
  Cert.NormBwdRefIdeal.Read.val_main_v26 (F := Ideal) x dh g

/-- The first fill of result 2 is zero. -/
theorem hzero2 (j) : k0_pay3 (F := Ideal) j = 0 := by pointwise [k0_pay3]

/-- What a point leaves of result 2 is what stood there and the sum of its rows. -/
theorem hpay2 (acc : FVec Ideal S1x1024 .f32) (x : FVec Ideal S512x1024 .f32) (dh : FVec Ideal S512x1024 .f32) (g : FVec Ideal S1x1024 .f32) (j) :
    k0_pay6 (F := Ideal) (k0_pay14 x dh g) acc j = acc j + ∑ k : Fin 512, x (ix2 k (j 1)) * rinv (fun l => x (ix2 k l)) * g (ix2 0 (j 1)) * dh (ix2 k (j 1)) := by
  pointwise [k0_pay6, k0_pay14, k0_pay11, k0_pay9, k0_pay8, k0_pay12, msq, rinv]

/-- The reference's result 2 at an index. -/
theorem href2 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) (j) :
    Ref2 x dh dx1 g sc sh j = ∑ k : Fin 8192, x (ix2 k (j 1)) * rinv (fun l => x (ix2 k l)) * g (ix2 0 (j 1)) * dh (ix2 k (j 1)) := by
  pointwise [Ref2, Cert.NormBwdRefIdeal.Read.val_main_v26, Cert.NormBwdRefIdeal.Read.val_main_v25, Cert.NormBwdRefIdeal.Read.val_main_v24, Cert.NormBwdRefIdeal.Read.val_main_v14, Cert.NormBwdRefIdeal.Read.val_main_v12, Cert.NormBwdRefIdeal.Read.val_main_v11, Cert.NormBwdRefIdeal.Read.val_main_v7, Cert.NormBwdRefIdeal.Read.val_main_v6, Cert.NormBwdRefIdeal.Read.val_main_v4, Cert.NormBwdRefIdeal.Read.val_main_v2, Cert.NormBwdRefIdeal.Read.val_main_v1, Cert.NormBwdRefIdeal.Read.val_main_v0, Cert.NormBwdRefIdeal.Read.val_main_cst, Cert.NormBwdRefIdeal.Read.val_main_v3, Cert.NormBwdRefIdeal.Read.val_main_cst_0, Cert.NormBwdRefIdeal.Read.val_main_v5, Cert.NormBwdRefIdeal.Read.val_main_cst_1, Cert.NormBwdRefIdeal.Read.val_main_v13, Cert.NormBwdRefIdeal.Read.val_main_v21, Cert.NormBwdRefIdeal.Read.val_main_cst_5, msq, rinv]

/-- Result 2's array, as the call leaves it, is the reference of the arguments. -/
theorem final2 (c : Dev nD) : (dats m 0 c).arrAt 8 cfg0.N
    = Ref2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 16 (fun _ => 0) _
    (fun t h j => by rw [outsAt0_A m c t h]; frame_out; rw [hpay2, hzero2]) (fun t h j => by rw [outsAt0_B m c t h]; frame_out; rw [hpay2])
    t ((flush0_8 t).mp hf) _, zero_add, href2]
  refine Fin.sum_mul_add_congr fun s k hl => ?_
  have h8 := lt_points t
  blk_point [iblk, V, idx t, idx ⟨_, Pipeline.run_point_lt_of_flush t ((flush0_8 t).mp hf) s⟩, msq, rinv]

/-- The reference's term for result 3, over the arguments. -/
abbrev Ref3 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) : FVec Ideal S1x1024 .f32 :=
  Cert.NormBwdRefIdeal.Read.val_main_v23 (F := Ideal) dh

/-- The first fill of result 3 is zero. -/
theorem hzero3 (j) : k0_pay4 (F := Ideal) j = 0 := by pointwise [k0_pay4]

/-- What a point leaves of result 3 is what stood there and the sum of its rows. -/
theorem hpay3 (acc : FVec Ideal S1x1024 .f32) (dh : FVec Ideal S512x1024 .f32) (j) :
    k0_pay7 (F := Ideal) (k0_pay13 dh) acc j = acc j + ∑ k : Fin 512, dh (ix2 k (j 1)) := by
  pointwise [k0_pay7, k0_pay13, msq, rinv]

/-- The reference's result 3 at an index. -/
theorem href3 (x : FVec Ideal S8192x1024 .f32) (dh : FVec Ideal S8192x1024 .f32) (dx1 : FVec Ideal S8192x1024 .f32) (g : FVec Ideal S1x1024 .f32) (sc : FVec Ideal S1x1024 .f32) (sh : FVec Ideal S1x1024 .f32) (j) :
    Ref3 x dh dx1 g sc sh j = ∑ k : Fin 8192, dh (ix2 k (j 1)) := by
  pointwise [Ref3, Cert.NormBwdRefIdeal.Read.val_main_v23, Cert.NormBwdRefIdeal.Read.val_main_v22, Cert.NormBwdRefIdeal.Read.val_main_cst_4, msq, rinv]

/-- Result 3's array, as the call leaves it, is the reference of the arguments. -/
theorem final3 (c : Dev nD) : (dats m 0 c).arrAt 9 cfg0.N
    = Ref3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2) 16 (fun _ => 0) _
    (fun t h j => by rw [outsAt0_A m c t h]; frame_out; rw [hpay3, hzero3]) (fun t h j => by rw [outsAt0_B m c t h]; frame_out; rw [hpay3])
    t ((flush0_9 t).mp hf) _, zero_add, href3]
  refine Fin.sum_mul_add_congr fun s k hl => ?_
  have h8 := lt_points t
  blk_point [iblk, V, idx t, idx ⟨_, Pipeline.run_point_lt_of_flush t ((flush0_9 t).mp hf) s⟩, msq, rinv]

end Cert.NormBwdIdeal.Value

end
-- ==== Proof.ResidB.lean ====
/-
The gradient of the gated residual sum and of the norm after it: the arrays row by row, and the gate's, the gain's, the
scale's and the shift's gradients as sums over all rows.
-/
module

public import proofs.«01_k».proof.Proof.Gen.ResidBwdIdeal.Value
public import proofs.«01_k».proof.Proof.Gen.ResidBwdRefIdeal.Run
public import proofs.«01_k».proof.Proof.Gen.ResidBwdRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Rows

namespace Cert.ResidBwdIdeal.Value

open Cert.ResidBwdIdeal Cert.ResidBwdIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0] :=
  (by decide +kernel : ∀ t : Fin grid0.N, _)

/-- The grid's number of points. -/
theorem lt_points (t : Fin cfg0.N) : t.val < 16 := Nat.lt_of_lt_of_eq t.isLt N_0

/-- The reference's term for result 0, over the arguments. -/
abbrev Ref0 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) : FVec Ideal S8192x1024 .f32 :=
  Cert.ResidBwdRefIdeal.Read.val_main_v53 (F := Ideal) x mx dx2 dh ga g sc

/-- What a point stores of result 0, at an index of its block, is the reference at the array's index there. -/
theorem point0 (c : Dev nD) (t : Fin cfg0.N) (y) :
    (fun (x : FVec Ideal S512x1024 .f32) (mx : FVec Ideal S512x1024 .f32) (dx2 : FVec Ideal S512x1024 .f32) (dh : FVec Ideal S512x1024 .f32) (ga : FVec Ideal S1x1024 .f32) (g : FVec Ideal S1x1024 .f32) (sc : FVec Ideal S1x1024 .f32) (sh : FVec Ideal S1x1024 .f32) => k0_pay15 (F := Ideal) dx2 g (k0_pay5 x mx ga) (k0_pay7 x mx ga) (k0_pay8 x mx ga) (k0_pay13 dh sc)) (iblk m c 0 t) (iblk m c 1 t) (iblk m c 2 t) (iblk m c 3 t) (iblk m c 4 t) (iblk m c 5 t) (iblk m c 6 t) (iblk m c 7 t) y
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (((cfg0.win 8).blk t).view.emb y) := by
  dsimp only
  pointwise [k0_pay15, k0_pay5, k0_pay4, k0_pay7, k0_pay6, k0_pay8, k0_pay13, k0_pay10, Ref0, Cert.ResidBwdRefIdeal.Read.val_main_v53, Cert.ResidBwdRefIdeal.Read.val_main_v51, Cert.ResidBwdRefIdeal.Read.val_main_v44, Cert.ResidBwdRefIdeal.Read.val_main_v43, Cert.ResidBwdRefIdeal.Read.val_main_v38, Cert.ResidBwdRefIdeal.Read.val_main_v33, Cert.ResidBwdRefIdeal.Read.val_main_v26, Cert.ResidBwdRefIdeal.Read.val_main_v32, Cert.ResidBwdRefIdeal.Read.val_main_v21, Cert.ResidBwdRefIdeal.Read.val_main_v20, Cert.ResidBwdRefIdeal.Read.val_main_cst_4, Cert.ResidBwdRefIdeal.Read.val_main_v37, Cert.ResidBwdRefIdeal.Read.val_main_v42, Cert.ResidBwdRefIdeal.Read.val_main_v12, Cert.ResidBwdRefIdeal.Read.val_main_v11, Cert.ResidBwdRefIdeal.Read.val_main_v9, Cert.ResidBwdRefIdeal.Read.val_main_v7, Cert.ResidBwdRefIdeal.Read.val_main_v6, Cert.ResidBwdRefIdeal.Read.val_main_v5, Cert.ResidBwdRefIdeal.Read.val_main_v4, Cert.ResidBwdRefIdeal.Read.val_main_v3, Cert.ResidBwdRefIdeal.Read.val_main_v2, Cert.ResidBwdRefIdeal.Read.val_main_v1, Cert.ResidBwdRefIdeal.Read.val_main_v0, Cert.ResidBwdRefIdeal.Read.val_main_cst, Cert.ResidBwdRefIdeal.Read.val_main_cst_0, Cert.ResidBwdRefIdeal.Read.val_main_v8, Cert.ResidBwdRefIdeal.Read.val_main_cst_1, Cert.ResidBwdRefIdeal.Read.val_main_v10, Cert.ResidBwdRefIdeal.Read.val_main_cst_2, Cert.ResidBwdRefIdeal.Read.val_main_v50, Cert.ResidBwdRefIdeal.Read.val_main_v49, Cert.ResidBwdRefIdeal.Read.val_main_v48, Cert.ResidBwdRefIdeal.Read.val_main_v47, Cert.ResidBwdRefIdeal.Read.val_main_v45, Cert.ResidBwdRefIdeal.Read.val_main_v41, Cert.ResidBwdRefIdeal.Read.val_main_v40, Cert.ResidBwdRefIdeal.Read.val_main_v39, Cert.ResidBwdRefIdeal.Read.val_main_cst_8, Cert.ResidBwdRefIdeal.Read.val_main_v15, Cert.ResidBwdRefIdeal.Read.val_main_v14, Cert.ResidBwdRefIdeal.Read.val_main_cst_3, Cert.ResidBwdRefIdeal.Read.val_main_v13, Cert.ResidBwdRefIdeal.Read.val_main_v46, Cert.ResidBwdRefIdeal.Read.val_main_cst_9, Cert.ResidBwdRefIdeal.Read.val_main_cst_10, Cert.ResidBwdRefIdeal.Read.val_main_v52]
  blk_point [iblk, V, idx t]

/-- Result 0's array, as the call leaves it, is the reference of the arguments. -/
theorem final0 (c : Dev nD) : (dats m 0 c).arrAt 8 cfg0.N
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have h8 := lt_points t
  blk_simp
  rw [after0_8]
  by_cases h : t.val % 16 = 0
  · rw [outsAt0_A m c t h]; frame_out
    exact point0 m c t y
  · rw [outsAt0_B m c t h]; frame_out
    exact point0 m c t y

/-- The reference's term for result 1, over the arguments. -/
abbrev Ref1 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) : FVec Ideal S8192x1024 .bf16 :=
  Cert.ResidBwdRefIdeal.Read.val_main_v60 (F := Ideal) x mx dx2 dh ga g sc

/-- What a point stores of result 1, at an index of its block, is the reference at the array's index there. -/
theorem point1 (c : Dev nD) (t : Fin cfg0.N) (y) :
    (fun (x : FVec Ideal S512x1024 .f32) (mx : FVec Ideal S512x1024 .f32) (dx2 : FVec Ideal S512x1024 .f32) (dh : FVec Ideal S512x1024 .f32) (ga : FVec Ideal S1x1024 .f32) (g : FVec Ideal S1x1024 .f32) (sc : FVec Ideal S1x1024 .f32) (sh : FVec Ideal S1x1024 .f32) => k0_pay17 (F := Ideal) dx2 g (k0_pay4 ga) (k0_pay5 x mx ga) (k0_pay7 x mx ga) (k0_pay8 x mx ga) (k0_pay13 dh sc)) (iblk m c 0 t) (iblk m c 1 t) (iblk m c 2 t) (iblk m c 3 t) (iblk m c 4 t) (iblk m c 5 t) (iblk m c 6 t) (iblk m c 7 t) y
    = Ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (((cfg0.win 9).blk t).view.emb y) := by
  dsimp only
  pointwise [k0_pay17, k0_pay16, k0_pay15, k0_pay4, k0_pay5, k0_pay7, k0_pay6, k0_pay8, k0_pay13, k0_pay10, Ref1, Cert.ResidBwdRefIdeal.Read.val_main_v60, Cert.ResidBwdRefIdeal.Read.val_main_v56, Cert.ResidBwdRefIdeal.Read.val_main_v55, Cert.ResidBwdRefIdeal.Read.val_main_v1, Cert.ResidBwdRefIdeal.Read.val_main_v0, Cert.ResidBwdRefIdeal.Read.val_main_cst, Cert.ResidBwdRefIdeal.Read.val_main_v54, Cert.ResidBwdRefIdeal.Read.val_main_v53, Cert.ResidBwdRefIdeal.Read.val_main_v51, Cert.ResidBwdRefIdeal.Read.val_main_v44, Cert.ResidBwdRefIdeal.Read.val_main_v43, Cert.ResidBwdRefIdeal.Read.val_main_v38, Cert.ResidBwdRefIdeal.Read.val_main_v33, Cert.ResidBwdRefIdeal.Read.val_main_v26, Cert.ResidBwdRefIdeal.Read.val_main_v32, Cert.ResidBwdRefIdeal.Read.val_main_v21, Cert.ResidBwdRefIdeal.Read.val_main_v20, Cert.ResidBwdRefIdeal.Read.val_main_cst_4, Cert.ResidBwdRefIdeal.Read.val_main_v37, Cert.ResidBwdRefIdeal.Read.val_main_v42, Cert.ResidBwdRefIdeal.Read.val_main_v12, Cert.ResidBwdRefIdeal.Read.val_main_v11, Cert.ResidBwdRefIdeal.Read.val_main_v9, Cert.ResidBwdRefIdeal.Read.val_main_v7, Cert.ResidBwdRefIdeal.Read.val_main_v6, Cert.ResidBwdRefIdeal.Read.val_main_v5, Cert.ResidBwdRefIdeal.Read.val_main_v4, Cert.ResidBwdRefIdeal.Read.val_main_v3, Cert.ResidBwdRefIdeal.Read.val_main_v2, Cert.ResidBwdRefIdeal.Read.val_main_cst_0, Cert.ResidBwdRefIdeal.Read.val_main_v8, Cert.ResidBwdRefIdeal.Read.val_main_cst_1, Cert.ResidBwdRefIdeal.Read.val_main_v10, Cert.ResidBwdRefIdeal.Read.val_main_cst_2, Cert.ResidBwdRefIdeal.Read.val_main_v50, Cert.ResidBwdRefIdeal.Read.val_main_v49, Cert.ResidBwdRefIdeal.Read.val_main_v48, Cert.ResidBwdRefIdeal.Read.val_main_v47, Cert.ResidBwdRefIdeal.Read.val_main_v45, Cert.ResidBwdRefIdeal.Read.val_main_v41, Cert.ResidBwdRefIdeal.Read.val_main_v40, Cert.ResidBwdRefIdeal.Read.val_main_v39, Cert.ResidBwdRefIdeal.Read.val_main_cst_8, Cert.ResidBwdRefIdeal.Read.val_main_v15, Cert.ResidBwdRefIdeal.Read.val_main_v14, Cert.ResidBwdRefIdeal.Read.val_main_cst_3, Cert.ResidBwdRefIdeal.Read.val_main_v13, Cert.ResidBwdRefIdeal.Read.val_main_v46, Cert.ResidBwdRefIdeal.Read.val_main_cst_9, Cert.ResidBwdRefIdeal.Read.val_main_cst_10, Cert.ResidBwdRefIdeal.Read.val_main_v52]
  blk_point [iblk, V, idx t]

/-- Result 1's array, as the call leaves it, is the reference of the arguments. -/
theorem final1 (c : Dev nD) : (dats m 0 c).arrAt 9 cfg0.N
    = Ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have h8 := lt_points t
  blk_simp
  rw [after0_9]
  by_cases h : t.val % 16 = 0
  · rw [outsAt0_A m c t h]; frame_out
    exact point1 m c t y
  · rw [outsAt0_B m c t h]; frame_out
    exact point1 m c t y

/-- The reference's term for result 2, over the arguments. -/
abbrev Ref2 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) : FVec Ideal S1x1024 .f32 :=
  Cert.ResidBwdRefIdeal.Read.val_main_v59 (F := Ideal) x mx dx2 dh ga g sc

/-- The first fill of result 2 is zero. -/
theorem hzero2 (j) : k0_pay18 (F := Ideal) j = 0 := by pointwise [k0_pay18]

/-- What a point leaves of result 2 is what stood there and the sum of its rows. -/
theorem hpay2 (acc : FVec Ideal S1x1024 .f32) (x : FVec Ideal S512x1024 .f32) (mx : FVec Ideal S512x1024 .f32) (dx2 : FVec Ideal S512x1024 .f32) (dh : FVec Ideal S512x1024 .f32) (ga : FVec Ideal S1x1024 .f32) (g : FVec Ideal S1x1024 .f32) (sc : FVec Ideal S1x1024 .f32) (j) :
    k0_pay22 (F := Ideal) mx dx2 g (k0_pay5 x mx ga) (k0_pay7 x mx ga) (k0_pay8 x mx ga) (k0_pay13 dh sc) acc j = acc j + ∑ k : Fin 512, (dx2 (ix2 k (j 1)) + dh (ix2 k (j 1)) * (1 + sc (ix2 0 (j 1))) * g (ix2 0 (j 1)) * rinv (resid (fun l => x (ix2 k l)) (fun l => mx (ix2 k l)) (fun l => ga (ix2 0 l))) + (x (ix2 k (j 1)) + (1 + ga (ix2 0 (j 1))) * mx (ix2 k (j 1))) * through (resid (fun l => x (ix2 k l)) (fun l => mx (ix2 k l)) (fun l => ga (ix2 0 l))) (fun l => dh (ix2 k l) * (1 + sc (ix2 0 l)) * g (ix2 0 l)) + through (resid (fun l => x (ix2 k l)) (fun l => mx (ix2 k l)) (fun l => ga (ix2 0 l))) (fun l => dh (ix2 k l) * (1 + sc (ix2 0 l)) * g (ix2 0 l)) * (x (ix2 k (j 1)) + (1 + ga (ix2 0 (j 1))) * mx (ix2 k (j 1)))) * mx (ix2 k (j 1)) := by
  pointwise [k0_pay22, k0_pay16, k0_pay15, k0_pay5, k0_pay4, k0_pay7, k0_pay6, k0_pay8, k0_pay13, k0_pay10, msq, rinv, through, resid]

/-- The reference's result 2 at an index. -/
theorem href2 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) (j) :
    Ref2 x mx dx2 dh ga g sc sh j = ∑ k : Fin 8192, (dx2 (ix2 k (j 1)) + dh (ix2 k (j 1)) * (1 + sc (ix2 0 (j 1))) * g (ix2 0 (j 1)) * rinv (resid (fun l => x (ix2 k l)) (fun l => mx (ix2 k l)) (fun l => ga (ix2 0 l))) + (x (ix2 k (j 1)) + (1 + ga (ix2 0 (j 1))) * mx (ix2 k (j 1))) * through (resid (fun l => x (ix2 k l)) (fun l => mx (ix2 k l)) (fun l => ga (ix2 0 l))) (fun l => dh (ix2 k l) * (1 + sc (ix2 0 l)) * g (ix2 0 l)) + through (resid (fun l => x (ix2 k l)) (fun l => mx (ix2 k l)) (fun l => ga (ix2 0 l))) (fun l => dh (ix2 k l) * (1 + sc (ix2 0 l)) * g (ix2 0 l)) * (x (ix2 k (j 1)) + (1 + ga (ix2 0 (j 1))) * mx (ix2 k (j 1)))) * mx (ix2 k (j 1)) := by
  pointwise [Ref2, Cert.ResidBwdRefIdeal.Read.val_main_v59, Cert.ResidBwdRefIdeal.Read.val_main_v58, Cert.ResidBwdRefIdeal.Read.val_main_v57, Cert.ResidBwdRefIdeal.Read.val_main_v54, Cert.ResidBwdRefIdeal.Read.val_main_v53, Cert.ResidBwdRefIdeal.Read.val_main_v51, Cert.ResidBwdRefIdeal.Read.val_main_v44, Cert.ResidBwdRefIdeal.Read.val_main_v43, Cert.ResidBwdRefIdeal.Read.val_main_v38, Cert.ResidBwdRefIdeal.Read.val_main_v33, Cert.ResidBwdRefIdeal.Read.val_main_v26, Cert.ResidBwdRefIdeal.Read.val_main_v32, Cert.ResidBwdRefIdeal.Read.val_main_v21, Cert.ResidBwdRefIdeal.Read.val_main_v20, Cert.ResidBwdRefIdeal.Read.val_main_cst_4, Cert.ResidBwdRefIdeal.Read.val_main_v37, Cert.ResidBwdRefIdeal.Read.val_main_v42, Cert.ResidBwdRefIdeal.Read.val_main_v12, Cert.ResidBwdRefIdeal.Read.val_main_v11, Cert.ResidBwdRefIdeal.Read.val_main_v9, Cert.ResidBwdRefIdeal.Read.val_main_v7, Cert.ResidBwdRefIdeal.Read.val_main_v6, Cert.ResidBwdRefIdeal.Read.val_main_v5, Cert.ResidBwdRefIdeal.Read.val_main_v4, Cert.ResidBwdRefIdeal.Read.val_main_v3, Cert.ResidBwdRefIdeal.Read.val_main_v2, Cert.ResidBwdRefIdeal.Read.val_main_v1, Cert.ResidBwdRefIdeal.Read.val_main_v0, Cert.ResidBwdRefIdeal.Read.val_main_cst, Cert.ResidBwdRefIdeal.Read.val_main_cst_0, Cert.ResidBwdRefIdeal.Read.val_main_v8, Cert.ResidBwdRefIdeal.Read.val_main_cst_1, Cert.ResidBwdRefIdeal.Read.val_main_v10, Cert.ResidBwdRefIdeal.Read.val_main_cst_2, Cert.ResidBwdRefIdeal.Read.val_main_v50, Cert.ResidBwdRefIdeal.Read.val_main_v49, Cert.ResidBwdRefIdeal.Read.val_main_v48, Cert.ResidBwdRefIdeal.Read.val_main_v47, Cert.ResidBwdRefIdeal.Read.val_main_v45, Cert.ResidBwdRefIdeal.Read.val_main_v41, Cert.ResidBwdRefIdeal.Read.val_main_v40, Cert.ResidBwdRefIdeal.Read.val_main_v39, Cert.ResidBwdRefIdeal.Read.val_main_cst_8, Cert.ResidBwdRefIdeal.Read.val_main_v15, Cert.ResidBwdRefIdeal.Read.val_main_v14, Cert.ResidBwdRefIdeal.Read.val_main_cst_3, Cert.ResidBwdRefIdeal.Read.val_main_v13, Cert.ResidBwdRefIdeal.Read.val_main_v46, Cert.ResidBwdRefIdeal.Read.val_main_cst_9, Cert.ResidBwdRefIdeal.Read.val_main_cst_10, Cert.ResidBwdRefIdeal.Read.val_main_v52, Cert.ResidBwdRefIdeal.Read.val_main_cst_11, msq, rinv, through, resid]

/-- Result 2's array, as the call leaves it, is the reference of the arguments. -/
theorem final2 (c : Dev nD) : (dats m 0 c).arrAt 10 cfg0.N
    = Ref2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10, Pipeline.eq_sum_fin_of_reset_step_apply_of_flush (fun n h => (outsAt0 m c n h).2.2.1) 16 (fun _ => 0) _
    (fun t h j => by rw [outsAt0_A m c t h]; frame_out; rw [hpay2, hzero2]) (fun t h j => by rw [outsAt0_B m c t h]; frame_out; rw [hpay2])
    t ((flush0_10 t).mp hf) _, zero_add, href2]
  refine Fin.sum_mul_add_congr fun s k hl => ?_
  have h8 := lt_points t
  blk_point [iblk, V, idx t, idx ⟨_, Pipeline.run_point_lt_of_flush t ((flush0_10 t).mp hf) s⟩, msq, rinv, through, resid]

/-- The reference's term for result 3, over the arguments. -/
abbrev Ref3 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) : FVec Ideal S1x1024 .f32 :=
  Cert.ResidBwdRefIdeal.Read.val_main_v36 (F := Ideal) x mx dh ga sc

/-- The first fill of result 3 is zero. -/
theorem hzero3 (j) : k0_pay19 (F := Ideal) j = 0 := by pointwise [k0_pay19]

/-- What a point leaves of result 3 is what stood there and the sum of its rows. -/
theorem hpay3 (acc : FVec Ideal S1x1024 .f32) (x : FVec Ideal S512x1024 .f32) (mx : FVec Ideal S512x1024 .f32) (dh : FVec Ideal S512x1024 .f32) (ga : FVec Ideal S1x1024 .f32) (sc : FVec Ideal S1x1024 .f32) (j) :
    k0_pay1 (F := Ideal) (k0_pay14 (k0_pay9 x mx ga) (k0_pay13 dh sc)) (k0_pay23 acc) j = acc j + ∑ k : Fin 512, (x (ix2 k (j 1)) + (1 + ga (ix2 0 (j 1))) * mx (ix2 k (j 1))) * rinv (resid (fun l => x (ix2 k l)) (fun l => mx (ix2 k l)) (fun l => ga (ix2 0 l))) * (dh (ix2 k (j 1)) * (1 + sc (ix2 0 (j 1)))) := by
  pointwise [k0_pay1, k0_pay14, k0_pay9, k0_pay7, k0_pay6, k0_pay5, k0_pay4, k0_pay13, k0_pay10, k0_pay23, msq, rinv, through, resid]

/-- The reference's result 3 at an index. -/
theorem href3 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) (j) :
    Ref3 x mx dx2 dh ga g sc sh j = ∑ k : Fin 8192, (x (ix2 k (j 1)) + (1 + ga (ix2 0 (j 1))) * mx (ix2 k (j 1))) * rinv (resid (fun l => x (ix2 k l)) (fun l => mx (ix2 k l)) (fun l => ga (ix2 0 l))) * (dh (ix2 k (j 1)) * (1 + sc (ix2 0 (j 1)))) := by
  pointwise [Ref3, Cert.ResidBwdRefIdeal.Read.val_main_v36, Cert.ResidBwdRefIdeal.Read.val_main_v35, Cert.ResidBwdRefIdeal.Read.val_main_v34, Cert.ResidBwdRefIdeal.Read.val_main_v17, Cert.ResidBwdRefIdeal.Read.val_main_v4, Cert.ResidBwdRefIdeal.Read.val_main_v3, Cert.ResidBwdRefIdeal.Read.val_main_v2, Cert.ResidBwdRefIdeal.Read.val_main_v1, Cert.ResidBwdRefIdeal.Read.val_main_v0, Cert.ResidBwdRefIdeal.Read.val_main_cst, Cert.ResidBwdRefIdeal.Read.val_main_v16, Cert.ResidBwdRefIdeal.Read.val_main_v12, Cert.ResidBwdRefIdeal.Read.val_main_v11, Cert.ResidBwdRefIdeal.Read.val_main_v9, Cert.ResidBwdRefIdeal.Read.val_main_v7, Cert.ResidBwdRefIdeal.Read.val_main_v6, Cert.ResidBwdRefIdeal.Read.val_main_v5, Cert.ResidBwdRefIdeal.Read.val_main_cst_0, Cert.ResidBwdRefIdeal.Read.val_main_v8, Cert.ResidBwdRefIdeal.Read.val_main_cst_1, Cert.ResidBwdRefIdeal.Read.val_main_v10, Cert.ResidBwdRefIdeal.Read.val_main_cst_2, Cert.ResidBwdRefIdeal.Read.val_main_v33, Cert.ResidBwdRefIdeal.Read.val_main_v26, Cert.ResidBwdRefIdeal.Read.val_main_v32, Cert.ResidBwdRefIdeal.Read.val_main_v21, Cert.ResidBwdRefIdeal.Read.val_main_v20, Cert.ResidBwdRefIdeal.Read.val_main_cst_4, Cert.ResidBwdRefIdeal.Read.val_main_cst_7, msq, rinv, through, resid]

/-- Result 3's array, as the call leaves it, is the reference of the arguments. -/
theorem final3 (c : Dev nD) : (dats m 0 c).arrAt 11 cfg0.N
    = Ref3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 16 (fun _ => 0) _
    (fun t h j => by rw [outsAt0_A m c t h]; frame_out; rw [hpay3, hzero3]) (fun t h j => by rw [outsAt0_B m c t h]; frame_out; rw [hpay3])
    t ((flush0_11 t).mp hf) _, zero_add, href3]
  refine Fin.sum_mul_add_congr fun s k hl => ?_
  have h8 := lt_points t
  blk_point [iblk, V, idx t, idx ⟨_, Pipeline.run_point_lt_of_flush t ((flush0_11 t).mp hf) s⟩, msq, rinv, through, resid]

/-- The reference's term for result 4, over the arguments. -/
abbrev Ref4 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) : FVec Ideal S1x1024 .f32 :=
  Cert.ResidBwdRefIdeal.Read.val_main_v31 (F := Ideal) x mx dh ga g

/-- The first fill of result 4 is zero. -/
theorem hzero4 (j) : k0_pay20 (F := Ideal) j = 0 := by pointwise [k0_pay20]

/-- What a point leaves of result 4 is what stood there and the sum of its rows. -/
theorem hpay4 (acc : FVec Ideal S1x1024 .f32) (x : FVec Ideal S512x1024 .f32) (mx : FVec Ideal S512x1024 .f32) (dh : FVec Ideal S512x1024 .f32) (ga : FVec Ideal S1x1024 .f32) (g : FVec Ideal S1x1024 .f32) (j) :
    k0_pay2 (F := Ideal) (k0_pay12 x mx dh ga g) acc j = acc j + ∑ k : Fin 512, (x (ix2 k (j 1)) + (1 + ga (ix2 0 (j 1))) * mx (ix2 k (j 1))) * rinv (resid (fun l => x (ix2 k l)) (fun l => mx (ix2 k l)) (fun l => ga (ix2 0 l))) * g (ix2 0 (j 1)) * dh (ix2 k (j 1)) := by
  pointwise [k0_pay2, k0_pay12, k0_pay9, k0_pay7, k0_pay6, k0_pay5, k0_pay4, k0_pay10, msq, rinv, through, resid]

/-- The reference's result 4 at an index. -/
theorem href4 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) (j) :
    Ref4 x mx dx2 dh ga g sc sh j = ∑ k : Fin 8192, (x (ix2 k (j 1)) + (1 + ga (ix2 0 (j 1))) * mx (ix2 k (j 1))) * rinv (resid (fun l => x (ix2 k l)) (fun l => mx (ix2 k l)) (fun l => ga (ix2 0 l))) * g (ix2 0 (j 1)) * dh (ix2 k (j 1)) := by
  pointwise [Ref4, Cert.ResidBwdRefIdeal.Read.val_main_v31, Cert.ResidBwdRefIdeal.Read.val_main_v30, Cert.ResidBwdRefIdeal.Read.val_main_v29, Cert.ResidBwdRefIdeal.Read.val_main_v19, Cert.ResidBwdRefIdeal.Read.val_main_v17, Cert.ResidBwdRefIdeal.Read.val_main_v4, Cert.ResidBwdRefIdeal.Read.val_main_v3, Cert.ResidBwdRefIdeal.Read.val_main_v2, Cert.ResidBwdRefIdeal.Read.val_main_v1, Cert.ResidBwdRefIdeal.Read.val_main_v0, Cert.ResidBwdRefIdeal.Read.val_main_cst, Cert.ResidBwdRefIdeal.Read.val_main_v16, Cert.ResidBwdRefIdeal.Read.val_main_v12, Cert.ResidBwdRefIdeal.Read.val_main_v11, Cert.ResidBwdRefIdeal.Read.val_main_v9, Cert.ResidBwdRefIdeal.Read.val_main_v7, Cert.ResidBwdRefIdeal.Read.val_main_v6, Cert.ResidBwdRefIdeal.Read.val_main_v5, Cert.ResidBwdRefIdeal.Read.val_main_cst_0, Cert.ResidBwdRefIdeal.Read.val_main_v8, Cert.ResidBwdRefIdeal.Read.val_main_cst_1, Cert.ResidBwdRefIdeal.Read.val_main_v10, Cert.ResidBwdRefIdeal.Read.val_main_cst_2, Cert.ResidBwdRefIdeal.Read.val_main_v18, Cert.ResidBwdRefIdeal.Read.val_main_v26, Cert.ResidBwdRefIdeal.Read.val_main_cst_6, msq, rinv, through, resid]

/-- Result 4's array, as the call leaves it, is the reference of the arguments. -/
theorem final4 (c : Dev nD) : (dats m 0 c).arrAt 12 cfg0.N
    = Ref4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 16 (fun _ => 0) _
    (fun t h j => by rw [outsAt0_A m c t h]; frame_out; rw [hpay4, hzero4]) (fun t h j => by rw [outsAt0_B m c t h]; frame_out; rw [hpay4])
    t ((flush0_12 t).mp hf) _, zero_add, href4]
  refine Fin.sum_mul_add_congr fun s k hl => ?_
  have h8 := lt_points t
  blk_point [iblk, V, idx t, idx ⟨_, Pipeline.run_point_lt_of_flush t ((flush0_12 t).mp hf) s⟩, msq, rinv, through, resid]

/-- The reference's term for result 5, over the arguments. -/
abbrev Ref5 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) : FVec Ideal S1x1024 .f32 :=
  Cert.ResidBwdRefIdeal.Read.val_main_v28 (F := Ideal) dh

/-- The first fill of result 5 is zero. -/
theorem hzero5 (j) : k0_pay21 (F := Ideal) j = 0 := by pointwise [k0_pay21]

/-- What a point leaves of result 5 is what stood there and the sum of its rows. -/
theorem hpay5 (acc : FVec Ideal S1x1024 .f32) (dh : FVec Ideal S512x1024 .f32) (j) :
    k0_pay3 (F := Ideal) (k0_pay11 dh) acc j = acc j + ∑ k : Fin 512, dh (ix2 k (j 1)) := by
  pointwise [k0_pay3, k0_pay11, msq, rinv, through, resid]

/-- The reference's result 5 at an index. -/
theorem href5 (x : FVec Ideal S8192x1024 .f32) (mx : FVec Ideal S8192x1024 .f32) (dx2 : FVec Ideal S8192x1024 .f32) (dh : FVec Ideal S8192x1024 .f32) (ga : FVec Ideal S1x1024 .f32) (g : FVec Ideal S1x1024 .f32) (sc : FVec Ideal S1x1024 .f32) (sh : FVec Ideal S1x1024 .f32) (j) :
    Ref5 x mx dx2 dh ga g sc sh j = ∑ k : Fin 8192, dh (ix2 k (j 1)) := by
  pointwise [Ref5, Cert.ResidBwdRefIdeal.Read.val_main_v28, Cert.ResidBwdRefIdeal.Read.val_main_v27, Cert.ResidBwdRefIdeal.Read.val_main_cst_5, msq, rinv, through, resid]

/-- Result 5's array, as the call leaves it, is the reference of the arguments. -/
theorem final5 (c : Dev nD) : (dats m 0 c).arrAt 13 cfg0.N
    = Ref5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 16 (fun _ => 0) _
    (fun t h j => by rw [outsAt0_A m c t h]; frame_out; rw [hpay5, hzero5]) (fun t h j => by rw [outsAt0_B m c t h]; frame_out; rw [hpay5])
    t ((flush0_13 t).mp hf) _, zero_add, href5]
  refine Fin.sum_mul_add_congr fun s k hl => ?_
  have h8 := lt_points t
  blk_point [iblk, V, idx t, idx ⟨_, Pipeline.run_point_lt_of_flush t ((flush0_13 t).mp hf) s⟩, msq, rinv, through, resid]

end Cert.ResidBwdIdeal.Value

end
-- ==== Proof.RowsLoss.lean ====
/-
The loss of a row of 1024 numbers over the reals, its constants evaluated: half the mean of the squared errors, and the
factor that its derivative has.
-/
module

public import proofs.«01_k».proof.Proof.Rows

@[expose] public section

noncomputable section

open Idealize.ShloMosaic

namespace Cert.Rows

/-- An entry's error: the entry `x` of the row `r`, normed, times its gain, less its target. -/
def err (r : Row) (g x t : Ideal .f32) : Ideal .f32 := x * rinv r * g - t

theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num
theorem bits_inv2048 : Ideal.ofBits .f32 0x3A000000#32 = ((1 / 2048 : ℝ) : EReal) := by
  simp [Ideal.ofBits, Ideal.ieee, -EReal.coe_mul]; norm_num

/-- The derivative of half the mean of the squared errors, in an error. -/
theorem slope (e : EReal) :
    Ideal.div (Ideal.ofBits .f32 0x3F000000#32) (Ideal.ofBits .f32 0x44800000#32) * (Ideal.ofBits .f32 0x40000000#32 * e)
      = e * Ideal.ofBits .f32 0x3A800000#32 := by
  rw [bits_half, bits_1024, bits_two, bits_inv1024, Ideal.div_coe (by norm_num), ← EReal.coe_mul, ← mul_assoc, ← EReal.coe_mul,
    mul_comm]
  norm_num

/-- A finite factor from zero up goes into a sum. -/
theorem sum_mul_const {n : ℕ} {c : ℝ} (hc : 0 ≤ c) (f : Fin n → EReal) : (∑ k, f k) * (c : EReal) = ∑ k, f k * (c : EReal) := by
  refine Finset.induction_on Finset.univ (by simp) fun a s ha ih => ?_
  rw [Finset.sum_insert ha, Finset.sum_insert ha,
    EReal.right_distrib_of_nonneg_of_ne_top (by exact_mod_cast hc) (EReal.coe_ne_top c), ih]

/-- Half the sum of the rows' means is the sum of the rows' sums, each over 2048. -/
theorem half_mean {n : ℕ} (f : Fin n → EReal) :
    Ideal.ofBits .f32 0x3F000000#32 * (∑ k, Ideal.div (f k) (Ideal.ofBits .f32 0x44800000#32))
      = ∑ k, f k * Ideal.ofBits .f32 0x3A000000#32 := by
  rw [bits_half, bits_1024, bits_inv2048, mul_comm, sum_mul_const (by norm_num)]
  refine Finset.sum_congr rfl fun k _ => ?_
  rw [Ideal.div_coe (by norm_num), mul_assoc, ← EReal.coe_mul]
  norm_num

/-- A sum's multiple is the sum of the multiples. -/
theorem sum_inv2048 {n : ℕ} (f : Fin n → EReal) :
    (∑ k, f k) * Ideal.ofBits .f32 0x3A000000#32 = ∑ k, f k * Ideal.ofBits .f32 0x3A000000#32 := by
  rw [bits_inv2048, sum_mul_const (by norm_num)]

end Cert.Rows

end
-- ==== Proof.FinalG.lean ====
/-
The loss of the rows and its gradient: the arrays row by row, and the gate's, the gain's and the loss as sums over all
rows. The call scales the error by a half of the squared error's derivative and the rows' mean at once.
-/
module

public import proofs.«01_k».proof.Proof.Gen.FinalIdeal.Value
public import proofs.«01_k».proof.Proof.Gen.FinalRefIdeal.Run
public import proofs.«01_k».proof.Proof.Gen.FinalRefIdeal.Read
public import proofs.«01_k».proof.Proof.RowsLoss
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Rows

namespace Cert.FinalIdeal.Value

open Cert.FinalIdeal Cert.FinalIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![0, 0]
    ∧ win0_9.index t = ![0, 0] :=
  (by decide +kernel : ∀ t : Fin grid0.N, _)

/-- The grid's number of points. -/
theorem lt_points (t : Fin cfg0.N) : t.val < 16 := Nat.lt_of_lt_of_eq t.isLt N_0

/-- The reference's term for result 0, over the arguments. -/
abbrev Ref0 (x : FVec Ideal S8192x1024 .f32) (ff : FVec Ideal S8192x1024 .f32) (tg : FVec Ideal S8192x1024 .f32) (ga : FVec Ideal S1x1024 .f32) (g : FVec Ideal S1x1024 .f32) : FVec Ideal S8192x1024 .f32 :=
  Cert.FinalRefIdeal.Read.val_main_v53 (F := Ideal) x ff tg ga g

/-- What a point stores of result 0, at an index of its block, is the reference at the array's index there. -/
theorem point0 (c : Dev nD) (t : Fin cfg0.N) (y) :
    (fun (x : FVec Ideal S512x1024 .f32) (ff : FVec Ideal S512x1024 .f32) (tg : FVec Ideal S512x1024 .f32) (ga : FVec Ideal S1x1024 .f32) (g : FVec Ideal S1x1024 .f32) => k0_pay14 (F := Ideal) (k0_pay3 x ff ga) (k0_pay11 x ff tg ga g) (k0_pay12 x ff tg ga g) k0_pay13) (iblk m c 0 t) (iblk m c 1 t) (iblk m c 2 t) (iblk m c 3 t) (iblk m c 4 t) y
    = Ref0 (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 5).blk t).view.emb y) := by
  dsimp only
  pointwise [k0_pay14, k0_pay3, k0_pay2, k0_pay11, k0_pay5, k0_pay4, k0_pay10, k0_pay8, k0_pay7, k0_pay6, k0_pay12, k0_pay13, Ref0, Cert.FinalRefIdeal.Read.val_main_v53, Cert.FinalRefIdeal.Read.val_main_v51, Cert.FinalRefIdeal.Read.val_main_v44, Cert.FinalRefIdeal.Read.val_main_v39, Cert.FinalRefIdeal.Read.val_main_v34, Cert.FinalRefIdeal.Read.val_main_v33, Cert.FinalRefIdeal.Read.val_main_v32, Cert.FinalRefIdeal.Read.val_main_v30, Cert.FinalRefIdeal.Read.val_main_v29, Cert.FinalRefIdeal.Read.val_main_cst_9, Cert.FinalRefIdeal.Read.val_main_cst_10, Cert.FinalRefIdeal.Read.val_main_v31, Cert.FinalRefIdeal.Read.val_main_cst_11, Cert.FinalRefIdeal.Read.val_main_v23, Cert.FinalRefIdeal.Read.val_main_v22, Cert.FinalRefIdeal.Read.val_main_cst_4, Cert.FinalRefIdeal.Read.val_main_v20, Cert.FinalRefIdeal.Read.val_main_v19, Cert.FinalRefIdeal.Read.val_main_v17, Cert.FinalRefIdeal.Read.val_main_v4, Cert.FinalRefIdeal.Read.val_main_v3, Cert.FinalRefIdeal.Read.val_main_v2, Cert.FinalRefIdeal.Read.val_main_v1, Cert.FinalRefIdeal.Read.val_main_v0, Cert.FinalRefIdeal.Read.val_main_cst, Cert.FinalRefIdeal.Read.val_main_v16, Cert.FinalRefIdeal.Read.val_main_v12, Cert.FinalRefIdeal.Read.val_main_v11, Cert.FinalRefIdeal.Read.val_main_v9, Cert.FinalRefIdeal.Read.val_main_v7, Cert.FinalRefIdeal.Read.val_main_v6, Cert.FinalRefIdeal.Read.val_main_v5, Cert.FinalRefIdeal.Read.val_main_cst_0, Cert.FinalRefIdeal.Read.val_main_v8, Cert.FinalRefIdeal.Read.val_main_cst_1, Cert.FinalRefIdeal.Read.val_main_v10, Cert.FinalRefIdeal.Read.val_main_cst_2, Cert.FinalRefIdeal.Read.val_main_v18, Cert.FinalRefIdeal.Read.val_main_v38, Cert.FinalRefIdeal.Read.val_main_v43, Cert.FinalRefIdeal.Read.val_main_v50, Cert.FinalRefIdeal.Read.val_main_v49, Cert.FinalRefIdeal.Read.val_main_v48, Cert.FinalRefIdeal.Read.val_main_v47, Cert.FinalRefIdeal.Read.val_main_v45, Cert.FinalRefIdeal.Read.val_main_v42, Cert.FinalRefIdeal.Read.val_main_v41, Cert.FinalRefIdeal.Read.val_main_v40, Cert.FinalRefIdeal.Read.val_main_cst_13, Cert.FinalRefIdeal.Read.val_main_v15, Cert.FinalRefIdeal.Read.val_main_v14, Cert.FinalRefIdeal.Read.val_main_cst_3, Cert.FinalRefIdeal.Read.val_main_v13, Cert.FinalRefIdeal.Read.val_main_v46, Cert.FinalRefIdeal.Read.val_main_cst_14, Cert.FinalRefIdeal.Read.val_main_cst_15, Cert.FinalRefIdeal.Read.val_main_v52]
  simp only [mul_one, slope]
  blk_point [iblk, V, idx t]

/-- Result 0's array, as the call leaves it, is the reference of the arguments. -/
theorem final0 (c : Dev nD) : (dats m 0 c).arrAt 5 cfg0.N
    = Ref0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h8 := lt_points t
  blk_simp
  rw [after0_5]
  by_cases h : t.val % 16 = 0
  · rw [outsAt0_A m c t h]; frame_out
    exact point0 m c t y
  · rw [outsAt0_B m c t h]; frame_out
    exact point0 m c t y

/-- The reference's term for result 1, over the arguments. -/
abbrev Ref1 (x : FVec Ideal S8192x1024 .f32) (ff : FVec Ideal S8192x1024 .f32) (tg : FVec Ideal S8192x1024 .f32) (ga : FVec Ideal S1x1024 .f32) (g : FVec Ideal S1x1024 .f32) : FVec Ideal S8192x1024 .bf16 :=
  Cert.FinalRefIdeal.Read.val_main_v59 (F := Ideal) x ff tg ga g

/-- What a point stores of result 1, at an index of its block, is the reference at the array's index there. -/
theorem point1 (c : Dev nD) (t : Fin cfg0.N) (y) :
    (fun (x : FVec Ideal S512x1024 .f32) (ff : FVec Ideal S512x1024 .f32) (tg : FVec Ideal S512x1024 .f32) (ga : FVec Ideal S1x1024 .f32) (g : FVec Ideal S1x1024 .f32) => k0_pay16 (F := Ideal) (k0_pay2 ga) (k0_pay3 x ff ga) (k0_pay11 x ff tg ga g) (k0_pay12 x ff tg ga g) k0_pay13) (iblk m c 0 t) (iblk m c 1 t) (iblk m c 2 t) (iblk m c 3 t) (iblk m c 4 t) y
    = Ref1 (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 6).blk t).view.emb y) := by
  dsimp only
  pointwise [k0_pay16, k0_pay14, k0_pay2, k0_pay3, k0_pay11, k0_pay5, k0_pay4, k0_pay10, k0_pay8, k0_pay7, k0_pay6, k0_pay12, k0_pay13, Ref1, Cert.FinalRefIdeal.Read.val_main_v59, Cert.FinalRefIdeal.Read.val_main_v55, Cert.FinalRefIdeal.Read.val_main_v54, Cert.FinalRefIdeal.Read.val_main_v1, Cert.FinalRefIdeal.Read.val_main_v0, Cert.FinalRefIdeal.Read.val_main_cst, Cert.FinalRefIdeal.Read.val_main_v53, Cert.FinalRefIdeal.Read.val_main_v51, Cert.FinalRefIdeal.Read.val_main_v44, Cert.FinalRefIdeal.Read.val_main_v39, Cert.FinalRefIdeal.Read.val_main_v34, Cert.FinalRefIdeal.Read.val_main_v33, Cert.FinalRefIdeal.Read.val_main_v32, Cert.FinalRefIdeal.Read.val_main_v30, Cert.FinalRefIdeal.Read.val_main_v29, Cert.FinalRefIdeal.Read.val_main_cst_9, Cert.FinalRefIdeal.Read.val_main_cst_10, Cert.FinalRefIdeal.Read.val_main_v31, Cert.FinalRefIdeal.Read.val_main_cst_11, Cert.FinalRefIdeal.Read.val_main_v23, Cert.FinalRefIdeal.Read.val_main_v22, Cert.FinalRefIdeal.Read.val_main_cst_4, Cert.FinalRefIdeal.Read.val_main_v20, Cert.FinalRefIdeal.Read.val_main_v19, Cert.FinalRefIdeal.Read.val_main_v17, Cert.FinalRefIdeal.Read.val_main_v4, Cert.FinalRefIdeal.Read.val_main_v3, Cert.FinalRefIdeal.Read.val_main_v2, Cert.FinalRefIdeal.Read.val_main_v16, Cert.FinalRefIdeal.Read.val_main_v12, Cert.FinalRefIdeal.Read.val_main_v11, Cert.FinalRefIdeal.Read.val_main_v9, Cert.FinalRefIdeal.Read.val_main_v7, Cert.FinalRefIdeal.Read.val_main_v6, Cert.FinalRefIdeal.Read.val_main_v5, Cert.FinalRefIdeal.Read.val_main_cst_0, Cert.FinalRefIdeal.Read.val_main_v8, Cert.FinalRefIdeal.Read.val_main_cst_1, Cert.FinalRefIdeal.Read.val_main_v10, Cert.FinalRefIdeal.Read.val_main_cst_2, Cert.FinalRefIdeal.Read.val_main_v18, Cert.FinalRefIdeal.Read.val_main_v38, Cert.FinalRefIdeal.Read.val_main_v43, Cert.FinalRefIdeal.Read.val_main_v50, Cert.FinalRefIdeal.Read.val_main_v49, Cert.FinalRefIdeal.Read.val_main_v48, Cert.FinalRefIdeal.Read.val_main_v47, Cert.FinalRefIdeal.Read.val_main_v45, Cert.FinalRefIdeal.Read.val_main_v42, Cert.FinalRefIdeal.Read.val_main_v41, Cert.FinalRefIdeal.Read.val_main_v40, Cert.FinalRefIdeal.Read.val_main_cst_13, Cert.FinalRefIdeal.Read.val_main_v15, Cert.FinalRefIdeal.Read.val_main_v14, Cert.FinalRefIdeal.Read.val_main_cst_3, Cert.FinalRefIdeal.Read.val_main_v13, Cert.FinalRefIdeal.Read.val_main_v46, Cert.FinalRefIdeal.Read.val_main_cst_14, Cert.FinalRefIdeal.Read.val_main_cst_15, Cert.FinalRefIdeal.Read.val_main_v52]
  simp only [mul_one, slope]
  blk_point [iblk, V, idx t]

/-- Result 1's array, as the call leaves it, is the reference of the arguments. -/
theorem final1 (c : Dev nD) : (dats m 0 c).arrAt 6 cfg0.N
    = Ref1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h8 := lt_points t
  blk_simp
  rw [after0_6]
  by_cases h : t.val % 16 = 0
  · rw [outsAt0_A m c t h]; frame_out
    exact point1 m c t y
  · rw [outsAt0_B m c t h]; frame_out
    exact point1 m c t y

/-- The reference's term for result 2, over the arguments. -/
abbrev Ref2 (x : FVec Ideal S8192x1024 .f32) (ff : FVec Ideal S8192x1024 .f32) (tg : FVec Ideal S8192x1024 .f32) (ga : FVec Ideal S1x1024 .f32) (g : FVec Ideal S1x1024 .f32) : FVec Ideal S1x1024 .f32 :=
  Cert.FinalRefIdeal.Read.val_main_v58 (F := Ideal) x ff tg ga g

/-- The first fill of result 2 is zero. -/
theorem hzero2 (j) : k0_pay17 (F := Ideal) j = 0 := by pointwise [k0_pay17]

/-- What a point leaves of result 2 is what stood there and the sum of its rows. -/
theorem hpay2 (acc : FVec Ideal S1x1024 .f32) (x : FVec Ideal S512x1024 .f32) (ff : FVec Ideal S512x1024 .f32) (tg : FVec Ideal S512x1024 .f32) (ga : FVec Ideal S1x1024 .f32) (g : FVec Ideal S1x1024 .f32) (j) :
    k0_pay20 (F := Ideal) ff (k0_pay3 x ff ga) (k0_pay11 x ff tg ga g) (k0_pay12 x ff tg ga g) k0_pay13 acc j = acc j + ∑ k : Fin 512, ((err (resid (fun l => x (ix2 k l)) (fun l => ff (ix2 k l)) (fun l => ga (ix2 0 l))) (g (ix2 0 (j 1))) (x (ix2 k (j 1)) + (1 + ga (ix2 0 (j 1))) * ff (ix2 k (j 1))) (tg (ix2 k (j 1))) * Ideal.ofBits FTy.f32 0x3A800000#32) * g (ix2 0 (j 1)) * rinv (resid (fun l => x (ix2 k l)) (fun l => ff (ix2 k l)) (fun l => ga (ix2 0 l))) + (x (ix2 k (j 1)) + (1 + ga (ix2 0 (j 1))) * ff (ix2 k (j 1))) * through (resid (fun l => x (ix2 k l)) (fun l => ff (ix2 k l)) (fun l => ga (ix2 0 l))) (fun l => (err (resid (fun l => x (ix2 k l)) (fun l => ff (ix2 k l)) (fun l => ga (ix2 0 l))) (g (ix2 0 l)) (x (ix2 k l) + (1 + ga (ix2 0 l)) * ff (ix2 k l)) (tg (ix2 k l)) * Ideal.ofBits FTy.f32 0x3A800000#32) * g (ix2 0 l)) + through (resid (fun l => x (ix2 k l)) (fun l => ff (ix2 k l)) (fun l => ga (ix2 0 l))) (fun l => (err (resid (fun l => x (ix2 k l)) (fun l => ff (ix2 k l)) (fun l => ga (ix2 0 l))) (g (ix2 0 l)) (x (ix2 k l) + (1 + ga (ix2 0 l)) * ff (ix2 k l)) (tg (ix2 k l)) * Ideal.ofBits FTy.f32 0x3A800000#32) * g (ix2 0 l)) * (x (ix2 k (j 1)) + (1 + ga (ix2 0 (j 1))) * ff (ix2 k (j 1)))) * ff (ix2 k (j 1)) := by
  pointwise [k0_pay20, k0_pay14, k0_pay3, k0_pay2, k0_pay11, k0_pay5, k0_pay4, k0_pay10, k0_pay8, k0_pay7, k0_pay6, k0_pay12, k0_pay13, err, msq, rinv, through, resid]

/-- The reference's result 2 at an index. -/
theorem href2 (x : FVec Ideal S8192x1024 .f32) (ff : FVec Ideal S8192x1024 .f32) (tg : FVec Ideal S8192x1024 .f32) (ga : FVec Ideal S1x1024 .f32) (g : FVec Ideal S1x1024 .f32) (j) :
    Ref2 x ff tg ga g j = ∑ k : Fin 8192, ((err (resid (fun l => x (ix2 k l)) (fun l => ff (ix2 k l)) (fun l => ga (ix2 0 l))) (g (ix2 0 (j 1))) (x (ix2 k (j 1)) + (1 + ga (ix2 0 (j 1))) * ff (ix2 k (j 1))) (tg (ix2 k (j 1))) * Ideal.ofBits FTy.f32 0x3A800000#32) * g (ix2 0 (j 1)) * rinv (resid (fun l => x (ix2 k l)) (fun l => ff (ix2 k l)) (fun l => ga (ix2 0 l))) + (x (ix2 k (j 1)) + (1 + ga (ix2 0 (j 1))) * ff (ix2 k (j 1))) * through (resid (fun l => x (ix2 k l)) (fun l => ff (ix2 k l)) (fun l => ga (ix2 0 l))) (fun l => (err (resid (fun l => x (ix2 k l)) (fun l => ff (ix2 k l)) (fun l => ga (ix2 0 l))) (g (ix2 0 l)) (x (ix2 k l) + (1 + ga (ix2 0 l)) * ff (ix2 k l)) (tg (ix2 k l)) * Ideal.ofBits FTy.f32 0x3A800000#32) * g (ix2 0 l)) + through (resid (fun l => x (ix2 k l)) (fun l => ff (ix2 k l)) (fun l => ga (ix2 0 l))) (fun l => (err (resid (fun l => x (ix2 k l)) (fun l => ff (ix2 k l)) (fun l => ga (ix2 0 l))) (g (ix2 0 l)) (x (ix2 k l) + (1 + ga (ix2 0 l)) * ff (ix2 k l)) (tg (ix2 k l)) * Ideal.ofBits FTy.f32 0x3A800000#32) * g (ix2 0 l)) * (x (ix2 k (j 1)) + (1 + ga (ix2 0 (j 1))) * ff (ix2 k (j 1)))) * ff (ix2 k (j 1)) := by
  pointwise [Ref2, Cert.FinalRefIdeal.Read.val_main_v58, Cert.FinalRefIdeal.Read.val_main_v57, Cert.FinalRefIdeal.Read.val_main_v56, Cert.FinalRefIdeal.Read.val_main_v53, Cert.FinalRefIdeal.Read.val_main_v51, Cert.FinalRefIdeal.Read.val_main_v44, Cert.FinalRefIdeal.Read.val_main_v39, Cert.FinalRefIdeal.Read.val_main_v34, Cert.FinalRefIdeal.Read.val_main_v33, Cert.FinalRefIdeal.Read.val_main_v32, Cert.FinalRefIdeal.Read.val_main_v30, Cert.FinalRefIdeal.Read.val_main_v29, Cert.FinalRefIdeal.Read.val_main_cst_9, Cert.FinalRefIdeal.Read.val_main_cst_10, Cert.FinalRefIdeal.Read.val_main_v31, Cert.FinalRefIdeal.Read.val_main_cst_11, Cert.FinalRefIdeal.Read.val_main_v23, Cert.FinalRefIdeal.Read.val_main_v22, Cert.FinalRefIdeal.Read.val_main_cst_4, Cert.FinalRefIdeal.Read.val_main_v20, Cert.FinalRefIdeal.Read.val_main_v19, Cert.FinalRefIdeal.Read.val_main_v17, Cert.FinalRefIdeal.Read.val_main_v4, Cert.FinalRefIdeal.Read.val_main_v3, Cert.FinalRefIdeal.Read.val_main_v2, Cert.FinalRefIdeal.Read.val_main_v1, Cert.FinalRefIdeal.Read.val_main_v0, Cert.FinalRefIdeal.Read.val_main_cst, Cert.FinalRefIdeal.Read.val_main_v16, Cert.FinalRefIdeal.Read.val_main_v12, Cert.FinalRefIdeal.Read.val_main_v11, Cert.FinalRefIdeal.Read.val_main_v9, Cert.FinalRefIdeal.Read.val_main_v7, Cert.FinalRefIdeal.Read.val_main_v6, Cert.FinalRefIdeal.Read.val_main_v5, Cert.FinalRefIdeal.Read.val_main_cst_0, Cert.FinalRefIdeal.Read.val_main_v8, Cert.FinalRefIdeal.Read.val_main_cst_1, Cert.FinalRefIdeal.Read.val_main_v10, Cert.FinalRefIdeal.Read.val_main_cst_2, Cert.FinalRefIdeal.Read.val_main_v18, Cert.FinalRefIdeal.Read.val_main_v38, Cert.FinalRefIdeal.Read.val_main_v43, Cert.FinalRefIdeal.Read.val_main_v50, Cert.FinalRefIdeal.Read.val_main_v49, Cert.FinalRefIdeal.Read.val_main_v48, Cert.FinalRefIdeal.Read.val_main_v47, Cert.FinalRefIdeal.Read.val_main_v45, Cert.FinalRefIdeal.Read.val_main_v42, Cert.FinalRefIdeal.Read.val_main_v41, Cert.FinalRefIdeal.Read.val_main_v40, Cert.FinalRefIdeal.Read.val_main_cst_13, Cert.FinalRefIdeal.Read.val_main_v15, Cert.FinalRefIdeal.Read.val_main_v14, Cert.FinalRefIdeal.Read.val_main_cst_3, Cert.FinalRefIdeal.Read.val_main_v13, Cert.FinalRefIdeal.Read.val_main_v46, Cert.FinalRefIdeal.Read.val_main_cst_14, Cert.FinalRefIdeal.Read.val_main_cst_15, Cert.FinalRefIdeal.Read.val_main_v52, Cert.FinalRefIdeal.Read.val_main_cst_16, err, msq, rinv, through, resid]
  simp only [mul_one, slope]

/-- Result 2's array, as the call leaves it, is the reference of the arguments. -/
theorem final2 (c : Dev nD) : (dats m 0 c).arrAt 7 cfg0.N
    = Ref2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0) _
    (fun t h j => by rw [outsAt0_A m c t h]; frame_out; rw [hpay2, hzero2]) (fun t h j => by rw [outsAt0_B m c t h]; frame_out; rw [hpay2])
    t ((flush0_7 t).mp hf) _, zero_add, href2]
  refine Fin.sum_mul_add_congr fun s k hl => ?_
  have h8 := lt_points t
  blk_point [iblk, V, idx t, idx ⟨_, Pipeline.run_point_lt_of_flush t ((flush0_7 t).mp hf) s⟩, err, msq, rinv, through, resid]

/-- The reference's term for result 3, over the arguments. -/
abbrev Ref3 (x : FVec Ideal S8192x1024 .f32) (ff : FVec Ideal S8192x1024 .f32) (tg : FVec Ideal S8192x1024 .f32) (ga : FVec Ideal S1x1024 .f32) (g : FVec Ideal S1x1024 .f32) : FVec Ideal S1x1024 .f32 :=
  Cert.FinalRefIdeal.Read.val_main_v37 (F := Ideal) x ff tg ga g

/-- The first fill of result 3 is zero. -/
theorem hzero3 (j) : k0_pay18 (F := Ideal) j = 0 := by pointwise [k0_pay18]

/-- What a point leaves of result 3 is what stood there and the sum of its rows. -/
theorem hpay3 (acc : FVec Ideal S1x1024 .f32) (x : FVec Ideal S512x1024 .f32) (ff : FVec Ideal S512x1024 .f32) (tg : FVec Ideal S512x1024 .f32) (ga : FVec Ideal S1x1024 .f32) (g : FVec Ideal S1x1024 .f32) (j) :
    k0_pay21 (F := Ideal) (k0_pay9 x ff tg ga g) acc j = acc j + ∑ k : Fin 512, (x (ix2 k (j 1)) + (1 + ga (ix2 0 (j 1))) * ff (ix2 k (j 1))) * rinv (resid (fun l => x (ix2 k l)) (fun l => ff (ix2 k l)) (fun l => ga (ix2 0 l))) * (err (resid (fun l => x (ix2 k l)) (fun l => ff (ix2 k l)) (fun l => ga (ix2 0 l))) (g (ix2 0 (j 1))) (x (ix2 k (j 1)) + (1 + ga (ix2 0 (j 1))) * ff (ix2 k (j 1))) (tg (ix2 k (j 1))) * Ideal.ofBits FTy.f32 0x3A800000#32) := by
  pointwise [k0_pay21, k0_pay9, k0_pay6, k0_pay5, k0_pay4, k0_pay3, k0_pay2, k0_pay8, k0_pay7, err, msq, rinv, through, resid]

/-- The reference's result 3 at an index. -/
theorem href3 (x : FVec Ideal S8192x1024 .f32) (ff : FVec Ideal S8192x1024 .f32) (tg : FVec Ideal S8192x1024 .f32) (ga : FVec Ideal S1x1024 .f32) (g : FVec Ideal S1x1024 .f32) (j) :
    Ref3 x ff tg ga g j = ∑ k : Fin 8192, (x (ix2 k (j 1)) + (1 + ga (ix2 0 (j 1))) * ff (ix2 k (j 1))) * rinv (resid (fun l => x (ix2 k l)) (fun l => ff (ix2 k l)) (fun l => ga (ix2 0 l))) * (err (resid (fun l => x (ix2 k l)) (fun l => ff (ix2 k l)) (fun l => ga (ix2 0 l))) (g (ix2 0 (j 1))) (x (ix2 k (j 1)) + (1 + ga (ix2 0 (j 1))) * ff (ix2 k (j 1))) (tg (ix2 k (j 1))) * Ideal.ofBits FTy.f32 0x3A800000#32) := by
  pointwise [Ref3, Cert.FinalRefIdeal.Read.val_main_v37, Cert.FinalRefIdeal.Read.val_main_v36, Cert.FinalRefIdeal.Read.val_main_v35, Cert.FinalRefIdeal.Read.val_main_v17, Cert.FinalRefIdeal.Read.val_main_v4, Cert.FinalRefIdeal.Read.val_main_v3, Cert.FinalRefIdeal.Read.val_main_v2, Cert.FinalRefIdeal.Read.val_main_v1, Cert.FinalRefIdeal.Read.val_main_v0, Cert.FinalRefIdeal.Read.val_main_cst, Cert.FinalRefIdeal.Read.val_main_v16, Cert.FinalRefIdeal.Read.val_main_v12, Cert.FinalRefIdeal.Read.val_main_v11, Cert.FinalRefIdeal.Read.val_main_v9, Cert.FinalRefIdeal.Read.val_main_v7, Cert.FinalRefIdeal.Read.val_main_v6, Cert.FinalRefIdeal.Read.val_main_v5, Cert.FinalRefIdeal.Read.val_main_cst_0, Cert.FinalRefIdeal.Read.val_main_v8, Cert.FinalRefIdeal.Read.val_main_cst_1, Cert.FinalRefIdeal.Read.val_main_v10, Cert.FinalRefIdeal.Read.val_main_cst_2, Cert.FinalRefIdeal.Read.val_main_v34, Cert.FinalRefIdeal.Read.val_main_v33, Cert.FinalRefIdeal.Read.val_main_v32, Cert.FinalRefIdeal.Read.val_main_v30, Cert.FinalRefIdeal.Read.val_main_v29, Cert.FinalRefIdeal.Read.val_main_cst_9, Cert.FinalRefIdeal.Read.val_main_cst_10, Cert.FinalRefIdeal.Read.val_main_v31, Cert.FinalRefIdeal.Read.val_main_cst_11, Cert.FinalRefIdeal.Read.val_main_v23, Cert.FinalRefIdeal.Read.val_main_v22, Cert.FinalRefIdeal.Read.val_main_cst_4, Cert.FinalRefIdeal.Read.val_main_v20, Cert.FinalRefIdeal.Read.val_main_v19, Cert.FinalRefIdeal.Read.val_main_v18, Cert.FinalRefIdeal.Read.val_main_cst_12, err, msq, rinv, through, resid]
  simp only [mul_one, slope]

/-- Result 3's array, as the call leaves it, is the reference of the arguments. -/
theorem final3 (c : Dev nD) : (dats m 0 c).arrAt 8 cfg0.N
    = Ref3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2.1) 16 (fun _ => 0) _
    (fun t h j => by rw [outsAt0_A m c t h]; frame_out; rw [hpay3, hzero3]) (fun t h j => by rw [outsAt0_B m c t h]; frame_out; rw [hpay3])
    t ((flush0_8 t).mp hf) _, zero_add, href3]
  refine Fin.sum_mul_add_congr fun s k hl => ?_
  have h8 := lt_points t
  blk_point [iblk, V, idx t, idx ⟨_, Pipeline.run_point_lt_of_flush t ((flush0_8 t).mp hf) s⟩, err, msq, rinv, through, resid]

/-- The reference's term for result 4, over the arguments. -/
abbrev Ref4 (x : FVec Ideal S8192x1024 .f32) (ff : FVec Ideal S8192x1024 .f32) (tg : FVec Ideal S8192x1024 .f32) (ga : FVec Ideal S1x1024 .f32) (g : FVec Ideal S1x1024 .f32) : FVec Ideal S1x128 .f32 :=
  Cert.FinalRefIdeal.Read.val_main_v60 (F := Ideal) x ff tg ga g

/-- The first fill of result 4 is zero. -/
theorem hzero4 (j) : k0_pay19 (F := Ideal) j = 0 := by pointwise [k0_pay19]

/-- What a point leaves of result 4 is what stood there and the sum of its rows. -/
theorem hpay4 (acc : FVec Ideal S1x128 .f32) (x : FVec Ideal S512x1024 .f32) (ff : FVec Ideal S512x1024 .f32) (tg : FVec Ideal S512x1024 .f32) (ga : FVec Ideal S1x1024 .f32) (g : FVec Ideal S1x1024 .f32) (j) :
    k0_pay1 (F := Ideal) (k0_pay15 (k0_pay7 x ff tg ga g)) acc j = acc j + ∑ k : Fin 512, (∑ l : Fin 1024, err (resid (fun l => x (ix2 k l)) (fun l => ff (ix2 k l)) (fun l => ga (ix2 0 l))) (g (ix2 0 l)) (x (ix2 k l) + (1 + ga (ix2 0 l)) * ff (ix2 k l)) (tg (ix2 k l)) * err (resid (fun l => x (ix2 k l)) (fun l => ff (ix2 k l)) (fun l => ga (ix2 0 l))) (g (ix2 0 l)) (x (ix2 k l) + (1 + ga (ix2 0 l)) * ff (ix2 k l)) (tg (ix2 k l))) * Ideal.ofBits FTy.f32 0x3A000000#32 := by
  pointwise [k0_pay1, k0_pay15, k0_pay7, k0_pay6, k0_pay5, k0_pay4, k0_pay3, k0_pay2, err, msq, rinv, through, resid]
  exact congrArg (acc j + ·) (sum_inv2048 _)

/-- The reference's result 4 at an index. -/
theorem href4 (x : FVec Ideal S8192x1024 .f32) (ff : FVec Ideal S8192x1024 .f32) (tg : FVec Ideal S8192x1024 .f32) (ga : FVec Ideal S1x1024 .f32) (g : FVec Ideal S1x1024 .f32) (j) :
    Ref4 x ff tg ga g j = ∑ k : Fin 8192, (∑ l : Fin 1024, err (resid (fun l => x (ix2 k l)) (fun l => ff (ix2 k l)) (fun l => ga (ix2 0 l))) (g (ix2 0 l)) (x (ix2 k l) + (1 + ga (ix2 0 l)) * ff (ix2 k l)) (tg (ix2 k l)) * err (resid (fun l => x (ix2 k l)) (fun l => ff (ix2 k l)) (fun l => ga (ix2 0 l))) (g (ix2 0 l)) (x (ix2 k l) + (1 + ga (ix2 0 l)) * ff (ix2 k l)) (tg (ix2 k l))) * Ideal.ofBits FTy.f32 0x3A000000#32 := by
  pointwise [Ref4, Cert.FinalRefIdeal.Read.val_main_v60, Cert.FinalRefIdeal.Read.val_main_v28, Cert.FinalRefIdeal.Read.val_main_cst_8, Cert.FinalRefIdeal.Read.val_main_v27, Cert.FinalRefIdeal.Read.val_main_v26, Cert.FinalRefIdeal.Read.val_main_v24, Cert.FinalRefIdeal.Read.val_main_v21, Cert.FinalRefIdeal.Read.val_main_v20, Cert.FinalRefIdeal.Read.val_main_v19, Cert.FinalRefIdeal.Read.val_main_v17, Cert.FinalRefIdeal.Read.val_main_v4, Cert.FinalRefIdeal.Read.val_main_v3, Cert.FinalRefIdeal.Read.val_main_v2, Cert.FinalRefIdeal.Read.val_main_v1, Cert.FinalRefIdeal.Read.val_main_v0, Cert.FinalRefIdeal.Read.val_main_cst, Cert.FinalRefIdeal.Read.val_main_v16, Cert.FinalRefIdeal.Read.val_main_v12, Cert.FinalRefIdeal.Read.val_main_v11, Cert.FinalRefIdeal.Read.val_main_v9, Cert.FinalRefIdeal.Read.val_main_v7, Cert.FinalRefIdeal.Read.val_main_v6, Cert.FinalRefIdeal.Read.val_main_v5, Cert.FinalRefIdeal.Read.val_main_cst_0, Cert.FinalRefIdeal.Read.val_main_v8, Cert.FinalRefIdeal.Read.val_main_cst_1, Cert.FinalRefIdeal.Read.val_main_v10, Cert.FinalRefIdeal.Read.val_main_cst_2, Cert.FinalRefIdeal.Read.val_main_v18, Cert.FinalRefIdeal.Read.val_main_cst_5, Cert.FinalRefIdeal.Read.val_main_v25, Cert.FinalRefIdeal.Read.val_main_cst_6, Cert.FinalRefIdeal.Read.val_main_cst_7, err, msq, rinv, through, resid]
  exact half_mean _

/-- Result 4's array, as the call leaves it, is the reference of the arguments. -/
theorem final4 (c : Dev nD) : (dats m 0 c).arrAt 9 cfg0.N
    = Ref4 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2.2) 16 (fun _ => 0) _
    (fun t h j => by rw [outsAt0_A m c t h]; frame_out; rw [hpay4, hzero4]) (fun t h j => by rw [outsAt0_B m c t h]; frame_out; rw [hpay4])
    t ((flush0_9 t).mp hf) _, zero_add, href4]
  refine Fin.sum_mul_add_congr fun s k hl => ?_
  have h8 := lt_points t
  blk_point [iblk, V, idx t, idx ⟨_, Pipeline.run_point_lt_of_flush t ((flush0_9 t).mp hf) s⟩, err, msq, rinv, through, resid]

end Cert.FinalIdeal.Value

end
-- ==== Proof.AdamI.lean ====
/-
The optimiser's step for a shard of the input projection: the sum of the devices' gradients, the step and the two moments, entry by entry.
-/
module

public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamInIdeal.Value

open Cert.AdamInIdeal Cert.AdamInIdeal.Gen

variable (m : (ℓ : Loc nD τ sig) → Buf (Elt Ideal) ℓ)

/-- Where each window's block stands at each point of the grid. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The reference's term for the summed gradient, over the arguments. -/
abbrev Ref0 (P : FVec Ideal S8x386x1024 .bf16) (W : FVec Ideal S386x1024 .f32) (M : FVec Ideal S386x1024 .f32) (V0 : FVec Ideal S386x1024 .f32) : FVec Ideal S386x1024 .f32 :=
  Cert.AdamInRefIdeal.Read.val_main_v1 (F := Ideal) P

/-- What a point stores of the summed gradient, at an index of its block, is the reference at the array's index there. -/
theorem point0 (c : Dev nD) (t : Fin cfg0.N) (y) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay4, Ref0, Cert.AdamInRefIdeal.Read.val_main_v1, Cert.AdamInRefIdeal.Read.val_main_v0, Cert.AdamInRefIdeal.Read.val_main_cst]
  simp only [Fin.sum_univ_eight]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S8x386x1024 .bf16) (W : FVec Ideal S386x1024 .f32) (M : FVec Ideal S386x1024 .f32) (V0 : FVec Ideal S386x1024 .f32) : FVec Ideal S386x1024 .f32 :=
  Cert.AdamInRefIdeal.Read.val_main_v25 (F := Ideal) P W M V0

/-- What a point stores of the step, at an index of its block, is the reference at the array's index there. -/
theorem point1 (c : Dev nD) (t : Fin cfg0.N) (y) : k0_pay3 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay3, k0_pay1, k0_pay2, k0_pay4, Ref1, Cert.AdamInRefIdeal.Read.val_main_v25, Cert.AdamInRefIdeal.Read.val_main_v24, Cert.AdamInRefIdeal.Read.val_main_cst_8, Cert.AdamInRefIdeal.Read.val_main_v23, Cert.AdamInRefIdeal.Read.val_main_v20, Cert.AdamInRefIdeal.Read.val_main_v14, Cert.AdamInRefIdeal.Read.val_main_v6, Cert.AdamInRefIdeal.Read.val_main_v3, Cert.AdamInRefIdeal.Read.val_main_v2, Cert.AdamInRefIdeal.Read.val_main_cst_0, Cert.AdamInRefIdeal.Read.val_main_v5, Cert.AdamInRefIdeal.Read.val_main_v4, Cert.AdamInRefIdeal.Read.val_main_cst_1, Cert.AdamInRefIdeal.Read.val_main_v1, Cert.AdamInRefIdeal.Read.val_main_v0, Cert.AdamInRefIdeal.Read.val_main_cst, Cert.AdamInRefIdeal.Read.val_main_v13, Cert.AdamInRefIdeal.Read.val_main_cst_4, Cert.AdamInRefIdeal.Read.val_main_v19, Cert.AdamInRefIdeal.Read.val_main_v17, Cert.AdamInRefIdeal.Read.val_main_v16, Cert.AdamInRefIdeal.Read.val_main_v12, Cert.AdamInRefIdeal.Read.val_main_v8, Cert.AdamInRefIdeal.Read.val_main_v7, Cert.AdamInRefIdeal.Read.val_main_cst_2, Cert.AdamInRefIdeal.Read.val_main_v11, Cert.AdamInRefIdeal.Read.val_main_v10, Cert.AdamInRefIdeal.Read.val_main_cst_3, Cert.AdamInRefIdeal.Read.val_main_v9, Cert.AdamInRefIdeal.Read.val_main_v15, Cert.AdamInRefIdeal.Read.val_main_cst_5, Cert.AdamInRefIdeal.Read.val_main_v18, Cert.AdamInRefIdeal.Read.val_main_cst_6, Cert.AdamInRefIdeal.Read.val_main_v22, Cert.AdamInRefIdeal.Read.val_main_v21, Cert.AdamInRefIdeal.Read.val_main_cst_7]
  simp only [Fin.sum_univ_eight]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S8x386x1024 .bf16) (W : FVec Ideal S386x1024 .f32) (M : FVec Ideal S386x1024 .f32) (V0 : FVec Ideal S386x1024 .f32) : FVec Ideal S386x1024 .f32 :=
  Cert.AdamInRefIdeal.Read.val_main_v6 (F := Ideal) P M

/-- What a point stores of the first moment, at an index of its block, is the reference at the array's index there. -/
theorem point2 (c : Dev nD) (t : Fin cfg0.N) (y) : k0_pay1 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay1, k0_pay4, Ref2, Cert.AdamInRefIdeal.Read.val_main_v6, Cert.AdamInRefIdeal.Read.val_main_v3, Cert.AdamInRefIdeal.Read.val_main_v2, Cert.AdamInRefIdeal.Read.val_main_cst_0, Cert.AdamInRefIdeal.Read.val_main_v5, Cert.AdamInRefIdeal.Read.val_main_v4, Cert.AdamInRefIdeal.Read.val_main_cst_1, Cert.AdamInRefIdeal.Read.val_main_v1, Cert.AdamInRefIdeal.Read.val_main_v0, Cert.AdamInRefIdeal.Read.val_main_cst]
  simp only [Fin.sum_univ_eight]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S8x386x1024 .bf16) (W : FVec Ideal S386x1024 .f32) (M : FVec Ideal S386x1024 .f32) (V0 : FVec Ideal S386x1024 .f32) : FVec Ideal S386x1024 .f32 :=
  Cert.AdamInRefIdeal.Read.val_main_v12 (F := Ideal) P V0

/-- What a point stores of the second moment, at an index of its block, is the reference at the array's index there. -/
theorem point3 (c : Dev nD) (t : Fin cfg0.N) (y) : k0_pay2 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay2, k0_pay4, Ref3, Cert.AdamInRefIdeal.Read.val_main_v12, Cert.AdamInRefIdeal.Read.val_main_v8, Cert.AdamInRefIdeal.Read.val_main_v7, Cert.AdamInRefIdeal.Read.val_main_cst_2, Cert.AdamInRefIdeal.Read.val_main_v11, Cert.AdamInRefIdeal.Read.val_main_v10, Cert.AdamInRefIdeal.Read.val_main_cst_3, Cert.AdamInRefIdeal.Read.val_main_v9, Cert.AdamInRefIdeal.Read.val_main_v1, Cert.AdamInRefIdeal.Read.val_main_v0, Cert.AdamInRefIdeal.Read.val_main_cst]
  simp only [Fin.sum_univ_eight]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamInIdeal.Value

end
-- ==== Proof.AdamF.lean ====
/-
The optimiser's step for the second forget gate's weights: the sum of the devices' gradients, the step and the two moments, entry by entry.
-/
module

public import proofs.«01_k».proof.Proof.Gen.AdamFg2Ideal.Value
public import proofs.«01_k».proof.Proof.Gen.AdamFg2RefIdeal.Run
public import proofs.«01_k».proof.Proof.Gen.AdamFg2RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamFg2Ideal.Value

open Cert.AdamFg2Ideal Cert.AdamFg2Ideal.Gen

variable (m : (ℓ : Loc nD τ sig) → Buf (Elt Ideal) ℓ)

/-- Where each window's block stands at each point of the grid. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The reference's term for the summed gradient, over the arguments. -/
abbrev Ref0 (P : FVec Ideal S8x16x32 .f32) (W : FVec Ideal S16x32 .f32) (M : FVec Ideal S16x32 .f32) (V0 : FVec Ideal S16x32 .f32) : FVec Ideal S16x32 .f32 :=
  Cert.AdamFg2RefIdeal.Read.val_main_v0 (F := Ideal) P

/-- What a point stores of the summed gradient, at an index of its block, is the reference at the array's index there. -/
theorem point0 (c : Dev nD) (t : Fin cfg0.N) (y) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay4, Ref0, Cert.AdamFg2RefIdeal.Read.val_main_v0, Cert.AdamFg2RefIdeal.Read.val_main_cst]
  simp only [Fin.sum_univ_eight]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S8x16x32 .f32) (W : FVec Ideal S16x32 .f32) (M : FVec Ideal S16x32 .f32) (V0 : FVec Ideal S16x32 .f32) : FVec Ideal S16x32 .f32 :=
  Cert.AdamFg2RefIdeal.Read.val_main_v24 (F := Ideal) P W M V0

/-- What a point stores of the step, at an index of its block, is the reference at the array's index there. -/
theorem point1 (c : Dev nD) (t : Fin cfg0.N) (y) : k0_pay3 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay3, k0_pay1, k0_pay2, k0_pay4, Ref1, Cert.AdamFg2RefIdeal.Read.val_main_v24, Cert.AdamFg2RefIdeal.Read.val_main_v23, Cert.AdamFg2RefIdeal.Read.val_main_cst_8, Cert.AdamFg2RefIdeal.Read.val_main_v22, Cert.AdamFg2RefIdeal.Read.val_main_v19, Cert.AdamFg2RefIdeal.Read.val_main_v13, Cert.AdamFg2RefIdeal.Read.val_main_v5, Cert.AdamFg2RefIdeal.Read.val_main_v2, Cert.AdamFg2RefIdeal.Read.val_main_v1, Cert.AdamFg2RefIdeal.Read.val_main_cst_0, Cert.AdamFg2RefIdeal.Read.val_main_v4, Cert.AdamFg2RefIdeal.Read.val_main_v3, Cert.AdamFg2RefIdeal.Read.val_main_cst_1, Cert.AdamFg2RefIdeal.Read.val_main_v0, Cert.AdamFg2RefIdeal.Read.val_main_cst, Cert.AdamFg2RefIdeal.Read.val_main_v12, Cert.AdamFg2RefIdeal.Read.val_main_cst_4, Cert.AdamFg2RefIdeal.Read.val_main_v18, Cert.AdamFg2RefIdeal.Read.val_main_v16, Cert.AdamFg2RefIdeal.Read.val_main_v15, Cert.AdamFg2RefIdeal.Read.val_main_v11, Cert.AdamFg2RefIdeal.Read.val_main_v7, Cert.AdamFg2RefIdeal.Read.val_main_v6, Cert.AdamFg2RefIdeal.Read.val_main_cst_2, Cert.AdamFg2RefIdeal.Read.val_main_v10, Cert.AdamFg2RefIdeal.Read.val_main_v9, Cert.AdamFg2RefIdeal.Read.val_main_cst_3, Cert.AdamFg2RefIdeal.Read.val_main_v8, Cert.AdamFg2RefIdeal.Read.val_main_v14, Cert.AdamFg2RefIdeal.Read.val_main_cst_5, Cert.AdamFg2RefIdeal.Read.val_main_v17, Cert.AdamFg2RefIdeal.Read.val_main_cst_6, Cert.AdamFg2RefIdeal.Read.val_main_v21, Cert.AdamFg2RefIdeal.Read.val_main_v20, Cert.AdamFg2RefIdeal.Read.val_main_cst_7]
  simp only [Fin.sum_univ_eight]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S8x16x32 .f32) (W : FVec Ideal S16x32 .f32) (M : FVec Ideal S16x32 .f32) (V0 : FVec Ideal S16x32 .f32) : FVec Ideal S16x32 .f32 :=
  Cert.AdamFg2RefIdeal.Read.val_main_v5 (F := Ideal) P M

/-- What a point stores of the first moment, at an index of its block, is the reference at the array's index there. -/
theorem point2 (c : Dev nD) (t : Fin cfg0.N) (y) : k0_pay1 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay1, k0_pay4, Ref2, Cert.AdamFg2RefIdeal.Read.val_main_v5, Cert.AdamFg2RefIdeal.Read.val_main_v2, Cert.AdamFg2RefIdeal.Read.val_main_v1, Cert.AdamFg2RefIdeal.Read.val_main_cst_0, Cert.AdamFg2RefIdeal.Read.val_main_v4, Cert.AdamFg2RefIdeal.Read.val_main_v3, Cert.AdamFg2RefIdeal.Read.val_main_cst_1, Cert.AdamFg2RefIdeal.Read.val_main_v0, Cert.AdamFg2RefIdeal.Read.val_main_cst]
  simp only [Fin.sum_univ_eight]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S8x16x32 .f32) (W : FVec Ideal S16x32 .f32) (M : FVec Ideal S16x32 .f32) (V0 : FVec Ideal S16x32 .f32) : FVec Ideal S16x32 .f32 :=
  Cert.AdamFg2RefIdeal.Read.val_main_v11 (F := Ideal) P V0

/-- What a point stores of the second moment, at an index of its block, is the reference at the array's index there. -/
theorem point3 (c : Dev nD) (t : Fin cfg0.N) (y) : k0_pay2 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay2, k0_pay4, Ref3, Cert.AdamFg2RefIdeal.Read.val_main_v11, Cert.AdamFg2RefIdeal.Read.val_main_v7, Cert.AdamFg2RefIdeal.Read.val_main_v6, Cert.AdamFg2RefIdeal.Read.val_main_cst_2, Cert.AdamFg2RefIdeal.Read.val_main_v10, Cert.AdamFg2RefIdeal.Read.val_main_v9, Cert.AdamFg2RefIdeal.Read.val_main_cst_3, Cert.AdamFg2RefIdeal.Read.val_main_v8, Cert.AdamFg2RefIdeal.Read.val_main_v0, Cert.AdamFg2RefIdeal.Read.val_main_cst]
  simp only [Fin.sum_univ_eight]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamFg2Ideal.Value

end
-- ==== Proof.AdamO.lean ====
/-
The optimiser's step for a shard of the output projection: the sum of the devices' gradients, the step and the two moments, entry by entry.
-/
module

public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamOutIdeal.Value

open Cert.AdamOutIdeal Cert.AdamOutIdeal.Gen

variable (m : (ℓ : Loc nD τ sig) → Buf (Elt Ideal) ℓ)

/-- Where each window's block stands at each point of the grid. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The reference's term for the summed gradient, over the arguments. -/
abbrev Ref0 (P : FVec Ideal S8x128x1024 .f32) (W : FVec Ideal S128x1024 .f32) (M : FVec Ideal S128x1024 .f32) (V0 : FVec Ideal S128x1024 .f32) : FVec Ideal S128x1024 .f32 :=
  Cert.AdamOutRefIdeal.Read.val_main_v0 (F := Ideal) P

/-- What a point stores of the summed gradient, at an index of its block, is the reference at the array's index there. -/
theorem point0 (c : Dev nD) (t : Fin cfg0.N) (y) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay4, Ref0, Cert.AdamOutRefIdeal.Read.val_main_v0, Cert.AdamOutRefIdeal.Read.val_main_cst]
  simp only [Fin.sum_univ_eight]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S8x128x1024 .f32) (W : FVec Ideal S128x1024 .f32) (M : FVec Ideal S128x1024 .f32) (V0 : FVec Ideal S128x1024 .f32) : FVec Ideal S128x1024 .f32 :=
  Cert.AdamOutRefIdeal.Read.val_main_v24 (F := Ideal) P W M V0

/-- What a point stores of the step, at an index of its block, is the reference at the array's index there. -/
theorem point1 (c : Dev nD) (t : Fin cfg0.N) (y) : k0_pay3 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay3, k0_pay1, k0_pay2, k0_pay4, Ref1, Cert.AdamOutRefIdeal.Read.val_main_v24, Cert.AdamOutRefIdeal.Read.val_main_v23, Cert.AdamOutRefIdeal.Read.val_main_cst_8, Cert.AdamOutRefIdeal.Read.val_main_v22, Cert.AdamOutRefIdeal.Read.val_main_v19, Cert.AdamOutRefIdeal.Read.val_main_v13, Cert.AdamOutRefIdeal.Read.val_main_v5, Cert.AdamOutRefIdeal.Read.val_main_v2, Cert.AdamOutRefIdeal.Read.val_main_v1, Cert.AdamOutRefIdeal.Read.val_main_cst_0, Cert.AdamOutRefIdeal.Read.val_main_v4, Cert.AdamOutRefIdeal.Read.val_main_v3, Cert.AdamOutRefIdeal.Read.val_main_cst_1, Cert.AdamOutRefIdeal.Read.val_main_v0, Cert.AdamOutRefIdeal.Read.val_main_cst, Cert.AdamOutRefIdeal.Read.val_main_v12, Cert.AdamOutRefIdeal.Read.val_main_cst_4, Cert.AdamOutRefIdeal.Read.val_main_v18, Cert.AdamOutRefIdeal.Read.val_main_v16, Cert.AdamOutRefIdeal.Read.val_main_v15, Cert.AdamOutRefIdeal.Read.val_main_v11, Cert.AdamOutRefIdeal.Read.val_main_v7, Cert.AdamOutRefIdeal.Read.val_main_v6, Cert.AdamOutRefIdeal.Read.val_main_cst_2, Cert.AdamOutRefIdeal.Read.val_main_v10, Cert.AdamOutRefIdeal.Read.val_main_v9, Cert.AdamOutRefIdeal.Read.val_main_cst_3, Cert.AdamOutRefIdeal.Read.val_main_v8, Cert.AdamOutRefIdeal.Read.val_main_v14, Cert.AdamOutRefIdeal.Read.val_main_cst_5, Cert.AdamOutRefIdeal.Read.val_main_v17, Cert.AdamOutRefIdeal.Read.val_main_cst_6, Cert.AdamOutRefIdeal.Read.val_main_v21, Cert.AdamOutRefIdeal.Read.val_main_v20, Cert.AdamOutRefIdeal.Read.val_main_cst_7]
  simp only [Fin.sum_univ_eight]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S8x128x1024 .f32) (W : FVec Ideal S128x1024 .f32) (M : FVec Ideal S128x1024 .f32) (V0 : FVec Ideal S128x1024 .f32) : FVec Ideal S128x1024 .f32 :=
  Cert.AdamOutRefIdeal.Read.val_main_v5 (F := Ideal) P M

/-- What a point stores of the first moment, at an index of its block, is the reference at the array's index there. -/
theorem point2 (c : Dev nD) (t : Fin cfg0.N) (y) : k0_pay1 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay1, k0_pay4, Ref2, Cert.AdamOutRefIdeal.Read.val_main_v5, Cert.AdamOutRefIdeal.Read.val_main_v2, Cert.AdamOutRefIdeal.Read.val_main_v1, Cert.AdamOutRefIdeal.Read.val_main_cst_0, Cert.AdamOutRefIdeal.Read.val_main_v4, Cert.AdamOutRefIdeal.Read.val_main_v3, Cert.AdamOutRefIdeal.Read.val_main_cst_1, Cert.AdamOutRefIdeal.Read.val_main_v0, Cert.AdamOutRefIdeal.Read.val_main_cst]
  simp only [Fin.sum_univ_eight]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S8x128x1024 .f32) (W : FVec Ideal S128x1024 .f32) (M : FVec Ideal S128x1024 .f32) (V0 : FVec Ideal S128x1024 .f32) : FVec Ideal S128x1024 .f32 :=
  Cert.AdamOutRefIdeal.Read.val_main_v11 (F := Ideal) P V0

/-- What a point stores of the second moment, at an index of its block, is the reference at the array's index there. -/
theorem point3 (c : Dev nD) (t : Fin cfg0.N) (y) : k0_pay2 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay2, k0_pay4, Ref3, Cert.AdamOutRefIdeal.Read.val_main_v11, Cert.AdamOutRefIdeal.Read.val_main_v7, Cert.AdamOutRefIdeal.Read.val_main_v6, Cert.AdamOutRefIdeal.Read.val_main_cst_2, Cert.AdamOutRefIdeal.Read.val_main_v10, Cert.AdamOutRefIdeal.Read.val_main_v9, Cert.AdamOutRefIdeal.Read.val_main_cst_3, Cert.AdamOutRefIdeal.Read.val_main_v8, Cert.AdamOutRefIdeal.Read.val_main_v0, Cert.AdamOutRefIdeal.Read.val_main_cst]
  simp only [Fin.sum_univ_eight]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamOutIdeal.Value

end
-- ==== Proof.AdamU.lean ====
/-
The optimiser's step for a shard of the up projection: the sum of the devices' gradients, the step and the two moments, entry by entry.
-/
module

public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamUpIdeal.Value

open Cert.AdamUpIdeal Cert.AdamUpIdeal.Gen

variable (m : (ℓ : Loc nD τ sig) → Buf (Elt Ideal) ℓ)

/-- Where each window's block stands at each point of the grid. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The reference's term for the summed gradient, over the arguments. -/
abbrev Ref0 (P : FVec Ideal S8x704x1024 .f32) (W : FVec Ideal S704x1024 .f32) (M : FVec Ideal S704x1024 .f32) (V0 : FVec Ideal S704x1024 .f32) : FVec Ideal S704x1024 .f32 :=
  Cert.AdamUpRefIdeal.Read.val_main_v0 (F := Ideal) P

/-- What a point stores of the summed gradient, at an index of its block, is the reference at the array's index there. -/
theorem point0 (c : Dev nD) (t : Fin cfg0.N) (y) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay4, Ref0, Cert.AdamUpRefIdeal.Read.val_main_v0, Cert.AdamUpRefIdeal.Read.val_main_cst]
  simp only [Fin.sum_univ_eight]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S8x704x1024 .f32) (W : FVec Ideal S704x1024 .f32) (M : FVec Ideal S704x1024 .f32) (V0 : FVec Ideal S704x1024 .f32) : FVec Ideal S704x1024 .f32 :=
  Cert.AdamUpRefIdeal.Read.val_main_v24 (F := Ideal) P W M V0

/-- What a point stores of the step, at an index of its block, is the reference at the array's index there. -/
theorem point1 (c : Dev nD) (t : Fin cfg0.N) (y) : k0_pay3 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay3, k0_pay1, k0_pay2, k0_pay4, Ref1, Cert.AdamUpRefIdeal.Read.val_main_v24, Cert.AdamUpRefIdeal.Read.val_main_v23, Cert.AdamUpRefIdeal.Read.val_main_cst_8, Cert.AdamUpRefIdeal.Read.val_main_v22, Cert.AdamUpRefIdeal.Read.val_main_v19, Cert.AdamUpRefIdeal.Read.val_main_v13, Cert.AdamUpRefIdeal.Read.val_main_v5, Cert.AdamUpRefIdeal.Read.val_main_v2, Cert.AdamUpRefIdeal.Read.val_main_v1, Cert.AdamUpRefIdeal.Read.val_main_cst_0, Cert.AdamUpRefIdeal.Read.val_main_v4, Cert.AdamUpRefIdeal.Read.val_main_v3, Cert.AdamUpRefIdeal.Read.val_main_cst_1, Cert.AdamUpRefIdeal.Read.val_main_v0, Cert.AdamUpRefIdeal.Read.val_main_cst, Cert.AdamUpRefIdeal.Read.val_main_v12, Cert.AdamUpRefIdeal.Read.val_main_cst_4, Cert.AdamUpRefIdeal.Read.val_main_v18, Cert.AdamUpRefIdeal.Read.val_main_v16, Cert.AdamUpRefIdeal.Read.val_main_v15, Cert.AdamUpRefIdeal.Read.val_main_v11, Cert.AdamUpRefIdeal.Read.val_main_v7, Cert.AdamUpRefIdeal.Read.val_main_v6, Cert.AdamUpRefIdeal.Read.val_main_cst_2, Cert.AdamUpRefIdeal.Read.val_main_v10, Cert.AdamUpRefIdeal.Read.val_main_v9, Cert.AdamUpRefIdeal.Read.val_main_cst_3, Cert.AdamUpRefIdeal.Read.val_main_v8, Cert.AdamUpRefIdeal.Read.val_main_v14, Cert.AdamUpRefIdeal.Read.val_main_cst_5, Cert.AdamUpRefIdeal.Read.val_main_v17, Cert.AdamUpRefIdeal.Read.val_main_cst_6, Cert.AdamUpRefIdeal.Read.val_main_v21, Cert.AdamUpRefIdeal.Read.val_main_v20, Cert.AdamUpRefIdeal.Read.val_main_cst_7]
  simp only [Fin.sum_univ_eight]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S8x704x1024 .f32) (W : FVec Ideal S704x1024 .f32) (M : FVec Ideal S704x1024 .f32) (V0 : FVec Ideal S704x1024 .f32) : FVec Ideal S704x1024 .f32 :=
  Cert.AdamUpRefIdeal.Read.val_main_v5 (F := Ideal) P M

/-- What a point stores of the first moment, at an index of its block, is the reference at the array's index there. -/
theorem point2 (c : Dev nD) (t : Fin cfg0.N) (y) : k0_pay1 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay1, k0_pay4, Ref2, Cert.AdamUpRefIdeal.Read.val_main_v5, Cert.AdamUpRefIdeal.Read.val_main_v2, Cert.AdamUpRefIdeal.Read.val_main_v1, Cert.AdamUpRefIdeal.Read.val_main_cst_0, Cert.AdamUpRefIdeal.Read.val_main_v4, Cert.AdamUpRefIdeal.Read.val_main_v3, Cert.AdamUpRefIdeal.Read.val_main_cst_1, Cert.AdamUpRefIdeal.Read.val_main_v0, Cert.AdamUpRefIdeal.Read.val_main_cst]
  simp only [Fin.sum_univ_eight]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S8x704x1024 .f32) (W : FVec Ideal S704x1024 .f32) (M : FVec Ideal S704x1024 .f32) (V0 : FVec Ideal S704x1024 .f32) : FVec Ideal S704x1024 .f32 :=
  Cert.AdamUpRefIdeal.Read.val_main_v11 (F := Ideal) P V0

/-- What a point stores of the second moment, at an index of its block, is the reference at the array's index there. -/
theorem point3 (c : Dev nD) (t : Fin cfg0.N) (y) : k0_pay2 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay2, k0_pay4, Ref3, Cert.AdamUpRefIdeal.Read.val_main_v11, Cert.AdamUpRefIdeal.Read.val_main_v7, Cert.AdamUpRefIdeal.Read.val_main_v6, Cert.AdamUpRefIdeal.Read.val_main_cst_2, Cert.AdamUpRefIdeal.Read.val_main_v10, Cert.AdamUpRefIdeal.Read.val_main_v9, Cert.AdamUpRefIdeal.Read.val_main_cst_3, Cert.AdamUpRefIdeal.Read.val_main_v8, Cert.AdamUpRefIdeal.Read.val_main_v0, Cert.AdamUpRefIdeal.Read.val_main_cst]
  simp only [Fin.sum_univ_eight]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamUpIdeal.Value

end
-- ==== Proof.AdamC.lean ====
/-
The optimiser's step for a shard of the convolution's weights: the sum of the devices' gradients, the step and the two moments, entry by entry.
-/
module

public import proofs.«01_k».proof.Proof.Gen.AdamConvIdeal.Value
public import proofs.«01_k».proof.Proof.Gen.AdamConvRefIdeal.Run
public import proofs.«01_k».proof.Proof.Gen.AdamConvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamConvIdeal.Value

open Cert.AdamConvIdeal Cert.AdamConvIdeal.Gen

variable (m : (ℓ : Loc nD τ sig) → Buf (Elt Ideal) ℓ)

/-- Where each window's block stands at each point of the grid. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The reference's term for the summed gradient, over the arguments. -/
abbrev Ref0 (P : FVec Ideal S8x3x704 .f32) (W : FVec Ideal S3x704 .f32) (M : FVec Ideal S3x704 .f32) (V0 : FVec Ideal S3x704 .f32) : FVec Ideal S3x704 .f32 :=
  Cert.AdamConvRefIdeal.Read.val_main_v0 (F := Ideal) P

/-- What a point stores of the summed gradient, at an index of its block, is the reference at the array's index there. -/
theorem point0 (c : Dev nD) (t : Fin cfg0.N) (y) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay4, Ref0, Cert.AdamConvRefIdeal.Read.val_main_v0, Cert.AdamConvRefIdeal.Read.val_main_cst]
  simp only [Fin.sum_univ_eight]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S8x3x704 .f32) (W : FVec Ideal S3x704 .f32) (M : FVec Ideal S3x704 .f32) (V0 : FVec Ideal S3x704 .f32) : FVec Ideal S3x704 .f32 :=
  Cert.AdamConvRefIdeal.Read.val_main_v24 (F := Ideal) P W M V0

/-- What a point stores of the step, at an index of its block, is the reference at the array's index there. -/
theorem point1 (c : Dev nD) (t : Fin cfg0.N) (y) : k0_pay3 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay3, k0_pay1, k0_pay2, k0_pay4, Ref1, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v19, Cert.AdamConvRefIdeal.Read.val_main_v13, Cert.AdamConvRefIdeal.Read.val_main_v5, Cert.AdamConvRefIdeal.Read.val_main_v2, Cert.AdamConvRefIdeal.Read.val_main_v1, Cert.AdamConvRefIdeal.Read.val_main_cst_0, Cert.AdamConvRefIdeal.Read.val_main_v4, Cert.AdamConvRefIdeal.Read.val_main_v3, Cert.AdamConvRefIdeal.Read.val_main_cst_1, Cert.AdamConvRefIdeal.Read.val_main_v0, Cert.AdamConvRefIdeal.Read.val_main_cst, Cert.AdamConvRefIdeal.Read.val_main_v12, Cert.AdamConvRefIdeal.Read.val_main_cst_4, Cert.AdamConvRefIdeal.Read.val_main_v18, Cert.AdamConvRefIdeal.Read.val_main_v16, Cert.AdamConvRefIdeal.Read.val_main_v15, Cert.AdamConvRefIdeal.Read.val_main_v11, Cert.AdamConvRefIdeal.Read.val_main_v7, Cert.AdamConvRefIdeal.Read.val_main_v6, Cert.AdamConvRefIdeal.Read.val_main_cst_2, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v14, Cert.AdamConvRefIdeal.Read.val_main_cst_5, Cert.AdamConvRefIdeal.Read.val_main_v17, Cert.AdamConvRefIdeal.Read.val_main_cst_6, Cert.AdamConvRefIdeal.Read.val_main_v21, Cert.AdamConvRefIdeal.Read.val_main_v20, Cert.AdamConvRefIdeal.Read.val_main_cst_7]
  simp only [Fin.sum_univ_eight]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S8x3x704 .f32) (W : FVec Ideal S3x704 .f32) (M : FVec Ideal S3x704 .f32) (V0 : FVec Ideal S3x704 .f32) : FVec Ideal S3x704 .f32 :=
  Cert.AdamConvRefIdeal.Read.val_main_v5 (F := Ideal) P M

/-- What a point stores of the first moment, at an index of its block, is the reference at the array's index there. -/
theorem point2 (c : Dev nD) (t : Fin cfg0.N) (y) : k0_pay1 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay1, k0_pay4, Ref2, Cert.AdamConvRefIdeal.Read.val_main_v5, Cert.AdamConvRefIdeal.Read.val_main_v2, Cert.AdamConvRefIdeal.Read.val_main_v1, Cert.AdamConvRefIdeal.Read.val_main_cst_0, Cert.AdamConvRefIdeal.Read.val_main_v4, Cert.AdamConvRefIdeal.Read.val_main_v3, Cert.AdamConvRefIdeal.Read.val_main_cst_1, Cert.AdamConvRefIdeal.Read.val_main_v0, Cert.AdamConvRefIdeal.Read.val_main_cst]
  simp only [Fin.sum_univ_eight]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S8x3x704 .f32) (W : FVec Ideal S3x704 .f32) (M : FVec Ideal S3x704 .f32) (V0 : FVec Ideal S3x704 .f32) : FVec Ideal S3x704 .f32 :=
  Cert.AdamConvRefIdeal.Read.val_main_v11 (F := Ideal) P V0

/-- What a point stores of the second moment, at an index of its block, is the reference at the array's index there. -/
theorem point3 (c : Dev nD) (t : Fin cfg0.N) (y) : k0_pay2 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay2, k0_pay4, Ref3, Cert.AdamConvRefIdeal.Read.val_main_v11, Cert.AdamConvRefIdeal.Read.val_main_v7, Cert.AdamConvRefIdeal.Read.val_main_v6, Cert.AdamConvRefIdeal.Read.val_main_cst_2, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v0, Cert.AdamConvRefIdeal.Read.val_main_cst]
  simp only [Fin.sum_univ_eight]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamConvIdeal.Value

end
-- ==== Proof.AdamD.lean ====
/-
The optimiser's step for a shard of the down projection: the sum of the devices' gradients, the step and the two moments, entry by entry.
-/
module

public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamDownIdeal.Value

open Cert.AdamDownIdeal Cert.AdamDownIdeal.Gen

variable (m : (ℓ : Loc nD τ sig) → Buf (Elt Ideal) ℓ)

/-- Where each window's block stands at each point of the grid. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The reference's term for the summed gradient, over the arguments. -/
abbrev Ref0 (P : FVec Ideal S8x352x1024 .f32) (W : FVec Ideal S352x1024 .f32) (M : FVec Ideal S352x1024 .f32) (V0 : FVec Ideal S352x1024 .f32) : FVec Ideal S352x1024 .f32 :=
  Cert.AdamDownRefIdeal.Read.val_main_v0 (F := Ideal) P

/-- What a point stores of the summed gradient, at an index of its block, is the reference at the array's index there. -/
theorem point0 (c : Dev nD) (t : Fin cfg0.N) (y) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay4, Ref0, Cert.AdamDownRefIdeal.Read.val_main_v0, Cert.AdamDownRefIdeal.Read.val_main_cst]
  simp only [Fin.sum_univ_eight]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S8x352x1024 .f32) (W : FVec Ideal S352x1024 .f32) (M : FVec Ideal S352x1024 .f32) (V0 : FVec Ideal S352x1024 .f32) : FVec Ideal S352x1024 .f32 :=
  Cert.AdamDownRefIdeal.Read.val_main_v24 (F := Ideal) P W M V0

/-- What a point stores of the step, at an index of its block, is the reference at the array's index there. -/
theorem point1 (c : Dev nD) (t : Fin cfg0.N) (y) : k0_pay3 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay3, k0_pay1, k0_pay2, k0_pay4, Ref1, Cert.AdamDownRefIdeal.Read.val_main_v24, Cert.AdamDownRefIdeal.Read.val_main_v23, Cert.AdamDownRefIdeal.Read.val_main_cst_8, Cert.AdamDownRefIdeal.Read.val_main_v22, Cert.AdamDownRefIdeal.Read.val_main_v19, Cert.AdamDownRefIdeal.Read.val_main_v13, Cert.AdamDownRefIdeal.Read.val_main_v5, Cert.AdamDownRefIdeal.Read.val_main_v2, Cert.AdamDownRefIdeal.Read.val_main_v1, Cert.AdamDownRefIdeal.Read.val_main_cst_0, Cert.AdamDownRefIdeal.Read.val_main_v4, Cert.AdamDownRefIdeal.Read.val_main_v3, Cert.AdamDownRefIdeal.Read.val_main_cst_1, Cert.AdamDownRefIdeal.Read.val_main_v0, Cert.AdamDownRefIdeal.Read.val_main_cst, Cert.AdamDownRefIdeal.Read.val_main_v12, Cert.AdamDownRefIdeal.Read.val_main_cst_4, Cert.AdamDownRefIdeal.Read.val_main_v18, Cert.AdamDownRefIdeal.Read.val_main_v16, Cert.AdamDownRefIdeal.Read.val_main_v15, Cert.AdamDownRefIdeal.Read.val_main_v11, Cert.AdamDownRefIdeal.Read.val_main_v7, Cert.AdamDownRefIdeal.Read.val_main_v6, Cert.AdamDownRefIdeal.Read.val_main_cst_2, Cert.AdamDownRefIdeal.Read.val_main_v10, Cert.AdamDownRefIdeal.Read.val_main_v9, Cert.AdamDownRefIdeal.Read.val_main_cst_3, Cert.AdamDownRefIdeal.Read.val_main_v8, Cert.AdamDownRefIdeal.Read.val_main_v14, Cert.AdamDownRefIdeal.Read.val_main_cst_5, Cert.AdamDownRefIdeal.Read.val_main_v17, Cert.AdamDownRefIdeal.Read.val_main_cst_6, Cert.AdamDownRefIdeal.Read.val_main_v21, Cert.AdamDownRefIdeal.Read.val_main_v20, Cert.AdamDownRefIdeal.Read.val_main_cst_7]
  simp only [Fin.sum_univ_eight]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S8x352x1024 .f32) (W : FVec Ideal S352x1024 .f32) (M : FVec Ideal S352x1024 .f32) (V0 : FVec Ideal S352x1024 .f32) : FVec Ideal S352x1024 .f32 :=
  Cert.AdamDownRefIdeal.Read.val_main_v5 (F := Ideal) P M

/-- What a point stores of the first moment, at an index of its block, is the reference at the array's index there. -/
theorem point2 (c : Dev nD) (t : Fin cfg0.N) (y) : k0_pay1 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay1, k0_pay4, Ref2, Cert.AdamDownRefIdeal.Read.val_main_v5, Cert.AdamDownRefIdeal.Read.val_main_v2, Cert.AdamDownRefIdeal.Read.val_main_v1, Cert.AdamDownRefIdeal.Read.val_main_cst_0, Cert.AdamDownRefIdeal.Read.val_main_v4, Cert.AdamDownRefIdeal.Read.val_main_v3, Cert.AdamDownRefIdeal.Read.val_main_cst_1, Cert.AdamDownRefIdeal.Read.val_main_v0, Cert.AdamDownRefIdeal.Read.val_main_cst]
  simp only [Fin.sum_univ_eight]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S8x352x1024 .f32) (W : FVec Ideal S352x1024 .f32) (M : FVec Ideal S352x1024 .f32) (V0 : FVec Ideal S352x1024 .f32) : FVec Ideal S352x1024 .f32 :=
  Cert.AdamDownRefIdeal.Read.val_main_v11 (F := Ideal) P V0

/-- What a point stores of the second moment, at an index of its block, is the reference at the array's index there. -/
theorem point3 (c : Dev nD) (t : Fin cfg0.N) (y) : k0_pay2 (F := Ideal) (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay2, k0_pay4, Ref3, Cert.AdamDownRefIdeal.Read.val_main_v11, Cert.AdamDownRefIdeal.Read.val_main_v7, Cert.AdamDownRefIdeal.Read.val_main_v6, Cert.AdamDownRefIdeal.Read.val_main_cst_2, Cert.AdamDownRefIdeal.Read.val_main_v10, Cert.AdamDownRefIdeal.Read.val_main_v9, Cert.AdamDownRefIdeal.Read.val_main_cst_3, Cert.AdamDownRefIdeal.Read.val_main_v8, Cert.AdamDownRefIdeal.Read.val_main_v0, Cert.AdamDownRefIdeal.Read.val_main_cst]
  simp only [Fin.sum_univ_eight]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamDownIdeal.Value

end
-- ==== Proof.AdamA.lean ====
/-
The optimiser's step for a shard of the modulation's weights: the sum of the devices' gradients, the step and the two moments, entry by entry.
-/
module

public import proofs.«01_k».proof.Proof.Gen.AdamAdaIdeal.Value
public import proofs.«01_k».proof.Proof.Gen.AdamAdaRefIdeal.Run
public import proofs.«01_k».proof.Proof.Gen.AdamAdaRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamAdaIdeal.Value

open Cert.AdamAdaIdeal Cert.AdamAdaIdeal.Gen

variable (m : (ℓ : Loc nD τ sig) → Buf (Elt Ideal) ℓ)

/-- Where each window's block stands at each point of the grid. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The reference's term for the summed gradient, over the arguments. -/
abbrev Ref0 (P : FVec Ideal S1x1024x768 .f32) (W : FVec Ideal S1024x768 .f32) (M : FVec Ideal S1024x768 .f32) (V0 : FVec Ideal S1024x768 .f32) : FVec Ideal S1024x768 .f32 :=
  Cert.AdamAdaRefIdeal.Read.val_main_v0 (F := Ideal) P

/-- What a point stores of the summed gradient, at an index of its block, is the reference at the array's index there. -/
theorem point0 (c : Dev nD) (t : Fin cfg0.N) (y) : k0_pay1 (F := Ideal) (iblk m c 0 t) y
    = Ref0 (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay1, Ref0, Cert.AdamAdaRefIdeal.Read.val_main_v0, Cert.AdamAdaRefIdeal.Read.val_main_cst]
  simp only [Fin.sum_univ_one]
  blk_point [iblk, V, idx t]

/-- The summed gradient's array, as the call leaves it, is the reference of the arguments. -/
theorem final0 (c : Dev nD) : (dats m 0 c).arrAt 4 cfg0.N
    = Ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The reference's term for the step, over the arguments. -/
abbrev Ref1 (P : FVec Ideal S1x1024x768 .f32) (W : FVec Ideal S1024x768 .f32) (M : FVec Ideal S1024x768 .f32) (V0 : FVec Ideal S1024x768 .f32) : FVec Ideal S1024x768 .f32 :=
  Cert.AdamAdaRefIdeal.Read.val_main_v24 (F := Ideal) P W M V0

/-- What a point stores of the step, at an index of its block, is the reference at the array's index there. -/
theorem point1 (c : Dev nD) (t : Fin cfg0.N) (y) : k0_pay4 (F := Ideal) (iblk m c 0 t) (iblk m c 1 t) (iblk m c 2 t) (iblk m c 3 t) y
    = Ref1 (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay4, k0_pay2, k0_pay1, k0_pay3, Ref1, Cert.AdamAdaRefIdeal.Read.val_main_v24, Cert.AdamAdaRefIdeal.Read.val_main_v23, Cert.AdamAdaRefIdeal.Read.val_main_cst_8, Cert.AdamAdaRefIdeal.Read.val_main_v22, Cert.AdamAdaRefIdeal.Read.val_main_v19, Cert.AdamAdaRefIdeal.Read.val_main_v13, Cert.AdamAdaRefIdeal.Read.val_main_v5, Cert.AdamAdaRefIdeal.Read.val_main_v2, Cert.AdamAdaRefIdeal.Read.val_main_v1, Cert.AdamAdaRefIdeal.Read.val_main_cst_0, Cert.AdamAdaRefIdeal.Read.val_main_v4, Cert.AdamAdaRefIdeal.Read.val_main_v3, Cert.AdamAdaRefIdeal.Read.val_main_cst_1, Cert.AdamAdaRefIdeal.Read.val_main_v0, Cert.AdamAdaRefIdeal.Read.val_main_cst, Cert.AdamAdaRefIdeal.Read.val_main_v12, Cert.AdamAdaRefIdeal.Read.val_main_cst_4, Cert.AdamAdaRefIdeal.Read.val_main_v18, Cert.AdamAdaRefIdeal.Read.val_main_v16, Cert.AdamAdaRefIdeal.Read.val_main_v15, Cert.AdamAdaRefIdeal.Read.val_main_v11, Cert.AdamAdaRefIdeal.Read.val_main_v7, Cert.AdamAdaRefIdeal.Read.val_main_v6, Cert.AdamAdaRefIdeal.Read.val_main_cst_2, Cert.AdamAdaRefIdeal.Read.val_main_v10, Cert.AdamAdaRefIdeal.Read.val_main_v9, Cert.AdamAdaRefIdeal.Read.val_main_cst_3, Cert.AdamAdaRefIdeal.Read.val_main_v8, Cert.AdamAdaRefIdeal.Read.val_main_v14, Cert.AdamAdaRefIdeal.Read.val_main_cst_5, Cert.AdamAdaRefIdeal.Read.val_main_v17, Cert.AdamAdaRefIdeal.Read.val_main_cst_6, Cert.AdamAdaRefIdeal.Read.val_main_v21, Cert.AdamAdaRefIdeal.Read.val_main_v20, Cert.AdamAdaRefIdeal.Read.val_main_cst_7]
  simp only [Fin.sum_univ_one]
  blk_point [iblk, V, idx t]

/-- The step's array, as the call leaves it, is the reference of the arguments. -/
theorem final1 (c : Dev nD) : (dats m 0 c).arrAt 5 cfg0.N
    = Ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The reference's term for the first moment, over the arguments. -/
abbrev Ref2 (P : FVec Ideal S1x1024x768 .f32) (W : FVec Ideal S1024x768 .f32) (M : FVec Ideal S1024x768 .f32) (V0 : FVec Ideal S1024x768 .f32) : FVec Ideal S1024x768 .f32 :=
  Cert.AdamAdaRefIdeal.Read.val_main_v5 (F := Ideal) P M

/-- What a point stores of the first moment, at an index of its block, is the reference at the array's index there. -/
theorem point2 (c : Dev nD) (t : Fin cfg0.N) (y) : k0_pay2 (F := Ideal) (iblk m c 0 t) (iblk m c 2 t) y
    = Ref2 (m ((c : Thread nD τ).loc main_arg0)) (m ((c : Thread nD τ).loc main_arg1)) (m ((c : Thread nD τ).loc main_arg2)) (m ((c : Thread nD τ).loc main_arg3))
        (((cfg0.win 6).blk t).view.emb y) := by
  pointwise [k0_pay2, k0_pay1, Ref2, Cert.AdamAdaRefIdeal.Read.val_main_v5, Cert.AdamAdaRefIdeal.Read.val_main_v2, Cert.AdamAdaRefIdeal.Read.val_main_v1, Cert.AdamAdaRefIdeal.Read.val_main_cst_0, Cert.AdamAdaRefIdeal.Read.val_main_v4, Cert.AdamAdaRefIdeal.Read.val_main_v3, Cert.AdamAdaRefIdeal.Read.val_main_cst_1, Cert.AdamAdaRefIdeal.Read.val_main_v0, Cert.AdamAdaRefIdeal.Read.val_main_cst]
  simp only [Fin.sum_univ_one]
  blk_point [iblk, V, idx t]

/-- The first moment's array, as the call leaves it, is the reference of the arguments. -/
theorem final2 (c : Dev nD) : (dats m 0 c).arrAt 6 cfg0.N
    = Ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point2 m c t y

/-- The reference's term for the second moment, over the arguments. -/
abbrev Ref3 (P : FVec Ideal S1x1024x768 .f32) (W : FVec Ideal S1024x768 .f32) (M : FVec Ideal S1024x768 .f32) (V0 : FVec Ideal S1024x768 .f32) : FVec Ideal S1024x768 .f32 :=
  Cert.AdamAdaRefIdeal.Read.val_main_v11 (F := Ideal) P V0

/-- What a point stores of the second moment, at an index of its block, is the reference at the array's index there. -/
theorem point3 (c : Dev nD) (t : Fin cfg0.N) (y) : k0_pay3 (F := Ideal) (iblk m c 0 t) (iblk m c 3 t) y
    = Ref3 (m ((c : Thread nD τ).loc main_arg0)) (m ((c : Thread nD τ).loc main_arg1)) (m ((c : Thread nD τ).loc main_arg2)) (m ((c : Thread nD τ).loc main_arg3))
        (((cfg0.win 7).blk t).view.emb y) := by
  pointwise [k0_pay3, k0_pay1, Ref3, Cert.AdamAdaRefIdeal.Read.val_main_v11, Cert.AdamAdaRefIdeal.Read.val_main_v7, Cert.AdamAdaRefIdeal.Read.val_main_v6, Cert.AdamAdaRefIdeal.Read.val_main_cst_2, Cert.AdamAdaRefIdeal.Read.val_main_v10, Cert.AdamAdaRefIdeal.Read.val_main_v9, Cert.AdamAdaRefIdeal.Read.val_main_cst_3, Cert.AdamAdaRefIdeal.Read.val_main_v8, Cert.AdamAdaRefIdeal.Read.val_main_v0, Cert.AdamAdaRefIdeal.Read.val_main_cst]
  simp only [Fin.sum_univ_one]
  blk_point [iblk, V, idx t]

/-- The second moment's array, as the call leaves it, is the reference of the arguments. -/
theorem final3 (c : Dev nD) : (dats m 0 c).arrAt 7 cfg0.N
    = Ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point3 m c t y

end Cert.AdamAdaIdeal.Value

end
-- ==== Proof.Steps.lean ====
/-
The statements about the calls of the step that are norms, the loss or the optimiser's: frames, and the equality of the
call's results with the reference's over any arguments.
-/
module

public import proofs.«01_k».proof.Defs
public import proofs.«01_k».proof.Proof.Gen.NormBwd.Frame
public import proofs.«01_k».proof.Proof.Gen.NormBwdIdeal.Frame
public import proofs.«01_k».proof.Proof.NormB
public import proofs.«01_k».proof.Proof.Gen.ResidBwd.Frame
public import proofs.«01_k».proof.Proof.Gen.ResidBwdIdeal.Frame
public import proofs.«01_k».proof.Proof.ResidB
public import proofs.«01_k».proof.Proof.Gen.Final.Frame
public import proofs.«01_k».proof.Proof.Gen.FinalIdeal.Frame
public import proofs.«01_k».proof.Proof.FinalG
public import proofs.«01_k».proof.Proof.Gen.AdamIn.Frame
public import proofs.«01_k».proof.Proof.Gen.AdamInIdeal.Frame
public import proofs.«01_k».proof.Proof.AdamI
public import proofs.«01_k».proof.Proof.Gen.AdamFg2.Frame
public import proofs.«01_k».proof.Proof.Gen.AdamFg2Ideal.Frame
public import proofs.«01_k».proof.Proof.AdamF
public import proofs.«01_k».proof.Proof.Gen.AdamOut.Frame
public import proofs.«01_k».proof.Proof.Gen.AdamOutIdeal.Frame
public import proofs.«01_k».proof.Proof.AdamO
public import proofs.«01_k».proof.Proof.Gen.AdamUp.Frame
public import proofs.«01_k».proof.Proof.Gen.AdamUpIdeal.Frame
public import proofs.«01_k».proof.Proof.AdamU
public import proofs.«01_k».proof.Proof.Gen.AdamConv.Frame
public import proofs.«01_k».proof.Proof.Gen.AdamConvIdeal.Frame
public import proofs.«01_k».proof.Proof.AdamC
public import proofs.«01_k».proof.Proof.Gen.AdamDown.Frame
public import proofs.«01_k».proof.Proof.Gen.AdamDownIdeal.Frame
public import proofs.«01_k».proof.Proof.AdamD
public import proofs.«01_k».proof.Proof.Gen.AdamAda.Frame
public import proofs.«01_k».proof.Proof.Gen.AdamAdaIdeal.Frame
public import proofs.«01_k».proof.Proof.AdamA
public import Idealize.ShloMosaic.Adequacy
public import Idealize.ShloMosaic.Init

@[expose] public section

set_option maxRecDepth 16384

noncomputable section

namespace Cert.Calls

open Idealize.ShloMosaic Idealize.ShloMosaic.TcCoe Idealize.SL.Sem

/-- `NormBwdRef`'s frame: its run read at the arguments; it declares no semaphore. -/
theorem frame_NormBwdRef : Cert.quiescent_NormBwdRefIdeal := by
  intro m g _
  exact (θ_run (Cert.NormBwdRefIdeal.defs (F := Ideal)) _ _).mono
    (fun r h => ⟨fun c => (h c).2.2.2.2, sem_eq_zero_of_no_sems (by decide) r.2⟩) (Cert.NormBwdRefIdeal.Value.run m g)

open Cert.NormBwdIdeal in
/-- `NormBwd`'s results are its reference's. -/
theorem equal_NormBwd : Cert.algebraic_NormBwdIdeal_NormBwdRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Value.Ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Value.Ref2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Value.Ref3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run (Cert.NormBwdIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (NormBwdRefIdeal.defs (F := Ideal)) _ _).mono
      (fun r h c => ⟨(h c).1.trans ((NormBwdRefIdeal.Read.val_main_v48_eq (F := Ideal) m' c).trans (by rw [(ha c).1, (ha c).2.1, (ha c).2.2.1, (ha c).2.2.2.1, (ha c).2.2.2.2.1])),
        (h c).2.1.trans (by rw [(ha c).1, (ha c).2.1, (ha c).2.2.2.2.1]; exact NormBwdRefIdeal.Read.val_main_v31_eq (F := Ideal) (m ((c.tc : Thread nD τ).loc main_arg0)) (m ((c.tc : Thread nD τ).loc main_arg1)) (m ((c.tc : Thread nD τ).loc main_arg4))),
        (h c).2.2.1.trans (by rw [(ha c).1, (ha c).2.1, (ha c).2.2.2.1]; exact NormBwdRefIdeal.Read.val_main_v26_eq (F := Ideal) (m ((c.tc : Thread nD τ).loc main_arg0)) (m ((c.tc : Thread nD τ).loc main_arg1)) (m ((c.tc : Thread nD τ).loc main_arg3))),
        (h c).2.2.2.1.trans (by rw [(ha c).2.1]; exact NormBwdRefIdeal.Read.val_main_v23_eq (F := Ideal) (m ((c.tc : Thread nD τ).loc main_arg1))), (h c).2.2.2.2⟩)
      (NormBwdRefIdeal.Value.run m' g')⟩

/-- `ResidBwdRef`'s frame: its run read at the arguments; it declares no semaphore. -/
theorem frame_ResidBwdRef : Cert.quiescent_ResidBwdRefIdeal := by
  intro m g _
  exact (θ_run (Cert.ResidBwdRefIdeal.defs (F := Ideal)) _ _).mono
    (fun r h => ⟨fun c => (h c).2.2.2.2.2.2, sem_eq_zero_of_no_sems (by decide) r.2⟩) (Cert.ResidBwdRefIdeal.Value.run m g)

open Cert.ResidBwdIdeal in
/-- `ResidBwd`'s results are its reference's. -/
theorem equal_ResidBwd : Cert.algebraic_ResidBwdIdeal_ResidBwdRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Value.Ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Value.Ref2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Value.Ref3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Value.Ref4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Value.Ref5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    (θ_run (Cert.ResidBwdIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2.1.trans (Value.final4 m c), (h c).2.2.2.2.2.1.trans (Value.final5 m c), (h c).2.2.2.2.2.2⟩)
      (Value.run_blocks m g),
    (θ_run (ResidBwdRefIdeal.defs (F := Ideal)) _ _).mono
      (fun r h c => ⟨(h c).1.trans ((ResidBwdRefIdeal.Read.val_main_v53_eq (F := Ideal) m' c).trans (by rw [(ha c).1, (ha c).2.1, (ha c).2.2.1, (ha c).2.2.2.1, (ha c).2.2.2.2.1, (ha c).2.2.2.2.2.1, (ha c).2.2.2.2.2.2.1])),
        (h c).2.1.trans ((ResidBwdRefIdeal.Read.val_main_v60_eq (F := Ideal) m' c).trans (by rw [(ha c).1, (ha c).2.1, (ha c).2.2.1, (ha c).2.2.2.1, (ha c).2.2.2.2.1, (ha c).2.2.2.2.2.1, (ha c).2.2.2.2.2.2.1])),
        (h c).2.2.1.trans ((ResidBwdRefIdeal.Read.val_main_v59_eq (F := Ideal) m' c).trans (by rw [(ha c).1, (ha c).2.1, (ha c).2.2.1, (ha c).2.2.2.1, (ha c).2.2.2.2.1, (ha c).2.2.2.2.2.1, (ha c).2.2.2.2.2.2.1])),
        (h c).2.2.2.1.trans (by rw [(ha c).1, (ha c).2.1, (ha c).2.2.2.1, (ha c).2.2.2.2.1, (ha c).2.2.2.2.2.2.1]; exact ResidBwdRefIdeal.Read.val_main_v36_eq (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6))),
        (h c).2.2.2.2.1.trans (by rw [(ha c).1, (ha c).2.1, (ha c).2.2.2.1, (ha c).2.2.2.2.1, (ha c).2.2.2.2.2.1]; exact ResidBwdRefIdeal.Read.val_main_v31_eq (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))),
        (h c).2.2.2.2.2.1.trans (by rw [(ha c).2.2.2.1]; exact ResidBwdRefIdeal.Read.val_main_v28_eq (F := Ideal) (m ((c.tc : Thread nD τ).loc main_arg3))), (h c).2.2.2.2.2.2⟩)
      (ResidBwdRefIdeal.Value.run m' g')⟩

/-- `FinalRef`'s frame: its run read at the arguments; it declares no semaphore. -/
theorem frame_FinalRef : Cert.quiescent_FinalRefIdeal := by
  intro m g _
  exact (θ_run (Cert.FinalRefIdeal.defs (F := Ideal)) _ _).mono
    (fun r h => ⟨fun c => (h c).2.2.2.2.2, sem_eq_zero_of_no_sems (by decide) r.2⟩) (Cert.FinalRefIdeal.Value.run m g)

open Cert.FinalIdeal in
/-- `Final`'s results are its reference's. -/
theorem equal_Final : Cert.algebraic_FinalIdeal_FinalRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Value.Ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Value.Ref2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Value.Ref3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Value.Ref4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run (Cert.FinalIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2.1.trans (Value.final4 m c), (h c).2.2.2.2.2⟩)
      (Value.run_blocks m g),
    (θ_run (FinalRefIdeal.defs (F := Ideal)) _ _).mono
      (fun r h c => ⟨(h c).1.trans ((FinalRefIdeal.Read.val_main_v53_eq (F := Ideal) m' c).trans (by rw [(ha c).1, (ha c).2.1, (ha c).2.2.1, (ha c).2.2.2.1, (ha c).2.2.2.2])),
        (h c).2.1.trans ((FinalRefIdeal.Read.val_main_v59_eq (F := Ideal) m' c).trans (by rw [(ha c).1, (ha c).2.1, (ha c).2.2.1, (ha c).2.2.2.1, (ha c).2.2.2.2])),
        (h c).2.2.1.trans ((FinalRefIdeal.Read.val_main_v58_eq (F := Ideal) m' c).trans (by rw [(ha c).1, (ha c).2.1, (ha c).2.2.1, (ha c).2.2.2.1, (ha c).2.2.2.2])),
        (h c).2.2.2.1.trans (by rw [(ha c).1, (ha c).2.1, (ha c).2.2.1, (ha c).2.2.2.1, (ha c).2.2.2.2]; exact FinalRefIdeal.Read.val_main_v37_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
        (h c).2.2.2.2.1.trans (by rw [(ha c).1, (ha c).2.1, (ha c).2.2.1, (ha c).2.2.2.1, (ha c).2.2.2.2]; exact FinalRefIdeal.Read.val_main_v60_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))), (h c).2.2.2.2.2⟩)
      (FinalRefIdeal.Value.run m' g')⟩

/-- `AdamInRef`'s frame: its run read at the arguments; it declares no semaphore. -/
theorem frame_AdamInRef : Cert.quiescent_AdamInRefIdeal := by
  intro m g _
  exact (θ_run (Cert.AdamInRefIdeal.defs (F := Ideal)) _ _).mono
    (fun r h => ⟨fun c => (h c).2.2.2.2, sem_eq_zero_of_no_sems (by decide) r.2⟩) (Cert.AdamInRefIdeal.Value.run m g)

open Cert.AdamInIdeal in
/-- `AdamIn`'s results are its reference's. -/
theorem equal_AdamIn : Cert.algebraic_AdamInIdeal_AdamInRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamInIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamInRefIdeal.defs (F := Ideal)) _ _).mono
      (fun r h c => ⟨(h c).1.trans (by rw [(ha c).1]; exact AdamInRefIdeal.Read.val_main_v1_eq (F := Ideal) (m ((c.tc : Thread nD τ).loc main_arg0))),
        (h c).2.1.trans (by rw [(ha c).1, (ha c).2.1, (ha c).2.2.1, (ha c).2.2.2]; exact AdamInRefIdeal.Read.val_main_v25_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamInRefIdeal.Read.val_main_v6_eq (F := Ideal) (m ((c.tc : Thread nD τ).loc main_arg0)) (m ((c.tc : Thread nD τ).loc main_arg2))),
        (h c).2.2.2.1.trans (by rw [(ha c).1, (ha c).2.2.2]; exact AdamInRefIdeal.Read.val_main_v12_eq (F := Ideal) (m ((c.tc : Thread nD τ).loc main_arg0)) (m ((c.tc : Thread nD τ).loc main_arg3))), (h c).2.2.2.2⟩)
      (AdamInRefIdeal.Value.run m' g')⟩

/-- `AdamFg2Ref`'s frame: its run read at the arguments; it declares no semaphore. -/
theorem frame_AdamFg2Ref : Cert.quiescent_AdamFg2RefIdeal := by
  intro m g _
  exact (θ_run (Cert.AdamFg2RefIdeal.defs (F := Ideal)) _ _).mono
    (fun r h => ⟨fun c => (h c).2.2.2.2, sem_eq_zero_of_no_sems (by decide) r.2⟩) (Cert.AdamFg2RefIdeal.Value.run m g)

open Cert.AdamFg2Ideal in
/-- `AdamFg2`'s results are its reference's. -/
theorem equal_AdamFg2 : Cert.algebraic_AdamFg2Ideal_AdamFg2RefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamFg2Ideal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamFg2RefIdeal.defs (F := Ideal)) _ _).mono
      (fun r h c => ⟨(h c).1.trans (by rw [(ha c).1]; exact AdamFg2RefIdeal.Read.val_main_v0_eq (F := Ideal) (m ((c.tc : Thread nD τ).loc main_arg0))),
        (h c).2.1.trans (by rw [(ha c).1, (ha c).2.1, (ha c).2.2.1, (ha c).2.2.2]; exact AdamFg2RefIdeal.Read.val_main_v24_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamFg2RefIdeal.Read.val_main_v5_eq (F := Ideal) (m ((c.tc : Thread nD τ).loc main_arg0)) (m ((c.tc : Thread nD τ).loc main_arg2))),
        (h c).2.2.2.1.trans (by rw [(ha c).1, (ha c).2.2.2]; exact AdamFg2RefIdeal.Read.val_main_v11_eq (F := Ideal) (m ((c.tc : Thread nD τ).loc main_arg0)) (m ((c.tc : Thread nD τ).loc main_arg3))), (h c).2.2.2.2⟩)
      (AdamFg2RefIdeal.Value.run m' g')⟩

/-- `AdamOutRef`'s frame: its run read at the arguments; it declares no semaphore. -/
theorem frame_AdamOutRef : Cert.quiescent_AdamOutRefIdeal := by
  intro m g _
  exact (θ_run (Cert.AdamOutRefIdeal.defs (F := Ideal)) _ _).mono
    (fun r h => ⟨fun c => (h c).2.2.2.2, sem_eq_zero_of_no_sems (by decide) r.2⟩) (Cert.AdamOutRefIdeal.Value.run m g)

open Cert.AdamOutIdeal in
/-- `AdamOut`'s results are its reference's. -/
theorem equal_AdamOut : Cert.algebraic_AdamOutIdeal_AdamOutRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamOutIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamOutRefIdeal.defs (F := Ideal)) _ _).mono
      (fun r h c => ⟨(h c).1.trans (by rw [(ha c).1]; exact AdamOutRefIdeal.Read.val_main_v0_eq (F := Ideal) (m ((c.tc : Thread nD τ).loc main_arg0))),
        (h c).2.1.trans (by rw [(ha c).1, (ha c).2.1, (ha c).2.2.1, (ha c).2.2.2]; exact AdamOutRefIdeal.Read.val_main_v24_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamOutRefIdeal.Read.val_main_v5_eq (F := Ideal) (m ((c.tc : Thread nD τ).loc main_arg0)) (m ((c.tc : Thread nD τ).loc main_arg2))),
        (h c).2.2.2.1.trans (by rw [(ha c).1, (ha c).2.2.2]; exact AdamOutRefIdeal.Read.val_main_v11_eq (F := Ideal) (m ((c.tc : Thread nD τ).loc main_arg0)) (m ((c.tc : Thread nD τ).loc main_arg3))), (h c).2.2.2.2⟩)
      (AdamOutRefIdeal.Value.run m' g')⟩

/-- `AdamUpRef`'s frame: its run read at the arguments; it declares no semaphore. -/
theorem frame_AdamUpRef : Cert.quiescent_AdamUpRefIdeal := by
  intro m g _
  exact (θ_run (Cert.AdamUpRefIdeal.defs (F := Ideal)) _ _).mono
    (fun r h => ⟨fun c => (h c).2.2.2.2, sem_eq_zero_of_no_sems (by decide) r.2⟩) (Cert.AdamUpRefIdeal.Value.run m g)

open Cert.AdamUpIdeal in
/-- `AdamUp`'s results are its reference's. -/
theorem equal_AdamUp : Cert.algebraic_AdamUpIdeal_AdamUpRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamUpIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamUpRefIdeal.defs (F := Ideal)) _ _).mono
      (fun r h c => ⟨(h c).1.trans (by rw [(ha c).1]; exact AdamUpRefIdeal.Read.val_main_v0_eq (F := Ideal) (m ((c.tc : Thread nD τ).loc main_arg0))),
        (h c).2.1.trans (by rw [(ha c).1, (ha c).2.1, (ha c).2.2.1, (ha c).2.2.2]; exact AdamUpRefIdeal.Read.val_main_v24_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamUpRefIdeal.Read.val_main_v5_eq (F := Ideal) (m ((c.tc : Thread nD τ).loc main_arg0)) (m ((c.tc : Thread nD τ).loc main_arg2))),
        (h c).2.2.2.1.trans (by rw [(ha c).1, (ha c).2.2.2]; exact AdamUpRefIdeal.Read.val_main_v11_eq (F := Ideal) (m ((c.tc : Thread nD τ).loc main_arg0)) (m ((c.tc : Thread nD τ).loc main_arg3))), (h c).2.2.2.2⟩)
      (AdamUpRefIdeal.Value.run m' g')⟩

/-- `AdamConvRef`'s frame: its run read at the arguments; it declares no semaphore. -/
theorem frame_AdamConvRef : Cert.quiescent_AdamConvRefIdeal := by
  intro m g _
  exact (θ_run (Cert.AdamConvRefIdeal.defs (F := Ideal)) _ _).mono
    (fun r h => ⟨fun c => (h c).2.2.2.2, sem_eq_zero_of_no_sems (by decide) r.2⟩) (Cert.AdamConvRefIdeal.Value.run m g)

open Cert.AdamConvIdeal in
/-- `AdamConv`'s results are its reference's. -/
theorem equal_AdamConv : Cert.algebraic_AdamConvIdeal_AdamConvRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamConvIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamConvRefIdeal.defs (F := Ideal)) _ _).mono
      (fun r h c => ⟨(h c).1.trans (by rw [(ha c).1]; exact AdamConvRefIdeal.Read.val_main_v0_eq (F := Ideal) (m ((c.tc : Thread nD τ).loc main_arg0))),
        (h c).2.1.trans (by rw [(ha c).1, (ha c).2.1, (ha c).2.2.1, (ha c).2.2.2]; exact AdamConvRefIdeal.Read.val_main_v24_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamConvRefIdeal.Read.val_main_v5_eq (F := Ideal) (m ((c.tc : Thread nD τ).loc main_arg0)) (m ((c.tc : Thread nD τ).loc main_arg2))),
        (h c).2.2.2.1.trans (by rw [(ha c).1, (ha c).2.2.2]; exact AdamConvRefIdeal.Read.val_main_v11_eq (F := Ideal) (m ((c.tc : Thread nD τ).loc main_arg0)) (m ((c.tc : Thread nD τ).loc main_arg3))), (h c).2.2.2.2⟩)
      (AdamConvRefIdeal.Value.run m' g')⟩

/-- `AdamDownRef`'s frame: its run read at the arguments; it declares no semaphore. -/
theorem frame_AdamDownRef : Cert.quiescent_AdamDownRefIdeal := by
  intro m g _
  exact (θ_run (Cert.AdamDownRefIdeal.defs (F := Ideal)) _ _).mono
    (fun r h => ⟨fun c => (h c).2.2.2.2, sem_eq_zero_of_no_sems (by decide) r.2⟩) (Cert.AdamDownRefIdeal.Value.run m g)

open Cert.AdamDownIdeal in
/-- `AdamDown`'s results are its reference's. -/
theorem equal_AdamDown : Cert.algebraic_AdamDownIdeal_AdamDownRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamDownIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamDownRefIdeal.defs (F := Ideal)) _ _).mono
      (fun r h c => ⟨(h c).1.trans (by rw [(ha c).1]; exact AdamDownRefIdeal.Read.val_main_v0_eq (F := Ideal) (m ((c.tc : Thread nD τ).loc main_arg0))),
        (h c).2.1.trans (by rw [(ha c).1, (ha c).2.1, (ha c).2.2.1, (ha c).2.2.2]; exact AdamDownRefIdeal.Read.val_main_v24_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamDownRefIdeal.Read.val_main_v5_eq (F := Ideal) (m ((c.tc : Thread nD τ).loc main_arg0)) (m ((c.tc : Thread nD τ).loc main_arg2))),
        (h c).2.2.2.1.trans (by rw [(ha c).1, (ha c).2.2.2]; exact AdamDownRefIdeal.Read.val_main_v11_eq (F := Ideal) (m ((c.tc : Thread nD τ).loc main_arg0)) (m ((c.tc : Thread nD τ).loc main_arg3))), (h c).2.2.2.2⟩)
      (AdamDownRefIdeal.Value.run m' g')⟩

/-- `AdamAdaRef`'s frame: its run read at the arguments; it declares no semaphore. -/
theorem frame_AdamAdaRef : Cert.quiescent_AdamAdaRefIdeal := by
  intro m g _
  exact (θ_run (Cert.AdamAdaRefIdeal.defs (F := Ideal)) _ _).mono
    (fun r h => ⟨fun c => (h c).2.2.2.2, sem_eq_zero_of_no_sems (by decide) r.2⟩) (Cert.AdamAdaRefIdeal.Value.run m g)

open Cert.AdamAdaIdeal in
/-- `AdamAda`'s results are its reference's. -/
theorem equal_AdamAda : Cert.algebraic_AdamAdaIdeal_AdamAdaRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)),
    fun c => Value.Ref1 (m ((c.tc : Thread nD τ).loc main_arg0)) (m ((c.tc : Thread nD τ).loc main_arg1)) (m ((c.tc : Thread nD τ).loc main_arg2)) (m ((c.tc : Thread nD τ).loc main_arg3)),
    fun c => Value.Ref2 (m ((c.tc : Thread nD τ).loc main_arg0)) (m ((c.tc : Thread nD τ).loc main_arg1)) (m ((c.tc : Thread nD τ).loc main_arg2)) (m ((c.tc : Thread nD τ).loc main_arg3)),
    fun c => Value.Ref3 (m ((c.tc : Thread nD τ).loc main_arg0)) (m ((c.tc : Thread nD τ).loc main_arg1)) (m ((c.tc : Thread nD τ).loc main_arg2)) (m ((c.tc : Thread nD τ).loc main_arg3)),
    (θ_run (Cert.AdamAdaIdeal.defs (F := Ideal)) _ _).mono
      (fun r h c => ⟨(h c).1.trans (Value.final0 m c), (h c).2.1.trans (Value.final1 m c), (h c).2.2.1.trans (Value.final2 m c), (h c).2.2.2.1.trans (Value.final3 m c), (h c).2.2.2.2⟩)
      (Value.run_blocks m g),
    (θ_run (AdamAdaRefIdeal.defs (F := Ideal)) _ _).mono
      (fun r h c => ⟨(h c).1.trans (by rw [(ha c).1]; exact AdamAdaRefIdeal.Read.val_main_v0_eq (F := Ideal) (m ((c.tc : Thread nD τ).loc main_arg0))),
        (h c).2.1.trans (by rw [(ha c).1, (ha c).2.1, (ha c).2.2.1, (ha c).2.2.2]; exact AdamAdaRefIdeal.Read.val_main_v24_eq (F := Ideal) (m ((c.tc : Thread nD τ).loc main_arg0)) (m ((c.tc : Thread nD τ).loc main_arg1)) (m ((c.tc : Thread nD τ).loc main_arg2)) (m ((c.tc : Thread nD τ).loc main_arg3))),
        (h c).2.2.1.trans (by rw [(ha c).1, (ha c).2.2.1]; exact AdamAdaRefIdeal.Read.val_main_v5_eq (F := Ideal) (m ((c.tc : Thread nD τ).loc main_arg0)) (m ((c.tc : Thread nD τ).loc main_arg2))),
        (h c).2.2.2.1.trans (by rw [(ha c).1, (ha c).2.2.2]; exact AdamAdaRefIdeal.Read.val_main_v11_eq (F := Ideal) (m ((c.tc : Thread nD τ).loc main_arg0)) (m ((c.tc : Thread nD τ).loc main_arg3))), (h c).2.2.2.2⟩)
      (AdamAdaRefIdeal.Value.run m' g')⟩

end Cert.Calls

end
-- ==== Proof.ResidN.lean ====
/-
The first residual sum and its norm with the modulation, entry by entry.
-/
module

public import proofs.«01_k».proof.Proof.Gen.ResidNormIdeal.Value
public import proofs.«01_k».proof.Proof.Gen.ResidNormRefIdeal.Run
public import proofs.«01_k».proof.Proof.Gen.ResidNormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResidNormIdeal.Value

open Cert.ResidNormIdeal Cert.ResidNormIdeal.Gen

variable (m : (ℓ : Loc nD τ sig) → Buf (Elt Ideal) ℓ)

/-- Where each window's block stands at each point of the grid. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- The reference's term for the residual sum, over the arguments. -/
abbrev Ref0 (x : FVec Ideal S8192x1024 .f32) (y : FVec Ideal S8192x1024 .f32) (gt : FVec Ideal S1x1024 .f32) (g : FVec Ideal S1x1024 .f32) (sc : FVec Ideal S1x1024 .f32) (sh : FVec Ideal S1x1024 .f32) : FVec Ideal S8192x1024 .f32 :=
  Cert.ResidNormRefIdeal.Read.val_main_v4 (F := Ideal) x y gt

/-- What a point stores of the residual sum, at an index of its block, is the reference at the array's index there. -/
theorem point0 (c : Dev nD) (t : Fin cfg0.N) (y) : k0_pay1 (F := Ideal) (iblk m c 0 t) (iblk m c 1 t) (iblk m c 2 t) y
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (((cfg0.win 6).blk t).view.emb y) := by
  pointwise [k0_pay2, k0_pay1, Ref0, Cert.ResidNormRefIdeal.Read.val_main_v4, Cert.ResidNormRefIdeal.Read.val_main_v3, Cert.ResidNormRefIdeal.Read.val_main_v2, Cert.ResidNormRefIdeal.Read.val_main_v1, Cert.ResidNormRefIdeal.Read.val_main_v0, Cert.ResidNormRefIdeal.Read.val_main_cst]
  blk_point [iblk, V, idx t]

/-- The array of the residual sum, as the call leaves it, is the reference of the arguments. -/
theorem ends0 (c : Dev nD) : (dats m 0 c).arrAt 6 cfg0.N
    = Ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point0 m c t y

/-- The reference's term for the modulated norm, over the arguments. -/
abbrev Ref1 (x : FVec Ideal S8192x1024 .f32) (y : FVec Ideal S8192x1024 .f32) (gt : FVec Ideal S1x1024 .f32) (g : FVec Ideal S1x1024 .f32) (sc : FVec Ideal S1x1024 .f32) (sh : FVec Ideal S1x1024 .f32) : FVec Ideal S8192x1024 .bf16 :=
  Cert.ResidNormRefIdeal.Read.val_main_v23 (F := Ideal) x y gt g sc sh

/-- What a point stores of the modulated norm, at an index of its block, is the reference at the array's index there. -/
theorem point1 (c : Dev nD) (t : Fin cfg0.N) (y) : k0_pay2 (F := Ideal) (iblk m c 0 t) (iblk m c 1 t) (iblk m c 2 t) (iblk m c 3 t) (iblk m c 4 t) (iblk m c 5 t) y
    = Ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (((cfg0.win 7).blk t).view.emb y) := by
  pointwise [k0_pay2, k0_pay1, Ref1, Cert.ResidNormRefIdeal.Read.val_main_v23, Cert.ResidNormRefIdeal.Read.val_main_v22, Cert.ResidNormRefIdeal.Read.val_main_v20, Cert.ResidNormRefIdeal.Read.val_main_v16, Cert.ResidNormRefIdeal.Read.val_main_v14, Cert.ResidNormRefIdeal.Read.val_main_v4, Cert.ResidNormRefIdeal.Read.val_main_v3, Cert.ResidNormRefIdeal.Read.val_main_v2, Cert.ResidNormRefIdeal.Read.val_main_v1, Cert.ResidNormRefIdeal.Read.val_main_v0, Cert.ResidNormRefIdeal.Read.val_main_cst, Cert.ResidNormRefIdeal.Read.val_main_v13, Cert.ResidNormRefIdeal.Read.val_main_v12, Cert.ResidNormRefIdeal.Read.val_main_v11, Cert.ResidNormRefIdeal.Read.val_main_v9, Cert.ResidNormRefIdeal.Read.val_main_v7, Cert.ResidNormRefIdeal.Read.val_main_v6, Cert.ResidNormRefIdeal.Read.val_main_v5, Cert.ResidNormRefIdeal.Read.val_main_cst_0, Cert.ResidNormRefIdeal.Read.val_main_v8, Cert.ResidNormRefIdeal.Read.val_main_cst_1, Cert.ResidNormRefIdeal.Read.val_main_v10, Cert.ResidNormRefIdeal.Read.val_main_cst_2, Cert.ResidNormRefIdeal.Read.val_main_v15, Cert.ResidNormRefIdeal.Read.val_main_v19, Cert.ResidNormRefIdeal.Read.val_main_v18, Cert.ResidNormRefIdeal.Read.val_main_v17, Cert.ResidNormRefIdeal.Read.val_main_cst_3, Cert.ResidNormRefIdeal.Read.val_main_v21]
  blk_point [iblk, V, idx t]

/-- The array of the modulated norm, as the call leaves it, is the reference of the arguments. -/
theorem ends1 (c : Dev nD) : (dats m 0 c).arrAt 7 cfg0.N
    = Ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point1 m c t y

end Cert.ResidNormIdeal.Value

end
-- ==== Proof.AdaB.lean ====
/-
The gradient of the modulation's product in its weights, entry by entry.
-/
module

public import proofs.«01_k».proof.Proof.Gen.AdaBwdIdeal.Value
public import proofs.«01_k».proof.Proof.Gen.AdaBwdRefIdeal.Run
public import proofs.«01_k».proof.Proof.Gen.AdaBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaBwdIdeal.Value

open Cert.AdaBwdIdeal Cert.AdaBwdIdeal.Gen

variable (m : (ℓ : Loc nD τ sig) → Buf (Elt Ideal) ℓ)

/-- Where each window's block stands at each point of the grid. -/
theorem idx : ∀ t : Fin cfg0.N, win0_0.index t = ![0, 0]
    ∧ win0_1.index t = ![0, 0]
    ∧ win0_2.index t = ![0, 0] :=
  (by decide +kernel : ∀ t : Fin grid0.N, _)

/-- The reference's term for the gradient, over the arguments. -/
abbrev Ref0 (cc : FVec Ideal S16x1024 .f32) (dm : FVec Ideal S16x768 .f32) : FVec Ideal S1024x768 .f32 :=
  Cert.AdaBwdRefIdeal.Read.val_main_v4 (F := Ideal) cc dm

/-- What a point stores of the gradient, at an index of its block, is the reference at the array's index there. -/
theorem point0 (c : Dev nD) (t : Fin cfg0.N) (y) : k0_pay1 (F := Ideal) (iblk m c 0 t) (iblk m c 1 t) y
    = Ref0 (m ((c : Thread nD τ).loc main_arg0)) (m ((c : Thread nD τ).loc main_arg1))
        (((cfg0.win 2).blk t).view.emb y) := by
  pointwise [k0_pay1, Ref0, Cert.AdaBwdRefIdeal.Read.val_main_v4, Cert.AdaBwdRefIdeal.Read.val_main_v3, Cert.AdaBwdRefIdeal.Read.val_main_v1, Cert.AdaBwdRefIdeal.Read.val_main_call0_v5, Cert.AdaBwdRefIdeal.Read.val_main_call0_v4, Cert.AdaBwdRefIdeal.Read.val_main_call0_cst_0, Cert.AdaBwdRefIdeal.Read.val_main_call0_v3, Cert.AdaBwdRefIdeal.Read.val_main_call0_v2, Cert.AdaBwdRefIdeal.Read.val_main_call0_cst, Cert.AdaBwdRefIdeal.Read.val_main_call0_v1, Cert.AdaBwdRefIdeal.Read.val_main_call0_v0]
  simp only [zero_sub]
  refine Finset.sum_congr rfl fun k _ => (mul_comm _ _).trans ?_
  blk_point [iblk, V, idx t]

/-- The array of the gradient, as the call leaves it, is the reference of the arguments. -/
theorem ends0 (c : Dev nD) : (dats m 0 c).arrAt 2 cfg0.N
    = Ref0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.AdaBwdIdeal.Value

end
-- ==== Proof.AdaP.lean ====
/-
The modulation's product, entry by entry.
-/
module

public import proofs.«01_k».proof.Proof.Gen.AdaFwdIdeal.Value
public import proofs.«01_k».proof.Proof.Gen.AdaFwdRefIdeal.Run
public import proofs.«01_k».proof.Proof.Gen.AdaFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaFwdIdeal.Value

open Cert.AdaFwdIdeal Cert.AdaFwdIdeal.Gen

variable (m : (ℓ : Loc nD τ sig) → Buf (Elt Ideal) ℓ)

/-- Where each window's block stands at each point of the grid. -/
theorem idx : ∀ t : Fin cfg0.N, win0_0.index t = ![0, 0]
    ∧ win0_1.index t = ![0, 0]
    ∧ win0_2.index t = ![0, 0] :=
  (by decide +kernel : ∀ t : Fin grid0.N, _)

/-- The reference's term for the product, over the arguments. -/
abbrev Ref0 (cc : FVec Ideal S16x1024 .f32) (w : FVec Ideal S1024x768 .f32) : FVec Ideal S16x768 .f32 :=
  Cert.AdaFwdRefIdeal.Read.val_main_v1 (F := Ideal) cc w

/-- What a point stores of the product, at an index of its block, is the reference at the array's index there. -/
theorem point0 (c : Dev nD) (t : Fin cfg0.N) (y) : k0_pay1 (F := Ideal) (iblk m c 0 t) (iblk m c 1 t) y
    = Ref0 (m ((c : Thread nD τ).loc main_arg0)) (m ((c : Thread nD τ).loc main_arg1))
        (((cfg0.win 2).blk t).view.emb y) := by
  pointwise [k0_pay1, Ref0, Cert.AdaFwdRefIdeal.Read.val_main_v1, Cert.AdaFwdRefIdeal.Read.val_main_v0, Cert.AdaFwdRefIdeal.Read.val_main_call0_v5, Cert.AdaFwdRefIdeal.Read.val_main_call0_v4, Cert.AdaFwdRefIdeal.Read.val_main_call0_cst_0, Cert.AdaFwdRefIdeal.Read.val_main_call0_v3, Cert.AdaFwdRefIdeal.Read.val_main_call0_v2, Cert.AdaFwdRefIdeal.Read.val_main_call0_cst, Cert.AdaFwdRefIdeal.Read.val_main_call0_v1, Cert.AdaFwdRefIdeal.Read.val_main_call0_v0]
  simp only [zero_sub]
  blk_point [iblk, V, idx t]

/-- The array of the product, as the call leaves it, is the reference of the arguments. -/
theorem ends0 (c : Dev nD) : (dats m 0 c).arrAt 2 cfg0.N
    = Ref0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.AdaFwdIdeal.Value

end
-- ==== Proof.Mod.lean ====
/-
The statements about the first residual sum with its norm and about the products of the modulation: frames, and the
equality of the call's results with the reference's over any arguments.
-/
module

public import proofs.«01_k».proof.Defs
public import proofs.«01_k».proof.Proof.Gen.ResidNorm.Frame
public import proofs.«01_k».proof.Proof.Gen.ResidNormIdeal.Frame
public import proofs.«01_k».proof.Proof.ResidN
public import proofs.«01_k».proof.Proof.Gen.AdaBwd.Frame
public import proofs.«01_k».proof.Proof.Gen.AdaBwdIdeal.Frame
public import proofs.«01_k».proof.Proof.AdaB
public import proofs.«01_k».proof.Proof.Gen.AdaFwd.Frame
public import proofs.«01_k».proof.Proof.Gen.AdaFwdIdeal.Frame
public import proofs.«01_k».proof.Proof.AdaP
public import Idealize.ShloMosaic.Adequacy
public import Idealize.ShloMosaic.Init

@[expose] public section

set_option maxRecDepth 16384

noncomputable section

namespace Cert.Calls

open Idealize.ShloMosaic Idealize.ShloMosaic.TcCoe Idealize.SL.Sem

/-- `ResidNormRef`'s frame: its run read at the arguments; it declares no semaphore. -/
theorem frame_ResidNormRef : Cert.quiescent_ResidNormRefIdeal := by
  intro m g _
  exact (θ_run (Cert.ResidNormRefIdeal.defs (F := Ideal)) _ _).mono
    (fun r h => ⟨fun c => (h c).2.2, sem_eq_zero_of_no_sems (by decide) r.2⟩) (Cert.ResidNormRefIdeal.Value.run m g)

open Cert.ResidNormIdeal in
/-- `ResidNorm`'s results are its reference's. -/
theorem equal_ResidNorm : Cert.algebraic_ResidNormIdeal_ResidNormRefIdeal := by
  intro m g m' g' _ ha
  refine ⟨fun c => Value.Ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Value.Ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run (Cert.ResidNormIdeal.defs (F := Ideal)) _ _).mono
      (fun r h c => ⟨(h c).1.trans (Value.ends0 m c), (h c).2.1.trans (Value.ends1 m c), (h c).2.2⟩)
      (Value.run_blocks m g),
    (θ_run (ResidNormRefIdeal.defs (F := Ideal)) _ _).mono
      (fun r h c => ⟨(h c).1.trans (by rw [(ha c).1, (ha c).2.1, (ha c).2.2.1]; exact ResidNormRefIdeal.Read.val_main_v4_eq (F := Ideal) (m ((c.tc : Thread nD τ).loc main_arg0)) (m ((c.tc : Thread nD τ).loc main_arg1)) (m ((c.tc : Thread nD τ).loc main_arg2))),
        (h c).2.1.trans (by rw [(ha c).1, (ha c).2.1, (ha c).2.2.1, (ha c).2.2.2.1, (ha c).2.2.2.2.1, (ha c).2.2.2.2.2]; exact ResidNormRefIdeal.Read.val_main_v23_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))), (h c).2.2⟩)
      (ResidNormRefIdeal.Value.run m' g')⟩

/-- `AdaBwdRef`'s frame: its run read at the arguments; it declares no semaphore. -/
theorem frame_AdaBwdRef : Cert.quiescent_AdaBwdRefIdeal := by
  intro m g _
  exact (θ_run (Cert.AdaBwdRefIdeal.defs (F := Ideal)) _ _).mono
    (fun r h => ⟨fun c => (h c).2, sem_eq_zero_of_no_sems (by decide) r.2⟩) (Cert.AdaBwdRefIdeal.Value.run m g)

open Cert.AdaBwdIdeal in
/-- `AdaBwd`'s results are its reference's. -/
theorem equal_AdaBwd : Cert.algebraic_AdaBwdIdeal_AdaBwdRefIdeal := by
  intro m g m' g' _ ha
  refine ⟨fun c => Value.Ref0 (m ((c.tc : Thread nD τ).loc main_arg0)) (m ((c.tc : Thread nD τ).loc main_arg1)),
    (θ_run (Cert.AdaBwdIdeal.defs (F := Ideal)) _ _).mono
      (fun r h c => ⟨(h c).1.trans (Value.ends0 m c), (h c).2⟩)
      (Value.run_blocks m g),
    (θ_run (AdaBwdRefIdeal.defs (F := Ideal)) _ _).mono
      (fun r h c => ⟨(h c).1.trans (by rw [(ha c).1, (ha c).2]; exact AdaBwdRefIdeal.Read.val_main_v4_eq (F := Ideal) (m ((c.tc : Thread nD τ).loc main_arg0)) (m ((c.tc : Thread nD τ).loc main_arg1))), (h c).2⟩)
      (AdaBwdRefIdeal.Value.run m' g')⟩

/-- `AdaFwdRef`'s frame: its run read at the arguments; it declares no semaphore. -/
theorem frame_AdaFwdRef : Cert.quiescent_AdaFwdRefIdeal := by
  intro m g _
  exact (θ_run (Cert.AdaFwdRefIdeal.defs (F := Ideal)) _ _).mono
    (fun r h => ⟨fun c => (h c).2, sem_eq_zero_of_no_sems (by decide) r.2⟩) (Cert.AdaFwdRefIdeal.Value.run m g)

open Cert.AdaFwdIdeal in
/-- `AdaFwd`'s results are its reference's. -/
theorem equal_AdaFwd : Cert.algebraic_AdaFwdIdeal_AdaFwdRefIdeal := by
  intro m g m' g' _ ha
  refine ⟨fun c => Value.Ref0 (m ((c.tc : Thread nD τ).loc main_arg0)) (m ((c.tc : Thread nD τ).loc main_arg1)),
    (θ_run (Cert.AdaFwdIdeal.defs (F := Ideal)) _ _).mono
      (fun r h c => ⟨(h c).1.trans (Value.ends0 m c), (h c).2⟩)
      (Value.run_blocks m g),
    (θ_run (AdaFwdRefIdeal.defs (F := Ideal)) _ _).mono
      (fun r h c => ⟨(h c).1.trans (by rw [(ha c).1, (ha c).2]; exact AdaFwdRefIdeal.Read.val_main_v1_eq (F := Ideal) (m ((c.tc : Thread nD τ).loc main_arg0)) (m ((c.tc : Thread nD τ).loc main_arg1))), (h c).2⟩)
      (AdaFwdRefIdeal.Value.run m' g')⟩

end Cert.Calls

end
-- ==== Proof.lean ====
module

public import proofs.«01_k».proof.Defs
public import proofs.«01_k».proof.Proof.Twin
public import proofs.«01_k».proof.Proof.Reals
public import proofs.«01_k».proof.Proof.RefEnds
public import proofs.«01_k».proof.Proof.Calls
public import proofs.«01_k».proof.Proof.Steps
public import proofs.«01_k».proof.Proof.Mod
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.KernelIdeal Cert.KernelIdeal.Gen Cert.KernelIdeal.Voc Cert.Gla

/-- The reference's frame: its run read at the arguments; it declares no semaphore. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono (fun r h => ⟨fun c => by
    obtain ⟨_, _, _, _, _, _, _, _, q⟩ := h c
    exact q, sem_eq_zero_of_no_sems (by decide) r.2⟩) (Cert.ReferenceIdeal.Value.run m ρ)

set_option maxHeartbeats 1600000 in
/-- The eight gradients: kernel and reference leave the same numbers. -/
theorem equal_results : Cert.algebraic_KernelIdeal_ReferenceIdeal_pre_finite (hPre_finite := Cert.Pre_finite.holds) := by
  intro m g m' g' hp ha
  let A : Dev nD → In := fun c => realsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  haveI := Cert.Pre_finite.holds
  have H : ∀ c, Args m c (A c) := fun c => ⟨reals0 (hp c).1, reals1 (hp c).2.1, reals2 (hp c).2.2.1, reals3 (hp c).2.2.2.1, reals4 (hp c).2.2.2.2⟩
  have H' : ∀ c, RArgs m' c (A c) := fun c => ⟨(ha c).1.trans (H c).h0, (ha c).2.1.trans (H c).h1, (ha c).2.2.1.trans (H c).h2, (ha c).2.2.2.1.trans (H c).h3, (ha c).2.2.2.2.trans (H c).h4⟩
  refine ⟨fun c => (fun i => ((Gla.dq (A c) (kh (i 1)) (ch (i 0)) (tm (i 0)) (kl (i 1)) : ℝ) : EReal) : S8192x256.Idx → EReal),
    fun c => (fun i => ((Gla.dk (A c) (kh (i 1)) (ch (i 0)) (tm (i 0)) (kl (i 1)) : ℝ) : EReal) : S8192x256.Idx → EReal),
    fun c => (fun i => ((Gla.dv (A c) (vh (i 1)) (ch (i 0)) (tm (i 0)) (vl (i 1)) : ℝ) : EReal) : S8192x512.Idx → EReal),
    fun c => (fun i => ((Gla.dgg (A c) (vh (i 1)) (ch (i 0)) (tm (i 0)) (vl (i 1)) : ℝ) : EReal) : S8192x512.Idx → EReal),
    fun c => (fun i => ((Gla.dgf (A c) (i 0) (i 1) : ℝ) : EReal) : S8192x128.Idx → EReal),
    fun c => (fun i => ((Gla.dW (A c) (i 0) (i 1) : ℝ) : EReal) : S128x256.Idx → EReal),
    fun c => (fun i => ((Gla.dB (A c) (i 1) : ℝ) : EReal) : S1x256.Idx → EReal),
    fun c => (fun i => ((Gla.dG (A c) (i 1) : ℝ) : EReal) : S1x512.Idx → EReal), run_ends m g A H, Cert.Gla.run m' g' A H'⟩

theorem claim : Cert.Claim :=
  ⟨Cert.Kernel.Gen.facts, Cert.KernelIdeal.Gen.facts, Cert.ReferenceIdeal.Gen.facts,
    Cert.UpDgrad.Gen.facts, Cert.UpDgradIdeal.Gen.facts, Cert.UpDgradRefIdeal.Gen.facts, Cert.DownWgrad.Gen.facts, Cert.DownWgradIdeal.Gen.facts, Cert.DownWgradRefIdeal.Gen.facts, Cert.DownDgrad.Gen.facts, Cert.DownDgradIdeal.Gen.facts, Cert.DownDgradRefIdeal.Gen.facts, Cert.UpWgrad.Gen.facts, Cert.UpWgradIdeal.Gen.facts, Cert.UpWgradRefIdeal.Gen.facts, Cert.OutWgrad.Gen.facts, Cert.OutWgradIdeal.Gen.facts, Cert.OutWgradRefIdeal.Gen.facts, Cert.OutDgrad.Gen.facts, Cert.OutDgradIdeal.Gen.facts, Cert.OutDgradRefIdeal.Gen.facts, Cert.InWgrad.Gen.facts, Cert.InWgradIdeal.Gen.facts, Cert.InWgradRefIdeal.Gen.facts, Cert.InProj.Gen.facts, Cert.InProjIdeal.Gen.facts, Cert.InProjRefIdeal.Gen.facts, Cert.UpProj.Gen.facts, Cert.UpProjIdeal.Gen.facts, Cert.UpProjRefIdeal.Gen.facts, Cert.DownProj.Gen.facts, Cert.DownProjIdeal.Gen.facts, Cert.DownProjRefIdeal.Gen.facts, Cert.OutProj.Gen.facts, Cert.OutProjIdeal.Gen.facts, Cert.OutProjRefIdeal.Gen.facts,
    Cert.NormBwd.Gen.facts, Cert.NormBwdIdeal.Gen.facts, Cert.NormBwdRefIdeal.Gen.facts, Cert.ResidBwd.Gen.facts, Cert.ResidBwdIdeal.Gen.facts, Cert.ResidBwdRefIdeal.Gen.facts, Cert.Final.Gen.facts, Cert.FinalIdeal.Gen.facts, Cert.FinalRefIdeal.Gen.facts, Cert.AdamIn.Gen.facts, Cert.AdamInIdeal.Gen.facts, Cert.AdamInRefIdeal.Gen.facts, Cert.AdamFg2.Gen.facts, Cert.AdamFg2Ideal.Gen.facts, Cert.AdamFg2RefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamConv.Gen.facts, Cert.AdamConvIdeal.Gen.facts, Cert.AdamConvRefIdeal.Gen.facts, Cert.AdamDown.Gen.facts, Cert.AdamDownIdeal.Gen.facts, Cert.AdamDownRefIdeal.Gen.facts, Cert.AdamAda.Gen.facts, Cert.AdamAdaIdeal.Gen.facts, Cert.AdamAdaRefIdeal.Gen.facts, Cert.ResidNorm.Gen.facts, Cert.ResidNormIdeal.Gen.facts, Cert.ResidNormRefIdeal.Gen.facts, Cert.AdaBwd.Gen.facts, Cert.AdaBwdIdeal.Gen.facts, Cert.AdaBwdRefIdeal.Gen.facts, Cert.AdaFwd.Gen.facts, Cert.AdaFwdIdeal.Gen.facts, Cert.AdaFwdRefIdeal.Gen.facts,
    Cert.Pre_finite.holds,
    frame_first, fun m ρ _ => Cert.KernelIdeal.Voc.frame m ρ, fun m ρ _ => Cert.KernelIdeal.Voc.frame m ρ,
    fun m ρ _ => frame_reference m ρ, fun m ρ _ => frame_reference m ρ,
    fun m ρ _ => Cert.UpDgrad.Gen.frame m ρ, fun m ρ _ => Cert.UpDgradIdeal.Gen.frame m ρ, Cert.Calls.frame_UpDgradRef,
    fun m ρ _ => Cert.DownWgrad.Gen.frame m ρ, fun m ρ _ => Cert.DownWgradIdeal.Gen.frame m ρ, Cert.Calls.frame_DownWgradRef,
    fun m ρ _ => Cert.DownDgrad.Gen.frame m ρ, fun m ρ _ => Cert.DownDgradIdeal.Gen.frame m ρ, Cert.Calls.frame_DownDgradRef,
    fun m ρ _ => Cert.UpWgrad.Gen.frame m ρ, fun m ρ _ => Cert.UpWgradIdeal.Gen.frame m ρ, Cert.Calls.frame_UpWgradRef,
    fun m ρ _ => Cert.OutWgrad.Gen.frame m ρ, fun m ρ _ => Cert.OutWgradIdeal.Gen.frame m ρ, Cert.Calls.frame_OutWgradRef,
    fun m ρ _ => Cert.OutDgrad.Gen.frame m ρ, fun m ρ _ => Cert.OutDgradIdeal.Gen.frame m ρ, Cert.Calls.frame_OutDgradRef,
    fun m ρ _ => Cert.InWgrad.Gen.frame m ρ, fun m ρ _ => Cert.InWgradIdeal.Gen.frame m ρ, Cert.Calls.frame_InWgradRef,
    fun m ρ _ => Cert.InProj.Gen.frame m ρ, fun m ρ _ => Cert.InProjIdeal.Gen.frame m ρ, Cert.Calls.frame_InProjRef,
    fun m ρ _ => Cert.UpProj.Gen.frame m ρ, fun m ρ _ => Cert.UpProjIdeal.Gen.frame m ρ, Cert.Calls.frame_UpProjRef,
    fun m ρ _ => Cert.DownProj.Gen.frame m ρ, fun m ρ _ => Cert.DownProjIdeal.Gen.frame m ρ, Cert.Calls.frame_DownProjRef,
    fun m ρ _ => Cert.OutProj.Gen.frame m ρ, fun m ρ _ => Cert.OutProjIdeal.Gen.frame m ρ, Cert.Calls.frame_OutProjRef,
    fun m ρ _ => Cert.NormBwd.Gen.frame m ρ, fun m ρ _ => Cert.NormBwdIdeal.Gen.frame m ρ, Cert.Calls.frame_NormBwdRef,
    fun m ρ _ => Cert.ResidBwd.Gen.frame m ρ, fun m ρ _ => Cert.ResidBwdIdeal.Gen.frame m ρ, Cert.Calls.frame_ResidBwdRef,
    fun m ρ _ => Cert.Final.Gen.frame m ρ, fun m ρ _ => Cert.FinalIdeal.Gen.frame m ρ, Cert.Calls.frame_FinalRef,
    fun m ρ _ => Cert.AdamIn.Gen.frame m ρ, fun m ρ _ => Cert.AdamInIdeal.Gen.frame m ρ, Cert.Calls.frame_AdamInRef,
    fun m ρ _ => Cert.AdamFg2.Gen.frame m ρ, fun m ρ _ => Cert.AdamFg2Ideal.Gen.frame m ρ, Cert.Calls.frame_AdamFg2Ref,
    fun m ρ _ => Cert.AdamOut.Gen.frame m ρ, fun m ρ _ => Cert.AdamOutIdeal.Gen.frame m ρ, Cert.Calls.frame_AdamOutRef,
    fun m ρ _ => Cert.AdamUp.Gen.frame m ρ, fun m ρ _ => Cert.AdamUpIdeal.Gen.frame m ρ, Cert.Calls.frame_AdamUpRef,
    fun m ρ _ => Cert.AdamConv.Gen.frame m ρ, fun m ρ _ => Cert.AdamConvIdeal.Gen.frame m ρ, Cert.Calls.frame_AdamConvRef,
    fun m ρ _ => Cert.AdamDown.Gen.frame m ρ, fun m ρ _ => Cert.AdamDownIdeal.Gen.frame m ρ, Cert.Calls.frame_AdamDownRef,
    fun m ρ _ => Cert.AdamAda.Gen.frame m ρ, fun m ρ _ => Cert.AdamAdaIdeal.Gen.frame m ρ, Cert.Calls.frame_AdamAdaRef,
    fun m ρ _ => Cert.ResidNorm.Gen.frame m ρ, fun m ρ _ => Cert.ResidNormIdeal.Gen.frame m ρ, Cert.Calls.frame_ResidNormRef,
    fun m ρ _ => Cert.AdaBwd.Gen.frame m ρ, fun m ρ _ => Cert.AdaBwdIdeal.Gen.frame m ρ, Cert.Calls.frame_AdaBwdRef,
    fun m ρ _ => Cert.AdaFwd.Gen.frame m ρ, fun m ρ _ => Cert.AdaFwdIdeal.Gen.frame m ρ, Cert.Calls.frame_AdaFwdRef,
    trivial, equal_results,
    trivial, Cert.Calls.equal_UpDgrad,
    trivial, Cert.Calls.equal_DownWgrad,
    trivial, Cert.Calls.equal_DownDgrad,
    trivial, Cert.Calls.equal_UpWgrad,
    trivial, Cert.Calls.equal_OutWgrad,
    trivial, Cert.Calls.equal_OutDgrad,
    trivial, Cert.Calls.equal_InWgrad,
    trivial, Cert.Calls.equal_InProj,
    trivial, Cert.Calls.equal_UpProj,
    trivial, Cert.Calls.equal_DownProj,
    trivial, Cert.Calls.equal_OutProj,
    trivial, Cert.Calls.equal_NormBwd,
    trivial, Cert.Calls.equal_ResidBwd,
    trivial, Cert.Calls.equal_Final,
    trivial, Cert.Calls.equal_AdamIn,
    trivial, Cert.Calls.equal_AdamFg2,
    trivial, Cert.Calls.equal_AdamOut,
    trivial, Cert.Calls.equal_AdamUp,
    trivial, Cert.Calls.equal_AdamConv,
    trivial, Cert.Calls.equal_AdamDown,
    trivial, Cert.Calls.equal_AdamAda,
    trivial, Cert.Calls.equal_ResidNorm,
    trivial, Cert.Calls.equal_AdaBwd,
    trivial, Cert.Calls.equal_AdaFwd⟩

end Cert.Proof

end
